-- ==== Defs.lean ====
def Pre_Kernel [hPre_in_queue : Cert.Pre_in_queue.Facts] (m : (ℓ : Loc Cert.Kernel.nD Cert.Kernel.τ Cert.Kernel.sig) → Buf (Elt Bits) ℓ) : Prop :=
  ∀ c : Dev Cert.Kernel.nD,
    (Cert.Pre_in_queue.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_queue : Cert.Pre_in_queue.Facts] (m : (ℓ : Loc Cert.KernelIdeal.nD Cert.KernelIdeal.τ Cert.KernelIdeal.sig) → Buf (Elt Ideal) ℓ) : Prop :=
  ∀ c : Dev Cert.KernelIdeal.nD,
    (Cert.Pre_in_queue.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_in_queue : Cert.Pre_in_queue.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_queue.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Compact (m : (ℓ : Loc Cert.Compact.nD Cert.Compact.τ Cert.Compact.sig) → Buf (Elt Bits) ℓ) : Prop :=
  True

def Pre_CompactIdeal (m : (ℓ : Loc Cert.CompactIdeal.nD Cert.CompactIdeal.τ Cert.CompactIdeal.sig) → Buf (Elt Ideal) ℓ) : Prop :=
  True

def Pre_CompactIdeal_few_candidates [hPre_few_candidates : Cert.Pre_few_candidates.Facts] (m : (ℓ : Loc Cert.CompactIdeal.nD Cert.CompactIdeal.τ Cert.CompactIdeal.sig) → Buf (Elt Ideal) ℓ) : Prop :=
  ∀ c : Dev Cert.CompactIdeal.nD,
    (Cert.Pre_few_candidates.fn (F := Ideal) (m ((c.tc : Thread Cert.CompactIdeal.nD Cert.CompactIdeal.τ).loc Cert.CompactIdeal.main_arg0)) (m ((c.tc : Thread Cert.CompactIdeal.nD Cert.CompactIdeal.τ).loc Cert.CompactIdeal.main_arg1)) (m ((c.tc : Thread Cert.CompactIdeal.nD Cert.CompactIdeal.τ).loc Cert.CompactIdeal.main_arg2))) = (fun _ => 1#1)

def Pre_CandidatesIdeal (m : (ℓ : Loc Cert.CandidatesIdeal.nD Cert.CandidatesIdeal.τ Cert.CandidatesIdeal.sig) → Buf (Elt Ideal) ℓ) : Prop :=
  True

def Pre_CandidatesIdeal_few_candidates [hPre_few_candidates : Cert.Pre_few_candidates.Facts] (m : (ℓ : Loc Cert.CandidatesIdeal.nD Cert.CandidatesIdeal.τ Cert.CandidatesIdeal.sig) → Buf (Elt Ideal) ℓ) : Prop :=
  ∀ c : Dev Cert.CandidatesIdeal.nD,
    (Cert.Pre_few_candidates.fn (F := Ideal) (m ((c.tc : Thread Cert.CandidatesIdeal.nD Cert.CandidatesIdeal.τ).loc Cert.CandidatesIdeal.main_arg0)) (m ((c.tc : Thread Cert.CandidatesIdeal.nD Cert.CandidatesIdeal.τ).loc Cert.CandidatesIdeal.main_arg1)) (m ((c.tc : Thread Cert.CandidatesIdeal.nD Cert.CandidatesIdeal.τ).loc Cert.CandidatesIdeal.main_arg2))) = (fun _ => 1#1)

def Pre_Rank (m : (ℓ : Loc Cert.Rank.nD Cert.Rank.τ Cert.Rank.sig) → Buf (Elt Bits) ℓ) : Prop :=
  True

def Pre_RankIdeal (m : (ℓ : Loc Cert.RankIdeal.nD Cert.RankIdeal.τ Cert.RankIdeal.sig) → Buf (Elt Ideal) ℓ) : Prop :=
  True

def Pre_RankedIdeal (m : (ℓ : Loc Cert.RankedIdeal.nD Cert.RankedIdeal.τ Cert.RankedIdeal.sig) → Buf (Elt Ideal) ℓ) : Prop :=
  True

def Pre_First (m : (ℓ : Loc Cert.First.nD Cert.First.τ Cert.First.sig) → Buf (Elt Bits) ℓ) : Prop :=
  True

def Pre_FirstIdeal (m : (ℓ : Loc Cert.FirstIdeal.nD Cert.FirstIdeal.τ Cert.FirstIdeal.sig) → Buf (Elt Ideal) ℓ) : Prop :=
  True

def Pre_SimilaritiesIdeal (m : (ℓ : Loc Cert.SimilaritiesIdeal.nD Cert.SimilaritiesIdeal.τ Cert.SimilaritiesIdeal.sig) → Buf (Elt Ideal) ℓ) : Prop :=
  True

def quiescent_Kernel [hKernel : Cert.Kernel.Facts] [hPre_in_queue : Cert.Pre_in_queue.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_queue : Cert.Pre_in_queue.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] [hPre_in_queue : Cert.Pre_in_queue.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Compact [hCompact : Cert.Compact.Facts] : Prop :=
  ∀ (m : (ℓ : Loc Cert.Compact.nD Cert.Compact.τ Cert.Compact.sig) → Buf (Elt Bits) ℓ) (g : Dev Cert.Compact.nD → PrngReg), Pre_Compact m →
    θ_run (Cert.Compact.defs (F := Bits)) (Cert.Compact.threads (F := Bits)) ⟨m, fun _ => 0, g⟩ (fun r => (∀ c : Dev Cert.Compact.nD,
      r.2.mem ((c.tc : Thread Cert.Compact.nD Cert.Compact.τ).loc Cert.Compact.main_arg0) = m ((c.tc : Thread Cert.Compact.nD Cert.Compact.τ).loc Cert.Compact.main_arg0)
      ∧ r.2.mem ((c.tc : Thread Cert.Compact.nD Cert.Compact.τ).loc Cert.Compact.main_arg1) = m ((c.tc : Thread Cert.Compact.nD Cert.Compact.τ).loc Cert.Compact.main_arg1)
      ∧ r.2.mem ((c.tc : Thread Cert.Compact.nD Cert.Compact.τ).loc Cert.Compact.main_arg2) = m ((c.tc : Thread Cert.Compact.nD Cert.Compact.τ).loc Cert.Compact.main_arg2))
      ∧ r.2.sem = fun _ => 0)

def quiescent_CompactIdeal [hCompactIdeal : Cert.CompactIdeal.Facts] : Prop :=
  ∀ (m : (ℓ : Loc Cert.CompactIdeal.nD Cert.CompactIdeal.τ Cert.CompactIdeal.sig) → Buf (Elt Ideal) ℓ) (g : Dev Cert.CompactIdeal.nD → PrngReg), Pre_CompactIdeal m →
    θ_run (Cert.CompactIdeal.defs (F := Ideal)) (Cert.CompactIdeal.threads (F := Ideal)) ⟨m, fun _ => 0, g⟩ (fun r => (∀ c : Dev Cert.CompactIdeal.nD,
      r.2.mem ((c.tc : Thread Cert.CompactIdeal.nD Cert.CompactIdeal.τ).loc Cert.CompactIdeal.main_arg0) = m ((c.tc : Thread Cert.CompactIdeal.nD Cert.CompactIdeal.τ).loc Cert.CompactIdeal.main_arg0)
      ∧ r.2.mem ((c.tc : Thread Cert.CompactIdeal.nD Cert.CompactIdeal.τ).loc Cert.CompactIdeal.main_arg1) = m ((c.tc : Thread Cert.CompactIdeal.nD Cert.CompactIdeal.τ).loc Cert.CompactIdeal.main_arg1)
      ∧ r.2.mem ((c.tc : Thread Cert.CompactIdeal.nD Cert.CompactIdeal.τ).loc Cert.CompactIdeal.main_arg2) = m ((c.tc : Thread Cert.CompactIdeal.nD Cert.CompactIdeal.τ).loc Cert.CompactIdeal.main_arg2))
      ∧ r.2.sem = fun _ => 0)

def quiescent_CompactIdeal_pre_few_candidates [hCompactIdeal : Cert.CompactIdeal.Facts] [hPre_few_candidates : Cert.Pre_few_candidates.Facts] : Prop :=
  ∀ (m : (ℓ : Loc Cert.CompactIdeal.nD Cert.CompactIdeal.τ Cert.CompactIdeal.sig) → Buf (Elt Ideal) ℓ) (g : Dev Cert.CompactIdeal.nD → PrngReg), Pre_CompactIdeal_few_candidates m →
    θ_run (Cert.CompactIdeal.defs (F := Ideal)) (Cert.CompactIdeal.threads (F := Ideal)) ⟨m, fun _ => 0, g⟩ (fun r => (∀ c : Dev Cert.CompactIdeal.nD,
      r.2.mem ((c.tc : Thread Cert.CompactIdeal.nD Cert.CompactIdeal.τ).loc Cert.CompactIdeal.main_arg0) = m ((c.tc : Thread Cert.CompactIdeal.nD Cert.CompactIdeal.τ).loc Cert.CompactIdeal.main_arg0)
      ∧ r.2.mem ((c.tc : Thread Cert.CompactIdeal.nD Cert.CompactIdeal.τ).loc Cert.CompactIdeal.main_arg1) = m ((c.tc : Thread Cert.CompactIdeal.nD Cert.CompactIdeal.τ).loc Cert.CompactIdeal.main_arg1)
      ∧ r.2.mem ((c.tc : Thread Cert.CompactIdeal.nD Cert.CompactIdeal.τ).loc Cert.CompactIdeal.main_arg2) = m ((c.tc : Thread Cert.CompactIdeal.nD Cert.CompactIdeal.τ).loc Cert.CompactIdeal.main_arg2))
      ∧ r.2.sem = fun _ => 0)

def quiescent_CandidatesIdeal [hCandidatesIdeal : Cert.CandidatesIdeal.Facts] : Prop :=
  ∀ (m : (ℓ : Loc Cert.CandidatesIdeal.nD Cert.CandidatesIdeal.τ Cert.CandidatesIdeal.sig) → Buf (Elt Ideal) ℓ) (g : Dev Cert.CandidatesIdeal.nD → PrngReg), Pre_CandidatesIdeal m →
    θ_run (Cert.CandidatesIdeal.defs (F := Ideal)) (onTc (τ := Cert.CandidatesIdeal.τ) (Cert.CandidatesIdeal.main (F := Ideal))) ⟨m, fun _ => 0, g⟩ (fun r => (∀ c : Dev Cert.CandidatesIdeal.nD,
      r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0)
      ∧ r.2.mem ((c.tc : Thread Cert.CandidatesIdeal.nD Cert.CandidatesIdeal.τ).loc Cert.CandidatesIdeal.main_arg1) = m ((c.tc : Thread Cert.CandidatesIdeal.nD Cert.CandidatesIdeal.τ).loc Cert.CandidatesIdeal.main_arg1)
      ∧ r.2.mem ((c.tc : Thread Cert.CandidatesIdeal.nD Cert.CandidatesIdeal.τ).loc Cert.CandidatesIdeal.main_arg2) = m ((c.tc : Thread Cert.CandidatesIdeal.nD Cert.CandidatesIdeal.τ).loc Cert.CandidatesIdeal.main_arg2))
      ∧ r.2.sem = fun _ => 0)

def quiescent_CandidatesIdeal_pre_few_candidates [hCandidatesIdeal : Cert.CandidatesIdeal.Facts] [hPre_few_candidates : Cert.Pre_few_candidates.Facts] : Prop :=
  ∀ (m : (ℓ : Loc Cert.CandidatesIdeal.nD Cert.CandidatesIdeal.τ Cert.CandidatesIdeal.sig) → Buf (Elt Ideal) ℓ) (g : Dev Cert.CandidatesIdeal.nD → PrngReg), Pre_CandidatesIdeal_few_candidates m →
    θ_run (Cert.CandidatesIdeal.defs (F := Ideal)) (onTc (τ := Cert.CandidatesIdeal.τ) (Cert.CandidatesIdeal.main (F := Ideal))) ⟨m, fun _ => 0, g⟩ (fun r => (∀ c : Dev Cert.CandidatesIdeal.nD,
      r.2.mem ((c.tc : Thread Cert.CandidatesIdeal.nD Cert.CandidatesIdeal.τ).loc Cert.CandidatesIdeal.main_arg0) = m ((c.tc : Thread Cert.CandidatesIdeal.nD Cert.CandidatesIdeal.τ).loc Cert.CandidatesIdeal.main_arg0)
      ∧ r.2.mem ((c.tc : Thread Cert.CandidatesIdeal.nD Cert.CandidatesIdeal.τ).loc Cert.CandidatesIdeal.main_arg1) = m ((c.tc : Thread Cert.CandidatesIdeal.nD Cert.CandidatesIdeal.τ).loc Cert.CandidatesIdeal.main_arg1)
      ∧ r.2.mem ((c.tc : Thread Cert.CandidatesIdeal.nD Cert.CandidatesIdeal.τ).loc Cert.CandidatesIdeal.main_arg2) = m ((c.tc : Thread Cert.CandidatesIdeal.nD Cert.CandidatesIdeal.τ).loc Cert.CandidatesIdeal.main_arg2))
      ∧ r.2.sem = fun _ => 0)

def quiescent_Rank [hRank : Cert.Rank.Facts] : Prop :=
  ∀ (m : (ℓ : Loc Cert.Rank.nD Cert.Rank.τ Cert.Rank.sig) → Buf (Elt Bits) ℓ) (g : Dev Cert.Rank.nD → PrngReg), Pre_Rank m →
    θ_run (Cert.Rank.defs (F := Bits)) (onTc (τ := Cert.Rank.τ) (Cert.Rank.main (F := Bits))) ⟨m, fun _ => 0, g⟩ (fun r => (∀ c : Dev Cert.Rank.nD,
      r.2.mem ((c.tc : Thread Cert.Rank.nD Cert.Rank.τ).loc Cert.Rank.main_arg0) = m ((c.tc : Thread Cert.Rank.nD Cert.Rank.τ).loc Cert.Rank.main_arg0)
      ∧ r.2.mem ((c.tc : Thread Cert.Rank.nD Cert.Rank.τ).loc Cert.Rank.main_arg1) = m ((c.tc : Thread Cert.Rank.nD Cert.Rank.τ).loc Cert.Rank.main_arg1))
      ∧ r.2.sem = fun _ => 0)

def quiescent_RankIdeal [hRankIdeal : Cert.RankIdeal.Facts] : Prop :=
  ∀ (m : (ℓ : Loc Cert.RankIdeal.nD Cert.RankIdeal.τ Cert.RankIdeal.sig) → Buf (Elt Ideal) ℓ) (g : Dev Cert.RankIdeal.nD → PrngReg), Pre_RankIdeal m →
    θ_run (Cert.RankIdeal.defs (F := Ideal)) (onTc (τ := Cert.RankIdeal.τ) (Cert.RankIdeal.main (F := Ideal))) ⟨m, fun _ => 0, g⟩ (fun r => (∀ c : Dev Cert.RankIdeal.nD,
      r.2.mem ((c.tc : Thread Cert.RankIdeal.nD Cert.RankIdeal.τ).loc Cert.RankIdeal.main_arg0) = m ((c.tc : Thread Cert.RankIdeal.nD Cert.RankIdeal.τ).loc Cert.RankIdeal.main_arg0)
      ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ r.2.sem = fun _ => 0)

def quiescent_RankedIdeal [hRankedIdeal : Cert.RankedIdeal.Facts] : Prop :=
  ∀ (m : (ℓ : Loc Cert.RankedIdeal.nD Cert.RankedIdeal.τ Cert.RankedIdeal.sig) → Buf (Elt Ideal) ℓ) (g : Dev Cert.RankedIdeal.nD → PrngReg), Pre_RankedIdeal m →
    θ_run (Cert.RankedIdeal.defs (F := Ideal)) (onTc (τ := Cert.RankedIdeal.τ) (Cert.RankedIdeal.main (F := Ideal))) ⟨m, fun _ => 0, g⟩ (fun r => (∀ c : Dev Cert.RankedIdeal.nD,
      r.2.mem ((c.tc : Thread Cert.RankedIdeal.nD Cert.RankedIdeal.τ).loc Cert.RankedIdeal.main_arg0) = m ((c.tc : Thread Cert.RankedIdeal.nD Cert.RankedIdeal.τ).loc Cert.RankedIdeal.main_arg0)
      ∧ r.2.mem ((c.tc : Thread Cert.RankedIdeal.nD Cert.RankedIdeal.τ).loc Cert.RankedIdeal.main_arg1) = m ((c.tc : Thread Cert.RankedIdeal.nD Cert.RankedIdeal.τ).loc Cert.RankedIdeal.main_arg1))
      ∧ r.2.sem = fun _ => 0)

def quiescent_First [hFirst : Cert.First.Facts] : Prop :=
  ∀ (m : (ℓ : Loc Cert.First.nD Cert.First.τ Cert.First.sig) → Buf (Elt Bits) ℓ) (g : Dev Cert.First.nD → PrngReg), Pre_First m →
    θ_run (Cert.First.defs (F := Bits)) (onTc (τ := Cert.First.τ) (Cert.First.main (F := Bits))) ⟨m, fun _ => 0, g⟩ (fun r => (∀ c : Dev Cert.First.nD,
      r.2.mem ((c.tc : Thread Cert.First.nD Cert.First.τ).loc Cert.First.main_arg0) = m ((c.tc : Thread Cert.First.nD Cert.First.τ).loc Cert.First.main_arg0)
      ∧ r.2.mem ((c.tc : Thread Cert.First.nD Cert.First.τ).loc Cert.First.main_arg1) = m ((c.tc : Thread Cert.First.nD Cert.First.τ).loc Cert.First.main_arg1))
      ∧ r.2.sem = fun _ => 0)

def quiescent_FirstIdeal [hFirstIdeal : Cert.FirstIdeal.Facts] : Prop :=
  ∀ (m : (ℓ : Loc Cert.FirstIdeal.nD Cert.FirstIdeal.τ Cert.FirstIdeal.sig) → Buf (Elt Ideal) ℓ) (g : Dev Cert.FirstIdeal.nD → PrngReg), Pre_FirstIdeal m →
    θ_run (Cert.FirstIdeal.defs (F := Ideal)) (onTc (τ := Cert.FirstIdeal.τ) (Cert.FirstIdeal.main (F := Ideal))) ⟨m, fun _ => 0, g⟩ (fun r => (∀ c : Dev Cert.FirstIdeal.nD,
      r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
      ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ r.2.sem = fun _ => 0)

def quiescent_SimilaritiesIdeal [hSimilaritiesIdeal : Cert.SimilaritiesIdeal.Facts] : Prop :=
  ∀ (m : (ℓ : Loc Cert.SimilaritiesIdeal.nD Cert.SimilaritiesIdeal.τ Cert.SimilaritiesIdeal.sig) → Buf (Elt Ideal) ℓ) (g : Dev Cert.SimilaritiesIdeal.nD → PrngReg), Pre_SimilaritiesIdeal m →
    θ_run (Cert.SimilaritiesIdeal.defs (F := Ideal)) (onTc (τ := Cert.SimilaritiesIdeal.τ) (Cert.SimilaritiesIdeal.main (F := Ideal))) ⟨m, fun _ => 0, g⟩ (fun r => (∀ c : Dev Cert.SimilaritiesIdeal.nD,
      r.2.mem ((c.tc : Thread Cert.SimilaritiesIdeal.nD Cert.SimilaritiesIdeal.τ).loc Cert.SimilaritiesIdeal.main_arg0) = m ((c.tc : Thread Cert.SimilaritiesIdeal.nD Cert.SimilaritiesIdeal.τ).loc Cert.SimilaritiesIdeal.main_arg0)
      ∧ r.2.mem ((c.tc : Thread Cert.SimilaritiesIdeal.nD Cert.SimilaritiesIdeal.τ).loc Cert.SimilaritiesIdeal.main_arg1) = m ((c.tc : Thread Cert.SimilaritiesIdeal.nD Cert.SimilaritiesIdeal.τ).loc Cert.SimilaritiesIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_queue : Cert.Pre_in_queue.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Compact_CompactIdeal : Prop :=
  True

def algebraic_CompactIdeal_CandidatesIdeal_pre_few_candidates [hCompactIdeal : Cert.CompactIdeal.Facts] [hCandidatesIdeal : Cert.CandidatesIdeal.Facts] [hPre_few_candidates : Cert.Pre_few_candidates.Facts] : Prop :=
  ∀ (m : (ℓ : Loc Cert.CompactIdeal.nD Cert.CompactIdeal.τ Cert.CompactIdeal.sig) → Buf (Elt Ideal) ℓ) (g : Dev Cert.CompactIdeal.nD → PrngReg)
    (m' : (ℓ : Loc Cert.CandidatesIdeal.nD Cert.CandidatesIdeal.τ Cert.CandidatesIdeal.sig) → Buf (Elt Ideal) ℓ) (g' : Dev Cert.CandidatesIdeal.nD → PrngReg), Pre_CompactIdeal_few_candidates m →
    (∀ c : Dev Cert.CompactIdeal.nD,
      m' ((c.tc : Thread Cert.CandidatesIdeal.nD Cert.CandidatesIdeal.τ).loc Cert.CandidatesIdeal.main_arg0) = m ((c.tc : Thread Cert.CompactIdeal.nD Cert.CompactIdeal.τ).loc Cert.CompactIdeal.main_arg0)
      ∧ m' ((c.tc : Thread Cert.CandidatesIdeal.nD Cert.CandidatesIdeal.τ).loc Cert.CandidatesIdeal.main_arg1) = m ((c.tc : Thread Cert.CompactIdeal.nD Cert.CompactIdeal.τ).loc Cert.CompactIdeal.main_arg1)
      ∧ m' ((c.tc : Thread Cert.CandidatesIdeal.nD Cert.CandidatesIdeal.τ).loc Cert.CandidatesIdeal.main_arg2) = m ((c.tc : Thread Cert.CompactIdeal.nD Cert.CompactIdeal.τ).loc Cert.CompactIdeal.main_arg2)) →
    ∃ (v0 : (c : Dev Cert.CompactIdeal.nD) → Buf (Elt Ideal) ((c.tc : Thread Cert.CompactIdeal.nD Cert.CompactIdeal.τ).loc Cert.CompactIdeal.main_v10_0)) (v1 : (c : Dev Cert.CompactIdeal.nD) → Buf (Elt Ideal) ((c.tc : Thread Cert.CompactIdeal.nD Cert.CompactIdeal.τ).loc Cert.CompactIdeal.main_v10_1)),
      θ_run (Cert.CompactIdeal.defs (F := Ideal)) (Cert.CompactIdeal.threads (F := Ideal)) ⟨m, fun _ => 0, g⟩ (fun r => ∀ c : Dev Cert.CompactIdeal.nD,
          r.2.mem ((c.tc : Thread Cert.CompactIdeal.nD Cert.CompactIdeal.τ).loc Cert.CompactIdeal.main_v10_0) = v0 c
          ∧ r.2.mem ((c.tc : Thread Cert.CompactIdeal.nD Cert.CompactIdeal.τ).loc Cert.CompactIdeal.main_v10_1) = v1 c
          ∧ r.2.mem ((c.tc : Thread Cert.CompactIdeal.nD Cert.CompactIdeal.τ).loc Cert.CompactIdeal.main_arg0) = m ((c.tc : Thread Cert.CompactIdeal.nD Cert.CompactIdeal.τ).loc Cert.CompactIdeal.main_arg0)
          ∧ r.2.mem ((c.tc : Thread Cert.CompactIdeal.nD Cert.CompactIdeal.τ).loc Cert.CompactIdeal.main_arg1) = m ((c.tc : Thread Cert.CompactIdeal.nD Cert.CompactIdeal.τ).loc Cert.CompactIdeal.main_arg1)
          ∧ r.2.mem ((c.tc : Thread Cert.CompactIdeal.nD Cert.CompactIdeal.τ).loc Cert.CompactIdeal.main_arg2) = m ((c.tc : Thread Cert.CompactIdeal.nD Cert.CompactIdeal.τ).loc Cert.CompactIdeal.main_arg2))
      ∧ θ_run (Cert.CandidatesIdeal.defs (F := Ideal)) (onTc (τ := Cert.CandidatesIdeal.τ) (Cert.CandidatesIdeal.main (F := Ideal))) ⟨m', fun _ => 0, g'⟩ (fun r => ∀ c : Dev Cert.CandidatesIdeal.nD,
          r.2.mem ((c.tc : Thread Cert.CandidatesIdeal.nD Cert.CandidatesIdeal.τ).loc Cert.CandidatesIdeal.main_v12) = v0 c
          ∧ r.2.mem ((c.tc : Thread Cert.CandidatesIdeal.nD Cert.CandidatesIdeal.τ).loc Cert.CandidatesIdeal.main_v10) = v1 c
          ∧ r.2.mem ((c.tc : Thread Cert.CandidatesIdeal.nD Cert.CandidatesIdeal.τ).loc Cert.CandidatesIdeal.main_arg0) = m' ((c.tc : Thread Cert.CandidatesIdeal.nD Cert.CandidatesIdeal.τ).loc Cert.CandidatesIdeal.main_arg0)
          ∧ r.2.mem ((c.tc : Thread Cert.CandidatesIdeal.nD Cert.CandidatesIdeal.τ).loc Cert.CandidatesIdeal.main_arg1) = m' ((c.tc : Thread Cert.CandidatesIdeal.nD Cert.CandidatesIdeal.τ).loc Cert.CandidatesIdeal.main_arg1)
          ∧ r.2.mem ((c.tc : Thread Cert.CandidatesIdeal.nD Cert.CandidatesIdeal.τ).loc Cert.CandidatesIdeal.main_arg2) = m' ((c.tc : Thread Cert.CandidatesIdeal.nD Cert.CandidatesIdeal.τ).loc Cert.CandidatesIdeal.main_arg2))

def preserves_Rank_RankIdeal : Prop :=
  True

def algebraic_RankIdeal_RankedIdeal [hRankIdeal : Cert.RankIdeal.Facts] [hRankedIdeal : Cert.RankedIdeal.Facts] : Prop :=
  ∀ (m : (ℓ : Loc Cert.RankIdeal.nD Cert.RankIdeal.τ Cert.RankIdeal.sig) → Buf (Elt Ideal) ℓ) (g : Dev Cert.RankIdeal.nD → PrngReg)
    (m' : (ℓ : Loc Cert.RankedIdeal.nD Cert.RankedIdeal.τ Cert.RankedIdeal.sig) → Buf (Elt Ideal) ℓ) (g' : Dev Cert.RankedIdeal.nD → PrngReg), Pre_RankIdeal m →
    (∀ c : Dev Cert.RankIdeal.nD,
      m' ((c.tc : Thread Cert.RankedIdeal.nD Cert.RankedIdeal.τ).loc Cert.RankedIdeal.main_arg0) = m ((c.tc : Thread Cert.RankIdeal.nD Cert.RankIdeal.τ).loc Cert.RankIdeal.main_arg0)
      ∧ m' ((c.tc : Thread Cert.RankedIdeal.nD Cert.RankedIdeal.τ).loc Cert.RankedIdeal.main_arg1) = m ((c.tc : Thread Cert.RankIdeal.nD Cert.RankIdeal.τ).loc Cert.RankIdeal.main_arg1)) →
    ∃ (v0 : (c : Dev Cert.RankIdeal.nD) → Buf (Elt Ideal) ((c.tc : Thread Cert.RankIdeal.nD Cert.RankIdeal.τ).loc Cert.RankIdeal.main_v0)),
      θ_run (Cert.RankIdeal.defs (F := Ideal)) (onTc (τ := Cert.RankIdeal.τ) (Cert.RankIdeal.main (F := Ideal))) ⟨m, fun _ => 0, g⟩ (fun r => ∀ c : Dev Cert.RankIdeal.nD,
          r.2.mem ((c.tc : Thread Cert.RankIdeal.nD Cert.RankIdeal.τ).loc Cert.RankIdeal.main_v0) = v0 c
          ∧ r.2.mem ((c.tc : Thread Cert.RankIdeal.nD Cert.RankIdeal.τ).loc Cert.RankIdeal.main_arg0) = m ((c.tc : Thread Cert.RankIdeal.nD Cert.RankIdeal.τ).loc Cert.RankIdeal.main_arg0)
          ∧ r.2.mem ((c.tc : Thread Cert.RankIdeal.nD Cert.RankIdeal.τ).loc Cert.RankIdeal.main_arg1) = m ((c.tc : Thread Cert.RankIdeal.nD Cert.RankIdeal.τ).loc Cert.RankIdeal.main_arg1))
      ∧ θ_run (Cert.RankedIdeal.defs (F := Ideal)) (onTc (τ := Cert.RankedIdeal.τ) (Cert.RankedIdeal.main (F := Ideal))) ⟨m', fun _ => 0, g'⟩ (fun r => ∀ c : Dev Cert.RankedIdeal.nD,
          r.2.mem ((c.tc : Thread Cert.RankedIdeal.nD Cert.RankedIdeal.τ).loc Cert.RankedIdeal.main_v0) = v0 c
          ∧ r.2.mem ((c.tc : Thread Cert.RankedIdeal.nD Cert.RankedIdeal.τ).loc Cert.RankedIdeal.main_arg0) = m' ((c.tc : Thread Cert.RankedIdeal.nD Cert.RankedIdeal.τ).loc Cert.RankedIdeal.main_arg0)
          ∧ r.2.mem ((c.tc : Thread Cert.RankedIdeal.nD Cert.RankedIdeal.τ).loc Cert.RankedIdeal.main_arg1) = m' ((c.tc : Thread Cert.RankedIdeal.nD Cert.RankedIdeal.τ).loc Cert.RankedIdeal.main_arg1))

def preserves_First_FirstIdeal : Prop :=
  True

def algebraic_FirstIdeal_SimilaritiesIdeal [hFirstIdeal : Cert.FirstIdeal.Facts] [hSimilaritiesIdeal : Cert.SimilaritiesIdeal.Facts] : Prop :=
  ∀ (m : (ℓ : Loc Cert.FirstIdeal.nD Cert.FirstIdeal.τ Cert.FirstIdeal.sig) → Buf (Elt Ideal) ℓ) (g : Dev Cert.FirstIdeal.nD → PrngReg)
    (m' : (ℓ : Loc Cert.SimilaritiesIdeal.nD Cert.SimilaritiesIdeal.τ Cert.SimilaritiesIdeal.sig) → Buf (Elt Ideal) ℓ) (g' : Dev Cert.SimilaritiesIdeal.nD → PrngReg), Pre_FirstIdeal m →
    (∀ c : Dev Cert.FirstIdeal.nD,
      m' ((c.tc : Thread Cert.SimilaritiesIdeal.nD Cert.SimilaritiesIdeal.τ).loc Cert.SimilaritiesIdeal.main_arg0) = m ((c.tc : Thread Cert.FirstIdeal.nD Cert.FirstIdeal.τ).loc Cert.FirstIdeal.main_arg0)
      ∧ m' ((c.tc : Thread Cert.SimilaritiesIdeal.nD Cert.SimilaritiesIdeal.τ).loc Cert.SimilaritiesIdeal.main_arg1) = m ((c.tc : Thread Cert.FirstIdeal.nD Cert.FirstIdeal.τ).loc Cert.FirstIdeal.main_arg1)) →
    ∃ (v0 : (c : Dev Cert.FirstIdeal.nD) → Buf (Elt Ideal) ((c.tc : Thread Cert.FirstIdeal.nD Cert.FirstIdeal.τ).loc Cert.FirstIdeal.main_v2_0)),
      θ_run (Cert.FirstIdeal.defs (F := Ideal)) (onTc (τ := Cert.FirstIdeal.τ) (Cert.FirstIdeal.main (F := Ideal))) ⟨m, fun _ => 0, g⟩ (fun r => ∀ c : Dev Cert.FirstIdeal.nD,
          r.2.mem ((c.tc : Thread Cert.FirstIdeal.nD Cert.FirstIdeal.τ).loc Cert.FirstIdeal.main_v2_0) = v0 c
          ∧ r.2.mem ((c.tc : Thread Cert.FirstIdeal.nD Cert.FirstIdeal.τ).loc Cert.FirstIdeal.main_arg0) = m ((c.tc : Thread Cert.FirstIdeal.nD Cert.FirstIdeal.τ).loc Cert.FirstIdeal.main_arg0)
          ∧ r.2.mem ((c.tc : Thread Cert.FirstIdeal.nD Cert.FirstIdeal.τ).loc Cert.FirstIdeal.main_arg1) = m ((c.tc : Thread Cert.FirstIdeal.nD Cert.FirstIdeal.τ).loc Cert.FirstIdeal.main_arg1))
      ∧ θ_run (Cert.SimilaritiesIdeal.defs (F := Ideal)) (onTc (τ := Cert.SimilaritiesIdeal.τ) (Cert.SimilaritiesIdeal.main (F := Ideal))) ⟨m', fun _ => 0, g'⟩ (fun r => ∀ c : Dev Cert.SimilaritiesIdeal.nD,
          r.2.mem ((c.tc : Thread Cert.SimilaritiesIdeal.nD Cert.SimilaritiesIdeal.τ).loc Cert.SimilaritiesIdeal.main_v4) = v0 c
          ∧ r.2.mem ((c.tc : Thread Cert.SimilaritiesIdeal.nD Cert.SimilaritiesIdeal.τ).loc Cert.SimilaritiesIdeal.main_arg0) = m' ((c.tc : Thread Cert.SimilaritiesIdeal.nD Cert.SimilaritiesIdeal.τ).loc Cert.SimilaritiesIdeal.main_arg0)
          ∧ r.2.mem ((c.tc : Thread Cert.SimilaritiesIdeal.nD Cert.SimilaritiesIdeal.τ).loc Cert.SimilaritiesIdeal.main_arg1) = m' ((c.tc : Thread Cert.SimilaritiesIdeal.nD Cert.SimilaritiesIdeal.τ).loc Cert.SimilaritiesIdeal.main_arg1))

def Claim : Prop :=
  ∃ (hKernel : Cert.Kernel.Facts) (hKernelIdeal : Cert.KernelIdeal.Facts) (hReferenceIdeal : Cert.ReferenceIdeal.Facts) (hCompact : Cert.Compact.Facts) (hCompactIdeal : Cert.CompactIdeal.Facts) (hCandidatesIdeal : Cert.CandidatesIdeal.Facts) (hRank : Cert.Rank.Facts) (hRankIdeal : Cert.RankIdeal.Facts) (hRankedIdeal : Cert.RankedIdeal.Facts) (hFirst : Cert.First.Facts) (hFirstIdeal : Cert.FirstIdeal.Facts) (hSimilaritiesIdeal : Cert.SimilaritiesIdeal.Facts) (hPre_in_queue : Cert.Pre_in_queue.Facts) (hPre_few_candidates : Cert.Pre_few_candidates.Facts),
    quiescent_Kernel (hKernel := hKernel) (hPre_in_queue := hPre_in_queue)
    ∧ quiescent_KernelIdeal (hKernelIdeal := hKernelIdeal) (hPre_in_queue := hPre_in_queue)
    ∧ quiescent_ReferenceIdeal (hReferenceIdeal := hReferenceIdeal) (hPre_in_queue := hPre_in_queue)
    ∧ quiescent_Compact (hCompact := hCompact)
    ∧ quiescent_CompactIdeal (hCompactIdeal := hCompactIdeal)
    ∧ quiescent_CompactIdeal_pre_few_candidates (hCompactIdeal := hCompactIdeal) (hPre_few_candidates := hPre_few_candidates)
    ∧ quiescent_CandidatesIdeal (hCandidatesIdeal := hCandidatesIdeal)
    ∧ quiescent_CandidatesIdeal_pre_few_candidates (hCandidatesIdeal := hCandidatesIdeal) (hPre_few_candidates := hPre_few_candidates)
    ∧ quiescent_Rank (hRank := hRank)
    ∧ quiescent_RankIdeal (hRankIdeal := hRankIdeal)
    ∧ quiescent_RankedIdeal (hRankedIdeal := hRankedIdeal)
    ∧ quiescent_First (hFirst := hFirst)
    ∧ quiescent_FirstIdeal (hFirstIdeal := hFirstIdeal)
    ∧ quiescent_SimilaritiesIdeal (hSimilaritiesIdeal := hSimilaritiesIdeal)
    ∧ preserves_Kernel_KernelIdeal
    ∧ algebraic_KernelIdeal_ReferenceIdeal (hKernelIdeal := hKernelIdeal) (hReferenceIdeal := hReferenceIdeal) (hPre_in_queue := hPre_in_queue)
    ∧ preserves_Compact_CompactIdeal
    ∧ algebraic_CompactIdeal_CandidatesIdeal_pre_few_candidates (hCompactIdeal := hCompactIdeal) (hCandidatesIdeal := hCandidatesIdeal) (hPre_few_candidates := hPre_few_candidates)
    ∧ preserves_Rank_RankIdeal
    ∧ algebraic_RankIdeal_RankedIdeal (hRankIdeal := hRankIdeal) (hRankedIdeal := hRankedIdeal)
    ∧ preserves_First_FirstIdeal
    ∧ algebraic_FirstIdeal_SimilaritiesIdeal (hFirstIdeal := hFirstIdeal) (hSimilaritiesIdeal := hSimilaritiesIdeal)
-- ==== Pre_few_candidates.lean ====
abbrev S802816x128 : Shape := ⟨2, ![802816, 128]⟩
abbrev S1024x1 : Shape := ⟨2, ![1024, 1]⟩
abbrev S1024x784 : Shape := ⟨2, ![1024, 784]⟩
abbrev S1024x100352 : Shape := ⟨2, ![1024, 100352]⟩
abbrev S_ : Shape := ⟨0, ![]⟩
abbrev S1024 : Shape := ⟨1, ![1024]⟩
abbrev S1024x784x128 : Shape := ⟨3, ![1024, 784, 128]⟩
abbrev S1024x1x1 : Shape := ⟨3, ![1024, 1, 1]⟩
abbrev S1024x784x1 : Shape := ⟨3, ![1024, 784, 1]⟩

class Facts : Prop where
  shapeCasts_S802816x128_S1024x100352 : S802816x128.ShapeCasts S1024x100352
  bcast_S1024x1_S1024x100352_0_1 : S1024x1.BroadcastsInDim S1024x100352 (![0, 1] : Fin 2 → Fin S1024x100352.rank)
  natLt_1_32 : 1 < 32
  reducesTo_S1024x100352_S1024_d1 : S1024x100352.ReducesTo [1] S1024
  h_S_ : 0 < S_.numel
  bcast_S_S1024 : S_.BroadcastsInDim S1024 (![] : Fin 0 → Fin S1024.rank)
  bcast_S_S1024x784 : S_.BroadcastsInDim S1024x784 (![] : Fin 0 → Fin S1024x784.rank)
  reducesTo_S1024x784_S1024_d1 : S1024x784.ReducesTo [1] S1024
  shapeCasts_S802816x128_S1024x784x128 : S802816x128.ShapeCasts S1024x784x128
  bcast_S1024x1_S1024x1x1_0_1 : S1024x1.BroadcastsInDim S1024x1x1 (![0, 1] : Fin 2 → Fin S1024x1x1.rank)
  bcast_S1024x1x1_S1024x784x128_0_1_2 : S1024x1x1.BroadcastsInDim S1024x784x128 (![0, 1, 2] : Fin 3 → Fin S1024x784x128.rank)
  bcast_S1024x784_S1024x784x1_0_1 : S1024x784.BroadcastsInDim S1024x784x1 (![0, 1] : Fin 2 → Fin S1024x784x1.rank)
  bcast_S1024x784x1_S1024x784x128_0_1_2 : S1024x784x1.BroadcastsInDim S1024x784x128 (![0, 1, 2] : Fin 3 → Fin S1024x784x128.rank)
  bcast_S_S1024x784x128 : S_.BroadcastsInDim S1024x784x128 (![] : Fin 0 → Fin S1024x784x128.rank)
  bcast_S1024_S1024x1x1_0 : S1024.BroadcastsInDim S1024x1x1 (![0] : Fin 1 → Fin S1024x1x1.rank)

variable [Facts]

def fn_part1 {F : FTy → Type} [FloatOps F] (main_arg2 : IVec S1024x784 32) (main_v6 : IVec S1024 1) (main_v12 : IVec S1024 1) (main_v13 : FVec F S1024x784x128 .f32) (main_v17 : IVec S1024x784x128 1) (main_c_4 : IVec S_ 32) : IVec S1024x784x128 1 :=
  let main_v18 : IVec S1024x784 32 := broadcastInDim S1024x784 ![] bcast_S_S1024x784 main_c_4
  let main_v19 : IVec S1024x784 1 := cmpi .sgt main_arg2 main_v18
  let main_v20 : IVec S1024x784x1 1 := broadcastInDim S1024x784x1 ![0, 1] bcast_S1024x784_S1024x784x1_0_1 main_v19
  let main_v21 : IVec S1024x784x128 1 := broadcastInDim S1024x784x128 ![0, 1, 2] bcast_S1024x784x1_S1024x784x128_0_1_2 main_v20
  let main_v22 : IVec S1024x784x128 1 := ori main_v17 main_v21
  let main_cst : FVec F S_ .f32 := constant S_ .f32 0x7149F2CA#32
  let main_v23 : FVec F S1024x784x128 .f32 := broadcastInDim S1024x784x128 ![] bcast_S_S1024x784x128 main_cst
  let main_v24 : IVec S1024x784x128 1 := cmpf .ogt main_v13 main_v23
  let main_v25 : IVec S1024x784x128 1 := noti main_v24
  let main_v26 : IVec S1024x784x128 1 := andi main_v22 main_v25
  let main_v27 : IVec S1024 1 := andi main_v6 main_v12
  let main_v28 : IVec S1024x1x1 1 := broadcastInDim S1024x1x1 ![0] bcast_S1024_S1024x1x1_0 main_v27
  let main_v29 : IVec S1024x784x128 1 := broadcastInDim S1024x784x128 ![0, 1, 2] bcast_S1024x1x1_S1024x784x128_0_1_2 main_v28
  let main_v30 : IVec S1024x784x128 1 := andi main_v26 main_v29
  main_v30

def fn {F : FTy → Type} [FloatOps F] (main_arg0 : FVec F S802816x128 .f32) (main_arg1 : FVec F S1024x1 .f32) (main_arg2 : IVec S1024x784 32) : IVec S1024x784x128 1 :=
  let main_v0 : FVec F S1024x100352 .f32 := shapeCast S1024x100352 main_arg0 shapeCasts_S802816x128_S1024x100352
  let main_v1 : FVec F S1024x100352 .f32 := broadcastInDim S1024x100352 ![0, 1] bcast_S1024x1_S1024x100352_0_1 main_arg1
  let main_v2 : IVec S1024x100352 1 := cmpf .ogt main_v0 main_v1
  let main_v3 : IVec S1024x100352 32 := (extui 32 · natLt_1_32) main_v2
  let main_c : IVec S_ 32 := constantI S_ 32 0#32
  let main_v4 : IVec S1024 32 := (fun x v => Host.reduce IntOp.addi x v reducesTo_S1024x100352_S1024_d1 h_S_) main_v3 main_c
  let main_c_0 : IVec S_ 32 := constantI S_ 32 384#32
  let main_v5 : IVec S1024 32 := broadcastInDim S1024 ![] bcast_S_S1024 main_c_0
  let main_v6 : IVec S1024 1 := cmpi .sle main_v4 main_v5
  let main_c_1 : IVec S_ 32 := constantI S_ 32 0#32
  let main_v7 : IVec S1024x784 32 := broadcastInDim S1024x784 ![] bcast_S_S1024x784 main_c_1
  let main_v8 : IVec S1024x784 1 := cmpi .sgt main_arg2 main_v7
  let main_v9 : IVec S1024x784 32 := (extui 32 · natLt_1_32) main_v8
  let main_c_2 : IVec S_ 32 := constantI S_ 32 0#32
  let main_v10 : IVec S1024 32 := (fun x v => Host.reduce IntOp.addi x v reducesTo_S1024x784_S1024_d1 h_S_) main_v9 main_c_2
  let main_c_3 : IVec S_ 32 := constantI S_ 32 384#32
  let main_v11 : IVec S1024 32 := broadcastInDim S1024 ![] bcast_S_S1024 main_c_3
  let main_v12 : IVec S1024 1 := cmpi .sle main_v10 main_v11
  let main_v13 : FVec F S1024x784x128 .f32 := shapeCast S1024x784x128 main_arg0 shapeCasts_S802816x128_S1024x784x128
  let main_v14 : FVec F S1024x1x1 .f32 := broadcastInDim S1024x1x1 ![0, 1] bcast_S1024x1_S1024x1x1_0_1 main_arg1
  let main_v15 : FVec F S1024x784x128 .f32 := broadcastInDim S1024x784x128 ![0, 1, 2] bcast_S1024x1x1_S1024x784x128_0_1_2 main_v14
  let main_v16 : IVec S1024x784x128 1 := cmpf .ogt main_v13 main_v15
  let main_v17 : IVec S1024x784x128 1 := noti main_v16
  let main_c_4 : IVec S_ 32 := constantI S_ 32 0#32
  fn_part1 (F := F) main_arg2 main_v6 main_v12 main_v13 main_v17 main_c_4
-- ==== Pre_in_queue.lean ====
abbrev S100000x32 : Shape := ⟨2, ![100000, 32]⟩
abbrev S1024x256 : Shape := ⟨2, ![1024, 256]⟩
abbrev S_ : Shape := ⟨0, ![]⟩

class Facts : Prop where
  bcast_S_S1024x256 : S_.BroadcastsInDim S1024x256 (![] : Fin 0 → Fin S1024x256.rank)

variable [Facts]

def fn {F : FTy → Type} [FloatOps F] (main_arg0 : FVec F S100000x32 .f32) (main_arg1 : IVec S1024x256 32) : IVec S1024x256 1 :=
  let main_c : IVec S_ 32 := constantI S_ 32 0#32
  let main_v0 : IVec S1024x256 32 := broadcastInDim S1024x256 ![] bcast_S_S1024x256 main_c
  let main_v1 : IVec S1024x256 1 := cmpi .sge main_arg1 main_v0
  let main_c_0 : IVec S_ 32 := constantI S_ 32 100000#32
  let main_v2 : IVec S1024x256 32 := broadcastInDim S1024x256 ![] bcast_S_S1024x256 main_c_0
  let main_v3 : IVec S1024x256 1 := cmpi .slt main_arg1 main_v2
  let main_v4 : IVec S1024x256 1 := andi main_v1 main_v3
  main_v4
-- ==== Kernel.lean ====
abbrev S100000x32 : Shape := ⟨2, ![100000, 32]⟩
abbrev S1024x256 : Shape := ⟨2, ![1024, 256]⟩
abbrev S262144 : Shape := ⟨1, ![262144]⟩
abbrev S_ : Shape := ⟨0, ![]⟩
abbrev S100096x32 : Shape := ⟨2, ![100096, 32]⟩
abbrev S25024x128 : Shape := ⟨2, ![25024, 128]⟩
abbrev S262144x32 : Shape := ⟨2, ![262144, 32]⟩
abbrev S256 : Shape := ⟨1, ![256]⟩
abbrev S256x128 : Shape := ⟨2, ![256, 128]⟩
abbrev S256x32 : Shape := ⟨2, ![256, 32]⟩
abbrev S16 : Shape := ⟨1, ![16]⟩
abbrev S1024x256x32 : Shape := ⟨3, ![1024, 256, 32]⟩

abbrev nBuf : Table → Nat
  | .hbm => 9
  | .local .scVector .vmem => 4
  | _ => 0

abbrev bufTy : (tb : Table) → Fin (nBuf tb) → BufTy
  | .hbm, ⟨0, _⟩ => ⟨S100000x32, .f32⟩
  | .hbm, ⟨1, _⟩ => ⟨S1024x256, .i32⟩
  | .hbm, ⟨2, _⟩ => ⟨S262144, .i32⟩
  | .hbm, ⟨3, _⟩ => ⟨S_, .i32⟩
  | .hbm, ⟨4, _⟩ => ⟨S_, .f32⟩
  | .hbm, ⟨5, _⟩ => ⟨S100096x32, .f32⟩
  | .hbm, ⟨6, _⟩ => ⟨S25024x128, .f32⟩
  | .hbm, ⟨7, _⟩ => ⟨S262144x32, .f32⟩
  | .hbm, ⟨8, _⟩ => ⟨S1024x256x32, .f32⟩
  | .local .scVector .vmem, ⟨0, _⟩ => ⟨S256, .i32⟩
  | .local .scVector .vmem, ⟨1, _⟩ => ⟨S256, .i32⟩
  | .local .scVector .vmem, ⟨2, _⟩ => ⟨S256x128, .f32⟩
  | .local .scVector .vmem, ⟨3, _⟩ => ⟨S256x32, .f32⟩
  | _, _ => ⟨S100000x32, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v2_scv : Ref sig .scVector := ⟨.hbm, 6, rfl⟩
abbrev main_v0_scv : Ref sig .scVector := ⟨.hbm, 2, rfl⟩
abbrev main_v3_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v3 : BitVec 32 := Scalar.addi c0_i32_0 c32_i32
  let c1_i32 : BitVec 32 := 1#32
  ⟨c0_i32_0, v3, c1_i32⟩
def k0_off1 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg10 : BitVec 32 := Scf.iv c0_i32_0 c1_i32 k0_t1
  let c256_i32 : BitVec 32 := 256#32
  let v4 : BitVec 32 := Scalar.muli arg10 c256_i32
  let v5 : BitVec 32 := Scalar.addi v2 v4
  ![v5.toNat]
@[reducible] def k0_t2_loop : Scf.Loop 32 :=
  let c0_i32_3 : BitVec 32 := 0#32
  let c16_i32 : BitVec 32 := 16#32
  let v6 : BitVec 32 := Scalar.addi c0_i32_3 c16_i32
  let c1_i32_4 : BitVec 32 := 1#32
  ⟨c0_i32_3, v6, c1_i32_4⟩
def k0_off2 (k0_t2 : Fin k0_t2_loop.trips) : Fin 1 → Nat :=
  let c0_i32_3 : BitVec 32 := 0#32
  let c1_i32_4 : BitVec 32 := 1#32
  let arg11 : BitVec 32 := Scf.iv c0_i32_3 c1_i32_4 k0_t2
  let c16_i32_15 : BitVec 32 := 16#32
  let v10 : BitVec 32 := Scalar.muli arg11 c16_i32_15
  let v11 : Index := Scalar.indexCast v10
  ![v11.toNat]
@[reducible] def k0_t3_loop : Scf.Loop 32 :=
  let c0_i32_11 : BitVec 32 := 0#32
  let c16_i32_12 : BitVec 32 := 16#32
  let v9 : BitVec 32 := Scalar.addi c0_i32_11 c16_i32_12
  let c1_i32_13 : BitVec 32 := 1#32
  ⟨c0_i32_11, v9, c1_i32_13⟩
def k0_off3 (k0_t3 : Fin k0_t3_loop.trips) : Fin 1 → Nat :=
  let c0_i32_11 : BitVec 32 := 0#32
  let c1_i32_13 : BitVec 32 := 1#32
  let arg11 : BitVec 32 := Scf.iv c0_i32_11 c1_i32_13 k0_t3
  let c16_i32_16 : BitVec 32 := 16#32
  let v14 : BitVec 32 := Scalar.muli arg11 c16_i32_16
  let v15 : Index := Scalar.indexCast v14
  ![v15.toNat]

def k0_chk1 (v13 : IVec S16 32) (v22 : IVec S16 32) : Prop :=
  (∀ a x, ((![v13, v22] : Fin 2 → IVec S16 32) a x).toNat < S256x128.size a)
theorem k0_idx1_inb : ∀ (v13 : IVec S16 32) (v22 : IVec S16 32) (k0_hw1 : k0_chk1 v13 v22), ∀ a x, ((![v13, v22] : Fin 2 → IVec S16 32) a x).toNat < S256x128.size a := fun v13 v22 k0_hw1 => k0_hw1

def k0_chk2 (v13 : IVec S16 32) (v24 : IVec S16 32) : Prop :=
  (∀ a x, ((![v13, v24] : Fin 2 → IVec S16 32) a x).toNat < S256x32.size a)
theorem k0_idx2_inb : ∀ (v13 : IVec S16 32) (v24 : IVec S16 32) (k0_hw2 : k0_chk2 v13 v24), ∀ a x, ((![v13, v24] : Fin 2 → IVec S16 32) a x).toNat < S256x32.size a := fun v13 v24 k0_hw2 => k0_hw2

def k0_chk3 (v13 : IVec S16 32) (v26 : IVec S16 32) : Prop :=
  (∀ a x, ((![v13, v26] : Fin 2 → IVec S16 32) a x).toNat < S256x128.size a)
theorem k0_idx3_inb : ∀ (v13 : IVec S16 32) (v26 : IVec S16 32) (k0_hw3 : k0_chk3 v13 v26), ∀ a x, ((![v13, v26] : Fin 2 → IVec S16 32) a x).toNat < S256x128.size a := fun v13 v26 k0_hw3 => k0_hw3

def k0_chk4 (v13 : IVec S16 32) (v28 : IVec S16 32) : Prop :=
  (∀ a x, ((![v13, v28] : Fin 2 → IVec S16 32) a x).toNat < S256x32.size a)
theorem k0_idx4_inb : ∀ (v13 : IVec S16 32) (v28 : IVec S16 32) (k0_hw4 : k0_chk4 v13 v28), ∀ a x, ((![v13, v28] : Fin 2 → IVec S16 32) a x).toNat < S256x32.size a := fun v13 v28 k0_hw4 => k0_hw4

def k0_chk5 (v13 : IVec S16 32) (v30 : IVec S16 32) : Prop :=
  (∀ a x, ((![v13, v30] : Fin 2 → IVec S16 32) a x).toNat < S256x128.size a)
theorem k0_idx5_inb : ∀ (v13 : IVec S16 32) (v30 : IVec S16 32) (k0_hw5 : k0_chk5 v13 v30), ∀ a x, ((![v13, v30] : Fin 2 → IVec S16 32) a x).toNat < S256x128.size a := fun v13 v30 k0_hw5 => k0_hw5

def k0_chk6 (v13 : IVec S16 32) (v32 : IVec S16 32) : Prop :=
  (∀ a x, ((![v13, v32] : Fin 2 → IVec S16 32) a x).toNat < S256x32.size a)
theorem k0_idx6_inb : ∀ (v13 : IVec S16 32) (v32 : IVec S16 32) (k0_hw6 : k0_chk6 v13 v32), ∀ a x, ((![v13, v32] : Fin 2 → IVec S16 32) a x).toNat < S256x32.size a := fun v13 v32 k0_hw6 => k0_hw6

def k0_chk7 (v13 : IVec S16 32) (v34 : IVec S16 32) : Prop :=
  (∀ a x, ((![v13, v34] : Fin 2 → IVec S16 32) a x).toNat < S256x128.size a)
theorem k0_idx7_inb : ∀ (v13 : IVec S16 32) (v34 : IVec S16 32) (k0_hw7 : k0_chk7 v13 v34), ∀ a x, ((![v13, v34] : Fin 2 → IVec S16 32) a x).toNat < S256x128.size a := fun v13 v34 k0_hw7 => k0_hw7

def k0_chk8 (v13 : IVec S16 32) (v36 : IVec S16 32) : Prop :=
  (∀ a x, ((![v13, v36] : Fin 2 → IVec S16 32) a x).toNat < S256x32.size a)
theorem k0_idx8_inb : ∀ (v13 : IVec S16 32) (v36 : IVec S16 32) (k0_hw8 : k0_chk8 v13 v36), ∀ a x, ((![v13, v36] : Fin 2 → IVec S16 32) a x).toNat < S256x32.size a := fun v13 v36 k0_hw8 => k0_hw8

def k0_chk9 (v13 : IVec S16 32) (v38 : IVec S16 32) : Prop :=
  (∀ a x, ((![v13, v38] : Fin 2 → IVec S16 32) a x).toNat < S256x128.size a)
theorem k0_idx9_inb : ∀ (v13 : IVec S16 32) (v38 : IVec S16 32) (k0_hw9 : k0_chk9 v13 v38), ∀ a x, ((![v13, v38] : Fin 2 → IVec S16 32) a x).toNat < S256x128.size a := fun v13 v38 k0_hw9 => k0_hw9

def k0_chk10 (v13 : IVec S16 32) (v40 : IVec S16 32) : Prop :=
  (∀ a x, ((![v13, v40] : Fin 2 → IVec S16 32) a x).toNat < S256x32.size a)
theorem k0_idx10_inb : ∀ (v13 : IVec S16 32) (v40 : IVec S16 32) (k0_hw10 : k0_chk10 v13 v40), ∀ a x, ((![v13, v40] : Fin 2 → IVec S16 32) a x).toNat < S256x32.size a := fun v13 v40 k0_hw10 => k0_hw10

def k0_chk11 (v13 : IVec S16 32) (v42 : IVec S16 32) : Prop :=
  (∀ a x, ((![v13, v42] : Fin 2 → IVec S16 32) a x).toNat < S256x128.size a)
theorem k0_idx11_inb : ∀ (v13 : IVec S16 32) (v42 : IVec S16 32) (k0_hw11 : k0_chk11 v13 v42), ∀ a x, ((![v13, v42] : Fin 2 → IVec S16 32) a x).toNat < S256x128.size a := fun v13 v42 k0_hw11 => k0_hw11

def k0_chk12 (v13 : IVec S16 32) (v44 : IVec S16 32) : Prop :=
  (∀ a x, ((![v13, v44] : Fin 2 → IVec S16 32) a x).toNat < S256x32.size a)
theorem k0_idx12_inb : ∀ (v13 : IVec S16 32) (v44 : IVec S16 32) (k0_hw12 : k0_chk12 v13 v44), ∀ a x, ((![v13, v44] : Fin 2 → IVec S16 32) a x).toNat < S256x32.size a := fun v13 v44 k0_hw12 => k0_hw12

def k0_chk13 (v13 : IVec S16 32) (v46 : IVec S16 32) : Prop :=
  (∀ a x, ((![v13, v46] : Fin 2 → IVec S16 32) a x).toNat < S256x128.size a)
theorem k0_idx13_inb : ∀ (v13 : IVec S16 32) (v46 : IVec S16 32) (k0_hw13 : k0_chk13 v13 v46), ∀ a x, ((![v13, v46] : Fin 2 → IVec S16 32) a x).toNat < S256x128.size a := fun v13 v46 k0_hw13 => k0_hw13

def k0_chk14 (v13 : IVec S16 32) (v48 : IVec S16 32) : Prop :=
  (∀ a x, ((![v13, v48] : Fin 2 → IVec S16 32) a x).toNat < S256x32.size a)
theorem k0_idx14_inb : ∀ (v13 : IVec S16 32) (v48 : IVec S16 32) (k0_hw14 : k0_chk14 v13 v48), ∀ a x, ((![v13, v48] : Fin 2 → IVec S16 32) a x).toNat < S256x32.size a := fun v13 v48 k0_hw14 => k0_hw14

def k0_chk15 (v13 : IVec S16 32) (v50 : IVec S16 32) : Prop :=
  (∀ a x, ((![v13, v50] : Fin 2 → IVec S16 32) a x).toNat < S256x128.size a)
theorem k0_idx15_inb : ∀ (v13 : IVec S16 32) (v50 : IVec S16 32) (k0_hw15 : k0_chk15 v13 v50), ∀ a x, ((![v13, v50] : Fin 2 → IVec S16 32) a x).toNat < S256x128.size a := fun v13 v50 k0_hw15 => k0_hw15

def k0_chk16 (v13 : IVec S16 32) (v52 : IVec S16 32) : Prop :=
  (∀ a x, ((![v13, v52] : Fin 2 → IVec S16 32) a x).toNat < S256x32.size a)
theorem k0_idx16_inb : ∀ (v13 : IVec S16 32) (v52 : IVec S16 32) (k0_hw16 : k0_chk16 v13 v52), ∀ a x, ((![v13, v52] : Fin 2 → IVec S16 32) a x).toNat < S256x32.size a := fun v13 v52 k0_hw16 => k0_hw16

def k0_chk17 (v13 : IVec S16 32) (v54 : IVec S16 32) : Prop :=
  (∀ a x, ((![v13, v54] : Fin 2 → IVec S16 32) a x).toNat < S256x128.size a)
theorem k0_idx17_inb : ∀ (v13 : IVec S16 32) (v54 : IVec S16 32) (k0_hw17 : k0_chk17 v13 v54), ∀ a x, ((![v13, v54] : Fin 2 → IVec S16 32) a x).toNat < S256x128.size a := fun v13 v54 k0_hw17 => k0_hw17

def k0_chk18 (v13 : IVec S16 32) (v56 : IVec S16 32) : Prop :=
  (∀ a x, ((![v13, v56] : Fin 2 → IVec S16 32) a x).toNat < S256x32.size a)
theorem k0_idx18_inb : ∀ (v13 : IVec S16 32) (v56 : IVec S16 32) (k0_hw18 : k0_chk18 v13 v56), ∀ a x, ((![v13, v56] : Fin 2 → IVec S16 32) a x).toNat < S256x32.size a := fun v13 v56 k0_hw18 => k0_hw18

def k0_chk19 (v13 : IVec S16 32) (v58 : IVec S16 32) : Prop :=
  (∀ a x, ((![v13, v58] : Fin 2 → IVec S16 32) a x).toNat < S256x128.size a)
theorem k0_idx19_inb : ∀ (v13 : IVec S16 32) (v58 : IVec S16 32) (k0_hw19 : k0_chk19 v13 v58), ∀ a x, ((![v13, v58] : Fin 2 → IVec S16 32) a x).toNat < S256x128.size a := fun v13 v58 k0_hw19 => k0_hw19

def k0_chk20 (v13 : IVec S16 32) (v60 : IVec S16 32) : Prop :=
  (∀ a x, ((![v13, v60] : Fin 2 → IVec S16 32) a x).toNat < S256x32.size a)
theorem k0_idx20_inb : ∀ (v13 : IVec S16 32) (v60 : IVec S16 32) (k0_hw20 : k0_chk20 v13 v60), ∀ a x, ((![v13, v60] : Fin 2 → IVec S16 32) a x).toNat < S256x32.size a := fun v13 v60 k0_hw20 => k0_hw20

def k0_chk21 (v13 : IVec S16 32) (v62 : IVec S16 32) : Prop :=
  (∀ a x, ((![v13, v62] : Fin 2 → IVec S16 32) a x).toNat < S256x128.size a)
theorem k0_idx21_inb : ∀ (v13 : IVec S16 32) (v62 : IVec S16 32) (k0_hw21 : k0_chk21 v13 v62), ∀ a x, ((![v13, v62] : Fin 2 → IVec S16 32) a x).toNat < S256x128.size a := fun v13 v62 k0_hw21 => k0_hw21

def k0_chk22 (v13 : IVec S16 32) (v64 : IVec S16 32) : Prop :=
  (∀ a x, ((![v13, v64] : Fin 2 → IVec S16 32) a x).toNat < S256x32.size a)
theorem k0_idx22_inb : ∀ (v13 : IVec S16 32) (v64 : IVec S16 32) (k0_hw22 : k0_chk22 v13 v64), ∀ a x, ((![v13, v64] : Fin 2 → IVec S16 32) a x).toNat < S256x32.size a := fun v13 v64 k0_hw22 => k0_hw22

def k0_chk23 (v13 : IVec S16 32) (v66 : IVec S16 32) : Prop :=
  (∀ a x, ((![v13, v66] : Fin 2 → IVec S16 32) a x).toNat < S256x128.size a)
theorem k0_idx23_inb : ∀ (v13 : IVec S16 32) (v66 : IVec S16 32) (k0_hw23 : k0_chk23 v13 v66), ∀ a x, ((![v13, v66] : Fin 2 → IVec S16 32) a x).toNat < S256x128.size a := fun v13 v66 k0_hw23 => k0_hw23

def k0_chk24 (v13 : IVec S16 32) (v68 : IVec S16 32) : Prop :=
  (∀ a x, ((![v13, v68] : Fin 2 → IVec S16 32) a x).toNat < S256x32.size a)
theorem k0_idx24_inb : ∀ (v13 : IVec S16 32) (v68 : IVec S16 32) (k0_hw24 : k0_chk24 v13 v68), ∀ a x, ((![v13, v68] : Fin 2 → IVec S16 32) a x).toNat < S256x32.size a := fun v13 v68 k0_hw24 => k0_hw24

def k0_chk25 (v13 : IVec S16 32) (v70 : IVec S16 32) : Prop :=
  (∀ a x, ((![v13, v70] : Fin 2 → IVec S16 32) a x).toNat < S256x128.size a)
theorem k0_idx25_inb : ∀ (v13 : IVec S16 32) (v70 : IVec S16 32) (k0_hw25 : k0_chk25 v13 v70), ∀ a x, ((![v13, v70] : Fin 2 → IVec S16 32) a x).toNat < S256x128.size a := fun v13 v70 k0_hw25 => k0_hw25

def k0_chk26 (v13 : IVec S16 32) (v72 : IVec S16 32) : Prop :=
  (∀ a x, ((![v13, v72] : Fin 2 → IVec S16 32) a x).toNat < S256x32.size a)
theorem k0_idx26_inb : ∀ (v13 : IVec S16 32) (v72 : IVec S16 32) (k0_hw26 : k0_chk26 v13 v72), ∀ a x, ((![v13, v72] : Fin 2 → IVec S16 32) a x).toNat < S256x32.size a := fun v13 v72 k0_hw26 => k0_hw26

def k0_chk27 (v13 : IVec S16 32) (v74 : IVec S16 32) : Prop :=
  (∀ a x, ((![v13, v74] : Fin 2 → IVec S16 32) a x).toNat < S256x128.size a)
theorem k0_idx27_inb : ∀ (v13 : IVec S16 32) (v74 : IVec S16 32) (k0_hw27 : k0_chk27 v13 v74), ∀ a x, ((![v13, v74] : Fin 2 → IVec S16 32) a x).toNat < S256x128.size a := fun v13 v74 k0_hw27 => k0_hw27

def k0_chk28 (v13 : IVec S16 32) (v76 : IVec S16 32) : Prop :=
  (∀ a x, ((![v13, v76] : Fin 2 → IVec S16 32) a x).toNat < S256x32.size a)
theorem k0_idx28_inb : ∀ (v13 : IVec S16 32) (v76 : IVec S16 32) (k0_hw28 : k0_chk28 v13 v76), ∀ a x, ((![v13, v76] : Fin 2 → IVec S16 32) a x).toNat < S256x32.size a := fun v13 v76 k0_hw28 => k0_hw28

def k0_chk29 (v13 : IVec S16 32) (v78 : IVec S16 32) : Prop :=
  (∀ a x, ((![v13, v78] : Fin 2 → IVec S16 32) a x).toNat < S256x128.size a)
theorem k0_idx29_inb : ∀ (v13 : IVec S16 32) (v78 : IVec S16 32) (k0_hw29 : k0_chk29 v13 v78), ∀ a x, ((![v13, v78] : Fin 2 → IVec S16 32) a x).toNat < S256x128.size a := fun v13 v78 k0_hw29 => k0_hw29

def k0_chk30 (v13 : IVec S16 32) (v80 : IVec S16 32) : Prop :=
  (∀ a x, ((![v13, v80] : Fin 2 → IVec S16 32) a x).toNat < S256x32.size a)
theorem k0_idx30_inb : ∀ (v13 : IVec S16 32) (v80 : IVec S16 32) (k0_hw30 : k0_chk30 v13 v80), ∀ a x, ((![v13, v80] : Fin 2 → IVec S16 32) a x).toNat < S256x32.size a := fun v13 v80 k0_hw30 => k0_hw30

def k0_chk31 (v13 : IVec S16 32) (v82 : IVec S16 32) : Prop :=
  (∀ a x, ((![v13, v82] : Fin 2 → IVec S16 32) a x).toNat < S256x128.size a)
theorem k0_idx31_inb : ∀ (v13 : IVec S16 32) (v82 : IVec S16 32) (k0_hw31 : k0_chk31 v13 v82), ∀ a x, ((![v13, v82] : Fin 2 → IVec S16 32) a x).toNat < S256x128.size a := fun v13 v82 k0_hw31 => k0_hw31

def k0_chk32 (v13 : IVec S16 32) (v84 : IVec S16 32) : Prop :=
  (∀ a x, ((![v13, v84] : Fin 2 → IVec S16 32) a x).toNat < S256x32.size a)
theorem k0_idx32_inb : ∀ (v13 : IVec S16 32) (v84 : IVec S16 32) (k0_hw32 : k0_chk32 v13 v84), ∀ a x, ((![v13, v84] : Fin 2 → IVec S16 32) a x).toNat < S256x32.size a := fun v13 v84 k0_hw32 => k0_hw32

def k0_chk33 (v13 : IVec S16 32) (v86 : IVec S16 32) : Prop :=
  (∀ a x, ((![v13, v86] : Fin 2 → IVec S16 32) a x).toNat < S256x128.size a)
theorem k0_idx33_inb : ∀ (v13 : IVec S16 32) (v86 : IVec S16 32) (k0_hw33 : k0_chk33 v13 v86), ∀ a x, ((![v13, v86] : Fin 2 → IVec S16 32) a x).toNat < S256x128.size a := fun v13 v86 k0_hw33 => k0_hw33

def k0_chk34 (v13 : IVec S16 32) (v88 : IVec S16 32) : Prop :=
  (∀ a x, ((![v13, v88] : Fin 2 → IVec S16 32) a x).toNat < S256x32.size a)
theorem k0_idx34_inb : ∀ (v13 : IVec S16 32) (v88 : IVec S16 32) (k0_hw34 : k0_chk34 v13 v88), ∀ a x, ((![v13, v88] : Fin 2 → IVec S16 32) a x).toNat < S256x32.size a := fun v13 v88 k0_hw34 => k0_hw34

def k0_chk35 (v13 : IVec S16 32) (v90 : IVec S16 32) : Prop :=
  (∀ a x, ((![v13, v90] : Fin 2 → IVec S16 32) a x).toNat < S256x128.size a)
theorem k0_idx35_inb : ∀ (v13 : IVec S16 32) (v90 : IVec S16 32) (k0_hw35 : k0_chk35 v13 v90), ∀ a x, ((![v13, v90] : Fin 2 → IVec S16 32) a x).toNat < S256x128.size a := fun v13 v90 k0_hw35 => k0_hw35

def k0_chk36 (v13 : IVec S16 32) (v92 : IVec S16 32) : Prop :=
  (∀ a x, ((![v13, v92] : Fin 2 → IVec S16 32) a x).toNat < S256x32.size a)
theorem k0_idx36_inb : ∀ (v13 : IVec S16 32) (v92 : IVec S16 32) (k0_hw36 : k0_chk36 v13 v92), ∀ a x, ((![v13, v92] : Fin 2 → IVec S16 32) a x).toNat < S256x32.size a := fun v13 v92 k0_hw36 => k0_hw36

def k0_chk37 (v13 : IVec S16 32) (v94 : IVec S16 32) : Prop :=
  (∀ a x, ((![v13, v94] : Fin 2 → IVec S16 32) a x).toNat < S256x128.size a)
theorem k0_idx37_inb : ∀ (v13 : IVec S16 32) (v94 : IVec S16 32) (k0_hw37 : k0_chk37 v13 v94), ∀ a x, ((![v13, v94] : Fin 2 → IVec S16 32) a x).toNat < S256x128.size a := fun v13 v94 k0_hw37 => k0_hw37

def k0_chk38 (v13 : IVec S16 32) (v96 : IVec S16 32) : Prop :=
  (∀ a x, ((![v13, v96] : Fin 2 → IVec S16 32) a x).toNat < S256x32.size a)
theorem k0_idx38_inb : ∀ (v13 : IVec S16 32) (v96 : IVec S16 32) (k0_hw38 : k0_chk38 v13 v96), ∀ a x, ((![v13, v96] : Fin 2 → IVec S16 32) a x).toNat < S256x32.size a := fun v13 v96 k0_hw38 => k0_hw38

def k0_chk39 (v13 : IVec S16 32) (v98 : IVec S16 32) : Prop :=
  (∀ a x, ((![v13, v98] : Fin 2 → IVec S16 32) a x).toNat < S256x128.size a)
theorem k0_idx39_inb : ∀ (v13 : IVec S16 32) (v98 : IVec S16 32) (k0_hw39 : k0_chk39 v13 v98), ∀ a x, ((![v13, v98] : Fin 2 → IVec S16 32) a x).toNat < S256x128.size a := fun v13 v98 k0_hw39 => k0_hw39

def k0_chk40 (v13 : IVec S16 32) (v100 : IVec S16 32) : Prop :=
  (∀ a x, ((![v13, v100] : Fin 2 → IVec S16 32) a x).toNat < S256x32.size a)
theorem k0_idx40_inb : ∀ (v13 : IVec S16 32) (v100 : IVec S16 32) (k0_hw40 : k0_chk40 v13 v100), ∀ a x, ((![v13, v100] : Fin 2 → IVec S16 32) a x).toNat < S256x32.size a := fun v13 v100 k0_hw40 => k0_hw40

def k0_chk41 (v13 : IVec S16 32) (v102 : IVec S16 32) : Prop :=
  (∀ a x, ((![v13, v102] : Fin 2 → IVec S16 32) a x).toNat < S256x128.size a)
theorem k0_idx41_inb : ∀ (v13 : IVec S16 32) (v102 : IVec S16 32) (k0_hw41 : k0_chk41 v13 v102), ∀ a x, ((![v13, v102] : Fin 2 → IVec S16 32) a x).toNat < S256x128.size a := fun v13 v102 k0_hw41 => k0_hw41

def k0_chk42 (v13 : IVec S16 32) (v104 : IVec S16 32) : Prop :=
  (∀ a x, ((![v13, v104] : Fin 2 → IVec S16 32) a x).toNat < S256x32.size a)
theorem k0_idx42_inb : ∀ (v13 : IVec S16 32) (v104 : IVec S16 32) (k0_hw42 : k0_chk42 v13 v104), ∀ a x, ((![v13, v104] : Fin 2 → IVec S16 32) a x).toNat < S256x32.size a := fun v13 v104 k0_hw42 => k0_hw42

def k0_chk43 (v13 : IVec S16 32) (v106 : IVec S16 32) : Prop :=
  (∀ a x, ((![v13, v106] : Fin 2 → IVec S16 32) a x).toNat < S256x128.size a)
theorem k0_idx43_inb : ∀ (v13 : IVec S16 32) (v106 : IVec S16 32) (k0_hw43 : k0_chk43 v13 v106), ∀ a x, ((![v13, v106] : Fin 2 → IVec S16 32) a x).toNat < S256x128.size a := fun v13 v106 k0_hw43 => k0_hw43

def k0_chk44 (v13 : IVec S16 32) (v108 : IVec S16 32) : Prop :=
  (∀ a x, ((![v13, v108] : Fin 2 → IVec S16 32) a x).toNat < S256x32.size a)
theorem k0_idx44_inb : ∀ (v13 : IVec S16 32) (v108 : IVec S16 32) (k0_hw44 : k0_chk44 v13 v108), ∀ a x, ((![v13, v108] : Fin 2 → IVec S16 32) a x).toNat < S256x32.size a := fun v13 v108 k0_hw44 => k0_hw44

def k0_chk45 (v13 : IVec S16 32) (v110 : IVec S16 32) : Prop :=
  (∀ a x, ((![v13, v110] : Fin 2 → IVec S16 32) a x).toNat < S256x128.size a)
theorem k0_idx45_inb : ∀ (v13 : IVec S16 32) (v110 : IVec S16 32) (k0_hw45 : k0_chk45 v13 v110), ∀ a x, ((![v13, v110] : Fin 2 → IVec S16 32) a x).toNat < S256x128.size a := fun v13 v110 k0_hw45 => k0_hw45

def k0_chk46 (v13 : IVec S16 32) (v112 : IVec S16 32) : Prop :=
  (∀ a x, ((![v13, v112] : Fin 2 → IVec S16 32) a x).toNat < S256x32.size a)
theorem k0_idx46_inb : ∀ (v13 : IVec S16 32) (v112 : IVec S16 32) (k0_hw46 : k0_chk46 v13 v112), ∀ a x, ((![v13, v112] : Fin 2 → IVec S16 32) a x).toNat < S256x32.size a := fun v13 v112 k0_hw46 => k0_hw46

def k0_chk47 (v13 : IVec S16 32) (v114 : IVec S16 32) : Prop :=
  (∀ a x, ((![v13, v114] : Fin 2 → IVec S16 32) a x).toNat < S256x128.size a)
theorem k0_idx47_inb : ∀ (v13 : IVec S16 32) (v114 : IVec S16 32) (k0_hw47 : k0_chk47 v13 v114), ∀ a x, ((![v13, v114] : Fin 2 → IVec S16 32) a x).toNat < S256x128.size a := fun v13 v114 k0_hw47 => k0_hw47

def k0_chk48 (v13 : IVec S16 32) (v116 : IVec S16 32) : Prop :=
  (∀ a x, ((![v13, v116] : Fin 2 → IVec S16 32) a x).toNat < S256x32.size a)
theorem k0_idx48_inb : ∀ (v13 : IVec S16 32) (v116 : IVec S16 32) (k0_hw48 : k0_chk48 v13 v116), ∀ a x, ((![v13, v116] : Fin 2 → IVec S16 32) a x).toNat < S256x32.size a := fun v13 v116 k0_hw48 => k0_hw48

def k0_chk49 (v13 : IVec S16 32) (v118 : IVec S16 32) : Prop :=
  (∀ a x, ((![v13, v118] : Fin 2 → IVec S16 32) a x).toNat < S256x128.size a)
theorem k0_idx49_inb : ∀ (v13 : IVec S16 32) (v118 : IVec S16 32) (k0_hw49 : k0_chk49 v13 v118), ∀ a x, ((![v13, v118] : Fin 2 → IVec S16 32) a x).toNat < S256x128.size a := fun v13 v118 k0_hw49 => k0_hw49

def k0_chk50 (v13 : IVec S16 32) (v120 : IVec S16 32) : Prop :=
  (∀ a x, ((![v13, v120] : Fin 2 → IVec S16 32) a x).toNat < S256x32.size a)
theorem k0_idx50_inb : ∀ (v13 : IVec S16 32) (v120 : IVec S16 32) (k0_hw50 : k0_chk50 v13 v120), ∀ a x, ((![v13, v120] : Fin 2 → IVec S16 32) a x).toNat < S256x32.size a := fun v13 v120 k0_hw50 => k0_hw50

def k0_chk51 (v13 : IVec S16 32) (v122 : IVec S16 32) : Prop :=
  (∀ a x, ((![v13, v122] : Fin 2 → IVec S16 32) a x).toNat < S256x128.size a)
theorem k0_idx51_inb : ∀ (v13 : IVec S16 32) (v122 : IVec S16 32) (k0_hw51 : k0_chk51 v13 v122), ∀ a x, ((![v13, v122] : Fin 2 → IVec S16 32) a x).toNat < S256x128.size a := fun v13 v122 k0_hw51 => k0_hw51

def k0_chk52 (v13 : IVec S16 32) (v124 : IVec S16 32) : Prop :=
  (∀ a x, ((![v13, v124] : Fin 2 → IVec S16 32) a x).toNat < S256x32.size a)
theorem k0_idx52_inb : ∀ (v13 : IVec S16 32) (v124 : IVec S16 32) (k0_hw52 : k0_chk52 v13 v124), ∀ a x, ((![v13, v124] : Fin 2 → IVec S16 32) a x).toNat < S256x32.size a := fun v13 v124 k0_hw52 => k0_hw52

def k0_chk53 (v13 : IVec S16 32) (v126 : IVec S16 32) : Prop :=
  (∀ a x, ((![v13, v126] : Fin 2 → IVec S16 32) a x).toNat < S256x128.size a)
theorem k0_idx53_inb : ∀ (v13 : IVec S16 32) (v126 : IVec S16 32) (k0_hw53 : k0_chk53 v13 v126), ∀ a x, ((![v13, v126] : Fin 2 → IVec S16 32) a x).toNat < S256x128.size a := fun v13 v126 k0_hw53 => k0_hw53

def k0_chk54 (v13 : IVec S16 32) (v128 : IVec S16 32) : Prop :=
  (∀ a x, ((![v13, v128] : Fin 2 → IVec S16 32) a x).toNat < S256x32.size a)
theorem k0_idx54_inb : ∀ (v13 : IVec S16 32) (v128 : IVec S16 32) (k0_hw54 : k0_chk54 v13 v128), ∀ a x, ((![v13, v128] : Fin 2 → IVec S16 32) a x).toNat < S256x32.size a := fun v13 v128 k0_hw54 => k0_hw54

def k0_chk55 (v13 : IVec S16 32) (v130 : IVec S16 32) : Prop :=
  (∀ a x, ((![v13, v130] : Fin 2 → IVec S16 32) a x).toNat < S256x128.size a)
theorem k0_idx55_inb : ∀ (v13 : IVec S16 32) (v130 : IVec S16 32) (k0_hw55 : k0_chk55 v13 v130), ∀ a x, ((![v13, v130] : Fin 2 → IVec S16 32) a x).toNat < S256x128.size a := fun v13 v130 k0_hw55 => k0_hw55

def k0_chk56 (v13 : IVec S16 32) (v132 : IVec S16 32) : Prop :=
  (∀ a x, ((![v13, v132] : Fin 2 → IVec S16 32) a x).toNat < S256x32.size a)
theorem k0_idx56_inb : ∀ (v13 : IVec S16 32) (v132 : IVec S16 32) (k0_hw56 : k0_chk56 v13 v132), ∀ a x, ((![v13, v132] : Fin 2 → IVec S16 32) a x).toNat < S256x32.size a := fun v13 v132 k0_hw56 => k0_hw56

def k0_chk57 (v13 : IVec S16 32) (v134 : IVec S16 32) : Prop :=
  (∀ a x, ((![v13, v134] : Fin 2 → IVec S16 32) a x).toNat < S256x128.size a)
theorem k0_idx57_inb : ∀ (v13 : IVec S16 32) (v134 : IVec S16 32) (k0_hw57 : k0_chk57 v13 v134), ∀ a x, ((![v13, v134] : Fin 2 → IVec S16 32) a x).toNat < S256x128.size a := fun v13 v134 k0_hw57 => k0_hw57

def k0_chk58 (v13 : IVec S16 32) (v136 : IVec S16 32) : Prop :=
  (∀ a x, ((![v13, v136] : Fin 2 → IVec S16 32) a x).toNat < S256x32.size a)
theorem k0_idx58_inb : ∀ (v13 : IVec S16 32) (v136 : IVec S16 32) (k0_hw58 : k0_chk58 v13 v136), ∀ a x, ((![v13, v136] : Fin 2 → IVec S16 32) a x).toNat < S256x32.size a := fun v13 v136 k0_hw58 => k0_hw58

def k0_chk59 (v13 : IVec S16 32) (v138 : IVec S16 32) : Prop :=
  (∀ a x, ((![v13, v138] : Fin 2 → IVec S16 32) a x).toNat < S256x128.size a)
theorem k0_idx59_inb : ∀ (v13 : IVec S16 32) (v138 : IVec S16 32) (k0_hw59 : k0_chk59 v13 v138), ∀ a x, ((![v13, v138] : Fin 2 → IVec S16 32) a x).toNat < S256x128.size a := fun v13 v138 k0_hw59 => k0_hw59

def k0_chk60 (v13 : IVec S16 32) (v140 : IVec S16 32) : Prop :=
  (∀ a x, ((![v13, v140] : Fin 2 → IVec S16 32) a x).toNat < S256x32.size a)
theorem k0_idx60_inb : ∀ (v13 : IVec S16 32) (v140 : IVec S16 32) (k0_hw60 : k0_chk60 v13 v140), ∀ a x, ((![v13, v140] : Fin 2 → IVec S16 32) a x).toNat < S256x32.size a := fun v13 v140 k0_hw60 => k0_hw60

def k0_chk61 (v13 : IVec S16 32) (v142 : IVec S16 32) : Prop :=
  (∀ a x, ((![v13, v142] : Fin 2 → IVec S16 32) a x).toNat < S256x128.size a)
theorem k0_idx61_inb : ∀ (v13 : IVec S16 32) (v142 : IVec S16 32) (k0_hw61 : k0_chk61 v13 v142), ∀ a x, ((![v13, v142] : Fin 2 → IVec S16 32) a x).toNat < S256x128.size a := fun v13 v142 k0_hw61 => k0_hw61

def k0_chk62 (v13 : IVec S16 32) (v144 : IVec S16 32) : Prop :=
  (∀ a x, ((![v13, v144] : Fin 2 → IVec S16 32) a x).toNat < S256x32.size a)
theorem k0_idx62_inb : ∀ (v13 : IVec S16 32) (v144 : IVec S16 32) (k0_hw62 : k0_chk62 v13 v144), ∀ a x, ((![v13, v144] : Fin 2 → IVec S16 32) a x).toNat < S256x32.size a := fun v13 v144 k0_hw62 => k0_hw62

def k0_chk63 (v13 : IVec S16 32) (v146 : IVec S16 32) : Prop :=
  (∀ a x, ((![v13, v146] : Fin 2 → IVec S16 32) a x).toNat < S256x128.size a)
theorem k0_idx63_inb : ∀ (v13 : IVec S16 32) (v146 : IVec S16 32) (k0_hw63 : k0_chk63 v13 v146), ∀ a x, ((![v13, v146] : Fin 2 → IVec S16 32) a x).toNat < S256x128.size a := fun v13 v146 k0_hw63 => k0_hw63

def k0_chk64 (v13 : IVec S16 32) (v148 : IVec S16 32) : Prop :=
  (∀ a x, ((![v13, v148] : Fin 2 → IVec S16 32) a x).toNat < S256x32.size a)
theorem k0_idx64_inb : ∀ (v13 : IVec S16 32) (v148 : IVec S16 32) (k0_hw64 : k0_chk64 v13 v148), ∀ a x, ((![v13, v148] : Fin 2 → IVec S16 32) a x).toNat < S256x32.size a := fun v13 v148 k0_hw64 => k0_hw64
def k0_off4 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8192_i32 : BitVec 32 := 8192#32
  let v2 : BitVec 32 := Scalar.muli v1 c8192_i32
  let c0_i32_0 : BitVec 32 := 0#32
  let c1_i32 : BitVec 32 := 1#32
  let arg10 : BitVec 32 := Scf.iv c0_i32_0 c1_i32 k0_t1
  let c256_i32 : BitVec 32 := 256#32
  let v4 : BitVec 32 := Scalar.muli arg10 c256_i32
  let v5 : BitVec 32 := Scalar.addi v2 v4
  let c0_i32_15_r1 : BitVec 32 := 0#32
  ![v5.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S100000x32 : Shape := ⟨2, ![100000, 32]⟩
abbrev S1024x256 : Shape := ⟨2, ![1024, 256]⟩
abbrev S_ : Shape := ⟨0, ![]⟩
abbrev S1024x256x1 : Shape := ⟨3, ![1024, 256, 1]⟩
abbrev S1 : Shape := ⟨1, ![1]⟩
abbrev S1x1x1 : Shape := ⟨3, ![1, 1, 1]⟩
abbrev S1024x256x32 : Shape := ⟨3, ![1024, 256, 32]⟩

abbrev nBuf : Space → Nat
  | .hbm => 25
  | .vmem => 0
  | .smem => 0
  | _ => 0

abbrev bufTy : (tb : Table) → Fin (tcTables nBuf tb) → BufTy
  | .hbm, ⟨0, _⟩ => ⟨S100000x32, .f32⟩
  | .hbm, ⟨1, _⟩ => ⟨S1024x256, .i32⟩
  | .hbm, ⟨2, _⟩ => ⟨S_, .i32⟩
  | .hbm, ⟨3, _⟩ => ⟨S1024x256, .i32⟩
  | .hbm, ⟨4, _⟩ => ⟨S1024x256, .i1⟩
  | .hbm, ⟨5, _⟩ => ⟨S_, .i32⟩
  | .hbm, ⟨6, _⟩ => ⟨S1024x256, .i32⟩
  | .hbm, ⟨7, _⟩ => ⟨S1024x256, .i32⟩
  | .hbm, ⟨8, _⟩ => ⟨S1024x256, .i32⟩
  | .hbm, ⟨9, _⟩ => ⟨S1024x256x1, .i32⟩
  | .hbm, ⟨10, _⟩ => ⟨S1, .i32⟩
  | .hbm, ⟨11, _⟩ => ⟨S_, .i32⟩
  | .hbm, ⟨12, _⟩ => ⟨S1024x256x1, .i32⟩
  | .hbm, ⟨13, _⟩ => ⟨S1024x256x1, .i1⟩
  | .hbm, ⟨14, _⟩ => ⟨S1x1x1, .i32⟩
  | .hbm, ⟨15, _⟩ => ⟨S1024x256x1, .i32⟩
  | .hbm, ⟨16, _⟩ => ⟨S1024x256x1, .i1⟩
  | .hbm, ⟨17, _⟩ => ⟨S1024x256x1, .i1⟩
  | .hbm, ⟨18, _⟩ => ⟨S_, .i1⟩
  | .hbm, ⟨19, _⟩ => ⟨S1024x256, .i1⟩
  | .hbm, ⟨20, _⟩ => ⟨S1024x256x32, .f32⟩
  | .hbm, ⟨21, _⟩ => ⟨S1024x256x32, .i1⟩
  | .hbm, ⟨22, _⟩ => ⟨S_, .f32⟩
  | .hbm, ⟨23, _⟩ => ⟨S1024x256x32, .f32⟩
  | .hbm, ⟨24, _⟩ => ⟨S1024x256x32, .f32⟩
  | _, _ => ⟨S100000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_c : Ref sig .tc := ⟨.hbm, 2, rfl⟩
abbrev main_call0_v0 : Ref sig .tc := ⟨.hbm, 3, rfl⟩
abbrev main_call0_v1 : Ref sig .tc := ⟨.hbm, 4, rfl⟩
abbrev main_call0_c_0 : Ref sig .tc := ⟨.hbm, 5, rfl⟩
abbrev main_call0_v2 : Ref sig .tc := ⟨.hbm, 6, rfl⟩
abbrev main_call0_v3 : Ref sig .tc := ⟨.hbm, 7, rfl⟩
abbrev main_call0_v4 : Ref sig .tc := ⟨.hbm, 8, rfl⟩
abbrev main_call0_v5 : Ref sig .tc := ⟨.hbm, 9, rfl⟩
abbrev main_call0_c_1 : Ref sig .tc := ⟨.hbm, 10, rfl⟩
abbrev main_call0_c_2 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_call0_v10 : Ref sig .tc := ⟨.hbm, 16, rfl⟩
abbrev main_call0_v11 : Ref sig .tc := ⟨.hbm, 17, rfl⟩
abbrev main_call0_c_3 : Ref sig .tc := ⟨.hbm, 18, rfl⟩
abbrev main_call0_v12 : Ref sig .tc := ⟨.hbm, 19, rfl⟩
abbrev main_call0_v13 : Ref sig .tc := ⟨.hbm, 20, rfl⟩
abbrev main_call0_v14 : Ref sig .tc := ⟨.hbm, 21, rfl⟩
abbrev main_call0_cst : Ref sig .tc := ⟨.hbm, 22, rfl⟩
abbrev main_call0_v15 : Ref sig .tc := ⟨.hbm, 23, rfl⟩
abbrev main_v0 : Ref sig .tc := ⟨.hbm, 24, rfl⟩

abbrev nD : Nat := 1
abbrev τ : Topo := Topo.v7x

variable {F : FTy → Type} [FloatOps F]
-- ==== Compact.lean ====
abbrev S802816x128 : Shape := ⟨2, ![802816, 128]⟩
abbrev S1024x1 : Shape := ⟨2, ![1024, 1]⟩
abbrev S1024x784 : Shape := ⟨2, ![1024, 784]⟩
abbrev S784 : Shape := ⟨1, ![784]⟩
abbrev S784x1 : Shape := ⟨2, ![784, 1]⟩
abbrev S_ : Shape := ⟨0, ![]⟩
abbrev S128 : Shape := ⟨1, ![128]⟩
abbrev S1x128 : Shape := ⟨2, ![1, 128]⟩
abbrev S784x128 : Shape := ⟨2, ![784, 128]⟩
abbrev S1024 : Shape := ⟨1, ![1024]⟩
abbrev S1024x384 : Shape := ⟨2, ![1024, 384]⟩
abbrev S16 : Shape := ⟨1, ![16]⟩
abbrev S384 : Shape := ⟨1, ![384]⟩
abbrev S64 : Shape := ⟨1, ![64]⟩
abbrev S64x128 : Shape := ⟨2, ![64, 128]⟩
abbrev S1x784 : Shape := ⟨2, ![1, 784]⟩
abbrev S1x16 : Shape := ⟨2, ![1, 16]⟩
abbrev S1x384 : Shape := ⟨2, ![1, 384]⟩

abbrev nBuf : Table → Nat
  | .hbm => 16
  | .local .scVector .vmem => 8
  | _ => 0

abbrev bufTy : (tb : Table) → Fin (nBuf tb) → BufTy
  | .hbm, ⟨0, _⟩ => ⟨S802816x128, .f32⟩
  | .hbm, ⟨1, _⟩ => ⟨S1024x1, .f32⟩
  | .hbm, ⟨2, _⟩ => ⟨S1024x784, .i32⟩
  | .hbm, ⟨3, _⟩ => ⟨S784, .i32⟩
  | .hbm, ⟨4, _⟩ => ⟨S784x1, .i32⟩
  | .hbm, ⟨5, _⟩ => ⟨S_, .i32⟩
  | .hbm, ⟨6, _⟩ => ⟨S784x1, .i32⟩
  | .hbm, ⟨7, _⟩ => ⟨S784x1, .i32⟩
  | .hbm, ⟨8, _⟩ => ⟨S128, .i32⟩
  | .hbm, ⟨9, _⟩ => ⟨S1x128, .i32⟩
  | .hbm, ⟨10, _⟩ => ⟨S784x128, .i32⟩
  | .hbm, ⟨11, _⟩ => ⟨S784x128, .i32⟩
  | .hbm, ⟨12, _⟩ => ⟨S784x128, .i32⟩
  | .hbm, ⟨13, _⟩ => ⟨S1024, .f32⟩
  | .hbm, ⟨14, _⟩ => ⟨S1024x384, .f32⟩
  | .hbm, ⟨15, _⟩ => ⟨S1024x384, .i32⟩
  | .local .scVector .vmem, ⟨0, _⟩ => ⟨S784, .i32⟩
  | .local .scVector .vmem, ⟨1, _⟩ => ⟨S16, .f32⟩
  | .local .scVector .vmem, ⟨2, _⟩ => ⟨S384, .i32⟩
  | .local .scVector .vmem, ⟨3, _⟩ => ⟨S64, .i32⟩
  | .local .scVector .vmem, ⟨4, _⟩ => ⟨S64x128, .f32⟩
  | .local .scVector .vmem, ⟨5, _⟩ => ⟨S64x128, .i32⟩
  | .local .scVector .vmem, ⟨6, _⟩ => ⟨S384, .f32⟩
  | .local .scVector .vmem, ⟨7, _⟩ => ⟨S384, .i32⟩
  | _, _ => ⟨S802816x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 4 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10_0 : Ref sig .tc := ⟨.hbm, 14, rfl⟩
abbrev main_v10_1 : Ref sig .tc := ⟨.hbm, 15, rfl⟩
abbrev main_arg0_scv : Ref sig .scVector := ⟨.hbm, 0, rfl⟩
abbrev main_v9_scv : Ref sig .scVector := ⟨.hbm, 13, rfl⟩
abbrev main_arg2_scv : Ref sig .scVector := ⟨.hbm, 2, rfl⟩
abbrev main_v8_scv : Ref sig .scVector := ⟨.hbm, 12, rfl⟩
abbrev main_v10_0_scv : Ref sig .scVector := ⟨.hbm, 14, rfl⟩
abbrev main_v10_1_scv : Ref sig .scVector := ⟨.hbm, 15, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_0 : BitVec 32 := 0#32
  let c32_i32 : BitVec 32 := 32#32
  let v2 : BitVec 32 := Scalar.addi c0_i32_0 c32_i32
  let c1_i32 : BitVec 32 := 1#32
  ⟨c0_i32_0, v2, c1_i32⟩
def k0_off1 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg18 : BitVec 32 := Scf.iv c0_i32_0 c1_i32 k0_t1
  let v4 : BitVec 32 := Scalar.addi v3 arg18
  let c0_i32_40_r0 : BitVec 32 := 0#32
  ![v4.toNat, 0]
def k0_mult1 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg18 : BitVec 32 := Scf.iv c0_i32_0 c1_i32 k0_t1
  let v4 : BitVec 32 := Scalar.addi v3 arg18
  let c16_i32 : BitVec 32 := 16#32
  let c0_i32_3 : BitVec 32 := 0#32
  let v5 : BitVec 1 := Scalar.cmpi .eq c16_i32 c0_i32_3
  let c1_i32_4 : BitVec 32 := 1#32
  let v6 : BitVec 32 := Scalar.select v5 c1_i32_4 c16_i32
  let v7 : BitVec 32 := Scalar.remsi v4 v6
  let c0_i32_6 : BitVec 32 := 0#32
  let v9 : BitVec 1 := Scalar.cmpi .slt v7 c0_i32_6
  let c0_i32_7 : BitVec 32 := 0#32
  let v10 : BitVec 1 := Scalar.cmpi .slt v6 c0_i32_7
  let v11 : BitVec 1 := Scalar.xori v9 v10
  let c0_i32_5 : BitVec 32 := 0#32
  let v8 : BitVec 1 := Scalar.cmpi .ne v7 c0_i32_5
  let v12 : BitVec 1 := Scalar.andi v11 v8
  let v13 : BitVec 32 := Scalar.addi v7 v6
  let v14 : BitVec 32 := Scalar.select v12 v13 v7
  let v15 : BitVec 32 := Scalar.subi v4 v14
  v15
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg18 : BitVec 32 := Scf.iv c0_i32_0 c1_i32 k0_t1
  let v4 : BitVec 32 := Scalar.addi v3 arg18
  let c16_i32 : BitVec 32 := 16#32
  let c0_i32_3 : BitVec 32 := 0#32
  let v5 : BitVec 1 := Scalar.cmpi .eq c16_i32 c0_i32_3
  let c1_i32_4 : BitVec 32 := 1#32
  let v6 : BitVec 32 := Scalar.select v5 c1_i32_4 c16_i32
  let v7 : BitVec 32 := Scalar.remsi v4 v6
  let c0_i32_6 : BitVec 32 := 0#32
  let v9 : BitVec 1 := Scalar.cmpi .slt v7 c0_i32_6
  let c0_i32_7 : BitVec 32 := 0#32
  let v10 : BitVec 1 := Scalar.cmpi .slt v6 c0_i32_7
  let v11 : BitVec 1 := Scalar.xori v9 v10
  let c0_i32_5 : BitVec 32 := 0#32
  let v8 : BitVec 1 := Scalar.cmpi .ne v7 c0_i32_5
  let v12 : BitVec 1 := Scalar.andi v11 v8
  let v13 : BitVec 32 := Scalar.addi v7 v6
  let v14 : BitVec 32 := Scalar.select v12 v13 v7
  let v15 : BitVec 32 := Scalar.subi v4 v14
  let v16 : BitVec 32 := v15
  ![v16.toNat]

def k0_chk1 (v27 : IVec S16 32) : Prop :=
  (∀ a x, ((![v27] : Fin 1 → IVec S16 32) a x).toNat < S16.size a)
theorem k0_idx1_inb : ∀ (v27 : IVec S16 32) (k0_hw1 : k0_chk1 v27), ∀ a x, ((![v27] : Fin 1 → IVec S16 32) a x).toNat < S16.size a := fun v27 k0_hw1 => k0_hw1
@[reducible] def k0_t2_loop : Scf.Loop 32 :=
  let c0_i32_15 : BitVec 32 := 0#32
  let c49_i32 : BitVec 32 := 49#32
  let v29 : BitVec 32 := Scalar.addi c0_i32_15 c49_i32
  let c1_i32_16 : BitVec 32 := 1#32
  ⟨c0_i32_15, v29, c1_i32_16⟩
def k0_off3 (k0_t2 : Fin k0_t2_loop.trips) : Fin 1 → Nat :=
  let c0_i32_15 : BitVec 32 := 0#32
  let c1_i32_16 : BitVec 32 := 1#32
  let arg19 : BitVec 32 := Scf.iv c0_i32_15 c1_i32_16 k0_t2
  let c16_i32_40 : BitVec 32 := 16#32
  let v60 : BitVec 32 := Scalar.muli arg19 c16_i32_40
  let v61 : Index := Scalar.indexCast v60
  ![v61.toNat]

def k0_chk2 (v76 : IVec S16 32) : Prop :=
  (∀ a x, ((![v76] : Fin 1 → IVec S16 32) a x).toNat < S384.size a)
theorem k0_idx2_inb : ∀ (v76 : IVec S16 32) (k0_hw2 : k0_chk2 v76), ∀ a x, ((![v76] : Fin 1 → IVec S16 32) a x).toNat < S384.size a := fun v76 k0_hw2 => k0_hw2
@[reducible] def k0_t3_loop : Scf.Loop 32 :=
  let c0_i32_19 : BitVec 32 := 0#32
  let c24_i32 : BitVec 32 := 24#32
  let v32 : BitVec 32 := Scalar.addi c0_i32_19 c24_i32
  let c1_i32_20 : BitVec 32 := 1#32
  ⟨c0_i32_19, v32, c1_i32_20⟩
def k0_off4 (k0_t3 : Fin k0_t3_loop.trips) : Fin 1 → Nat :=
  let c0_i32_19 : BitVec 32 := 0#32
  let c1_i32_20 : BitVec 32 := 1#32
  let arg19 : BitVec 32 := Scf.iv c0_i32_19 c1_i32_20 k0_t3
  let c16_i32_41 : BitVec 32 := 16#32
  let v64 : BitVec 32 := Scalar.muli arg19 c16_i32_41
  let v65 : Index := Scalar.indexCast v64
  ![v65.toNat]
@[reducible] def k0_t4_loop (v30 : BitVec 32) : Scf.Loop 32 :=
  let c0_i32_30 : BitVec 32 := 0#32
  let c384_i32 : BitVec 32 := 384#32
  let v31 : BitVec 32 := Scalar.minsi v30 c384_i32
  let c64_i32 : BitVec 32 := 64#32
  let v33 : BitVec 32 := Scalar.addi v31 c64_i32
  let c1_i32_22 : BitVec 32 := 1#32
  let v34 : BitVec 32 := Scalar.subi v33 c1_i32_22
  let c0_i32_24 : BitVec 32 := 0#32
  let v36 : BitVec 1 := Scalar.cmpi .sgt v34 c0_i32_24
  let v37 : BitVec 32 := Scalar.extui v36
  let c0_i32_25 : BitVec 32 := 0#32
  let v38 : BitVec 1 := Scalar.cmpi .slt v34 c0_i32_25
  let v39 : BitVec 32 := Scalar.extui v38
  let v40 : BitVec 32 := Scalar.subi v37 v39
  let c64_i32_23 : BitVec 32 := 64#32
  let c0_i32_26 : BitVec 32 := 0#32
  let v41 : BitVec 1 := Scalar.cmpi .sgt c64_i32_23 c0_i32_26
  let v42 : BitVec 32 := Scalar.extui v41
  let c0_i32_27 : BitVec 32 := 0#32
  let v43 : BitVec 1 := Scalar.cmpi .slt c64_i32_23 c0_i32_27
  let v44 : BitVec 32 := Scalar.extui v43
  let v45 : BitVec 32 := Scalar.subi v42 v44
  let v46 : BitVec 1 := Scalar.cmpi .ne v40 v45
  let v47 : BitVec 32 := Scalar.remsi v34 c64_i32_23
  let c0_i32_28 : BitVec 32 := 0#32
  let v48 : BitVec 1 := Scalar.cmpi .ne v47 c0_i32_28
  let v49 : BitVec 1 := Scalar.andi v46 v48
  let v35 : BitVec 32 := Scalar.divsi v34 c64_i32_23
  let c1_i32_29 : BitVec 32 := 1#32
  let v50 : BitVec 32 := Scalar.subi v35 c1_i32_29
  let v51 : BitVec 32 := Scalar.select v49 v50 v35
  let v52 : BitVec 32 := Scalar.subi v51 c0_i32_30
  let c1_i32_32 : BitVec 32 := 1#32
  let v54 : BitVec 32 := Scalar.divsi v52 c1_i32_32
  let v55 : BitVec 32 := Scalar.muli v54 c1_i32_32
  let v56 : BitVec 32 := Scalar.addi c0_i32_30 v55
  let c1_i32_33 : BitVec 32 := 1#32
  ⟨c0_i32_30, v56, c1_i32_33⟩

@[reducible] def k0_t5_loop : Scf.Loop 32 :=
  let c0_i32_41 : BitVec 32 := 0#32
  let c4_i32 : BitVec 32 := 4#32
  let v60 : BitVec 32 := Scalar.addi c0_i32_41 c4_i32
  let c1_i32_42 : BitVec 32 := 1#32
  ⟨c0_i32_41, v60, c1_i32_42⟩
def k0_off5 (v30 : BitVec 32) (k0_t4 : Fin (k0_t4_loop v30).trips) (k0_t5 : Fin k0_t5_loop.trips) : Fin 1 → Nat :=
  let c0_i32_30 : BitVec 32 := 0#32
  let c1_i32_33 : BitVec 32 := 1#32
  let arg19 : BitVec 32 := Scf.iv c0_i32_30 c1_i32_33 k0_t4
  let c64_i32_62 : BitVec 32 := 64#32
  let v69 : BitVec 32 := Scalar.muli arg19 c64_i32_62
  let c0_i32_41 : BitVec 32 := 0#32
  let c1_i32_42 : BitVec 32 := 1#32
  let arg21 : BitVec 32 := Scf.iv c0_i32_41 c1_i32_42 k0_t5
  let c16_i32_63 : BitVec 32 := 16#32
  let v70 : BitVec 32 := Scalar.muli arg21 c16_i32_63
  let v71 : BitVec 32 := Scalar.addi v69 v70
  let v72 : Index := Scalar.indexCast v71
  ![v72.toNat]
def k0_off6 (k0_t5 : Fin k0_t5_loop.trips) : Fin 1 → Nat :=
  let c0_i32_41 : BitVec 32 := 0#32
  let c1_i32_42 : BitVec 32 := 1#32
  let arg21 : BitVec 32 := Scf.iv c0_i32_41 c1_i32_42 k0_t5
  let c16_i32_61 : BitVec 32 := 16#32
  let v68 : BitVec 32 := Scalar.muli arg21 c16_i32_61
  let v77 : Index := Scalar.indexCast v68
  ![v77.toNat]
@[reducible] def k0_t6_loop : Scf.Loop 32 :=
  let c0_i32_49 : BitVec 32 := 0#32
  let c4_i32_50 : BitVec 32 := 4#32
  let v63 : BitVec 32 := Scalar.addi c0_i32_49 c4_i32_50
  let c1_i32_51 : BitVec 32 := 1#32
  ⟨c0_i32_49, v63, c1_i32_51⟩
def k0_off7 (k0_t6 : Fin k0_t6_loop.trips) : Fin 1 → Nat :=
  let c0_i32_49 : BitVec 32 := 0#32
  let c1_i32_51 : BitVec 32 := 1#32
  let arg21 : BitVec 32 := Scf.iv c0_i32_49 c1_i32_51 k0_t6
  let c16_i32_61 : BitVec 32 := 16#32
  let v68 : BitVec 32 := Scalar.muli arg21 c16_i32_61
  let v69 : Index := Scalar.indexCast v68
  ![v69.toNat]
@[reducible] def k0_t7_loop : Scf.Loop 32 :=
  let c0_i32_57 : BitVec 32 := 0#32
  let c64_i32_58 : BitVec 32 := 64#32
  let v66 : BitVec 32 := Scalar.addi c0_i32_57 c64_i32_58
  let c1_i32_59 : BitVec 32 := 1#32
  ⟨c0_i32_57, v66, c1_i32_59⟩
@[reducible] def k0_t8_loop : Scf.Loop 32 :=
  let c0_i32_62 : BitVec 32 := 0#32
  let c8_i32 : BitVec 32 := 8#32
  let v73 : BitVec 32 := Scalar.addi c0_i32_62 c8_i32
  let c1_i32_63 : BitVec 32 := 1#32
  ⟨c0_i32_62, v73, c1_i32_63⟩
def k0_off8 (k0_t7 : Fin k0_t7_loop.trips) (k0_t8 : Fin k0_t8_loop.trips) : Fin 2 → Nat :=
  let c0_i32_57 : BitVec 32 := 0#32
  let c1_i32_59 : BitVec 32 := 1#32
  let arg21 : BitVec 32 := Scf.iv c0_i32_57 c1_i32_59 k0_t7
  let v76 : Index := Scalar.indexCast arg21
  let c0_i32_62 : BitVec 32 := 0#32
  let c1_i32_63 : BitVec 32 := 1#32
  let arg23 : BitVec 32 := Scf.iv c0_i32_62 c1_i32_63 k0_t8
  let c16_i32_65 : BitVec 32 := 16#32
  let v75 : BitVec 32 := Scalar.muli arg23 c16_i32_65
  let v77 : Index := Scalar.indexCast v75
  ![v76.toNat, v77.toNat]

def k0_chk4 (v91 : IVec S16 32) : Prop :=
  (∀ a x, ((![v91] : Fin 1 → IVec S16 32) a x).toNat < S384.size a) ∧
  (∀ a x, ((![v91] : Fin 1 → IVec S16 32) a x).toNat < S384.size a)
theorem k0_idx3_inb : ∀ (v91 : IVec S16 32) (k0_hw4 : k0_chk4 v91), ∀ a x, ((![v91] : Fin 1 → IVec S16 32) a x).toNat < S384.size a := fun v91 k0_hw4 => k0_hw4.1
theorem k0_idx4_inb : ∀ (v91 : IVec S16 32) (k0_hw4 : k0_chk4 v91), ∀ a x, ((![v91] : Fin 1 → IVec S16 32) a x).toNat < S384.size a := fun v91 k0_hw4 => k0_hw4.2
@[reducible] def k0_t9_loop (v30 : BitVec 32) : Scf.Loop 32 :=
  let c0_i32_30 : BitVec 32 := 0#32
  let c384_i32 : BitVec 32 := 384#32
  let v31 : BitVec 32 := Scalar.minsi v30 c384_i32
  let c64_i32 : BitVec 32 := 64#32
  let v33 : BitVec 32 := Scalar.addi v31 c64_i32
  let c1_i32_22 : BitVec 32 := 1#32
  let v34 : BitVec 32 := Scalar.subi v33 c1_i32_22
  let c0_i32_24 : BitVec 32 := 0#32
  let v36 : BitVec 1 := Scalar.cmpi .sgt v34 c0_i32_24
  let v37 : BitVec 32 := Scalar.extui v36
  let c0_i32_25 : BitVec 32 := 0#32
  let v38 : BitVec 1 := Scalar.cmpi .slt v34 c0_i32_25
  let v39 : BitVec 32 := Scalar.extui v38
  let v40 : BitVec 32 := Scalar.subi v37 v39
  let c64_i32_23 : BitVec 32 := 64#32
  let c0_i32_26 : BitVec 32 := 0#32
  let v41 : BitVec 1 := Scalar.cmpi .sgt c64_i32_23 c0_i32_26
  let v42 : BitVec 32 := Scalar.extui v41
  let c0_i32_27 : BitVec 32 := 0#32
  let v43 : BitVec 1 := Scalar.cmpi .slt c64_i32_23 c0_i32_27
  let v44 : BitVec 32 := Scalar.extui v43
  let v45 : BitVec 32 := Scalar.subi v42 v44
  let v46 : BitVec 1 := Scalar.cmpi .ne v40 v45
  let v47 : BitVec 32 := Scalar.remsi v34 c64_i32_23
  let c0_i32_28 : BitVec 32 := 0#32
  let v48 : BitVec 1 := Scalar.cmpi .ne v47 c0_i32_28
  let v49 : BitVec 1 := Scalar.andi v46 v48
  let v35 : BitVec 32 := Scalar.divsi v34 c64_i32_23
  let c1_i32_29 : BitVec 32 := 1#32
  let v50 : BitVec 32 := Scalar.subi v35 c1_i32_29
  let v51 : BitVec 32 := Scalar.select v49 v50 v35
  let v52 : BitVec 32 := Scalar.subi v51 c0_i32_30
  let c1_i32_32 : BitVec 32 := 1#32
  let v54 : BitVec 32 := Scalar.divsi v52 c1_i32_32
  let v55 : BitVec 32 := Scalar.muli v54 c1_i32_32
  let v56 : BitVec 32 := Scalar.addi c0_i32_30 v55
  let v53 : BitVec 32 := Scalar.addi c0_i32_30 v52
  let c1_i32_34 : BitVec 32 := 1#32
  ⟨v56, v53, c1_i32_34⟩
@[reducible] def k0_t10_loop : Scf.Loop 32 :=
  let c0_i32_41 : BitVec 32 := 0#32
  let c4_i32 : BitVec 32 := 4#32
  let v60 : BitVec 32 := Scalar.addi c0_i32_41 c4_i32
  let c1_i32_42 : BitVec 32 := 1#32
  ⟨c0_i32_41, v60, c1_i32_42⟩
def k0_off9 (v30 : BitVec 32) (k0_t9 : Fin (k0_t9_loop v30).trips) (k0_t10 : Fin k0_t10_loop.trips) : Fin 1 → Nat :=
  let c0_i32_30 : BitVec 32 := 0#32
  let c384_i32 : BitVec 32 := 384#32
  let v31 : BitVec 32 := Scalar.minsi v30 c384_i32
  let c64_i32 : BitVec 32 := 64#32
  let v33 : BitVec 32 := Scalar.addi v31 c64_i32
  let c1_i32_22 : BitVec 32 := 1#32
  let v34 : BitVec 32 := Scalar.subi v33 c1_i32_22
  let c0_i32_24 : BitVec 32 := 0#32
  let v36 : BitVec 1 := Scalar.cmpi .sgt v34 c0_i32_24
  let v37 : BitVec 32 := Scalar.extui v36
  let c0_i32_25 : BitVec 32 := 0#32
  let v38 : BitVec 1 := Scalar.cmpi .slt v34 c0_i32_25
  let v39 : BitVec 32 := Scalar.extui v38
  let v40 : BitVec 32 := Scalar.subi v37 v39
  let c64_i32_23 : BitVec 32 := 64#32
  let c0_i32_26 : BitVec 32 := 0#32
  let v41 : BitVec 1 := Scalar.cmpi .sgt c64_i32_23 c0_i32_26
  let v42 : BitVec 32 := Scalar.extui v41
  let c0_i32_27 : BitVec 32 := 0#32
  let v43 : BitVec 1 := Scalar.cmpi .slt c64_i32_23 c0_i32_27
  let v44 : BitVec 32 := Scalar.extui v43
  let v45 : BitVec 32 := Scalar.subi v42 v44
  let v46 : BitVec 1 := Scalar.cmpi .ne v40 v45
  let v47 : BitVec 32 := Scalar.remsi v34 c64_i32_23
  let c0_i32_28 : BitVec 32 := 0#32
  let v48 : BitVec 1 := Scalar.cmpi .ne v47 c0_i32_28
  let v49 : BitVec 1 := Scalar.andi v46 v48
  let v35 : BitVec 32 := Scalar.divsi v34 c64_i32_23
  let c1_i32_29 : BitVec 32 := 1#32
  let v50 : BitVec 32 := Scalar.subi v35 c1_i32_29
  let v51 : BitVec 32 := Scalar.select v49 v50 v35
  let v52 : BitVec 32 := Scalar.subi v51 c0_i32_30
  let c1_i32_32 : BitVec 32 := 1#32
  let v54 : BitVec 32 := Scalar.divsi v52 c1_i32_32
  let v55 : BitVec 32 := Scalar.muli v54 c1_i32_32
  let v56 : BitVec 32 := Scalar.addi c0_i32_30 v55
  let c1_i32_34 : BitVec 32 := 1#32
  let arg19 : BitVec 32 := Scf.iv v56 c1_i32_34 k0_t9
  let c64_i32_62 : BitVec 32 := 64#32
  let v69 : BitVec 32 := Scalar.muli arg19 c64_i32_62
  let c0_i32_41 : BitVec 32 := 0#32
  let c1_i32_42 : BitVec 32 := 1#32
  let arg21 : BitVec 32 := Scf.iv c0_i32_41 c1_i32_42 k0_t10
  let c16_i32_63 : BitVec 32 := 16#32
  let v70 : BitVec 32 := Scalar.muli arg21 c16_i32_63
  let v71 : BitVec 32 := Scalar.addi v69 v70
  let v72 : Index := Scalar.indexCast v71
  ![v72.toNat]

def k0_chk3 (v30 : BitVec 32) : Prop :=
  ((k0_t4_loop v30).OK) ∧
  (∀ (k0_t4 : Fin (k0_t4_loop v30).trips) (k0_t5 : Fin k0_t5_loop.trips), ∀ a, (k0_off5 v30 k0_t4 k0_t5) a + S16.size a ≤ S384.size a) ∧
  ((k0_t9_loop v30).OK) ∧
  (∀ (k0_t9 : Fin (k0_t9_loop v30).trips) (k0_t10 : Fin k0_t10_loop.trips), ∀ a, (k0_off9 v30 k0_t9 k0_t10) a + S16.size a ≤ S384.size a)
theorem k0_t4_ok : ∀ (v30 : BitVec 32) (k0_hw3 : k0_chk3 v30), (k0_t4_loop v30).OK := fun v30 k0_hw3 => k0_hw3.1
theorem k0_off5_inb : ∀ (v30 : BitVec 32) (k0_hw3 : k0_chk3 v30) (k0_t4 : Fin (k0_t4_loop v30).trips) (k0_t5 : Fin k0_t5_loop.trips), ∀ a, (k0_off5 v30 k0_t4 k0_t5) a + S16.size a ≤ S384.size a := fun v30 k0_hw3 k0_t4 k0_t5 => k0_hw3.2.1 k0_t4 k0_t5
theorem k0_t9_ok : ∀ (v30 : BitVec 32) (k0_hw3 : k0_chk3 v30), (k0_t9_loop v30).OK := fun v30 k0_hw3 => k0_hw3.2.2.1
theorem k0_off9_inb : ∀ (v30 : BitVec 32) (k0_hw3 : k0_chk3 v30) (k0_t9 : Fin (k0_t9_loop v30).trips) (k0_t10 : Fin k0_t10_loop.trips), ∀ a, (k0_off9 v30 k0_t9 k0_t10) a + S16.size a ≤ S384.size a := fun v30 k0_hw3 k0_t9 k0_t10 => k0_hw3.2.2.2 k0_t9 k0_t10

def k0_off10 (k0_t10 : Fin k0_t10_loop.trips) : Fin 1 → Nat :=
  let c0_i32_41 : BitVec 32 := 0#32
  let c1_i32_42 : BitVec 32 := 1#32
  let arg21 : BitVec 32 := Scf.iv c0_i32_41 c1_i32_42 k0_t10
  let c16_i32_61 : BitVec 32 := 16#32
  let v68 : BitVec 32 := Scalar.muli arg21 c16_i32_61
  let v77 : Index := Scalar.indexCast v68
  ![v77.toNat]
@[reducible] def k0_t11_loop : Scf.Loop 32 :=
  let c0_i32_49 : BitVec 32 := 0#32
  let c4_i32_50 : BitVec 32 := 4#32
  let v63 : BitVec 32 := Scalar.addi c0_i32_49 c4_i32_50
  let c1_i32_51 : BitVec 32 := 1#32
  ⟨c0_i32_49, v63, c1_i32_51⟩
def k0_off11 (k0_t11 : Fin k0_t11_loop.trips) : Fin 1 → Nat :=
  let c0_i32_49 : BitVec 32 := 0#32
  let c1_i32_51 : BitVec 32 := 1#32
  let arg21 : BitVec 32 := Scf.iv c0_i32_49 c1_i32_51 k0_t11
  let c16_i32_61 : BitVec 32 := 16#32
  let v68 : BitVec 32 := Scalar.muli arg21 c16_i32_61
  let v69 : Index := Scalar.indexCast v68
  ![v69.toNat]
@[reducible] def k0_t12_loop : Scf.Loop 32 :=
  let c0_i32_57 : BitVec 32 := 0#32
  let c64_i32_58 : BitVec 32 := 64#32
  let v66 : BitVec 32 := Scalar.addi c0_i32_57 c64_i32_58
  let c1_i32_59 : BitVec 32 := 1#32
  ⟨c0_i32_57, v66, c1_i32_59⟩
@[reducible] def k0_t13_loop : Scf.Loop 32 :=
  let c0_i32_62 : BitVec 32 := 0#32
  let c8_i32 : BitVec 32 := 8#32
  let v73 : BitVec 32 := Scalar.addi c0_i32_62 c8_i32
  let c1_i32_63 : BitVec 32 := 1#32
  ⟨c0_i32_62, v73, c1_i32_63⟩
def k0_off12 (k0_t12 : Fin k0_t12_loop.trips) (k0_t13 : Fin k0_t13_loop.trips) : Fin 2 → Nat :=
  let c0_i32_57 : BitVec 32 := 0#32
  let c1_i32_59 : BitVec 32 := 1#32
  let arg21 : BitVec 32 := Scf.iv c0_i32_57 c1_i32_59 k0_t12
  let v76 : Index := Scalar.indexCast arg21
  let c0_i32_62 : BitVec 32 := 0#32
  let c1_i32_63 : BitVec 32 := 1#32
  let arg23 : BitVec 32 := Scf.iv c0_i32_62 c1_i32_63 k0_t13
  let c16_i32_65 : BitVec 32 := 16#32
  let v75 : BitVec 32 := Scalar.muli arg23 c16_i32_65
  let v77 : Index := Scalar.indexCast v75
  ![v76.toNat, v77.toNat]

def k0_chk5 (v91 : IVec S16 32) : Prop :=
  (∀ a x, ((![v91] : Fin 1 → IVec S16 32) a x).toNat < S384.size a) ∧
  (∀ a x, ((![v91] : Fin 1 → IVec S16 32) a x).toNat < S384.size a)
theorem k0_idx5_inb : ∀ (v91 : IVec S16 32) (k0_hw5 : k0_chk5 v91), ∀ a x, ((![v91] : Fin 1 → IVec S16 32) a x).toNat < S384.size a := fun v91 k0_hw5 => k0_hw5.1
theorem k0_idx6_inb : ∀ (v91 : IVec S16 32) (k0_hw5 : k0_chk5 v91), ∀ a x, ((![v91] : Fin 1 → IVec S16 32) a x).toNat < S384.size a := fun v91 k0_hw5 => k0_hw5.2
@[reducible] def k0_t14_loop : Scf.Loop 32 :=
  let c0_i32_36 : BitVec 32 := 0#32
  let c24_i32_37 : BitVec 32 := 24#32
  let v59 : BitVec 32 := Scalar.addi c0_i32_36 c24_i32_37
  let c1_i32_38 : BitVec 32 := 1#32
  ⟨c0_i32_36, v59, c1_i32_38⟩
def k0_off13 (k0_t14 : Fin k0_t14_loop.trips) : Fin 1 → Nat :=
  let c0_i32_36 : BitVec 32 := 0#32
  let c1_i32_38 : BitVec 32 := 1#32
  let arg19 : BitVec 32 := Scf.iv c0_i32_36 c1_i32_38 k0_t14
  let c16_i32_40 : BitVec 32 := 16#32
  let v60 : BitVec 32 := Scalar.muli arg19 c16_i32_40
  let v67 : Index := Scalar.indexCast v60
  ![v67.toNat]
def k0_off14 (i : grid0.Coords) (k0_t1 : Fin k0_t1_loop.trips) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32_2 : BitVec 32 := 32#32
  let v3 : BitVec 32 := Scalar.muli v1 c32_i32_2
  let c0_i32_0 : BitVec 32 := 0#32
  let c1_i32 : BitVec 32 := 1#32
  let arg18 : BitVec 32 := Scf.iv c0_i32_0 c1_i32 k0_t1
  let v4 : BitVec 32 := Scalar.addi v3 arg18
  let c0_i32_40_r2 : BitVec 32 := 0#32
  ![v4.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== CandidatesIdeal.lean ====
abbrev S802816x128 : Shape := ⟨2, ![802816, 128]⟩
abbrev S1024x1 : Shape := ⟨2, ![1024, 1]⟩
abbrev S1024x784 : Shape := ⟨2, ![1024, 784]⟩
abbrev S1024x100352 : Shape := ⟨2, ![1024, 100352]⟩
abbrev S100352 : Shape := ⟨1, ![100352]⟩
abbrev S1x100352 : Shape := ⟨2, ![1, 100352]⟩
abbrev S_ : Shape := ⟨0, ![]⟩
abbrev S1024x384 : Shape := ⟨2, ![1024, 384]⟩
abbrev S1024x384x1 : Shape := ⟨3, ![1024, 384, 1]⟩
abbrev S1 : Shape := ⟨1, ![1]⟩
abbrev S1x1x1 : Shape := ⟨3, ![1, 1, 1]⟩

abbrev nBuf : Space → Nat
  | .hbm => 48
  | .vmem => 0
  | .smem => 0
  | _ => 0

abbrev bufTy : (tb : Table) → Fin (tcTables nBuf tb) → BufTy
  | .hbm, ⟨0, _⟩ => ⟨S802816x128, .f32⟩
  | .hbm, ⟨1, _⟩ => ⟨S1024x1, .f32⟩
  | .hbm, ⟨2, _⟩ => ⟨S1024x784, .i32⟩
  | .hbm, ⟨3, _⟩ => ⟨S1024x100352, .f32⟩
  | .hbm, ⟨4, _⟩ => ⟨S100352, .i32⟩
  | .hbm, ⟨5, _⟩ => ⟨S1024x100352, .f32⟩
  | .hbm, ⟨6, _⟩ => ⟨S1024x100352, .i1⟩
  | .hbm, ⟨7, _⟩ => ⟨S1x100352, .i32⟩
  | .hbm, ⟨8, _⟩ => ⟨S_, .i32⟩
  | .hbm, ⟨9, _⟩ => ⟨S_, .i32⟩
  | .hbm, ⟨10, _⟩ => ⟨S1024x100352, .i32⟩
  | .hbm, ⟨11, _⟩ => ⟨S1024x100352, .i32⟩
  | .hbm, ⟨12, _⟩ => ⟨S1024x100352, .i32⟩
  | .hbm, ⟨13, _⟩ => ⟨S1024x100352, .i32⟩
  | .hbm, ⟨14, _⟩ => ⟨S1024x384, .i32⟩
  | .hbm, ⟨15, _⟩ => ⟨S_, .i32⟩
  | .hbm, ⟨16, _⟩ => ⟨S1024x384, .i32⟩
  | .hbm, ⟨17, _⟩ => ⟨S1024x384, .i1⟩
  | .hbm, ⟨18, _⟩ => ⟨S_, .i32⟩
  | .hbm, ⟨19, _⟩ => ⟨S_, .i32⟩
  | .hbm, ⟨20, _⟩ => ⟨S1024x384, .i32⟩
  | .hbm, ⟨21, _⟩ => ⟨S1024x384, .i32⟩
  | .hbm, ⟨22, _⟩ => ⟨S_, .i32⟩
  | .hbm, ⟨23, _⟩ => ⟨S1024x384, .i32⟩
  | .hbm, ⟨24, _⟩ => ⟨S1024x384, .i1⟩
  | .hbm, ⟨25, _⟩ => ⟨S_, .i32⟩
  | .hbm, ⟨26, _⟩ => ⟨S1024x384, .i32⟩
  | .hbm, ⟨27, _⟩ => ⟨S1024x384, .i32⟩
  | .hbm, ⟨28, _⟩ => ⟨S1024x384, .i32⟩
  | .hbm, ⟨29, _⟩ => ⟨S1024x384x1, .i32⟩
  | .hbm, ⟨30, _⟩ => ⟨S1, .i32⟩
  | .hbm, ⟨31, _⟩ => ⟨S_, .i32⟩
  | .hbm, ⟨32, _⟩ => ⟨S1024x384x1, .i32⟩
  | .hbm, ⟨33, _⟩ => ⟨S1024x384x1, .i1⟩
  | .hbm, ⟨34, _⟩ => ⟨S1x1x1, .i32⟩
  | .hbm, ⟨35, _⟩ => ⟨S1024x384x1, .i32⟩
  | .hbm, ⟨36, _⟩ => ⟨S1024x384x1, .i1⟩
  | .hbm, ⟨37, _⟩ => ⟨S1024x384x1, .i1⟩
  | .hbm, ⟨38, _⟩ => ⟨S_, .i1⟩
  | .hbm, ⟨39, _⟩ => ⟨S1024x384, .i1⟩
  | .hbm, ⟨40, _⟩ => ⟨S1024x384, .f32⟩
  | .hbm, ⟨41, _⟩ => ⟨S_, .f32⟩
  | .hbm, ⟨42, _⟩ => ⟨S1024x384, .f32⟩
  | .hbm, ⟨43, _⟩ => ⟨S1024x384, .f32⟩
  | .hbm, ⟨44, _⟩ => ⟨S_, .f32⟩
  | .hbm, ⟨45, _⟩ => ⟨S_, .f32⟩
  | .hbm, ⟨46, _⟩ => ⟨S1024x384, .f32⟩
  | .hbm, ⟨47, _⟩ => ⟨S1024x384, .f32⟩
  | _, _ => ⟨S802816x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_0 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_call2_v0 : Ref sig .tc := ⟨.hbm, 19, rfl⟩
abbrev main_call2_v1 : Ref sig .tc := ⟨.hbm, 20, rfl⟩
abbrev main_v10 : Ref sig .tc := ⟨.hbm, 21, rfl⟩
abbrev main_call3_c : Ref sig .tc := ⟨.hbm, 22, rfl⟩
abbrev main_call3_v0 : Ref sig .tc := ⟨.hbm, 23, rfl⟩
abbrev main_call3_v1 : Ref sig .tc := ⟨.hbm, 24, rfl⟩
abbrev main_call3_c_0 : Ref sig .tc := ⟨.hbm, 25, rfl⟩
abbrev main_call3_v2 : Ref sig .tc := ⟨.hbm, 26, rfl⟩
abbrev main_call3_v3 : Ref sig .tc := ⟨.hbm, 27, rfl⟩
abbrev main_call3_v4 : Ref sig .tc := ⟨.hbm, 28, rfl⟩
abbrev main_call3_v5 : Ref sig .tc := ⟨.hbm, 29, rfl⟩
abbrev main_call3_c_1 : Ref sig .tc := ⟨.hbm, 30, rfl⟩
abbrev main_call3_c_2 : Ref sig .tc := ⟨.hbm, 31, rfl⟩
abbrev main_call3_v6 : Ref sig .tc := ⟨.hbm, 32, rfl⟩
abbrev main_call3_v7 : Ref sig .tc := ⟨.hbm, 33, rfl⟩
abbrev main_call3_v8 : Ref sig .tc := ⟨.hbm, 34, rfl⟩
abbrev main_call3_v9 : Ref sig .tc := ⟨.hbm, 35, rfl⟩
abbrev main_call3_v10 : Ref sig .tc := ⟨.hbm, 36, rfl⟩
abbrev main_call3_v11 : Ref sig .tc := ⟨.hbm, 37, rfl⟩
abbrev main_call3_c_3 : Ref sig .tc := ⟨.hbm, 38, rfl⟩
abbrev main_call3_v12 : Ref sig .tc := ⟨.hbm, 39, rfl⟩
abbrev main_call3_v13 : Ref sig .tc := ⟨.hbm, 40, rfl⟩
abbrev main_call3_cst : Ref sig .tc := ⟨.hbm, 41, rfl⟩
abbrev main_call3_v14 : Ref sig .tc := ⟨.hbm, 42, rfl⟩
abbrev main_v11 : Ref sig .tc := ⟨.hbm, 43, rfl⟩
abbrev main_cst : Ref sig .tc := ⟨.hbm, 44, rfl⟩
abbrev main_call4_v0 : Ref sig .tc := ⟨.hbm, 45, rfl⟩
abbrev main_call4_v1 : Ref sig .tc := ⟨.hbm, 46, rfl⟩
abbrev main_v12 : Ref sig .tc := ⟨.hbm, 47, rfl⟩

abbrev nD : Nat := 1
abbrev τ : Topo := Topo.v7x

variable {F : FTy → Type} [FloatOps F]
-- ==== Rank.lean ====
abbrev S1024x384 : Shape := ⟨2, ![1024, 384]⟩
abbrev S1024x256 : Shape := ⟨2, ![1024, 256]⟩
abbrev S32x384 : Shape := ⟨2, ![32, 384]⟩
abbrev S32x256 : Shape := ⟨2, ![32, 256]⟩
abbrev S32x384x1 : Shape := ⟨3, ![32, 384, 1]⟩
abbrev S32x128 : Shape := ⟨2, ![32, 128]⟩
abbrev S1x1x128 : Shape := ⟨3, ![1, 1, 128]⟩
abbrev S32x1x128 : Shape := ⟨3, ![32, 1, 128]⟩
abbrev S32x384x128 : Shape := ⟨3, ![32, 384, 128]⟩

abbrev nBuf : Space → Nat
  | .hbm => 3
  | .vmem => 6
  | .smem => 0
  | _ => 0

abbrev bufTy : (tb : Table) → Fin (tcTables nBuf tb) → BufTy
  | .hbm, ⟨0, _⟩ => ⟨S1024x384, .f32⟩
  | .hbm, ⟨1, _⟩ => ⟨S1024x384, .i32⟩
  | .hbm, ⟨2, _⟩ => ⟨S1024x256, .i32⟩
  | .local _ .vmem, ⟨0, _⟩ => ⟨S32x384, .f32⟩
  | .local _ .vmem, ⟨1, _⟩ => ⟨S32x384, .f32⟩
  | .local _ .vmem, ⟨2, _⟩ => ⟨S32x384, .i32⟩
  | .local _ .vmem, ⟨3, _⟩ => ⟨S32x384, .i32⟩
  | .local _ .vmem, ⟨4, _⟩ => ⟨S32x256, .i32⟩
  | .local _ .vmem, ⟨5, _⟩ => ⟨S32x256, .i32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S32x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32x384 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RankedIdeal.lean ====
abbrev S1024x384 : Shape := ⟨2, ![1024, 384]⟩
abbrev S1024x256 : Shape := ⟨2, ![1024, 256]⟩
abbrev S_ : Shape := ⟨0, ![]⟩
abbrev S1024x256x1 : Shape := ⟨3, ![1024, 256, 1]⟩
abbrev S1 : Shape := ⟨1, ![1]⟩
abbrev S1x1x1 : Shape := ⟨3, ![1, 1, 1]⟩

abbrev nBuf : Space → Nat
  | .hbm => 26
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .i32⟩
  | .hbm, ⟨2, _⟩ => ⟨S1024x256, .f32⟩
  | .hbm, ⟨3, _⟩ => ⟨S1024x256, .i32⟩
  | .hbm, ⟨4, _⟩ => ⟨S_, .i32⟩
  | .hbm, ⟨5, _⟩ => ⟨S1024x256, .i32⟩
  | .hbm, ⟨6, _⟩ => ⟨S1024x256, .i1⟩
  | .hbm, ⟨7, _⟩ => ⟨S_, .i32⟩
  | .hbm, ⟨8, _⟩ => ⟨S1024x256, .i32⟩
  | .hbm, ⟨9, _⟩ => ⟨S1024x256, .i32⟩
  | .hbm, ⟨10, _⟩ => ⟨S1024x256, .i32⟩
  | .hbm, ⟨11, _⟩ => ⟨S1024x256x1, .i32⟩
  | .hbm, ⟨12, _⟩ => ⟨S1, .i32⟩
  | .hbm, ⟨13, _⟩ => ⟨S_, .i32⟩
  | .hbm, ⟨14, _⟩ => ⟨S1024x256x1, .i32⟩
  | .hbm, ⟨15, _⟩ => ⟨S1024x256x1, .i1⟩
  | .hbm, ⟨16, _⟩ => ⟨S1x1x1, .i32⟩
  | .hbm, ⟨17, _⟩ => ⟨S1024x256x1, .i32⟩
  | .hbm, ⟨18, _⟩ => ⟨S1024x256x1, .i1⟩
  | .hbm, ⟨19, _⟩ => ⟨S1024x256x1, .i1⟩
  | .hbm, ⟨20, _⟩ => ⟨S_, .i1⟩
  | .hbm, ⟨21, _⟩ => ⟨S1024x256, .i1⟩
  | .hbm, ⟨22, _⟩ => ⟨S1024x256, .i32⟩
  | .hbm, ⟨23, _⟩ => ⟨S_, .i32⟩
  | .hbm, ⟨24, _⟩ => ⟨S1024x256, .i32⟩
  | .hbm, ⟨25, _⟩ => ⟨S1024x256, .i32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_call0_c : Ref sig .tc := ⟨.hbm, 4, rfl⟩
abbrev main_call0_v0 : Ref sig .tc := ⟨.hbm, 5, rfl⟩
abbrev main_call0_v1 : Ref sig .tc := ⟨.hbm, 6, rfl⟩
abbrev main_call0_c_0 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_c_1 : Ref sig .tc := ⟨.hbm, 12, rfl⟩
abbrev main_call0_c_2 : Ref sig .tc := ⟨.hbm, 13, rfl⟩
abbrev main_call0_v6 : Ref sig .tc := ⟨.hbm, 14, rfl⟩
abbrev main_call0_v7 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_3 : Ref sig .tc := ⟨.hbm, 20, rfl⟩
abbrev main_call0_v12 : Ref sig .tc := ⟨.hbm, 21, rfl⟩
abbrev main_call0_v13 : Ref sig .tc := ⟨.hbm, 22, rfl⟩
abbrev main_call0_c_4 : Ref sig .tc := ⟨.hbm, 23, rfl⟩
abbrev main_call0_v14 : Ref sig .tc := ⟨.hbm, 24, rfl⟩
abbrev main_v0 : Ref sig .tc := ⟨.hbm, 25, rfl⟩

abbrev nD : Nat := 1
abbrev τ : Topo := Topo.v7x

variable {F : FTy → Type} [FloatOps F]
-- ==== First.lean ====
abbrev S1024x32 : Shape := ⟨2, ![1024, 32]⟩
abbrev S100000x32 : Shape := ⟨2, ![100000, 32]⟩
abbrev S_ : Shape := ⟨0, ![]⟩
abbrev S100352x32 : Shape := ⟨2, ![100352, 32]⟩
abbrev S32x100352 : Shape := ⟨2, ![32, 100352]⟩
abbrev S802816x128 : Shape := ⟨2, ![802816, 128]⟩
abbrev S1024x1 : Shape := ⟨2, ![1024, 1]⟩
abbrev S1024x784 : Shape := ⟨2, ![1024, 784]⟩
abbrev S16x32 : Shape := ⟨2, ![16, 32]⟩
abbrev S12544x128 : Shape := ⟨2, ![12544, 128]⟩
abbrev S16x1 : Shape := ⟨2, ![16, 1]⟩
abbrev S16x784 : Shape := ⟨2, ![16, 784]⟩
abbrev S16x100352 : Shape := ⟨2, ![16, 100352]⟩
abbrev S16x784x128 : Shape := ⟨3, ![16, 784, 128]⟩
abbrev S16 : Shape := ⟨1, ![16]⟩
abbrev S16x781 : Shape := ⟨2, ![16, 781]⟩
abbrev S16x1x1 : Shape := ⟨3, ![16, 1, 1]⟩
abbrev S1x16x1 : Shape := ⟨3, ![1, 16, 1]⟩
abbrev S1 : Shape := ⟨1, ![1]⟩
abbrev S1x1x1 : Shape := ⟨3, ![1, 1, 1]⟩

abbrev nBuf : Space → Nat
  | .hbm => 9
  | .vmem => 9
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S_, .i32⟩
  | .hbm, ⟨3, _⟩ => ⟨S_, .f32⟩
  | .hbm, ⟨4, _⟩ => ⟨S100352x32, .f32⟩
  | .hbm, ⟨5, _⟩ => ⟨S32x100352, .f32⟩
  | .hbm, ⟨6, _⟩ => ⟨S802816x128, .f32⟩
  | .hbm, ⟨7, _⟩ => ⟨S1024x1, .f32⟩
  | .hbm, ⟨8, _⟩ => ⟨S1024x784, .i32⟩
  | .local _ .vmem, ⟨0, _⟩ => ⟨S16x32, .f32⟩
  | .local _ .vmem, ⟨1, _⟩ => ⟨S16x32, .f32⟩
  | .local _ .vmem, ⟨2, _⟩ => ⟨S12544x128, .f32⟩
  | .local _ .vmem, ⟨3, _⟩ => ⟨S12544x128, .f32⟩
  | .local _ .vmem, ⟨4, _⟩ => ⟨S16x1, .f32⟩
  | .local _ .vmem, ⟨5, _⟩ => ⟨S16x1, .f32⟩
  | .local _ .vmem, ⟨6, _⟩ => ⟨S16x784, .i32⟩
  | .local _ .vmem, ⟨7, _⟩ => ⟨S16x784, .i32⟩
  | .local _ .vmem, ⟨8, _⟩ => ⟨S32x100352, .f32⟩
  | _, _ => ⟨S1024x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_13 : BitVec 32 := 0#32
  let c20_i32 : BitVec 32 := 20#32
  let v26 : BitVec 32 := Scalar.addi c0_i32_13 c20_i32
  let c1_i32 : BitVec 32 := 1#32
  ⟨c0_i32_13, v26, c1_i32⟩
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12544x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x784 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== SimilaritiesIdeal.lean ====
abbrev S1024x32 : Shape := ⟨2, ![1024, 32]⟩
abbrev S100000x32 : Shape := ⟨2, ![100000, 32]⟩
abbrev S32x100000 : Shape := ⟨2, ![32, 100000]⟩
abbrev S1024x100000 : Shape := ⟨2, ![1024, 100000]⟩
abbrev S_ : Shape := ⟨0, ![]⟩
abbrev S1024x352 : Shape := ⟨2, ![1024, 352]⟩
abbrev S1024x100352 : Shape := ⟨2, ![1024, 100352]⟩
abbrev S802816x128 : Shape := ⟨2, ![802816, 128]⟩

abbrev nBuf : Space → Nat
  | .hbm => 8
  | .vmem => 0
  | .smem => 0
  | _ => 0

abbrev bufTy : (tb : Table) → Fin (tcTables nBuf tb) → BufTy
  | .hbm, ⟨0, _⟩ => ⟨S1024x32, .f32⟩
  | .hbm, ⟨1, _⟩ => ⟨S100000x32, .f32⟩
  | .hbm, ⟨2, _⟩ => ⟨S32x100000, .f32⟩
  | .hbm, ⟨3, _⟩ => ⟨S1024x100000, .f32⟩
  | .hbm, ⟨4, _⟩ => ⟨S_, .f32⟩
  | .hbm, ⟨5, _⟩ => ⟨S1024x352, .f32⟩
  | .hbm, ⟨6, _⟩ => ⟨S1024x100352, .f32⟩
  | .hbm, ⟨7, _⟩ => ⟨S802816x128, .f32⟩
  | _, _ => ⟨S1024x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proof.Words.lean ====
/- What the indexed vector store leaves, element by element: a lane that alone names an element decides it, and an element no
   lane names keeps what it held. -/
module

public import Idealize.ShloMosaic.PureOps.ShapeOps
public import Idealize.ShloMosaic.Lib.Tactic

@[expose] public section

noncomputable section

namespace Cert.Proof.Words

open Idealize.ShloMosaic

variable {F : FTy → Type} [FloatOps F] {s : Shape} {e : EltTy} {d : Fin 1 → Nat}

/-- One lane's turn at a store. -/
def turn (idxs : Fin s.rank → IVec ⟨1, d⟩ 32) (v : Vec F ⟨1, d⟩ e) (mask : IVec ⟨1, d⟩ 1)
    (h : ∀ a x, (idxs a x).toNat < s.size a) (g : Vec F s e) (k : Fin (d 0)) : Vec F s e :=
  if mask (Shape.ofLane k) = 1 then
    fun j => if (∀ a, (j a).val = (idxAt idxs h (Shape.ofLane k) a).val) then v (Shape.ofLane k) else g j
  else g

theorem storeIdx_eq (f : Vec F s e) (idxs : Fin s.rank → IVec ⟨1, d⟩ 32) (v : Vec F ⟨1, d⟩ e) (mask : IVec ⟨1, d⟩ 1)
    (h : ∀ a x, (idxs a x).toNat < s.size a) :
    storeIdx f idxs v mask false h = (List.finRange (d 0)).foldl (turn idxs v mask h) f := by
  unfold storeIdx
  congr 1
  funext g k
  unfold turn
  by_cases hm : mask (Shape.ofLane k) = 1
  · simp only [hm, if_true]
    funext j
    by_cases hj : ∀ a, (j a).val = (idxAt idxs h (Shape.ofLane k) a).val
    · rw [if_pos hj, if_pos hj]; rfl
    · rw [if_neg hj, if_neg hj]
  · simp only [hm, if_false]

theorem turn_hit (idxs : Fin s.rank → IVec ⟨1, d⟩ 32) (v : Vec F ⟨1, d⟩ e) (mask : IVec ⟨1, d⟩ 1)
    (h : ∀ a x, (idxs a x).toNat < s.size a) (g : Vec F s e) (k : Fin (d 0)) (hm : mask (Shape.ofLane k) = 1) :
    turn idxs v mask h g k (idxAt idxs h (Shape.ofLane k)) = v (Shape.ofLane k) := by
  unfold turn; rw [if_pos hm]; exact if_pos fun _ => rfl

theorem turn_miss (idxs : Fin s.rank → IVec ⟨1, d⟩ 32) (v : Vec F ⟨1, d⟩ e) (mask : IVec ⟨1, d⟩ 1)
    (h : ∀ a x, (idxs a x).toNat < s.size a) (g : Vec F s e) (k : Fin (d 0)) (j : s.Idx)
    (hj : mask (Shape.ofLane k) = 1 → idxAt idxs h (Shape.ofLane k) ≠ j) : turn idxs v mask h g k j = g j := by
  unfold turn
  split
  · rename_i hm
    exact if_neg fun e => hj hm (funext fun a => (Fin.ext (e a)).symm)
  · rfl

/-- An element no lane of the list names keeps its value. -/
theorem fold_miss (idxs : Fin s.rank → IVec ⟨1, d⟩ 32) (v : Vec F ⟨1, d⟩ e) (mask : IVec ⟨1, d⟩ 1)
    (h : ∀ a x, (idxs a x).toNat < s.size a) (j : s.Idx) (l : List (Fin (d 0)))
    (hj : ∀ k ∈ l, mask (Shape.ofLane k) = 1 → idxAt idxs h (Shape.ofLane k) ≠ j) (g : Vec F s e) :
    l.foldl (turn idxs v mask h) g j = g j := by
  induction l generalizing g with
  | nil => rfl
  | cons k l ih =>
    rw [List.foldl_cons, ih (fun k' hk' => hj k' (List.mem_cons_of_mem _ hk')), turn_miss _ _ _ _ _ _ _ (hj k List.mem_cons_self)]

theorem storeIdx_miss (f : Vec F s e) (idxs : Fin s.rank → IVec ⟨1, d⟩ 32) (v : Vec F ⟨1, d⟩ e) (mask : IVec ⟨1, d⟩ 1)
    (h : ∀ a x, (idxs a x).toNat < s.size a) (j : s.Idx)
    (hj : ∀ k : Fin (d 0), mask (Shape.ofLane k) = 1 → idxAt idxs h (Shape.ofLane k) ≠ j) :
    storeIdx f idxs v mask false h j = f j := by
  rw [storeIdx_eq]; exact fold_miss idxs v mask h j _ (fun k _ => hj k) f

/-- The element a lane alone names takes that lane's value. -/
theorem storeIdx_hit (f : Vec F s e) (idxs : Fin s.rank → IVec ⟨1, d⟩ 32) (v : Vec F ⟨1, d⟩ e) (mask : IVec ⟨1, d⟩ 1)
    (h : ∀ a x, (idxs a x).toNat < s.size a) (k : Fin (d 0)) (hm : mask (Shape.ofLane k) = 1)
    (hk : ∀ k' : Fin (d 0), mask (Shape.ofLane k') = 1 → idxAt idxs h (Shape.ofLane k') = idxAt idxs h (Shape.ofLane k) → k' = k) :
    storeIdx f idxs v mask false h (idxAt idxs h (Shape.ofLane k)) = v (Shape.ofLane k) := by
  rw [storeIdx_eq]
  obtain ⟨l₁, l₂, hl⟩ := List.append_of_mem (List.mem_finRange k)
  have hnd := List.nodup_finRange (d 0)
  rw [hl] at hnd ⊢
  rw [List.foldl_append, List.foldl_cons, fold_miss, turn_hit _ _ _ _ _ _ hm]
  intro k' hk' hm' e
  rw [hk k' hm' e] at hk'
  exact (List.nodup_cons.mp (List.nodup_append.mp hnd).2.1).1 hk'

end Cert.Proof.Words

end
-- ==== Proof.Lanes.lean ====
/- Indices of one- and two-axis arrays, and the indexed load and store of a whole tile buffer, its points-to kept in the plain form
   `ℓ ↦ f`. -/
module

public import proofs.«01_k».proof.Proof.Words
public import Idealize.ShloMosaic.Lib.SparseCore.Ops
public import Idealize.ShloMosaic.Lib.ViewIndex
public import Idealize.ShloMosaic.Lib.WordExact
public import Idealize.ShloMosaic.Lib.Tactic

@[expose] public section

noncomputable section

namespace Cert.Proof.Lanes

open Idealize.ShloMosaic
open Idealize.SL Idealize.SL.RA Idealize.SL.BI
open scoped Idealize.SL.BI
open Idealize.SL.BI.BIBase Idealize.SL.BI.Laws Idealize.SL.ProofMode Idealize.SL.Sem

/-- The index `(i, j)`. -/
def at2 {a b : ℕ} (i : Fin a) (j : Fin b) : (⟨2, ![a, b]⟩ : Shape).Idx
  | 0 => i
  | 1 => j
  | ⟨_ + 2, h⟩ => absurd h (Nat.not_lt.2 (Nat.le_add_left _ _))

/-- The index `(i)`. -/
def at1 {a : ℕ} (i : Fin a) : (⟨1, ![a]⟩ : Shape).Idx
  | 0 => i
  | ⟨_ + 1, h⟩ => absurd h (Nat.not_lt.2 (Nat.le_add_left _ _))

theorem ext2 {a b : ℕ} {i j : (⟨2, ![a, b]⟩ : Shape).Idx} (h0 : (i 0).val = (j 0).val) (h1 : (i 1).val = (j 1).val) : i = j := by
  funext x
  match x with
  | 0 => exact Fin.ext h0
  | 1 => exact Fin.ext h1

theorem ext1 {a : ℕ} {i j : (⟨1, ![a]⟩ : Shape).Idx} (h0 : (i 0).val = (j 0).val) : i = j := by
  funext x
  match x with
  | 0 => exact Fin.ext h0

section Rules

variable {F : FTy → Type} [FloatOps F] {nD : ℕ} {τ : Topo} {sig : RefSig} {Λ : Labels}
  {Ix Name U Lvl : Type} [DecidableEq Ix] [DecidableEq Name] [URA U] [Preorder Lvl]

local notation "𝕄" => MT nD τ sig Ix (Elt F) Name U Lvl

theorem access_whole_set {κ : Kind} (b : Ref sig κ) :
    ((Memref.whole b).access (.whole _)).set = Finset.univ := by
  rw [View.set_slice_rectWhole]; exact View.set_whole _

theorem access_whole_read {κ : Kind} (b : Ref sig κ) (f : (Memref.whole b).view.ty.Contents (Elt F)) :
    ((Memref.whole b).access (.whole _)).read (Elt F) f = f := by
  funext x
  rw [View.read_apply]
  refine (cast_eq _ _).trans (congrArg f ?_)
  funext a; apply Fin.ext
  show 0 + 1 * (x a).val = (x a).val
  omega

theorem access_whole_write {κ : Kind} (b : Ref sig κ) (f w : (Memref.whole b).view.ty.Contents (Elt F)) :
    ((Memref.whole b).access (.whole _)).write (Elt F) f w Finset.univ = w := by
  have := access_whole_read (F := F) b (((Memref.whole b).access (.whole _)).write (Elt F) f w Finset.univ)
  rw [← this, View.read_write_univ]

end Rules

end Cert.Proof.Lanes

end
-- ==== Proof.GatherVals.lean ====
/- The gather's values: which group row and lane holds each element of the result, what the vector steps of one trip compute, and
   the two scratch buffers' states between trips. -/
module

public import proofs.«01_k».proof.Proof.Lanes
public import proofs.«01_k».proof.Proof.Gen.KernelIdeal
public import proofs.«01_k».proof.Proof.Gen.KernelIdeal.Skeleton

@[expose] public section

noncomputable section

namespace Cert.Proof.Gather

open Cert.KernelIdeal Cert.KernelIdeal.Gen Cert.Proof.Lanes Cert.Proof.Words
open Idealize.ShloMosaic

variable {F : FTy → Type} [FloatOps F]

/-- Lane `c` of the 32 that row `w` of the queue takes up in its group of four. -/
def laneOf (w : BitVec 32) (c : Fin 32) : Fin 128 := ⟨32 * (w.toNat % 4) + c.val, by have := c.isLt; omega⟩

/-- The group of four rows that row `w` of the queue lies in. -/
def groupOf (w : BitVec 32) : Fin 25024 := ⟨w.toNat / 4 % 25024, Nat.mod_lt _ (by decide)⟩

/-- The result as one array of rows: row `r` is the queue's row number `idx r`, read out of the groups. -/
def picked (idx : Vec F S262144 .i32) (grp : Vec F S25024x128 .f32) : Vec F S262144x32 .f32 :=
  fun j => grp (at2 (groupOf (idx (at1 (j 0)))) (laneOf (idx (at1 (j 0))) (j 1)))

/-- Rows before `16 t` of the row scratch, and columns before `n` of the sixteen rows from `16 t`, hold their lanes of the group
    scratch. -/
def Filled (s5 : Vec F S256 .i32) (s7 : Vec F S256x128 .f32) (t n : ℕ) (s8 : Vec F S256x32 .f32) : Prop :=
  ∀ j : S256x32.Idx, ((j 0).val < 16 * t ∨ ((j 0).val < 16 * t + 16 ∧ (j 1).val < n)) →
    s8 j = s7 (at2 (j 0) (laneOf (s5 (at1 (j 0))) (j 1)))

/-- Words before `16 t` of the group-number scratch are the row numbers' divided by four. -/
def Grouped (s5 s6 : Vec F S256 .i32) (t : ℕ) : Prop :=
  ∀ r : Fin 256, r.val < 16 * t → (s6 (at1 r)).toNat = (s5 (at1 r)).toNat / 4

omit [FloatOps F] in
theorem filled_next {s5 : Vec F S256 .i32} {s7 : Vec F S256x128 .f32} {t : ℕ} {s8 : Vec F S256x32 .f32} (h : Filled s5 s7 t 32 s8) :
    Filled s5 s7 (t + 1) 0 s8 := fun j hj => h j (by have : (j 1).val < 32 := (j 1).isLt; omega)

theorem broadcast_toNat (n : ℕ) (hn : n < 2 ^ 32) (x : S16.Idx) : ((broadcast S16 (BitVec.ofNat 32 n) : IVec S16 32) x).toNat = n := by
  show (BitVec.ofNat 32 n).toNat = n
  rw [BitVec.toNat_ofNat]; exact Nat.mod_eq_of_lt hn

/-- One column's load and store: column `n` of the sixteen rows from `16 t` filled. -/
theorem filled_step {s5 : Vec F S256 .i32} {s7 : Vec F S256x128 .f32} {t n : ℕ} {s8 : Vec F S256x32 .f32} (ht : t < 16) (hn : n < 32)
    {rows cols dst : IVec S16 32} (hr : ∀ x : Fin 16, (rows (at1 x)).toNat = 16 * t + x.val)
    (hc : ∀ x : Fin 16, (cols (at1 x)).toNat = 32 * ((s5 (at1 ⟨16 * t + x.val, by have := x.isLt; omega⟩)).toNat % 4) + n)
    (hd : ∀ x : Fin 16, (dst (at1 x)).toNat = n)
    (h : ∀ a x, ((![rows, cols] : Fin 2 → IVec S16 32) a x).toNat < S256x128.size a)
    (h' : ∀ a x, ((![rows, dst] : Fin 2 → IVec S16 32) a x).toNat < S256x32.size a) (hF : Filled s5 s7 t n s8) :
    Filled s5 s7 t (n + 1) (storeIdx s8 ![rows, dst] (loadIdx s7 ![rows, cols] h : Vec F S16 .f32) (fun _ => 1#1) false h') := by
  have hl : ∀ k : Fin 16, (Shape.ofLane (d := ![16]) k : S16.Idx) = at1 k := fun k => ext1 rfl
  have e0 : ∀ k : Fin 16, (idxAt (s := S256x32) ![rows, dst] h' (Shape.ofLane (d := ![16]) k) 0).val = 16 * t + k.val := fun k => by
    rw [hl]; exact hr k
  have e1 : ∀ k : Fin 16, (idxAt (s := S256x32) ![rows, dst] h' (Shape.ofLane (d := ![16]) k) 1).val = n := fun k => by
    rw [hl]; exact hd k
  intro j hj
  by_cases hh : 16 * t ≤ (j 0).val ∧ (j 0).val < 16 * t + 16 ∧ (j 1).val = n
  · obtain ⟨h1, h2, h3⟩ := hh
    obtain ⟨k, hk⟩ : ∃ k : Fin 16, (j 0).val = 16 * t + k.val := ⟨⟨(j 0).val - 16 * t, by omega⟩, by simp only []; omega⟩
    have ej : j = idxAt (s := S256x32) ![rows, dst] h' (Shape.ofLane (d := ![16]) k) :=
      ext2 (by rw [e0, hk]) (by rw [e1, h3])
    rw [show storeIdx s8 ![rows, dst] (loadIdx s7 ![rows, cols] h : Vec F S16 .f32) (fun _ => 1#1) false h' j
        = (loadIdx s7 ![rows, cols] h : Vec F S16 .f32) (Shape.ofLane (d := ![16]) k) from by
      rw [ej]
      refine storeIdx_hit (d := ![16]) s8 ![rows, dst] _ (fun _ => 1#1) h' k rfl fun k' _ e => ?_
      have := congrArg (fun i : S256x32.Idx => (i 0).val) e
      have := (e0 k').symm.trans (this.trans (e0 k))
      exact Fin.ext (by omega)]
    show s7 (idxAt (s := S256x128) ![rows, cols] h (Shape.ofLane (d := ![16]) k)) = _
    congr 1
    refine ext2 ?_ ?_
    · rw [hl]; exact (hr k).trans hk.symm
    · rw [hl]
      refine (hc k).trans ?_
      show _ = 32 * ((s5 (at1 (j 0))).toNat % 4) + (j 1).val
      rw [show (at1 (j 0) : S256.Idx) = at1 ⟨16 * t + k.val, by have := k.isLt; omega⟩ from ext1 hk, h3]
  · rw [storeIdx_miss]
    · exact hF j (by omega)
    · intro k _ e
      apply hh
      have a0 := (e0 k).symm.trans (congrArg (fun i : S256x32.Idx => (i 0).val) e)
      have a1 := (e1 k).symm.trans (congrArg (fun i : S256x32.Idx => (i 1).val) e)
      simp only [] at a0 a1
      have : k.val < 16 := k.isLt
      omega

theorem rows_toNat (t : Fin k0_t3_loop.trips) (ht : t.val < 16) (x : Fin 16) : (k0_pay2 0#32 1#32 t (at1 x)).toNat = 16 * t.val + x.val := by
  have hx := x.isLt
  show (((0#32 + BitVec.ofNat 32 t.val * 1#32) * 16#32) + BitVec.ofNat 32 (0 * 16 + x.val)).toNat = _
  simp only [BitVec.toNat_add, BitVec.toNat_mul, BitVec.toNat_ofNat]
  omega

theorem lane_toNat (v16 : Vec F S16 .i32) (x : S16.Idx) : (k0_pay3 v16 x).toNat = 32 * ((v16 x).toNat % 4) := by
  show (IntOp.muli (IntOp.andi (v16 x) 3#32) 32#32).toNat = _
  show ((v16 x &&& 3#32) * 32#32).toNat = _
  rw [BitVec.toNat_mul, BitVec.toNat_and]
  rw [show (3#32 : BitVec 32).toNat = 2 ^ 2 - 1 from rfl, Nat.and_two_pow_sub_one_eq_mod, show (32#32 : BitVec 32).toNat = 32 from rfl]
  have : (v16 x).toNat % 2 ^ 2 < 4 := Nat.mod_lt _ (by decide)
  rw [Nat.mod_eq_of_lt (by omega)]; omega

theorem shift_toNat (v12 : Vec F S16 .i32) (x : S16.Idx) : (k0_pay1 v12 x).toNat = (v12 x).toNat / 4 := by
  show (IntOp.shrui .vector (v12 x) 2#32).toNat = _
  unfold IntOp.shrui
  rw [if_pos (by decide)]
  show ((v12 x) >>> (2#32 : BitVec 32)).toNat = _
  rw [BitVec.ushiftRight_eq', BitVec.toNat_ushiftRight, Nat.shiftRight_eq_div_pow]; rfl

end Cert.Proof.Gather

end
-- ==== Proof.GatherSetup.lean ====
/- The gather as the launch theorem sees it: the program's one SparseCore call over two cores of sixteen tiles, what the call hands
   each tile and what it gets back. Every tile reads shares of the row numbers and of the grouped queue, and owns 8192 rows of the
   result; it gives them back holding the picked rows. -/
module

public import proofs.«01_k».proof.Proof.GatherVals
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Gather

open Cert.KernelIdeal Cert.KernelIdeal.Gen Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev qLoc (d : Dev nD) : Loc nD τ sig := (SparseCore.T d).loc main_arg0
abbrev xLoc (d : Dev nD) : Loc nD τ sig := (SparseCore.T d).loc main_arg1
abbrev iLoc (d : Dev nD) : Loc nD τ sig := (SparseCore.T d).loc main_v0
abbrev gLoc (d : Dev nD) : Loc nD τ sig := (SparseCore.T d).loc main_v2
abbrev oLoc (d : Dev nD) : Loc nD τ sig := (SparseCore.T d).loc main_v3
abbrev rLoc (d : Dev nD) : Loc nD τ sig := (SparseCore.T d).loc main_v4

variable (m : (ℓ : Loc nD τ sig) → Buf (Elt F) ℓ) (ρ : Dev nD → PrngReg)
-- The row numbers and the grouped queue as the call finds them.
variable (vI : Dev nD → Vec F S262144 .i32) (vG : Dev nD → Vec F S25024x128 .f32)

/-- The rows of the result that tile `i` of core `c` fills. -/
def tileRows (c : Fin 2) (i : Fin 16) : Finset S262144x32.Idx := Finset.univ.filter fun x => (x 0).val / 8192 = 2 * i.val + c.val
/-- The rows of the result that core `c` fills. -/
def coreRows (c : Fin 2) : Finset S262144x32.Idx := Finset.univ.filter fun x => (x 0).val / 8192 % 2 = c.val

/-- Core `c`'s share of an array all tiles read, and tile `i`'s. -/
abbrev cq (c : Fin 2) : PosShare TreeShare := pieceOf fullShare 2 (by decide) c
abbrev tq (c : Fin 2) (i : Fin 16) : PosShare TreeShare := pieceOf (cq c) 16 (by decide) i

variable [FloatOps F]

abbrev outV (d : Dev nD) : Vec F S262144x32 .f32 := picked (vI d) (vG d)

/-! ## What the handshakes carry -/

abbrev iPts (d : Dev nD) (q : PosShare TreeShare) : sProp 𝕄 := iLoc d ↦{q} vI d
abbrev gPts (d : Dev nD) (q : PosShare TreeShare) : sProp 𝕄 := gLoc d ↦{q} vG d
abbrev oPts (d : Dev nD) (I : Finset S262144x32.Idx) (f : Buf (Elt F) (oLoc d)) : sProp 𝕄 := oLoc d ↦[I]{fullShare} f

abbrev cN (c : Fin ((K (F := F)).nCore 0)) : Fin 2 := Fin.cast nCore_zero c
abbrev iN (i : Fin ((K (F := F)).nSub 0)) : Fin 16 := Fin.cast nSub_zero i

def P : (K (F := F)).Pay (nD := nD) (Val := Elt F) (Name := ℕ) (U := UU) where
  st := fun q d c => match q with
    | 0 => iprop(iPts vI d (cq (cN c)) ∗ gPts vG d (cq (cN c)) ∗ oPts d (coreRows (cN c)) (m (oLoc d)))
  dn := fun q d c => match q with
    | 0 => iprop(iPts vI d (cq (cN c)) ∗ gPts vG d (cq (cN c)) ∗ oPts d (coreRows (cN c)) (outV vI vG d))
  go := fun q d c i => match q with
    | 0 => iprop(iPts vI d (tq (cN c) (iN i)) ∗ gPts vG d (tq (cN c) (iN i)) ∗ oPts d (tileRows (cN c) (iN i)) (m (oLoc d)))
  td := fun q d c i => match q with
    | 0 => iprop(iPts vI d (tq (cN c) (iN i)) ∗ gPts vG d (tq (cN c) (iN i)) ∗ oPts d (tileRows (cN c) (iN i)) (outV vI vG d))
  x := fun _ _ => iprop(emp)

instance P_storable : (P (F := F) m vI vG).IsStorable where
  st q d c := match q with
    | 0 => (inferInstance : BI.Storable (upEmb : UEmb _ 𝕄)
      iprop(iPts vI d (cq (cN c)) ∗ gPts vG d (cq (cN c)) ∗ oPts d (coreRows (cN c)) (m (oLoc d))))
  dn q d c := match q with
    | 0 => (inferInstance : BI.Storable (upEmb : UEmb _ 𝕄)
      iprop(iPts vI d (cq (cN c)) ∗ gPts vG d (cq (cN c)) ∗ oPts d (coreRows (cN c)) (outV vI vG d)))
  go q d c i := match q with
    | 0 => (inferInstance : BI.Storable (upEmb : UEmb _ 𝕄)
      iprop(iPts vI d (tq (cN c) (iN i)) ∗ gPts vG d (tq (cN c) (iN i)) ∗ oPts d (tileRows (cN c) (iN i)) (m (oLoc d))))
  td q d c i := match q with
    | 0 => (inferInstance : BI.Storable (upEmb : UEmb _ 𝕄)
      iprop(iPts vI d (tq (cN c) (iN i)) ∗ gPts vG d (tq (cN c) (iN i)) ∗ oPts d (tileRows (cN c) (iN i)) (outV vI vG d)))

/-- Every row number is a row of the queue. -/
def InQueue : Prop := ∀ (d : Dev nD) (j : S262144.Idx), (vI d j).toNat < 100000

/-! ## The rows and the shares split and join -/

omit [FloatOps F] in
theorem tileRows_disjoint (c : Fin 2) : ∀ i ∈ (Finset.univ : Finset (Fin 16)), ∀ j ∈ (Finset.univ : Finset (Fin 16)), i ≠ j →
    Disjoint (tileRows c i) (tileRows c j) := by
  intro i _ j _ h
  refine Finset.disjoint_left.mpr fun x hi hj => h (Fin.ext ?_)
  have a := (Finset.mem_filter.mp hi).2
  have b := (Finset.mem_filter.mp hj).2
  omega

omit [FloatOps F] in
theorem tileRows_cover (c : Fin 2) : (Finset.univ : Finset (Fin 16)).biUnion (tileRows c) = coreRows c := by
  ext x
  have hx : (x 0).val < 262144 := (x 0).isLt
  have hc := c.isLt
  simp only [Finset.mem_biUnion, Finset.mem_univ, true_and, tileRows, coreRows, Finset.mem_filter]
  constructor
  · rintro ⟨i, hi⟩; omega
  · intro h
    exact ⟨⟨(x 0).val / 8192 / 2, by omega⟩, by simp only []; omega⟩

omit [FloatOps F] in
theorem coreRows_disjoint : ∀ i ∈ (Finset.univ : Finset (Fin 2)), ∀ j ∈ (Finset.univ : Finset (Fin 2)), i ≠ j →
    Disjoint (coreRows i) (coreRows j) := by
  intro i _ j _ h
  refine Finset.disjoint_left.mpr fun x hi hj => h (Fin.ext ?_)
  have a := (Finset.mem_filter.mp hi).2
  have b := (Finset.mem_filter.mp hj).2
  omega

omit [FloatOps F] in
theorem coreRows_cover : (Finset.univ : Finset (Fin 2)).biUnion coreRows = Finset.univ := by
  ext x
  simp only [Finset.mem_biUnion, Finset.mem_univ, true_and, coreRows, Finset.mem_filter, iff_true]
  exact ⟨⟨(x 0).val / 8192 % 2, Nat.mod_lt _ (by decide)⟩, rfl⟩

omit [FloatOps F] in
theorem oPts_tiles (d : Dev nD) (c : Fin 2) (f : Buf (Elt F) (oLoc d)) :
    (oLoc d ↦[coreRows c]{fullShare} f : sProp 𝕄) = bigSep Finset.univ fun i : Fin 16 => oLoc d ↦[tileRows c i]{fullShare} f := by
  rw [← pointsTo_biUnion Finset.univ (ℓ := oLoc d) (tileRows c) (tileRows_disjoint c), tileRows_cover]

omit [FloatOps F] in
theorem oPts_cores (d : Dev nD) (f : Buf (Elt F) (oLoc d)) :
    (oLoc d ↦{fullShare} f : sProp 𝕄) = bigSep Finset.univ fun c : Fin 2 => oLoc d ↦[coreRows c]{fullShare} f := by
  rw [← pointsTo_biUnion Finset.univ (ℓ := oLoc d) coreRows coreRows_disjoint, coreRows_cover]; try rfl

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

set_option maxRecDepth 4096 in
theorem vecSplit : (K (F := F)).VecSplit' (P m vI vG) 0 := by
  intro d c
  show iprop(iPts vI d (cq (cN c)) ∗ gPts vG d (cq (cN c)) ∗ oPts d (coreRows (cN c)) (m (oLoc d))) ⊢ |={Set.univ}=> iprop(
      (bigSep Finset.univ fun i : Fin ((K (F := F)).nSub 0) =>
        iprop(iPts vI d (tq (cN c) (Fin.cast nSub_zero i)) ∗ gPts vG d (tq (cN c) (Fin.cast nSub_zero i)) ∗ oPts d (tileRows (cN c) (Fin.cast nSub_zero i)) (m (oLoc d))))
      ∗ ((bigSep Finset.univ fun i : Fin ((K (F := F)).nSub 0) =>
          iprop(iPts vI d (tq (cN c) (Fin.cast nSub_zero i)) ∗ gPts vG d (tq (cN c) (Fin.cast nSub_zero i)) ∗ oPts d (tileRows (cN c) (Fin.cast nSub_zero i)) (outV vI vG d)))
          -∗ iprop(iPts vI d (cq (cN c)) ∗ gPts vG d (cq (cN c)) ∗ oPts d (coreRows (cN c)) (outV vI vG d))))
  generalize cN c = c'
  rw [bigSep_tasks (F := F) (fun i => iprop(iPts vI d (tq c' i) ∗ gPts vG d (tq c' i) ∗ oPts d (tileRows c' i) (m (oLoc d)))),
    bigSep_tasks (F := F) (fun i => iprop(iPts vI d (tq c' i) ∗ gPts vG d (tq c' i) ∗ oPts d (tileRows c' i) (outV vI vG d))),
    bigSep_sep', bigSep_sep', bigSep_sep', bigSep_sep']
  unfold iPts gPts oPts
  rw [pointsTo_piecesOf (ℓ := iLoc d) Finset.univ (vI d) (o := 16) (by decide) (cq c'), pointsTo_piecesOf (ℓ := gLoc d) Finset.univ (vG d) (o := 16) (by decide) (cq c'),
    oPts_tiles, oPts_tiles]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m vI vG).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m vI vG).x q thr) = bigSep Finset.univ fun _ => iprop(emp) from
    bigSep_congr fun _ _ => bigSep_univ_of_subsingleton (0 : Fin 1), bigSep_emp']
  iempintro

end Cert.Proof.Gather

end
-- ==== Proof.GatherCols.lean ====
/- The inner loop's trip: sixteen rows of the row scratch filled column by column from the group scratch, by thirty-two indexed loads
   and stores. -/
module

public import proofs.«01_k».proof.Proof.GatherSetup
public import Idealize.ShloMosaic.Lib.Pipeline.ValueKit.Geometry

@[expose] public section

noncomputable section

namespace Cert.Proof.Gather

open Cert.KernelIdeal Cert.KernelIdeal.Gen Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0

/-- The tile's thread. -/
abbrev TT (d : Dev nD) (L : grid0.Coords) : Thread nD τ := V d (cV L) (jV L)

abbrev aG : Memref sig .scVector .hbm S25024x128 .f32 := Memref.whole main_v2_scv
abbrev aI : Memref sig .scVector .hbm S262144 .i32 := Memref.whole main_v0_scv
abbrev aO : Memref sig .scVector .hbm S262144x32 .f32 := Memref.whole main_v3_scv
abbrev s0 : Memref sig .scVector .vmem S256 .i32 := Memref.whole cc0_scratch0
abbrev s1 : Memref sig .scVector .vmem S256 .i32 := Memref.whole cc0_scratch1
abbrev s2 : Memref sig .scVector .vmem S256x128 .f32 := Memref.whole cc0_scratch2
abbrev s3 : Memref sig .scVector .vmem S256x32 .f32 := Memref.whole cc0_scratch3

abbrev pts5 (s5 : Vec F S256 .i32) : sProp 𝕄 := (TT d L).loc cc0_scratch0 ↦{fullShare} s5
abbrev pts6 (s6 : Vec F S256 .i32) : sProp 𝕄 := (TT d L).loc cc0_scratch1 ↦{fullShare} s6
abbrev pts7 (s7 : Vec F S256x128 .f32) : sProp 𝕄 := (TT d L).loc cc0_scratch2 ↦{fullShare} s7
abbrev pts8 (s8 : Vec F S256x32 .f32) : sProp 𝕄 := (TT d L).loc cc0_scratch3 ↦{fullShare} s8

/-- The row scratch with column `n` next to fill in the sixteen rows from `16 t`. -/
def Cols (s5 : Vec F S256 .i32) (s7 : Vec F S256x128 .f32) (t n : ℕ) : sProp 𝕄 :=
  iprop(∃ s8, ⌜Filled s5 s7 t n s8⌝ ∗ pts8 d L s8)

/-- The sixteen lanes of column `n`, loaded. -/
def IsCol (s5 : Vec F S256 .i32) (s7 : Vec F S256x128 .f32) (t n : ℕ) (rows : IVec S16 32) (v : Vec F S16 .f32) : Prop :=
  ∃ (cols : IVec S16 32) (h : ∀ a x, ((![rows, cols] : Fin 2 → IVec S16 32) a x).toNat < S256x128.size a),
    (∀ (x : Fin 16) (r : Fin 256), r.val = 16 * t + x.val → (cols (at1 x)).toNat = 32 * ((s5 (at1 r)).toNat % 4) + n) ∧ v = loadIdx s7 ![rows, cols] h

/-- The row words of trip `t`. -/
def IsRows (t : ℕ) (rows : IVec S16 32) : Prop := ∀ x : Fin 16, (rows (at1 x)).toNat = 16 * t + x.val
/-- The first-lane words of trip `t`. -/
def IsLanes (s5 : Vec F S256 .i32) (t : ℕ) (v : IVec S16 32) : Prop :=
  ∀ (x : Fin 16) (r : Fin 256), r.val = 16 * t + x.val → (v (at1 x)).toNat = 32 * ((s5 (at1 r)).toNat % 4)

omit [FloatOps F] in
theorem s3_set : (s3.access (Rect.whole S256x32)).set = Finset.univ := access_whole_set cc0_scratch3
theorem s3_read (f : Vec F S256x32 .f32) : (s3.access (Rect.whole S256x32)).read (Elt F) f = f := access_whole_read cc0_scratch3 f
theorem s3_write (f w : Vec F S256x32 .f32) : (s3.access (Rect.whole S256x32)).write (Elt F) f w Finset.univ = w := access_whole_write cc0_scratch3 f w
theorem s2_read (f : Vec F S256x128 .f32) : (s2.access (Rect.whole S256x128)).read (Elt F) f = f := access_whole_read cc0_scratch2 f

variable {s5 : Vec F S256 .i32} {s7 : Vec F S256x128 .f32} {t : ℕ}

omit [FloatOps F] in
theorem at1_eta (x : S16.Idx) : x = at1 (x 0) := ext1 rfl

theorem rows_lt (ht : t < 16) {rows : IVec S16 32} (hr : IsRows t rows) (x : S16.Idx) : (rows x).toNat < 256 := by
  have h0 : (rows x).toNat = 16 * t + (x 0).val := (congrArg (fun i => (rows i).toNat) (at1_eta x)).trans (hr (x 0))
  have : (x 0).val < 16 := (x 0).isLt
  omega

omit [FloatOps F] in
theorem load_chk (ht : t < 16) {rows v : IVec S16 32} (hr : IsRows t rows) (hv : IsLanes s5 t v) {n : ℕ} (hn : n < 32) :
    ∀ a x, ((![rows, addi v (broadcast S16 (BitVec.ofNat 32 n))] : Fin 2 → IVec S16 32) a x).toNat < S256x128.size a := by
  intro a x
  match a with
  | 0 => exact rows_lt ht hr x
  | 1 =>
    have hx : (x 0).val < 16 := (x 0).isLt
    have := (congrArg (fun i => (v i).toNat) (at1_eta x)).trans (hv (x 0) ⟨16 * t + (x 0).val, by omega⟩ rfl)
    simp only [] at this
    show (v x + BitVec.ofNat 32 n).toNat < 128
    rw [BitVec.toNat_add, this, BitVec.toNat_ofNat]
    omega

omit [FloatOps F] in
theorem store_chk (ht : t < 16) {rows : IVec S16 32} (hr : IsRows t rows) {n : ℕ} (hn : n < 32) :
    ∀ a x, ((![rows, broadcast S16 (BitVec.ofNat 32 n)] : Fin 2 → IVec S16 32) a x).toNat < S256x32.size a := by
  intro a x
  match a with
  | 0 => exact rows_lt ht hr x
  | 1 =>
    show (BitVec.ofNat 32 n).toNat < 32
    rw [BitVec.toNat_ofNat]; omega

/-- A check that holds, at the head of a program. -/
theorem checked {α : Type} {Q : α → sProp 𝕄} {A : Prop} {dA : Decidable A} (h : A)
    {k : PLift A → Prog (TpuEff nD τ sig (Elt F) Λ₀ (.scVector (cV L) (jV L))) α} :
    wp frame (wpE (defs₀ (F := F)) 𝒱₀ (TT d L) none) Set.univ (k ⟨h⟩) Q
      ⊢ wp frame (wpE (defs₀ (F := F)) 𝒱₀ (TT d L) none) Set.univ (Prog.lift (TpuEff.assume A dA) >>= k) Q :=
  wp_assume 𝒱₀ (TT d L) none Set.univ h

/-- A first program's specification, then the rest of the program. -/
theorem before {α β : Type} {Q : α → sProp 𝕄} {Q' : β → sProp 𝕄} {A : sProp 𝕄} {p : Prog (TpuEff nD τ sig (Elt F) Λ₀ (.scVector (cV L) (jV L))) β}
    (h : A ⊢ wp frame (wpE (defs₀ (F := F)) 𝒱₀ (TT d L) none) Set.univ p Q')
    {k : β → Prog (TpuEff nD τ sig (Elt F) Λ₀ (.scVector (cV L) (jV L))) α} :
    A ⊢ iprop((∀ b, Q' b -∗ wp frame (wpE (defs₀ (F := F)) 𝒱₀ (TT d L) none) Set.univ (k b) Q)
      -∗ wp frame (wpE (defs₀ (F := F)) 𝒱₀ (TT d L) none) Set.univ (p >>= k) Q) := by
  rw [wp_bind]
  exact h.trans (wp_wand frame _ _)

/-- A column's check and load. -/
theorem load_col {α : Type} {Q : α → sProp 𝕄} (n : ℕ) (hn : n < 32) (ht : t < 16) {rows v : IVec S16 32} (hr : IsRows t rows) (hv : IsLanes s5 t v)
    {dP : Decidable (∀ a x, ((![rows, addi v (broadcast S16 (BitVec.ofNat 32 n))] : Fin 2 → IVec S16 32) a x).toNat < S256x128.size a)}
    {hl : s2.view.Loads}
    {k : PLift (∀ a x, ((![rows, addi v (broadcast S16 (BitVec.ofNat 32 n))] : Fin 2 → IVec S16 32) a x).toNat < S256x128.size a) → Vec F S16 .f32 → Prog (TpuEff nD τ sig (Elt F) Λ₀ (.scVector (cV L) (jV L))) α} :
    pts7 d L s7 ⊢ iprop((∀ w, ⌜IsCol s5 s7 t n rows w⌝ -∗ pts7 d L s7 -∗
          wp frame (wpE (defs₀ (F := F)) 𝒱₀ (TT d L) none) Set.univ (k ⟨load_chk ht hr hv hn⟩ w) Q)
        -∗ wp frame (wpE (defs₀ (F := F)) 𝒱₀ (TT d L) none) Set.univ
          (Prog.lift (TpuEff.assume (∀ a x, ((![rows, addi v (broadcast S16 (BitVec.ofNat 32 n))] : Fin 2 → IVec S16 32) a x).toNat < S256x128.size a) dP)
            >>= fun hp => SparseCore.vectorLoadIdx (p := .scVector (cV L) (jV L)) s2 ![rows, addi v (broadcast S16 (BitVec.ofNat 32 n))] hp.down hl >>= k hp) Q) := by
  iintro H Hk
  iapply (checked d L (load_chk ht hr hv hn))
  ihave H' := (show pts7 d L s7 ⊢ ((s2.access (.whole _)).loc (TT d L) ↦[Finset.univ]{fullShare} s7 : sProp 𝕄) from .rfl) $$ H
  iapply (SparseCore.wp_vectorLoadIdx 𝒱₀ (TT d L) none Set.univ (base := s2) (hl := hl) (Finset.subset_univ _)) $$ H'
  iintro H
  rw [s2_read]
  iapply Hk $$ [] H
  ipureintro
  refine ⟨_, load_chk ht hr hv hn, fun x r e => ?_, rfl⟩
  show (v (at1 x) + BitVec.ofNat 32 n).toNat = _
  rw [BitVec.toNat_add, hv x r e, BitVec.toNat_ofNat]
  omega

/-- A column's store. -/
theorem store_col {α : Type} {Q : α → sProp 𝕄} (n : ℕ) (hn : n < 32) (ht : t < 16) {rows : IVec S16 32} (hr : IsRows t rows) {w : Vec F S16 .f32} (hw : IsCol s5 s7 t n rows w)
    {h : ∀ a x, ((![rows, broadcast S16 (BitVec.ofNat 32 n)] : Fin 2 → IVec S16 32) a x).toNat < S256x32.size a}
    {hs : (s3.access (.whole _)).Stores Finset.univ}
    {k : PUnit → Prog (TpuEff nD τ sig (Elt F) Λ₀ (.scVector (cV L) (jV L))) α} :
    Cols d L s5 s7 t n ⊢ iprop((Cols d L s5 s7 t (n + 1) -∗
          wp frame (wpE (defs₀ (F := F)) 𝒱₀ (TT d L) none) Set.univ (k ⟨⟩) Q)
        -∗ wp frame (wpE (defs₀ (F := F)) 𝒱₀ (TT d L) none) Set.univ
          (SparseCore.vectorStoreIdx (p := .scVector (cV L) (jV L)) s3 ![rows, broadcast S16 (BitVec.ofNat 32 n)] w (fun _ => 1#1) false h hs >>= k) Q) := by
  unfold Cols
  iintro ⟨%s8, %hF, H⟩ Hk
  ihave H' := (show pts8 d L s8 ⊢ ((s3.access (.whole _)).loc (TT d L) ↦[(s3.access (.whole _)).set]{fullShare} s8 : sProp 𝕄) from by
    rw [s3_set]) $$ H
  iapply (SparseCore.wp_vectorStoreIdx 𝒱₀ (TT d L) none Set.univ (base := s3)) $$ H'
  iintro H
  iapply Hk
  rw [s3_read, s3_write, s3_set]
  iexists _
  isplitr
  swap; · iexact H
  ipureintro
  obtain ⟨cols, h7, hc, rfl⟩ := hw
  exact filled_step ht hn hr (fun x => hc x _ rfl) (fun x => broadcast_toNat n (by omega) _) h7 h hF

/-- A whole column: its check and load, its check and store. -/
theorem col_step {α : Type} {Q : α → sProp 𝕄} (n : ℕ) (hn : n < 32) (ht : t < 16) {rows v : IVec S16 32} (hr : IsRows t rows) (hv : IsLanes s5 t v)
    {dP : Decidable (∀ a x, ((![rows, addi v (broadcast S16 (BitVec.ofNat 32 n))] : Fin 2 → IVec S16 32) a x).toNat < S256x128.size a)}
    {dP' : Decidable (∀ a x, ((![rows, broadcast S16 (BitVec.ofNat 32 n)] : Fin 2 → IVec S16 32) a x).toNat < S256x32.size a)}
    {hl : s2.view.Loads} {hs : (s3.access (.whole _)).Stores Finset.univ}
    {k : Prog (TpuEff nD τ sig (Elt F) Λ₀ (.scVector (cV L) (jV L))) α} :
    iprop(pts7 d L s7 ∗ Cols d L s5 s7 t n) ⊢ iprop((iprop(pts7 d L s7 ∗ Cols d L s5 s7 t (n + 1)) -∗
          wp frame (wpE (defs₀ (F := F)) 𝒱₀ (TT d L) none) Set.univ k Q)
        -∗ wp frame (wpE (defs₀ (F := F)) 𝒱₀ (TT d L) none) Set.univ
          (Prog.lift (TpuEff.assume (∀ a x, ((![rows, addi v (broadcast S16 (BitVec.ofNat 32 n))] : Fin 2 → IVec S16 32) a x).toNat < S256x128.size a) dP)
            >>= fun hp => SparseCore.vectorLoadIdx (p := .scVector (cV L) (jV L)) s2 ![rows, addi v (broadcast S16 (BitVec.ofNat 32 n))] hp.down hl
            >>= fun w => Prog.lift (TpuEff.assume (∀ a x, ((![rows, broadcast S16 (BitVec.ofNat 32 n)] : Fin 2 → IVec S16 32) a x).toNat < S256x32.size a) dP')
            >>= fun hp' => SparseCore.vectorStoreIdx (p := .scVector (cV L) (jV L)) s3 ![rows, broadcast S16 (BitVec.ofNat 32 n)] w (fun _ => 1#1) false hp'.down hs
            >>= fun _ => k) Q) := by
  iintro ⟨H7, HC⟩ Hk
  iapply (load_col d L n hn ht hr hv) $$ H7
  iintro %w %hw H7
  iapply (checked d L (store_chk ht hr hn))
  iapply (store_col d L n hn ht hr hw) $$ HC
  iintro HC
  iapply Hk
  isplitl [H7] <;> iassumption

theorem part2_spec (ht : t < 16) {rows v v40 : IVec S16 32} (hr : IsRows t rows) (hv : IsLanes s5 t v) {w : Vec F S16 .f32} (hw : IsCol s5 s7 t 4 rows w)
    (e : v40 = broadcast S16 4#32) (h : k0_chk10 rows v40) :
    iprop(pts7 d L s7 ∗ Cols d L s5 s7 t 4) ⊢ wp frame (wpE (defs₀ (F := F)) 𝒱₀ (TT d L) none) Set.univ
      (k0_part2 L aG (Memref.isWhole_whole _) aI (Memref.isWhole_whole _) aO (Memref.isWhole_whole _) s0 (Memref.isWhole_whole _) s1 (Memref.isWhole_whole _)
        s2 (Memref.isWhole_whole _) s3 (Memref.isWhole_whole _) cc0_scratch4 cc0_scoped0 cc0_scoped1 rows v w v40 h)
      fun w' => iprop(⌜IsCol s5 s7 t 11 rows w'⌝ ∗ pts7 d L s7 ∗ Cols d L s5 s7 t 11) := by
  subst e
  rw [k0_part2_eq_skeleton]; unfold k0_part2_skel
  iintro ⟨H7, HC⟩
  iapply (store_col d L 4 (by decide) ht hr hw) $$ HC
  iintro HC
  ihave H := (show iprop(pts7 d L s7 ∗ Cols d L s5 s7 t 5) ⊢ iprop(pts7 d L s7 ∗ Cols d L s5 s7 t 5) from .rfl) $$ [H7 HC]
  · isplitl [H7] <;> iassumption
  iterate 6 (iapply (col_step d L _ (by decide) ht hr hv) $$ H; iintro H)
  icases H with ⟨H7, HC⟩
  iapply (load_col d L 11 (hl := View.loads_vmem h_S256x128) (by decide) ht hr hv) $$ H7
  iintro %w' %hw' H7
  sl_step
  isplitr; · ipureintro; exact hw'
  isplitl [H7] <;> iassumption

theorem s0_read (off : Fin 1 → ℕ) (inb) (f : Vec F S256 .i32) (x : S16.Idx) (j : S256.Idx) (hj : (j 0).val = off 0 + (x 0).val) :
    (s0.access (Rect.unit (s := S256) off S16.size inb)).read (Elt F) f x = f j := by
  rw [View.read_apply]
  refine (cast_eq _ _).trans (congrArg f (ext1 ?_))
  exact (ValueKit.view_emb_slice_whole_unit_val cc0_scratch0 off S16.size inb x 0).trans hj.symm

theorem part1_spec (k : Fin k0_t3_loop.trips) (ht : k.val < 16) :
    iprop(pts5 d L s5 ∗ pts7 d L s7 ∗ Cols d L s5 s7 k.val 0) ⊢ wp frame (wpE (defs₀ (F := F)) 𝒱₀ (TT d L) none) Set.univ
      (k0_part1 L aG (Memref.isWhole_whole _) aI (Memref.isWhole_whole _) aO (Memref.isWhole_whole _) s0 (Memref.isWhole_whole _) s1 (Memref.isWhole_whole _)
        s2 (Memref.isWhole_whole _) s3 (Memref.isWhole_whole _) cc0_scratch4 cc0_scoped0 cc0_scoped1 0#32 1#32 k)
      fun r => iprop(⌜IsRows k.val r.1 ∧ IsLanes s5 k.val r.2.1 ∧ IsCol s5 s7 k.val 4 r.1 r.2.2.1 ∧ r.2.2.2.1 = broadcast S16 4#32⌝
        ∗ pts5 d L s5 ∗ pts7 d L s7 ∗ Cols d L s5 s7 k.val 4) := by
  rw [k0_part1_eq_skeleton]; unfold k0_part1_skel
  have hr : IsRows k.val (k0_pay2 0#32 1#32 k) := rows_toNat k ht
  iintro ⟨H5, H7, HC⟩
  ihave H5 := (show pts5 d L s5 ⊢ ((s0.access (Rect.unit (s := S256) (k0_off3 k) S16.size (k0_off3_inb k))).loc (TT d L) ↦[Finset.univ]{fullShare} s5 : sProp 𝕄) from .rfl) $$ H5
  iapply (wp_load_rect 𝒱₀ (TT d L) none Set.univ (m := s0) (r := Rect.unit (s := S256) (k0_off3 k) S16.size (k0_off3_inb k))
    (hl := View.loadsAt_vmem h_S16) (Finset.subset_univ _)) $$ H5
  iintro H5
  have hv : IsLanes s5 k.val (k0_pay3 ((s0.access (Rect.unit (s := S256) (k0_off3 k) S16.size (k0_off3_inb k))).read (Elt F) s5)) := by
    intro x r e
    refine (lane_toNat _ _).trans ?_
    rw [s0_read _ _ _ _ (at1 r) (e.trans (by rw [k0_off3_eq]; rfl))]
  ihave H := (show iprop(pts7 d L s7 ∗ Cols d L s5 s7 k.val 0) ⊢ iprop(pts7 d L s7 ∗ Cols d L s5 s7 k.val 0) from .rfl) $$ [H7 HC]
  · isplitl [H7] <;> iassumption
  iterate 4 (iapply (col_step d L _ (by decide) ht hr hv) $$ H; iintro H)
  icases H with ⟨H7, HC⟩
  iapply (load_col d L 4 (hl := View.loads_vmem h_S256x128) (by decide) ht hr hv) $$ H7
  iintro %w' %hw' H7
  iapply (checked d L (store_chk ht hr (n := 4) (by decide)))
  dsimp only
  sl_step
  isplitr; · ipureintro; exact ⟨hr, hv, hw', rfl⟩
  isplitl [H5]; · iexact H5
  isplitl [H7] <;> iassumption

theorem part3_spec (ht : t < 16) {rows v : IVec S16 32} (hr : IsRows t rows) (hv : IsLanes s5 t v) {w : Vec F S16 .f32} (hw : IsCol s5 s7 t 11 rows w) :
    iprop(pts7 d L s7 ∗ Cols d L s5 s7 t 11) ⊢ wp frame (wpE (defs₀ (F := F)) 𝒱₀ (TT d L) none) Set.univ
      (k0_part3 L aG (Memref.isWhole_whole _) aI (Memref.isWhole_whole _) aO (Memref.isWhole_whole _) s0 (Memref.isWhole_whole _) s1 (Memref.isWhole_whole _)
        s2 (Memref.isWhole_whole _) s3 (Memref.isWhole_whole _) cc0_scratch4 cc0_scoped0 cc0_scoped1 rows v w)
      fun w' => iprop(⌜w' = broadcast S16 18#32⌝ ∗ pts7 d L s7 ∗ Cols d L s5 s7 t 18) := by
  rw [k0_part3_eq_skeleton]; unfold k0_part3_skel
  iintro ⟨H7, HC⟩
  iapply (checked d L (store_chk ht hr (n := 11) (by decide)))
  iapply (store_col d L 11 (by decide) ht hr hw) $$ HC
  iintro HC
  ihave H := (show iprop(pts7 d L s7 ∗ Cols d L s5 s7 t 12) ⊢ iprop(pts7 d L s7 ∗ Cols d L s5 s7 t 12) from .rfl) $$ [H7 HC]
  · isplitl [H7] <;> iassumption
  iterate 6 (iapply (col_step d L _ (by decide) ht hr hv) $$ H; iintro H)
  sl_step
  isplitr; · ipureintro; rfl
  iexact H

theorem part4_spec (ht : t < 16) {rows v v93 : IVec S16 32} (hr : IsRows t rows) (hv : IsLanes s5 t v) (e : v93 = broadcast S16 18#32) :
    iprop(pts7 d L s7 ∗ Cols d L s5 s7 t 18) ⊢ wp frame (wpE (defs₀ (F := F)) 𝒱₀ (TT d L) none) Set.univ
      (k0_part4 L aG (Memref.isWhole_whole _) aI (Memref.isWhole_whole _) aO (Memref.isWhole_whole _) s0 (Memref.isWhole_whole _) s1 (Memref.isWhole_whole _)
        s2 (Memref.isWhole_whole _) s3 (Memref.isWhole_whole _) cc0_scratch4 cc0_scoped0 cc0_scoped1 rows v v93)
      fun r => iprop(⌜IsCol s5 s7 t 24 rows r.1 ∧ r.2.1 = broadcast S16 24#32⌝ ∗ pts7 d L s7 ∗ Cols d L s5 s7 t 24) := by
  subst e
  rw [k0_part4_eq_skeleton]; unfold k0_part4_skel
  iintro H
  iterate 6 (iapply (col_step d L _ (by decide) ht hr hv) $$ H; iintro H)
  icases H with ⟨H7, HC⟩
  iapply (load_col d L 24 (hl := View.loads_vmem h_S256x128) (by decide) ht hr hv) $$ H7
  iintro %w' %hw' H7
  iapply (checked d L (store_chk ht hr (n := 24) (by decide)))
  dsimp only
  sl_step
  isplitr; · ipureintro; exact ⟨hw', rfl⟩
  isplitl [H7] <;> iassumption

theorem part5_spec (ht : t < 16) {rows v v120 : IVec S16 32} (hr : IsRows t rows) (hv : IsLanes s5 t v) {w : Vec F S16 .f32} (hw : IsCol s5 s7 t 24 rows w)
    (e : v120 = broadcast S16 24#32) (h : k0_chk50 rows v120) :
    iprop(pts7 d L s7 ∗ Cols d L s5 s7 t 24) ⊢ wp frame (wpE (defs₀ (F := F)) 𝒱₀ (TT d L) none) Set.univ
      (k0_part5 L aG (Memref.isWhole_whole _) aI (Memref.isWhole_whole _) aO (Memref.isWhole_whole _) s0 (Memref.isWhole_whole _) s1 (Memref.isWhole_whole _)
        s2 (Memref.isWhole_whole _) s3 (Memref.isWhole_whole _) cc0_scratch4 cc0_scoped0 cc0_scoped1 rows v w v120 h)
      fun w' => iprop(⌜IsCol s5 s7 t 31 rows w'⌝ ∗ pts7 d L s7 ∗ Cols d L s5 s7 t 31) := by
  subst e
  rw [k0_part5_eq_skeleton]; unfold k0_part5_skel
  iintro ⟨H7, HC⟩
  iapply (store_col d L 24 (by decide) ht hr hw) $$ HC
  iintro HC
  ihave H := (show iprop(pts7 d L s7 ∗ Cols d L s5 s7 t 25) ⊢ iprop(pts7 d L s7 ∗ Cols d L s5 s7 t 25) from .rfl) $$ [H7 HC]
  · isplitl [H7] <;> iassumption
  iterate 6 (iapply (col_step d L _ (by decide) ht hr hv) $$ H; iintro H)
  icases H with ⟨H7, HC⟩
  iapply (load_col d L 31 (hl := View.loads_vmem h_S256x128) (by decide) ht hr hv) $$ H7
  iintro %w' %hw' H7
  sl_step
  isplitr; · ipureintro; exact hw'
  isplitl [H7] <;> iassumption

/-- One trip of the filling loop. -/
theorem fill_trip (k : Fin k0_t3_loop.trips) :
    iprop(pts5 d L s5 ∗ pts7 d L s7 ∗ Cols d L s5 s7 k.val 0) ⊢ wp frame (wpE (defs₀ (F := F)) 𝒱₀ (TT d L) none) Set.univ
      (k0_t3_body L aG (Memref.isWhole_whole _) aI (Memref.isWhole_whole _) aO (Memref.isWhole_whole _) s0 (Memref.isWhole_whole _) s1 (Memref.isWhole_whole _)
        s2 (Memref.isWhole_whole _) s3 (Memref.isWhole_whole _) cc0_scratch4 cc0_scoped0 cc0_scoped1 k ⟨⟩)
      fun _ => iprop(pts5 d L s5 ∗ pts7 d L s7 ∗ Cols d L s5 s7 (k.val + 1) 0) := by
  have ht : k.val < 16 := Nat.lt_of_lt_of_le k.isLt k0_t3_abs.2.1
  unfold k0_t3_body
  iintro H
  iapply (before d L (part1_spec d L k ht)) $$ H
  iintro %r ⟨%hp, H5, H⟩
  obtain ⟨rows, v, w, v40, h40⟩ := r
  obtain ⟨hr, hv, hw, e⟩ := hp
  iapply (before d L (part2_spec d L ht hr hv hw e h40)) $$ H
  iintro %w2 ⟨%hw2, H⟩
  iapply (before d L (part3_spec d L ht hr hv hw2)) $$ H
  iintro %v93 ⟨%e93, H⟩
  iapply (before d L (part4_spec d L ht hr hv e93)) $$ H
  iintro %r4 ⟨%hp4, H⟩
  obtain ⟨w4, v120, h50⟩ := r4
  obtain ⟨hw4, e4⟩ := hp4
  iapply (before d L (part5_spec d L ht hr hv hw4 e4 h50)) $$ H
  iintro %w5 ⟨%hw5, H7, HC⟩
  iapply (checked d L (store_chk ht hr (n := 31) (by decide)))
  iapply (store_col d L 31 (by decide) ht hr hw5) $$ HC
  iintro HC
  sl_step
  isplitl [H5]; · iexact H5
  isplitl [H7]; · iexact H7
  unfold Cols
  icases HC with ⟨%s8, %hF, H8⟩
  iexists s8
  isplitr; · ipureintro; exact filled_next hF
  iexact H8

end Cert.Proof.Gather

end
-- ==== Proof.GatherTile.lean ====
/- One tile's work: thirty-two chunks of 256 rows, each its row numbers fetched, their groups gathered, the lanes picked out of the
   groups, and the picked rows written out. -/
module

public import proofs.«01_k».proof.Proof.GatherCols

@[expose] public section

noncomputable section

namespace Cert.Proof.Gather

open Cert.KernelIdeal Cert.KernelIdeal.Gen Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

theorem t1_trips : k0_t1_loop.trips = 32 := by decide +kernel
theorem t2_trips : k0_t2_loop.trips = 16 := by decide +kernel
theorem t3_trips : k0_t3_loop.trips = 16 := by decide +kernel

/-! ## The group numbers -/

omit [FloatOps F] in
theorem s1_write (off : Fin 1 → ℕ) (inb) (f : Vec F S256 .i32) (w : Vec F S16 .i32) (x : S16.Idx) (j : S256.Idx) (hj : (j 0).val = off 0 + (x 0).val) :
    (s1.access (Rect.unit (s := S256) off S16.size inb)).write (Elt F) f w Finset.univ j = w x := by
  have e : j = (s1.access (Rect.unit (s := S256) off S16.size inb)).emb x :=
    ext1 (hj.trans (ValueKit.view_emb_slice_whole_unit_val cc0_scratch1 off S16.size inb x 0).symm)
  rw [e, View.write_emb_of_mem _ _ (Finset.mem_univ _)]
  exact cast_eq _ _

omit [FloatOps F] in
theorem s1_write_miss (off : Fin 1 → ℕ) (inb) (f : Vec F S256 .i32) (w : Vec F S16 .i32) (j : S256.Idx) (hj : (j 0).val < off 0) :
    (s1.access (Rect.unit (s := S256) off S16.size inb)).write (Elt F) f w Finset.univ j = f j := by
  refine View.write_of_not_mem _ _ _ fun h => ?_
  obtain ⟨x, -, e⟩ := Finset.mem_map.mp h
  have := ValueKit.view_emb_slice_whole_unit_val cc0_scratch1 off S16.size inb x 0
  have e' : (((s1.access (Rect.unit (s := S256) off S16.size inb)).emb x) 0).val = (j 0).val := congrArg (fun i : S256.Idx => (i 0).val) e
  have e2 : (((s1.access (Rect.unit (s := S256) off S16.size inb)).emb x) 0).val = off 0 + (x 0).val := this
  omega

/-- The group-number scratch with `16 t` words written. -/
def Groups (s5 : Vec F S256 .i32) (t : ℕ) : sProp 𝕄 := iprop(∃ s6, ⌜Grouped s5 s6 t⌝ ∗ pts6 d L s6)

variable {s5 : Vec F S256 .i32}

theorem grouped_next (k : Fin k0_t2_loop.trips) {s6 : Vec F S256 .i32} (hG : Grouped s5 s6 k.val) :
    Grouped s5 ((s1.access (Rect.unit (s := S256) (k0_off2 k) S16.size (k0_off2_inb k))).write (Elt F) s6
      (k0_pay1 ((s0.access (Rect.unit (s := S256) (k0_off2 k) S16.size (k0_off2_inb k))).read (Elt F) s5)) Finset.univ) (k.val + 1) := by
  have ho : k0_off2 k 0 = 16 * k.val := by rw [k0_off2_eq]; rfl
  intro r hr
  by_cases h : r.val < 16 * k.val
  · refine (congrArg BitVec.toNat (s1_write_miss _ _ _ _ (at1 r) (show r.val < k0_off2 k 0 by rw [ho]; exact h))).trans (hG r h)
  · have hx : r.val = k0_off2 k 0 + (r.val - 16 * k.val) := by rw [ho]; omega
    refine (congrArg BitVec.toNat (s1_write _ _ _ _ (at1 ⟨r.val - 16 * k.val, by omega⟩) (at1 r) hx)).trans ((shift_toNat _ _).trans ?_)
    exact congrArg (fun w : BitVec 32 => w.toNat / 4) (s0_read _ _ _ _ (at1 r) hx)

theorem group_trip (k : Fin k0_t2_loop.trips) :
    iprop(pts5 d L s5 ∗ Groups d L s5 k.val) ⊢ wp frame (wpE (defs₀ (F := F)) 𝒱₀ (TT d L) none) Set.univ
      (k0_t2_body L aG (Memref.isWhole_whole _) aI (Memref.isWhole_whole _) aO (Memref.isWhole_whole _) s0 (Memref.isWhole_whole _) s1 (Memref.isWhole_whole _)
        s2 (Memref.isWhole_whole _) s3 (Memref.isWhole_whole _) cc0_scratch4 cc0_scoped0 cc0_scoped1 k ⟨⟩)
      fun _ => iprop(pts5 d L s5 ∗ Groups d L s5 (k.val + 1)) := by
  unfold k0_t2_body Groups
  simp only [Prog.bind_lift, Prog.pure_eq_ret]
  iintro ⟨H5, %s6, %hG, H6⟩
  ihave H5 := (show pts5 d L s5 ⊢ ((s0.access (Rect.unit (s := S256) (k0_off2 k) S16.size (k0_off2_inb k))).loc (TT d L) ↦[Finset.univ]{fullShare} s5 : sProp 𝕄) from .rfl) $$ H5
  iapply (wp_load_rect 𝒱₀ (TT d L) none Set.univ (m := s0) (r := Rect.unit (s := S256) (k0_off2 k) S16.size (k0_off2_inb k))
    (hl := View.loadsAt_vmem h_S16) (Finset.subset_univ _)) $$ H5
  iintro H5
  ihave H6 := (show pts6 d L s6 ⊢ ((s1.access (Rect.unit (s := S256) (k0_off2 k) S16.size (k0_off2_inb k))).loc (TT d L) ↦[Finset.univ]{fullShare} s6 : sProp 𝕄) from .rfl) $$ H6
  iapply (wp_load_rect 𝒱₀ (TT d L) none Set.univ (m := s1) (r := Rect.unit (s := S256) (k0_off2 k) S16.size (k0_off2_inb k))
    (hl := View.loadsAt_vmem h_S16) (Finset.subset_univ _)) $$ H6
  iintro H6
  iapply (wp_store 𝒱₀ (TT d L) none Set.univ (m := s1) (r := Rect.unit (s := S256) (k0_off2 k) S16.size (k0_off2_inb k))
    (Mk := Finset.univ) (hx := View.stores_vmem_bits_univ h_S16 rfl) (hm := .inl rfl) (Finset.subset_univ _)) $$ H6
  iintro H6
  sl_step
  isplitl [H5]; · iexact H5
  iexists _
  isplitr
  swap; · iexact H6
  ipureintro
  exact grouped_next k hG

/-! ## One chunk -/

variable (vI : Dev nD → Vec F S262144 .i32) (vG : Dev nD → Vec F S25024x128 .f32)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- The result's rows before the tile's chunk `k` done. -/
def Done (k : ℕ) (f : Vec F S262144x32 .f32) : Prop :=
  ∀ j ∈ tileRows (cL L) (jL L), (j 0).val < 16384 * (L 1).val + 8192 * (L 0).val + 256 * k → f j = outV vI vG d j

/-- What a tile holds between chunks. -/
def chunkInv (O : CellTallies nD τ sig (HIx 1)) (W : Waits sig (HIx 1)) (k : ℕ) (_ : Unit) : sProp 𝕄 :=
  iprop(Transfers.MayWaits (TT d L) (default : HIx 1) O ∗ iPts vI d (tq (cL L) (jL L)) ∗ gPts vG d (tq (cL L) (jL L))
    ∗ (∃ f, ⌜Done d L vI vG k f⌝ ∗ oPts d (tileRows (cL L) (jL L)) f)
    ∗ (∃ f, pts5 d L f) ∗ (∃ f, pts6 d L f) ∗ (∃ f, pts7 d L f) ∗ (∃ f, pts8 d L f)
    ∗ semVal (TT d L, .dma cc0_scratch4.sem) 0 ∗ semVal (TT d L, .dma cc0_scoped0.sem) 0 ∗ semVal (TT d L, .dma cc0_scoped1.sem) 0
    ∗ ∃ W', ⌜∀ p ∈ W', p ∈ W ∨ p.2 = none⌝ ∗ owes (TT d L) O W')

theorem t1_lt (k : Fin k0_t1_loop.trips) : k.val < 32 := Nat.lt_of_lt_of_eq k.isLt t1_trips

/-- Row `r` of chunk `k`, among the result's rows. -/
def rowAt (k : Fin k0_t1_loop.trips) (r : Fin 256) : Fin 262144 :=
  ⟨16384 * (L 1).val + 8192 * (L 0).val + 256 * k.val + r.val, by
    have h0 : (L 0).val < 2 := (L 0).isLt
    have h1 : (L 1).val < 16 := (L 1).isLt
    have := t1_lt k; have := r.isLt; omega⟩

/-- The row numbers of chunk `k`. -/
def fetched (k : Fin k0_t1_loop.trips) : Vec F S256 .i32 := fun x => vI d (at1 (rowAt L k (x 0)))

theorem fetched_eq (k : Fin k0_t1_loop.trips) :
    (aI.slice (Rect.unit (s := S262144) (k0_off1 L k) S256.size (k0_off1_inb L k)) (fun _ => rfl)).view.read (Elt F) (vI d) = fetched d L vI k := by
  funext x
  rw [View.read_apply]
  refine (cast_eq _ _).trans (congrArg (vI d) (ext1 ?_))
  refine (ValueKit.view_emb_slice_whole_unit_val main_v0_scv (k0_off1 L k) S256.size (k0_off1_inb L k) x 0).trans ?_
  exact congrArg (· + (x 0).val) (congrFun (k0_off1_eq L k) 0)

/-- The groups that the row numbers name. -/
def groups (s5 : Vec F S256 .i32) (g : Vec F S25024x128 .f32) : Vec F S256x128 .f32 := fun j => g (at2 (groupOf (s5 (at1 (j 0)))) (j 1))

abbrev gAll : Memref sig .scVector .hbm S25024x128 .f32 :=
  aG.slice (Rect.unit (s := S25024x128) ![0, 0] S25024x128.size inb_S25024x128_S25024x128_0_0) (fun _ => rfl)

theorem group_lt {s6 : Vec F S256 .i32} (hG : Grouped s5 s6 16) (h5 : ∀ j, (s5 j).toNat < 100000) (j : S256.Idx) : (s6 j).toNat < 25024 := by
  have e : j = at1 (j 0) := ext1 rfl
  have h := (congrArg (fun i => (s6 i).toNat) e).trans (hG (j 0) (by have : (j 0).val < 256 := (j 0).isLt; omega))
  have := h5 (at1 (j 0))
  exact Nat.lt_of_le_of_lt (Nat.le_of_eq h) (by omega)

theorem groups_inb {s6 : Vec F S256 .i32} (hG : Grouped s5 s6 16) (h5 : ∀ j, (s5 j).toNat < 100000) (x : S256.Idx) :
    ((s1).view.read (Elt F) s6 x).toNat < S25024x128.size gathers_S25024x128_S256x128.axis := group_lt hG h5 x

theorem groups_eq {s6 : Vec F S256 .i32} (hG : Grouped s5 s6 16) (h5 : ∀ j, (s5 j).toNat < 100000) (g : Vec F S25024x128 .f32)
    (hn : S256.numel = S256x128.size gathers_S25024x128_S256x128.axis') :
    SparseCore.gatherPayload gathers_S25024x128_S256x128 (gAll.view.read (Elt F) g)
      (SparseCore.rows ((s1).view.read (Elt F) s6) hn (groups_inb hG h5)) = groups s5 g := by
  funext x
  unfold SparseCore.gatherPayload groups
  rw [View.read_apply]
  refine (cast_eq _ _).trans (congrArg g (ext2 ?_ ?_))
  · refine (ValueKit.view_emb_slice_whole_unit_val main_v2_scv ![0, 0] S25024x128.size inb_S25024x128_S25024x128_0_0 _ 0).trans ?_
    refine (Nat.zero_add _).trans ?_
    refine (congrArg Fin.val (Shape.Gathers.idx_axis gathers_S25024x128_S256x128 _ x)).trans ?_
    have e : (S256.rowMajor.symm ((x gathers_S25024x128_S256x128.axis').cast hn.symm)) = at1 (x 0) := by
      refine (Equiv.symm_apply_eq _).mpr (Fin.ext ?_)
      exact (Shape.rowMajor_val_one (d := ![256]) (at1 (x 0))).symm
    show (s6 (S256.rowMajor.symm ((x gathers_S25024x128_S256x128.axis').cast hn.symm))).toNat = (s5 (at1 (x 0))).toNat / 4 % 25024
    refine (congrArg (fun i => (s6 i).toNat) e).trans ((hG (x 0) (by have : (x 0).val < 256 := (x 0).isLt; omega)).trans ?_)
    have := h5 (at1 (x 0))
    exact (Nat.mod_eq_of_lt (by omega)).symm
  · refine (ValueKit.view_emb_slice_whole_unit_val main_v2_scv ![0, 0] S25024x128.size inb_S25024x128_S25024x128_0_0 _ 1).trans ?_
    refine (Nat.zero_add _).trans ?_
    exact Shape.Gathers.idx_of_ne gathers_S25024x128_S256x128 _ x 1 (by decide)

abbrev oChunk (k : Fin k0_t1_loop.trips) : Memref sig .scVector .hbm S256x32 .f32 :=
  aO.slice (Rect.unit (s := S262144x32) (k0_off4 L k) S256x32.size (k0_off4_inb L k)) (fun _ => rfl)

omit [FloatOps F] in
theorem oChunk_emb (k : Fin k0_t1_loop.trips) (x : S256x32.Idx) : (oChunk L k).view.emb x = at2 (rowAt L k (x 0)) (x 1) := by
  refine ext2 ?_ ?_
  · refine (ValueKit.view_emb_slice_whole_unit_val main_v3_scv (k0_off4 L k) S256x32.size (k0_off4_inb L k) x 0).trans ?_
    exact congrArg (· + (x 0).val) (congrFun (k0_off4_eq L k) 0)
  · refine (ValueKit.view_emb_slice_whole_unit_val main_v3_scv (k0_off4 L k) S256x32.size (k0_off4_inb L k) x 1).trans ?_
    exact (congrArg (· + (x 1).val) (congrFun (k0_off4_eq L k) 1)).trans (Nat.zero_add _)

omit [FloatOps F] in
theorem oChunk_sub (k : Fin k0_t1_loop.trips) : (oChunk L k).view.set ⊆ tileRows (cL L) (jL L) := by
  intro j hj
  obtain ⟨x, -, rfl⟩ := Finset.mem_map.mp hj
  refine Finset.mem_filter.mpr ⟨Finset.mem_univ _, ?_⟩
  rw [oChunk_emb]
  have h0 : (L 0).val < 2 := (L 0).isLt
  have hx : (x 0).val < 256 := (x 0).isLt
  have hk := t1_lt k
  show (16384 * (L 1).val + 8192 * (L 0).val + 256 * k.val + (x 0).val) / 8192 = 2 * (L 1).val + (L 0).val
  omega

/-- The chunk written, the rows done are one chunk more. -/
theorem done_next (k : Fin k0_t1_loop.trips) {f : Vec F S262144x32 .f32} (hf : Done d L vI vG k.val f) {w : Vec F S256x32 .f32}
    (hw : Filled (fetched d L vI k) (groups (fetched d L vI k) (vG d)) 16 0 w) :
    Done d L vI vG (k.val + 1) ((oChunk L k).view.write (Elt F) f w Finset.univ) := by
  intro j hj hlt
  by_cases h : j ∈ (oChunk L k).view.set
  · obtain ⟨x, -, rfl⟩ := Finset.mem_map.mp h
    refine (View.write_emb_of_mem _ _ (Finset.mem_univ _)).trans ((cast_eq _ _).trans ?_)
    have hx : (x 0).val < 256 := (x 0).isLt
    refine (hw x (.inl (by omega))).trans ?_
    rw [oChunk_emb]; rfl
  · refine (View.write_of_not_mem _ _ _ h).trans (hf j hj ?_)
    by_contra hge
    refine h (Finset.mem_map.mpr ⟨at2 ⟨(j 0).val - (16384 * (L 1).val + 8192 * (L 0).val + 256 * k.val), by omega⟩ (j 1), Finset.mem_univ _, ?_⟩)
    refine (oChunk_emb L k _).trans (ext2 ?_ rfl)
    show 16384 * (L 1).val + 8192 * (L 0).val + 256 * k.val + ((j 0).val - (16384 * (L 1).val + 8192 * (L 0).val + 256 * k.val)) = (j 0).val
    omega

omit [FloatOps F] in
theorem oChunk_join (k : Fin k0_t1_loop.trips) (f : Vec F S262144x32 .f32) (w : Vec F S256x32 .f32) :
    iprop(((oChunk L k).view.loc (TT d L) ↦[(oChunk L k).view.set]{fullShare} (oChunk L k).view.write (Elt F) f w Finset.univ)
      ∗ (oLoc d ↦[tileRows (cL L) (jL L) \ (oChunk L k).view.set]{fullShare} f))
      ⊢ (oPts d (tileRows (cL L) (jL L)) ((oChunk L k).view.write (Elt F) f w Finset.univ) : sProp 𝕄) := by
  rw [show (oLoc d ↦[tileRows (cL L) (jL L) \ (oChunk L k).view.set]{fullShare} f : sProp 𝕄)
      = (oLoc d ↦[tileRows (cL L) (jL L) \ (oChunk L k).view.set]{fullShare} (oChunk L k).view.write (Elt F) f w Finset.univ) from
    pointsTo_congr fun i hi => (View.write_of_not_mem _ _ _ (Finset.mem_sdiff.mp hi).2).symm]
  exact (pointsTo_split_subset (ℓ := oLoc d) (oChunk_sub L k)).2

omit [FloatOps F] in
/-- One write through the whole of a view is a write through the view. -/
theorem write_all {κ : Kind} {sp : Space} {s : Shape} {e : EltTy} (v : View sig κ sp s e) (f : v.ty.Contents (Elt F)) (w : s.Idx → Elt F e) :
    v.writes (Elt F) f [⟨Rect.whole s, w⟩] = v.write (Elt F) f w Finset.univ := by
  have he : ∀ x : s.Idx, (v.slice (Rect.whole s)).emb x = v.emb x := fun x =>
    congrArg v.emb (funext fun a => Fin.ext ((Rect.emb_apply (Rect.whole s) x a).trans (show 0 + 1 * (x a).val = (x a).val by omega)))
  funext i
  by_cases h : i ∈ v.set
  · obtain ⟨x, -, rfl⟩ := Finset.mem_map.mp h
    refine Eq.trans ?_ (View.write_emb_of_mem _ _ (Finset.mem_univ x)).symm
    refine (congrArg _ (he x).symm).trans ?_
    exact View.write_emb_of_mem (v := v.slice (Rect.whole s)) f w (Finset.mem_univ x)
  · refine (View.write_of_not_mem _ _ _ fun hm => h ?_).trans (View.write_of_not_mem _ _ _ h).symm
    obtain ⟨x, -, rfl⟩ := Finset.mem_map.mp hm
    rw [he]; exact Finset.mem_map_of_mem _ (Finset.mem_univ x)

set_option maxHeartbeats 1000000 in
theorem chunk_trip (hI : InQueue vI) (O : CellTallies nD τ sig (HIx 1)) (W : Waits sig (HIx 1)) (k : Fin k0_t1_loop.trips) :
    chunkInv d L vI vG O W k.val ⟨⟩ ⊢ wp frame (wpE (defs₀ (F := F)) 𝒱₀ (TT d L) none) Set.univ
      (k0_t1_body L aG (Memref.isWhole_whole _) aI (Memref.isWhole_whole _) aO (Memref.isWhole_whole _) s0 (Memref.isWhole_whole _) s1 (Memref.isWhole_whole _)
        s2 (Memref.isWhole_whole _) s3 (Memref.isWhole_whole _) cc0_scratch4 cc0_scoped0 cc0_scoped1 k ⟨⟩)
      fun _ => chunkInv d L vI vG O W (k.val + 1) ⟨⟩ := by
  unfold k0_t1_body chunkInv
  iintro ⟨#Hmw, Hi, Hg, ⟨%fo, %hfo, Ho⟩, ⟨%f5, H5⟩, ⟨%f6, H6⟩, ⟨%f7, H7⟩, ⟨%f8, H8⟩, HsG, HsA, HsB, %W', %hW', HO⟩
  ihave Hi := (show iPts vI d (tq (cL L) (jL L)) ⊢ (aI.view.loc (TT d L) ↦{tq (cL L) (jL L)} vI d : sProp 𝕄) from .rfl) $$ Hi
  ihave H5 := (show pts5 d L f5 ⊢ (s0.view.loc (TT d L) ↦{fullShare} f5 : sProp 𝕄) from .rfl) $$ H5
  sl_exec (disch := exact View.amount_pos _ _ (show 0 < S256.numel by decide))
  -- the row numbers fetched
  ihave H5 := (Entails.of_eq (show (s0.view.loc (TT d L) ↦{fullShare} View.write (Elt F) s0.view f5 (chunk_trip.sl.dma0 d L vI k) Finset.univ : sProp 𝕄)
      = pts5 d L (fetched d L vI k) from by rw [View.write_whole_univ]; exact congrArg (pts5 d L) (fetched_eq d L vI k))) $$ H5
  have h5 : ∀ j, (fetched d L vI k j).toNat < 100000 := fun j => hI d _
  -- their groups
  sl_for (fun n (_ : Unit) => iprop(pts5 d L (fetched d L vI k) ∗ Groups d L (fetched d L vI k) n)) $$ [H5 H6]
  case region => intro n _; exact group_trip d L n
  · isplitl [H5]; · iexact H5
    unfold Groups; iexists f6; isplitr; · ipureintro; intro r hr; omega
    iexact H6
  iintro %_ ⟨H5, HG⟩
  rw [show Scf.trips k0_t2_loop.lb k0_t2_loop.ub k0_t2_loop.st = 16 from t2_trips]
  unfold Groups
  icases HG with ⟨%s6, %hG, H6⟩
  sl_exec
  -- the groups gathered
  have hs1 : s1.view.set = Finset.univ := View.set_whole _
  have hs2 : s2.view.set = Finset.univ := View.set_whole _
  ihave Hgs := (pointsTo_split_subset (ℓ := gLoc d) (q := tq (cL L) (jL L)) (f := vG d) (S := Finset.univ) (Finset.subset_univ gAll.view.set)).1 $$ Hg
  icases Hgs with ⟨Hgs, Hgr⟩
  ihave H7 := (Entails.of_eq (show (pts7 d L f7 : sProp 𝕄) = (s2.view.loc (TT d L) ↦[s2.view.set]{fullShare} f7) from by rw [hs2])) $$ H7
  ihave H6 := (Entails.of_eq (show (pts6 d L s6 : sProp 𝕄) = (s1.view.loc (TT d L) ↦[s1.view.set]{fullShare} s6) from by rw [hs1])) $$ H6
  have hN : ∀ h : S25024x128.Gathers 0 S256x128, ∑ j, ((s2).slice (S256x128.rowRect h.axis' j) (S256x128.stride_rowRect h.axis' j)).view.dmaCredit
      = s2.view.dmaCredit := by decide
  iapply (SparseCore.wp_indirectGatherLocal countersEmb 𝒱₀ (TT d L) none (hg := gathers_S25024x128_S256x128) (default : HIx 1)
      s2.view.dmaCredit (hN _) (by decide) (groups_inb hG h5)) $$ [Hgs H7 H6 HsG]
  · isplitl [Hgs]; · iexact Hgs
    isplitl [H7]; · iexact H7
    isplitl [H6]; · iexact H6
    iexact HsG
  iintro Hfl
  sl_exec
  iapply (Transfers.wp_waitLocalO countersEmb 𝒱₀ (TT d L) none (default : HIx 1) (rfl : s2.view.dmaCredit = _)) $$ [Hfl HO]
  · isplitl [Hfl]; · iexact Hfl
    isplitl [HO]; · iexact HO
    iapply (Transfers.MayWaits.elim (SemLoc.dma cc0_scratch4.sem)) $$ Hmw
  iintro ⟨⟨H7, Hgs, H6⟩, HsG, HO⟩
  ihave Hg := (pointsTo_split_subset (ℓ := gLoc d) (q := tq (cL L) (jL L)) (f := vG d) (S := Finset.univ) (Finset.subset_univ gAll.view.set)).2 $$ [Hgs Hgr]
  · isplitl [Hgs] <;> iassumption
  ihave H7 := (Entails.of_eq (show (s2.view.loc (TT d L) ↦[s2.view.set]{fullShare} View.write (Elt F) s2.view f7 _ Finset.univ : sProp 𝕄)
      = pts7 d L (groups (fetched d L vI k) (vG d)) from by
        rw [hs2, View.write_whole_univ]; exact congrArg (pts7 d L) (groups_eq hG h5 (vG d) _))) $$ H7
  ihave H6 := (Entails.of_eq (show (s1.view.loc (TT d L) ↦[s1.view.set]{fullShare} s6 : sProp 𝕄) = pts6 d L s6 from by rw [hs1])) $$ H6
  -- the lanes picked
  sl_exec
  sl_for (fun n (_ : Unit) => iprop(pts5 d L (fetched d L vI k) ∗ pts7 d L (groups (fetched d L vI k) (vG d))
    ∗ Cols d L (fetched d L vI k) (groups (fetched d L vI k) (vG d)) n 0)) $$ [H5 H7 H8]
  case region => intro n _; exact fill_trip d L n
  · isplitl [H5]; · iexact H5
    isplitl [H7]; · iexact H7
    unfold Cols; iexists f8; isplitr; · ipureintro; intro j hj; omega
    iexact H8
  iintro %_ ⟨H5, H7, HC⟩
  rw [show Scf.trips k0_t3_loop.lb k0_t3_loop.ub k0_t3_loop.st = 16 from t3_trips]
  unfold Cols
  icases HC with ⟨%s8, %hF, H8⟩
  -- the rows written out
  ihave Hoc := (pointsTo_split_subset (ℓ := oLoc d) (q := fullShare) (f := fo) (oChunk_sub L k)).1 $$ Ho
  icases Hoc with ⟨Hoc, Hor⟩
  ihave Hoc := (show (oLoc d ↦[(oChunk L k).view.set]{fullShare} fo : sProp 𝕄) ⊢ ((oChunk L k).view.loc (TT d L) ↦[(oChunk L k).view.set]{fullShare} fo : sProp 𝕄) from .rfl) $$ Hoc
  ihave H8 := (show pts8 d L s8 ⊢ (s3.view.loc (TT d L) ↦{fullShare} s8 : sProp 𝕄) from .rfl) $$ H8
  sl_exec (disch := exact View.amount_pos _ _ (show 0 < S256x32.numel by decide))
  ihave Ho := (oChunk_join d L k fo s8) $$ [Hoc Hor]
  · isplitl [Hoc]
    · iapply (Entails.of_eq (show ((oChunk L k).view.loc (TT d L) ↦[(oChunk L k).view.set]{fullShare}
          (oChunk L k).view.writes (Elt F) fo [⟨Rect.whole S256x32, chunk_trip.sl.dma0_1 s8⟩] : sProp 𝕄) = _ from
        congrArg (fun f => ((oChunk L k).view.loc (TT d L) ↦[(oChunk L k).view.set]{fullShare} f : sProp 𝕄))
        (write_all (oChunk L k).view fo s8))) $$ Hoc
    · iexact Hor
  sl_step
  isplitr; · iexact Hmw
  isplitl [Hi]; · iexact Hi
  isplitl [Hg]; · iexact Hg
  isplitl [Ho]
  · iexists _; isplitr
    swap; · iexact Ho
    ipureintro; exact done_next d L vI vG k hfo hF
  isplitl [H5]; · iexists _; iexact H5
  isplitl [H6]; · iexists _; iexact H6
  isplitl [H7]; · iexists _; iexact H7
  isplitl [H8]; · iexists _; iexact H8
  isplitl [HsG]; · iexact HsG
  isplitl [HsA]; · iexact HsA
  isplitl [HsB]; · iexact HsB
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact hW' p hp

/-! ## The tile's own buffers and cells -/

abbrev cellG (d : Dev nD) (L : grid0.Coords) : GSem nD τ sig := (TT d L, .dma cc0_scratch4.sem)
abbrev cellA (d : Dev nD) (L : grid0.Coords) : GSem nD τ sig := (TT d L, .dma cc0_scoped0.sem)
abbrev cellB (d : Dev nD) (L : grid0.Coords) : GSem nD τ sig := (TT d L, .dma cc0_scoped1.sem)

abbrev restSems (d : Dev nD) (L : grid0.Coords) : sProp 𝕄 :=
  bigSep ((((ownCells (TT d L)).erase (cellG d L)).erase (cellA d L)).erase (cellB d L)) fun g => semVal g 0

omit [FloatOps F] in
theorem ownSems0_TT :
    (ownSems0 (TT d L) : sProp 𝕄) = iprop(semVal (cellG d L) 0 ∗ semVal (cellA d L) 0 ∗ semVal (cellB d L) 0 ∗ restSems d L) := by
  unfold SparseCore.Cfg.ownSems0
  rw [SparseCore.bigSep_erase' ((mem_ownCells (g := cellG d L)).mpr ⟨rfl, by
      show (SemLoc.dma cc0_scratch4.sem : SemLoc sig).isScoped .scVector = true; decide⟩),
    SparseCore.bigSep_erase' (Finset.mem_erase.mpr ⟨by simp [cellG, cellA]; decide, (mem_ownCells (g := cellA d L)).mpr ⟨rfl, by
      show (SemLoc.dma cc0_scoped0.sem : SemLoc sig).isScoped .scVector = true; decide⟩⟩),
    SparseCore.bigSep_erase' (Finset.mem_erase.mpr ⟨by simp [cellA, cellB]; decide, Finset.mem_erase.mpr ⟨by simp [cellG, cellB]; decide,
      (mem_ownCells (g := cellB d L)).mpr ⟨rfl, by show (SemLoc.dma cc0_scoped1.sem : SemLoc sig).isScoped .scVector = true; decide⟩⟩⟩)]

abbrev refOf (L : grid0.Coords) (b : Ref sig .scVector) : DevRef τ sig := (Proc.scVector (cV L) (jV L)).devRef b

abbrev restBufs (d : Dev nD) (L : grid0.Coords) : sProp 𝕄 :=
  bigSep (((((ownRefs (τ := τ) (.scVector (cV L) (jV L))).erase (refOf L cc0_scratch0)).erase (refOf L cc0_scratch1)).erase
    (refOf L cc0_scratch2)).erase (refOf L cc0_scratch3)) fun b => iprop(∃ f, ((d, b) : Loc nD τ sig) ↦{fullShare} f)

omit [FloatOps F] in
theorem refOf_ne (b b' : Ref sig .scVector) (h : b ≠ b') : refOf L b ≠ refOf L b' := fun e => h (Proc.devRef_injective _ e)

omit [FloatOps F] in
theorem ownBufs_TT :
    (ownBufs (TT d L) : sProp 𝕄)
      = iprop((∃ f, pts5 (F := F) d L f) ∗ (∃ f, pts6 (F := F) d L f) ∗ (∃ f, pts7 (F := F) d L f) ∗ (∃ f, pts8 (F := F) d L f) ∗ restBufs d L) := by
  have own0 : refOf L cc0_scratch0 ∈ ownRefs (τ := τ) (.scVector (cV L) (jV L)) := SparseCore.Cfg.mem_ownRefs_of_owner rfl
  have own1 : refOf L cc0_scratch1 ∈ ownRefs (τ := τ) (.scVector (cV L) (jV L)) := SparseCore.Cfg.mem_ownRefs_of_owner rfl
  have own2 : refOf L cc0_scratch2 ∈ ownRefs (τ := τ) (.scVector (cV L) (jV L)) := SparseCore.Cfg.mem_ownRefs_of_owner rfl
  have own3 : refOf L cc0_scratch3 ∈ ownRefs (τ := τ) (.scVector (cV L) (jV L)) := SparseCore.Cfg.mem_ownRefs_of_owner rfl
  unfold SparseCore.Cfg.ownBufs
  refine (SparseCore.bigSep_erase' own0).trans ?_
  rw [SparseCore.bigSep_erase' (Finset.mem_erase.mpr ⟨refOf_ne L _ _ (by decide), own1⟩),
    SparseCore.bigSep_erase' (Finset.mem_erase.mpr ⟨refOf_ne L _ _ (by decide), Finset.mem_erase.mpr ⟨refOf_ne L _ _ (by decide), own2⟩⟩),
    SparseCore.bigSep_erase' (Finset.mem_erase.mpr ⟨refOf_ne L _ _ (by decide), Finset.mem_erase.mpr ⟨refOf_ne L _ _ (by decide),
      Finset.mem_erase.mpr ⟨refOf_ne L _ _ (by decide), own3⟩⟩⟩)]
  rfl

/-! ## The task -/

abbrev goPts (d : Dev nD) (L : grid0.Coords) (f : Vec F S262144x32 .f32) : sProp 𝕄 :=
  iprop(iPts vI d (tq (cL L) (jL L)) ∗ gPts vG d (tq (cL L) (jL L)) ∗ oPts d (tileRows (cL L) (jL L)) f)

omit [FloatOps F] in
theorem tileRows_lt {j : S262144x32.Idx} (hj : j ∈ tileRows (cL L) (jL L)) :
    16384 * (L 1).val + 8192 * (L 0).val ≤ (j 0).val ∧ (j 0).val < 16384 * (L 1).val + 8192 * (L 0).val + 256 * 32 := by
  have h : (j 0).val / 8192 = 2 * (L 1).val + (L 0).val := (Finset.mem_filter.mp hj).2
  omega

theorem tile_body (hF : (K (F := F)).Facts) (hI : InQueue vI) (f₀ : Vec F S262144x32 .f32)
    (O : CellTallies nD τ sig (HIx 1)) (W : Waits sig (HIx 1)) (hO : ∀ g, O g none = 0) :
    iprop(levAts (K (F := F)).L (K (F := F)).lev ∗ emp ∗ goPts vI vG d L f₀ ∗ scopedBufs (TT d L) ∗ scopedSems0 (TT d L) ∗ owes (TT d L) O W)
      ⊢ wp frame (wpE (defs₀ (F := F)) 𝒱₀ (TT d L) none) Set.univ
          (cc0_gather L aG (Memref.isWhole_whole _) aI (Memref.isWhole_whole _) aO (Memref.isWhole_whole _) s0 (Memref.isWhole_whole _) s1 (Memref.isWhole_whole _)
            s2 (Memref.isWhole_whole _) s3 (Memref.isWhole_whole _) cc0_scratch4 cc0_scoped0 cc0_scoped1)
          fun _ => iprop(goPts vI vG d L (outV vI vG d) ∗ scopedBufs (TT d L) ∗ scopedSems0 (TT d L)
            ∗ ∃ W', ⌜∀ p ∈ W', p ∈ W ∨ p.2 = none⌝ ∗ owes (TT d L) O W') := by
  simp only [cc0_gather_eq_skeleton]; unfold cc0_gather_skel
  rw [(K (F := F)).scopedBufs_V hF d (cV L) (jV L), SparseCore.Cfg.scopedSems0_V (Val := Elt F) d (cV L) (jV L), ownSems0_TT, ownBufs_TT]
  iintro ⟨#Hlv, -, ⟨Hi, Hg, Ho⟩, ⟨H5, H6, H7, H8, Hbufs⟩, ⟨HsG, HsA, HsB, Hsems⟩, HO⟩
  ihave Hmw := (show levAts (K (F := F)).L (K (F := F)).lev ⊢ Transfers.MayWaits (TT d L) (default : HIx 1) O from
    (K (F := F)).mayWaits_none (thr := TT d L) hO) $$ Hlv
  sl_for (chunkInv d L vI vG O W) $$ [Hmw Hi Hg Ho H5 H6 H7 H8 HsG HsA HsB HO]
  case region => intro k _; exact chunk_trip d L vI vG hI O W k
  · unfold chunkInv
    isplitl [Hmw]; · iexact Hmw
    isplitl [Hi]; · iexact Hi
    isplitl [Hg]; · iexact Hg
    isplitl [Ho]
    · iexists f₀; isplitr
      swap; · iexact Ho
      ipureintro; intro j hj h; exact absurd (tileRows_lt L hj).1 (by omega)
    isplitl [H5]; · iexact H5
    isplitl [H6]; · iexact H6
    isplitl [H7]; · iexact H7
    isplitl [H8]; · iexact H8
    isplitl [HsG]; · iexact HsG
    isplitl [HsA]; · iexact HsA
    isplitl [HsB]; · iexact HsB
    iexists W; isplitr
    swap; · iexact HO
    ipureintro; exact fun p hp => .inl hp
  iintro %_ HI
  rw [show Scf.trips k0_t1_loop.lb k0_t1_loop.ub k0_t1_loop.st = 32 from t1_trips]
  unfold chunkInv
  icases HI with ⟨-, Hi, Hg, ⟨%f, %hf, Ho⟩, H5, H6, H7, H8, HsG, HsA, HsB, HO⟩
  ihave Ho := (Entails.of_eq (show (oPts d (tileRows (cL L) (jL L)) f : sProp 𝕄) = oPts d (tileRows (cL L) (jL L)) (outV vI vG d) from
    pointsTo_congr fun j hj => hf j hj (tileRows_lt L hj).2)) $$ Ho
  sl_exec
  sl_step
  isplitl [Hi Hg Ho]
  · isplitl [Hi]; · iexact Hi
    isplitl [Hg]; · iexact Hg
    iexact Ho
  isplitl [H5 H6 H7 H8 Hbufs]
  · isplitl [H5]; · iexact H5
    isplitl [H6]; · iexact H6
    isplitl [H7]; · iexact H7
    isplitl [H8]; · iexact H8
    iexact Hbufs
  isplitl [HsG HsA HsB Hsems]
  · isplitl [HsG]; · iexact HsG
    isplitl [HsA]; · iexact HsA
    isplitl [HsB]; · iexact HsB
    iexact Hsems
  iexact HO

/-! ## The obligation -/

variable (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_gather (coordsV c s)
          aG (Memref.isWhole_whole _) aI (Memref.isWhole_whole _) aO (Memref.isWhole_whole _) s0 (Memref.isWhole_whole _) s1 (Memref.isWhole_whole _)
          s2 (Memref.isWhole_whole _) s3 (Memref.isWhole_whole _) cc0_scratch4 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) (hI : InQueue vI) : (K (F := F)).TileObl (D (F := F)) 𝒱 (P m vI vG) v₀ 0 := by
  intro d c i O W hO _ _
  simp only [show (P m vI vG).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) vI vG hF hI (m (oLoc d)) O W hO).trans (wp_mono frame _ _ fun _ => obl_post)

end Cert.Proof.Gather

end
-- ==== Proof.GatherRun.lean ====
/- The gather program's run: the row numbers flattened, the queue padded and cut into groups of four rows, the call, and the
   picked rows given their final shape. -/
module

public import proofs.«01_k».proof.Proof.GatherTile

@[expose] public section

noncomputable section

namespace Cert.Proof.Gather

open Cert.KernelIdeal Cert.KernelIdeal.Gen Cert.Proof.Lanes

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's arrays -/

abbrev q' : DevRef τ sig := Proc.devRef .tc (main_arg0 : Ref sig .tc)
abbrev x' : DevRef τ sig := Proc.devRef .tc (main_arg1 : Ref sig .tc)
abbrev i' : DevRef τ sig := Proc.devRef .tc (main_v0 : Ref sig .tc)
abbrev c' : DevRef τ sig := Proc.devRef .tc (main_c : Ref sig .tc)
abbrev f' : DevRef τ sig := Proc.devRef .tc (main_call0_v0 : Ref sig .tc)
abbrev p' : DevRef τ sig := Proc.devRef .tc (main_v1 : Ref sig .tc)
abbrev g' : DevRef τ sig := Proc.devRef .tc (main_v2 : Ref sig .tc)
abbrev o' : DevRef τ sig := Proc.devRef .tc (main_v3 : Ref sig .tc)
abbrev r' : DevRef τ sig := Proc.devRef .tc (main_v4 : Ref sig .tc)

abbrev opFlat : HloOp τ sig (Elt F) := StableHlo.reshape main_arg1 main_v0 (rfl : (.i32 : EltTy) = .i32) shapeCasts_S1024x256_S262144
abbrev opZero : HloOp τ sig (Elt F) := StableHlo.nullary main_c (constantI S_ 32 0#32)
abbrev opConv : HloOp τ sig (Elt F) := StableHlo.TRef.unary (.of main_c : StableHlo.TRef sig ⟨S_, .i32⟩) main_call0.v0 (sitofp .f32)
abbrev opPad : HloOp τ sig (Elt F) := StableHlo.TRef.binary (.of main_arg0 : StableHlo.TRef sig ⟨S100000x32, .f32⟩) main_call0.v0 main_call0.v1
  (fun x v => pad S100096x32 ![0, 0] ![96, 0] ![0, 0] x v pads_S100000x32_S100096x32_0960_000 h_S_)
abbrev opGrp : HloOp τ sig (Elt F) := StableHlo.reshape main_v1 main_v2 (rfl : (.f32 : EltTy) = .f32) shapeCasts_S100096x32_S25024x128
abbrev opOut : HloOp τ sig (Elt F) := StableHlo.reshape main_v3 main_v4 (rfl : (.f32 : EltTy) = .f32) shapeCasts_S262144x32_S1024x256x32

/-- The TensorCore's arrays. -/
abbrev S9 : Finset (DevRef τ sig) := {q', x', i', c', f', p', g', o', r'}
/-- Those the call takes. -/
abbrev S3 : Finset (DevRef τ sig) := {i', g', o'}
/-- Those the claim reads. -/
abbrev SF : Finset (DevRef τ sig) := {q', x', r'}

/-- The launch contents; after the operations before the call; after the call; after the last reshape. -/
def V0 (d : Dev nD) : Valuation τ sig (Elt F) := fun b => m (d, b)
def V5 (d : Dev nD) : Valuation τ sig (Elt F) :=
  opGrp.result (opPad.result (opConv.result (opZero.result (opFlat.result (V0 m d)))))

/-- The flat row numbers, the groups. -/
def vI (d : Dev nD) : Vec F S262144 .i32 := shapeCast S262144 (m (xLoc d)) shapeCasts_S1024x256_S262144
def vG (d : Dev nD) : Vec F S25024x128 .f32 :=
  shapeCast S25024x128 (pad S100096x32 ![0, 0] ![96, 0] ![0, 0] (m (qLoc d) : Vec F S100000x32 .f32) (sitofp .f32 (constantI S_ 32 0#32) : Vec F S_ .f32)
    pads_S100000x32_S100096x32_0960_000 h_S_) shapeCasts_S100096x32_S25024x128
/-- The program's result. -/
def vR (d : Dev nD) : Vec F S1024x256x32 .f32 := shapeCast S1024x256x32 (outV (vI m) (vG m) d) shapeCasts_S262144x32_S1024x256x32

def V6 (d : Dev nD) : Valuation τ sig (Elt F) := Function.update (V5 m d) o' (outV (vI m) (vG m) d)
def V7 (d : Dev nD) : Valuation τ sig (Elt F) := opOut.result (V6 m d)

theorem V5_i (d : Dev nD) : V5 m d i' = vI m d := by unfold V5; after_results_simp; rfl
theorem V5_g (d : Dev nD) : V5 m d g' = vG m d := by unfold V5; after_results_simp; rfl
theorem V5_o (d : Dev nD) : V5 m d o' = m (oLoc d) := by unfold V5; after_results_simp; rfl
theorem V5_q (d : Dev nD) : V5 m d q' = m (qLoc d) := by unfold V5; after_results_simp; rfl
theorem V5_x (d : Dev nD) : V5 m d x' = m (xLoc d) := by unfold V5; after_results_simp; rfl

theorem V7_q (d : Dev nD) : V7 m d q' = m (qLoc d) := by
  unfold V7; after_results_simp; exact (Function.update_of_ne (show q' ≠ o' by decide) _ _).trans (V5_q m d)
theorem V7_x (d : Dev nD) : V7 m d x' = m (xLoc d) := by
  unfold V7; after_results_simp; exact (Function.update_of_ne (show x' ≠ o' by decide) _ _).trans (V5_x m d)
theorem V7_r (d : Dev nD) : V7 m d r' = vR m d := by
  unfold V7; after_results_simp
  exact congrArg (fun w : Vec F S262144x32 .f32 => shapeCast S1024x256x32 w shapeCasts_S262144x32_S1024x256x32) (Function.update_self o' _ (V5 m d))

omit [FloatOps F] in
theorem unscopedBufs_eq (d : Dev nD) (W : Valuation τ sig (Elt F)) :
    (unscopedBufs d (fun b => W (Proc.devRef .tc b)) : sProp 𝕄) = held (T d) S9 W := by
  unfold unscopedBufs held S9
  rw [show (Finset.univ.filter fun b : Ref sig .tc => ¬ b.isScoped)
      = {main_arg0, main_arg1, main_v0, main_c, main_call0_v0, main_v1, main_v2, main_v3, main_v4} by decide]
  repeat rw [SparseCore.bigSep_insert' (by decide)]
  repeat rw [SparseCore.bigSep_insert' (by decide)]
  rw [bigSep_singleton, bigSep_singleton]

omit [FloatOps F] in
theorem held_S3 (d : Dev nD) (W : Valuation τ sig (Elt F)) :
    (held (T d) S3 W : sProp 𝕄) = iprop((iLoc d ↦{fullShare} W i') ∗ (gLoc d ↦{fullShare} W g') ∗ oLoc d ↦{fullShare} W o') := by
  unfold held S3
  rw [SparseCore.bigSep_insert' (by decide), SparseCore.bigSep_insert' (by decide), bigSep_singleton]

omit [FloatOps F] in
theorem held_SF (d : Dev nD) (W : Valuation τ sig (Elt F)) :
    (held (T d) SF W : sProp 𝕄) = iprop((qLoc d ↦{fullShare} W q') ∗ (xLoc d ↦{fullShare} W x') ∗ rLoc d ↦{fullShare} W r') := by
  unfold held SF
  rw [SparseCore.bigSep_insert' (by decide), SparseCore.bigSep_insert' (by decide), bigSep_singleton]

theorem held_rest (d : Dev nD) : (held (T d) (S9 \ S3) (V6 m d) : sProp 𝕄) = held (T d) (S9 \ S3) (V5 m d) :=
  held_congr _ fun b hb => Function.update_of_ne (fun e => (Finset.mem_sdiff.mp hb).2 (by rw [e]; decide)) _ _

/-! ## The call's arrays -/

theorem st0_eq (d : Dev nD) :
    (bigSep Finset.univ fun c : Fin ((K (F := F)).nCore 0) => (P m (vI m) (vG m)).st 0 d c)
      = iprop((iLoc d ↦{fullShare} vI m d) ∗ (gLoc d ↦{fullShare} vG m d) ∗ oLoc d ↦{fullShare} m (oLoc d)) := by
  refine (bigSep_cores (F := F) (fun c => iprop(iPts (vI m) d (cq c) ∗ gPts (vG m) d (cq c) ∗ oPts d (coreRows c) (m (oLoc d))))).trans ?_
  rw [bigSep_sep', bigSep_sep', oPts_cores]
  unfold iPts gPts
  rw [pointsTo_piecesOf (ℓ := iLoc d) Finset.univ (vI m d) (o := 2) (by decide) fullShare,
    pointsTo_piecesOf (ℓ := gLoc d) Finset.univ (vG m d) (o := 2) (by decide) fullShare]

theorem dn0_eq (d : Dev nD) :
    (bigSep Finset.univ fun c : Fin ((K (F := F)).nCore 0) => (P m (vI m) (vG m)).dn 0 d c)
      = iprop((iLoc d ↦{fullShare} vI m d) ∗ (gLoc d ↦{fullShare} vG m d) ∗ oLoc d ↦{fullShare} outV (vI m) (vG m) d) := by
  refine (bigSep_cores (F := F) (fun c => iprop(iPts (vI m) d (cq c) ∗ gPts (vG m) d (cq c) ∗ oPts d (coreRows c) (outV (vI m) (vG m) d)))).trans ?_
  rw [bigSep_sep', bigSep_sep', oPts_cores]
  unfold iPts gPts
  rw [pointsTo_piecesOf (ℓ := iLoc d) Finset.univ (vI m d) (o := 2) (by decide) fullShare,
    pointsTo_piecesOf (ℓ := gLoc d) Finset.univ (vG m d) (o := 2) (by decide) fullShare]

/-- What the program leaves the claim: its arguments as they were, and its result. -/
abbrev FIN (d : Dev nD) : sProp 𝕄 := iprop((qLoc d ↦{fullShare} m (qLoc d)) ∗ (xLoc d ↦{fullShare} m (xLoc d)) ∗ rLoc d ↦{fullShare} vR m d)

theorem held_V7 (d : Dev nD) : (held (T d) S9 (V7 m d) : sProp 𝕄) = iprop(FIN m d ∗ held (T d) (S9 \ SF) (V7 m d)) := by
  rw [held_sub_split (T d) (show SF ⊆ S9 by decide), held_SF, V7_q, V7_x, V7_r]

theorem hmain (κ : GSem nD τ sig → ℕ) (d : Dev nD) :
    iprop((K (F := F)).ctx EH (P m (vI m) (vG m)) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) S9 (V0 m d) from unscopedBufs_eq d (V0 m d)]
  simp only [main, fn_pad.body, wp_bind, wp_pure]
  iintro ⟨#Hctx, Hst, ⟨Hb, Hheld, Hts, -⟩, -⟩
  iapply (wp_hlo_within 𝒱 (SparseCore.T d) none Set.univ (op := opFlat) (S := S9) (show ({x', i'} : Finset (DevRef τ sig)) ⊆ S9 by decide) (V := V0 m d)) $$ [Hb Hheld]
  · isplitl [Hb] <;> iassumption
  iintro ⟨Hb, Hheld⟩
  rw [wp_ret]; imodintro
  iapply (wp_hlo_within 𝒱 (SparseCore.T d) none Set.univ (op := opZero) (S := S9) (show ({c'} : Finset (DevRef τ sig)) ⊆ S9 by decide) (V := _)) $$ [Hb Hheld]
  · isplitl [Hb] <;> iassumption
  iintro ⟨Hb, Hheld⟩
  rw [wp_ret]; imodintro
  iapply (wp_hlo_within 𝒱 (SparseCore.T d) none Set.univ (op := opConv) (S := S9) (show ({c', f'} : Finset (DevRef τ sig)) ⊆ S9 by decide) (V := _)) $$ [Hb Hheld]
  · isplitl [Hb] <;> iassumption
  iintro ⟨Hb, Hheld⟩
  rw [wp_ret]; imodintro
  iapply (wp_hlo_within 𝒱 (SparseCore.T d) none Set.univ (op := opPad) (S := S9) (show ({q', f', p'} : Finset (DevRef τ sig)) ⊆ S9 by decide) (V := _)) $$ [Hb Hheld]
  · isplitl [Hb] <;> iassumption
  iintro ⟨Hb, Hheld⟩
  rw [wp_ret]; imodintro
  imodintro
  iapply (wp_hlo_within 𝒱 (SparseCore.T d) none Set.univ (op := opGrp) (S := S9) (show ({p', g'} : Finset (DevRef τ sig)) ⊆ S9 by decide) (V := _)) $$ [Hb Hheld]
  · isplitl [Hb] <;> iassumption
  iintro ⟨Hb, Hheld⟩
  rw [wp_ret]; imodintro
  ihave Hheld := (Entails.of_eq (show (held (T d) S9 (opGrp.result (opPad.result (opConv.result (opZero.result (opFlat.result (V0 m d)))))) : sProp 𝕄)
      = held (T d) S9 (V5 m d) from rfl)) $$ Hheld
  ihave Hh := (Entails.of_eq (show (held (T d) S9 (V5 m d) : sProp 𝕄)
      = iprop(((iLoc d ↦{fullShare} vI m d) ∗ (gLoc d ↦{fullShare} vG m d) ∗ oLoc d ↦{fullShare} m (oLoc d)) ∗ held (T d) (S9 \ S3) (V5 m d)) from by
        rw [held_sub_split (T d) (show S3 ⊆ S9 by decide), held_S3, V5_i, V5_g, V5_o])) $$ Hheld
  icases Hh with ⟨Hcall, Hrest⟩
  iapply ((K (F := F)).wp_run (D (F := F)) 𝒱 (EH := EH) (P := P m (vI m) (vG m)) κ d 0) $$ [Hst Hcall Hrest Hb Hts]
  isplitr; · iexact Hctx
  isplitl [Hst]; · iexact Hst
  isplitl [Hcall]
  · rw [st0_eq]; iexact Hcall
  iintro ⟨Hst, Hdn⟩
  ihave Hdn := (Entails.of_eq (dn0_eq m d)) $$ Hdn
  ihave Hheld := (Entails.of_eq (show iprop(((iLoc d ↦{fullShare} vI m d) ∗ (gLoc d ↦{fullShare} vG m d) ∗ oLoc d ↦{fullShare} outV (vI m) (vG m) d)
        ∗ held (T d) (S9 \ S3) (V5 m d)) = (held (T d) S9 (V6 m d) : sProp 𝕄) from by
      rw [held_sub_split (T d) (show S3 ⊆ S9 by decide) (V6 m d), held_S3, held_rest]
      unfold V6
      rw [Function.update_self, Function.update_of_ne (show i' ≠ o' by decide), Function.update_of_ne (show g' ≠ o' by decide), V5_i, V5_g])) $$ [Hdn Hrest]
  · isplitl [Hdn] <;> iassumption
  iapply (wp_hlo_within 𝒱 (SparseCore.T d) none Set.univ (op := opOut) (S := S9) (show ({o', r'} : Finset (DevRef τ sig)) ⊆ S9 by decide) (V := V6 m d)) $$ [Hb Hheld]
  · isplitl [Hb] <;> iassumption
  iintro ⟨Hb, Hheld⟩
  ihave Hheld := (Entails.of_eq (show (held (T d) S9 (opOut.result (V6 m d)) : sProp 𝕄) = held (T d) S9 (V7 m d) from rfl)) $$ Hheld
  ihave Hh := (Entails.of_eq (held_V7 m d)) $$ Hheld
  icases Hh with ⟨HF, -⟩
  rw [wp_ret]; imodintro; imodintro
  isplitl [Hst]; · iexact Hst
  isplitl [HF]; · iexact HF
  isplitl [Hb] <;> iassumption

/-! ## The run -/

def fq (d : Dev nD) (s' : Phys nD τ sig (Elt F)) : Prop :=
  s'.mem.mem (qLoc d) = m (qLoc d) ∧ s'.mem.mem (xLoc d) = m (xLoc d) ∧ s'.mem.mem (rLoc d) = vR m d

set_option maxRecDepth 16384 in
theorem hfin (d : Dev nD) (s' : Phys nD τ sig (Elt F)) : iprop(FIN m d ∗ SI s') ⊢ (⌜fq m d s'⌝ : sProp 𝕄) := by
  iintro ⟨⟨Hq, Hx, Hr⟩, HSI⟩
  ihave H := (persistent_entails_right (SI_pointsTo_agree (st := s') (ℓ := qLoc d) (I := Finset.univ) (q := fullShare) (f := m (qLoc d)))) $$ [HSI Hq]
  · isplitl [HSI] <;> iassumption
  icases H with ⟨%h1, HSI, -⟩
  ihave H := (persistent_entails_right (SI_pointsTo_agree (st := s') (ℓ := xLoc d) (I := Finset.univ) (q := fullShare) (f := m (xLoc d)))) $$ [HSI Hx]
  · isplitl [HSI] <;> iassumption
  icases H with ⟨%h2, HSI, -⟩
  ihave H := (SI_pointsTo_agree (st := s') (ℓ := rLoc d) (I := Finset.univ) (q := fullShare) (f := vR m d)) $$ [HSI Hr]
  · isplitl [HSI] <;> iassumption
  icases H with %h3
  ipureintro
  exact ⟨funext fun i => h1 i (Finset.mem_univ i), funext fun i => h2 i (Finset.mem_univ i), funext fun i => h3 i (Finset.mem_univ i)⟩

def QC : PUnit × MemSt nD τ sig (Elt F) → Prop := fun r =>
  (∀ c : Dev nD, r.2.mem (qLoc c) = m (qLoc c) ∧ r.2.mem (xLoc c) = m (xLoc c) ∧ r.2.mem (rLoc c) = vR m c) ∧ r.2.sem = fun _ => 0

theorem run_main [∀ e, Nonempty (Elt F e)] (hI : InQueue (vI m)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m (vI m) (vG m)) (A := ∅) facts v₀
    (fun q hq => match q with | 0 => nomatch hq)
    (fun q _ => match q with | 0 => tileObl (vI m) (vG m) m facts hI)
    (fun q _ => match q with | 0 => SparseCore.Cfg.VecSplit.of_plain (vecSplit m (vI m) (vG m)))
    m ρ main (fun _ => iprop(emp)) (FIN m) (u₀ (F := F)) (sep_elim_left.trans (hu₀ m (vI m) (vG m))) (hmain m ρ) (fq m) (hfin m) (QC m)
    (fun _ h hz => ⟨h, hz⟩)

end Cert.Proof.Gather

end
-- ==== Proof.GatherRef.lean ====
/- The gather against its reference: with every index a row of the queue, each result row is the queue's row of that number, in both
   programs; and what the precondition says of the indices. -/
module

public import proofs.«01_k».proof.Defs
public import proofs.«01_k».proof.Proof.GatherRun
public import proofs.«01_k».proof.Proof.Gen.Kernel
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_queue
public import Idealize.ShloMosaic.Lib.KernelVsHost
public import Idealize.ShloMosaic.Lib.ReduceAll

@[expose] public section

noncomputable section

namespace Cert.Proof.Gather

open Cert.KernelIdeal Cert.KernelIdeal.Gen Cert.Proof.Lanes
open Idealize.ShloMosaic Idealize.SL.Sem

variable {F : FTy → Type} [FloatOps F]

/-- The row of the queue that each index names, at result index `i`. -/
abbrev pairOf (i : S1024x256x32.Idx) : S1024x256.Idx := at2 ⟨(i 0).val, (i 0).isLt⟩ ⟨(i 1).val, (i 1).isLt⟩

/-- Lane `laneOf w c` of group `groupOf w` is column `c` of the queue's row `w`. -/
theorem group_row (m : (ℓ : Loc nD τ sig) → Buf (Elt F) ℓ) (d : Dev nD) (w : BitVec 32) (hw : w.toNat < 100000) (c : Fin 32) :
    vG m d (at2 (groupOf w) (laneOf w c)) = m (qLoc d) (at2 ⟨w.toNat, hw⟩ c) := by
  unfold vG shapeCast
  have e : Shape.reshapeEquiv shapeCasts_S100096x32_S25024x128 (at2 (groupOf w) (laneOf w c) : S25024x128.Idx)
      = (at2 ⟨w.toNat, by omega⟩ c : S100096x32.Idx) := by
    refine Shape.reshapeEquiv_eq_of_rowMajor _ ?_
    rw [Shape.rowMajor_val_two, Shape.rowMajor_val_two]
    show w.toNat * 32 + c.val = w.toNat / 4 % 25024 * 128 + (32 * (w.toNat % 4) + c.val)
    omega
  rw [e]
  refine pad_apply_of_inside _ _ _ _ _ _ _ _ (at2 ⟨w.toNat, hw⟩ c : S100000x32.Idx) fun a => ?_
  match a with
  | 0 => show w.toNat = 0 + w.toNat * (0 + 1); omega
  | 1 => show c.val = 0 + c.val * (0 + 1); omega

/-- The kernel's result at `i`: the queue's row that the index there names. -/
theorem kernel_at (m : (ℓ : Loc nD τ sig) → Buf (Elt F) ℓ) (d : Dev nD) (i : S1024x256x32.Idx)
    (hw : (m (xLoc d) (pairOf i)).toNat < 100000) :
    vR m d i = m (qLoc d) (at2 ⟨(m (xLoc d) (pairOf i)).toNat, hw⟩ ⟨(i 2).val, (i 2).isLt⟩) := by
  have h0 : (i 0).val < 1024 := (i 0).isLt
  have h1 : (i 1).val < 256 := (i 1).isLt
  have e : Shape.reshapeEquiv shapeCasts_S262144x32_S1024x256x32 i
      = (at2 ⟨(i 0).val * 256 + (i 1).val, by omega⟩ ⟨(i 2).val, (i 2).isLt⟩ : S262144x32.Idx) := by
    refine Shape.reshapeEquiv_eq_of_rowMajor _ ?_
    rw [Shape.rowMajor_val_two, Shape.rowMajor_val_three]
    rfl
  have e' : Shape.reshapeEquiv shapeCasts_S1024x256_S262144 (at1 ⟨(i 0).val * 256 + (i 1).val, by omega⟩ : S262144.Idx) = pairOf i := by
    refine Shape.reshapeEquiv_eq_of_rowMajor _ ?_
    rw [Shape.rowMajor_val_two, Shape.rowMajor_val_one]
    rfl
  unfold vR shapeCast
  rw [e]
  have ew : vI m d (at1 ⟨(i 0).val * 256 + (i 1).val, by omega⟩) = m (xLoc d) (pairOf i) := congrArg (m (xLoc d)) e'
  show vG m d (at2 (groupOf (vI m d (at1 _))) (laneOf (vI m d (at1 _)) _)) = _
  refine (congrArg (fun w => vG m d (at2 (groupOf w) (laneOf w ⟨(i 2).val, (i 2).isLt⟩))) ew).trans ?_
  exact group_row m d _ hw _

section Reference

open Cert.ReferenceIdeal.Read

abbrev takeDims := Cert.ReferenceIdeal.gather_S100000x32_S1024x256x1_S1024x256x32_2_0_n_n_0_2_132

/-- Rows of the queue taken at a rank-three array of start indices: the start index read signed and clamped to the queue. -/
theorem take_row (x : S100000x32.Idx → Elt F .f32) (idx : IVec Cert.ReferenceIdeal.S1024x256x1 32) (i : S1024x256x32.Idx) (b : Fin 100000)
    (k : Cert.ReferenceIdeal.S1024x256x1.Idx) (hk0 : (k 0).val = (i 0).val) (hk1 : (k 1).val = (i 1).val)
    (hb : (idx k).toInt = (b.val : Int)) :
    Host.gather takeDims x idx i = x (at2 b ⟨(i 2).val, (i 2).isLt⟩) := by
  have hk2 : (k 2).val < 1 := (k 2).isLt
  unfold Host.gather
  refine congrArg x (funext fun a => Fin.ext ?_)
  show takeDims.start i idx a + takeDims.batchCoord i a + takeDims.offCoord i a = _
  rw [GatherDims.batchCoord_eq_zero _ _ _ (show a ∉ takeDims.operandBatchingDims from List.not_mem_nil), Nat.add_zero]
  match a with
  | ⟨0, _⟩ =>
    have hm : (0 : Fin 2) ∈ takeDims.startIndexMap := List.mem_singleton.mpr rfl
    show takeDims.start i idx 0 + takeDims.offCoord i 0 = b.val
    rw [GatherDims.offCoord_eq_zero _ _ _ (fun h => ((GatherDims.mem_sKept _ _).mp h).1 (List.mem_singleton.mpr rfl)), Nat.add_zero]
    unfold GatherDims.start
    rw [dif_pos hm]
    have hsi : takeDims.siIdx i ⟨takeDims.startIndexMap.idxOf 0, List.idxOf_lt_length_iff.2 hm⟩ = k := by
      funext c
      refine Fin.ext ?_
      match c with
      | ⟨0, _⟩ => exact hk0.symm
      | ⟨1, _⟩ => exact hk1.symm
      | ⟨2, _⟩ => show 0 = (k 2).val; omega
    rw [hsi, hb]
    have := b.isLt
    show min ((b.val : Int)).toNat (100000 - 1) = b.val
    omega
  | ⟨1, _⟩ =>
    have hm : (1 : Fin 2) ∉ takeDims.startIndexMap := by decide
    show takeDims.start i idx 1 + takeDims.offCoord i 1 = (i 2).val
    unfold GatherDims.start
    rw [dif_neg hm, Nat.zero_add]
    rfl

theorem select_start (w : BitVec 32) (hw : w.toNat < 100000) :
    Scalar.select (IntOp.cmpi .slt w 0#32) (IntOp.addi w 100000#32) w = w := by
  have : IntOp.cmpi .slt w 0#32 = 0#1 := by
    unfold IntOp.cmpi
    simp only [BitVec.slt_eq_decide, BitVec.toInt_eq_toNat_cond, BitVec.toNat_ofNat]
    rw [decide_eq_false (by simp only [Nat.reducePow, Nat.reduceMod]; omega)]; rfl
  rw [this]; rfl

theorem inside_bit (w : BitVec 32) (hw : w.toNat < 100000) :
    IntOp.andi (IntOp.cmpi .sge w 0#32) (IntOp.cmpi .sle w 99999#32) = 1#1 := by
  have h0 : IntOp.cmpi .sge w 0#32 = 1#1 := by
    unfold IntOp.cmpi
    simp only [BitVec.sle_eq_decide, BitVec.toInt_eq_toNat_cond, BitVec.toNat_ofNat]
    rw [decide_eq_true (by simp only [Nat.reducePow, Nat.reduceMod]; omega)]; rfl
  have h1 : IntOp.cmpi .sle w 99999#32 = 1#1 := by
    unfold IntOp.cmpi
    simp only [BitVec.sle_eq_decide, BitVec.toInt_eq_toNat_cond, BitVec.toNat_ofNat]
    rw [decide_eq_true (by simp only [Nat.reducePow, Nat.reduceMod]; omega)]; rfl
  rw [h0, h1]; rfl

/-- The reference's start index at `k` is the index there. -/
theorem start_eq (x1 : (⟨Cert.ReferenceIdeal.S1024x256, .i32⟩ : BufTy).Contents (Elt F)) (hx : ∀ j, (x1 j).toNat < 100000)
    (k : Cert.ReferenceIdeal.S1024x256x1.Idx) : val_main_call0_v5 (F := F) x1 k = x1 (idx_main_call0_v5 k) := by
  rw [val_main_call0_v5_apply, val_main_call0_v4_apply, val_main_call0_v1_apply, val_main_call0_v3_apply, val_main_call0_v0_apply,
    val_main_call0_v2_apply, val_main_call0_c_apply, val_main_call0_c_0_apply]
  exact select_start _ (hx _)

/-- The reference's result at `i`: the queue's row that the index there names. -/
theorem reference_at (x0 : (⟨S100000x32, .f32⟩ : BufTy).Contents (Elt F)) (x1 : (⟨S1024x256, .i32⟩ : BufTy).Contents (Elt F))
    (hx : ∀ j, (x1 j).toNat < 100000) (i : S1024x256x32.Idx) :
    val_main_v0 (F := F) x0 x1 i = x0 (at2 ⟨(x1 (pairOf i)).toNat, hx _⟩ ⟨(i 2).val, (i 2).isLt⟩) := by
  have hall : ∀ k, val_main_call0_v11 (F := F) x1 k = 1#1 := fun k => by
    rw [val_main_call0_v11_apply, val_main_call0_v7_apply, val_main_call0_v10_apply, start_eq x1 hx, val_main_call0_v6_apply,
      val_main_call0_c_2_apply, val_main_call0_v9_apply, val_main_call0_v8_apply, val_main_call0_c_1_apply]
    exact inside_bit _ (hx _)
  rw [val_main_v0_apply, val_main_call0_v14_apply]
  unfold val_main_call0_v12
  rw [Host.reduce_andi_one _ _ _ _ _ rfl hall]
  show val_main_call0_v13 (F := F) x0 x1 i = _
  unfold val_main_call0_v13
  have ep : pairOf i = idx_main_call0_v5 (fun a => match a with
      | ⟨0, _⟩ => ⟨(i 0).val, (i 0).isLt⟩ | ⟨1, _⟩ => ⟨(i 1).val, (i 1).isLt⟩ | ⟨2, _⟩ => ⟨0, Nat.one_pos⟩) := ext2 rfl rfl
  refine take_row x0 _ i _ (fun a => match a with
      | ⟨0, _⟩ => ⟨(i 0).val, (i 0).isLt⟩ | ⟨1, _⟩ => ⟨(i 1).val, (i 1).isLt⟩ | ⟨2, _⟩ => ⟨0, Nat.one_pos⟩) rfl rfl ?_
  rw [start_eq x1 hx, ← ep, BitVec.toInt_eq_toNat_cond, if_pos (by have := hx (pairOf i); omega)]

end Reference

/-- What the precondition's bits say of a word. -/
theorem below_of_bits (v : BitVec 32) (e : IntOp.andi (IntOp.cmpi .sge v 0#32) (IntOp.cmpi .slt v 100000#32) = 1#1) : v.toNat < 100000 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

theorem below_of_pre (x0 : (⟨S100000x32, .f32⟩ : BufTy).Contents (Elt F)) (x1 : (⟨S1024x256, .i32⟩ : BufTy).Contents (Elt F))
    (h : Cert.Pre_in_queue.fn (F := F) x0 x1 = fun _ => 1#1) (j : S1024x256.Idx) : (x1 j).toNat < 100000 := by
  have e := congrFun h j
  simp only [Pre_in_queue.fn, andi, cmpi, broadcastInDim, constantI] at e
  exact below_of_bits _ e

theorem inQueue_of (m : (ℓ : Loc nD τ sig) → Buf (Elt F) ℓ)
    (h : ∀ c, Cert.Pre_in_queue.fn (F := F) (m (qLoc c)) (m (xLoc c)) = fun _ => 1#1) : InQueue (vI m) :=
  fun d j => below_of_pre _ _ (h d) _

/-- `Cert.quiescent_KernelIdeal` (Defs.lean). -/
theorem frame_ideal : Cert.quiescent_KernelIdeal := fun m ρ hpre =>
  (θ_run Cert.KernelIdeal.defs _ _).mono (fun _ h => ⟨fun c => ⟨(h.1 c).1, (h.1 c).2.1⟩, h.2⟩) (run_main (F := Ideal) m ρ (inQueue_of m hpre))

/-- `Cert.quiescent_Kernel` (Defs.lean). -/
theorem frame_kernel : Cert.quiescent_Kernel := fun m ρ hpre =>
  (θ_run Cert.KernelIdeal.defs _ _).mono (fun _ h => ⟨fun c => ⟨(h.1 c).1, (h.1 c).2.1⟩, h.2⟩) (run_main (F := Bits) m ρ (inQueue_of m hpre))

/-- `Cert.quiescent_ReferenceIdeal` (Defs.lean): the reference declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- `Cert.algebraic_KernelIdeal_ReferenceIdeal` (Defs.lean): both results are the queue's rows that the indices name. -/
theorem algebraic : Cert.algebraic_KernelIdeal_ReferenceIdeal := by
  intro m ρ m' ρ' hpre hagree
  refine ⟨fun c => vR m c, (θ_run Cert.KernelIdeal.defs _ _).mono
    (fun _ h c => ⟨(h.1 c).2.2, (h.1 c).1, (h.1 c).2.1⟩) (run_main (F := Ideal) m ρ (inQueue_of m hpre)), ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v0_eq (F := Ideal) _ _).trans ?_
  rw [(hagree c).1, (hagree c).2]
  have hx := below_of_pre _ _ (hpre c)
  funext i
  exact (reference_at _ _ hx i).trans (kernel_at m c i (hx _)).symm

end Cert.Proof.Gather

end
-- ==== Proof.CompactPre.lean ====
/- The side conditions that the precondition's operations take. -/
module

public import proofs.«01_k».proof.Pre_few_candidates
public import Idealize.ShloMosaic.Lib.Affine
public import Idealize.ShloMosaic.Lib.Decide

@[expose] public section

namespace Cert.Proof.CompactPre

open Idealize.ShloMosaic Cert.Pre_few_candidates

instance facts : Cert.Pre_few_candidates.Facts where
  shapeCasts_S802816x128_S1024x100352 := by decide
  bcast_S1024x1_S1024x100352_0_1 := by decide
  natLt_1_32 := by decide
  reducesTo_S1024x100352_S1024_d1 := by decide
  h_S_ := by decide
  bcast_S_S1024 := by decide
  bcast_S_S1024x784 := by decide
  reducesTo_S1024x784_S1024_d1 := by decide
  shapeCasts_S802816x128_S1024x784x128 := by decide
  bcast_S1024x1_S1024x1x1_0_1 := by decide
  bcast_S1024x1x1_S1024x784x128_0_1_2 := by decide
  bcast_S1024x784_S1024x784x1_0_1 := by decide
  bcast_S1024x784x1_S1024x784x128_0_1_2 := by decide
  bcast_S_S1024x784x128 := by decide
  bcast_S1024_S1024x1x1_0 := by decide

end Cert.Proof.CompactPre
-- ==== Proof.CompactVals.lean ====
/- Stream compaction, sixteen lanes at a time: the kept items of a list go to the next free words of a 384-word buffer, those past the
   end all to the last word. What the prefix sums say of the words' numbers, and what one indexed store adds to the buffer. -/
module

public import proofs.«01_k».proof.Proof.Lanes
public import Idealize.ShloMosaic.Lib.WordExact

@[expose] public section

noncomputable section

namespace Cert.Proof.Compact

open Cert.Proof.Lanes Cert.Proof.Words
open Idealize.ShloMosaic

abbrev Sh16 : Shape := ⟨1, ![16]⟩
abbrev Sh384 : Shape := ⟨1, ![384]⟩

variable {F : FTy → Type} [FloatOps F] {e : EltTy}

/-- The item that word `p` of a buffer holds after the items `H` were stored one by one. -/
def slot (H : List ℕ) (p : ℕ) : ℕ := H.getD (if p < 383 then p else H.length - 1) 0

/-- The buffer `b` after the items `H`, item `h` stored as `f h`. -/
def Kept (H : List ℕ) (f : ℕ → Elt F e) (b : Vec F Sh384 e) : Prop := ∀ p : Fin 384, p.val < H.length → b (at1 p) = f (slot H p)

omit [FloatOps F] in
theorem kept_nil (f : ℕ → Elt F e) (b : Vec F Sh384 e) : Kept [] f b := fun _ h => absurd h (Nat.not_lt_zero _)

omit [FloatOps F] in
theorem kept_put {H : List ℕ} {f : ℕ → Elt F e} {b b' : Vec F Sh384 e} {x : ℕ} (h : Kept H f b)
    (hit : ∀ p : Fin 384, p.val = min H.length 383 → b' (at1 p) = f x) (miss : ∀ p : Fin 384, p.val ≠ min H.length 383 → b' (at1 p) = b (at1 p)) :
    Kept (H ++ [x]) f b' := by
  intro p hp
  rw [List.length_append, List.length_singleton] at hp
  have hp' := p.isLt
  by_cases e : p.val = min H.length 383
  · rw [hit p e]
    unfold slot
    rw [List.length_append, List.length_singleton,
      show (if p.val < 383 then p.val else H.length + 1 - 1) = H.length by split <;> omega, List.getD_eq_getElem?_getD,
      List.getElem?_append_right (Nat.le_refl _), Nat.sub_self]
    rfl
  · rw [miss p e, h p (by omega)]
    unfold slot
    have hlt : p.val < 383 := by omega
    rw [if_pos hlt, if_pos hlt, List.getD_eq_getElem?_getD, List.getD_eq_getElem?_getD, List.getElem?_append_left (by omega)]

theorem slot_lt {H : List ℕ} {p : ℕ} (hp : p < H.length) (h : H.length ≤ 384) : slot H p = H.getD p 0 := by
  unfold slot
  split
  · rfl
  · rw [show H.length - 1 = p by omega]

theorem slot_mem {H : List ℕ} {p : ℕ} (hp : p < H.length) : slot H p ∈ H := by
  have : (if p < 383 then p else H.length - 1) < H.length := by split <;> omega
  unfold slot
  rw [List.getD_eq_getElem?_getD, List.getElem?_eq_getElem this]
  exact List.getElem_mem _

/-! ## Prefix sums of a mask -/

/-- The lanes before `n`. -/
abbrev lanes (n : ℕ) : List (Fin 16) := (List.finRange 16).take n

/-- How many lanes before `n` the mask selects. -/
abbrev cnt (m : IVec Sh16 1) (n : ℕ) : ℕ := ((lanes n).filter fun l => m (at1 l) = 1#1).length

theorem lanes_succ (n : ℕ) (hn : n < 16) : lanes (n + 1) = lanes n ++ [⟨n, hn⟩] := by
  unfold lanes
  rw [List.take_succ_eq_append_getElem (by rw [List.length_finRange]; exact hn), List.getElem_finRange]
  rfl

theorem lanes_all : lanes 16 = List.finRange 16 := List.take_of_length_le (by rw [List.length_finRange])

theorem cnt_succ (m : IVec Sh16 1) (n : ℕ) (hn : n < 16) : cnt m (n + 1) = cnt m n + (if m (at1 ⟨n, hn⟩) = 1#1 then 1 else 0) := by
  unfold cnt
  rw [lanes_succ n hn, List.filter_append, List.length_append]
  congr 1
  by_cases h : m (at1 ⟨n, hn⟩) = 1#1 <;> simp [h]

theorem cnt_le (m : IVec Sh16 1) (n : ℕ) : cnt m n ≤ 16 := by
  refine (List.length_filter_le _ _).trans ?_
  rw [List.length_take, List.length_finRange]; exact Nat.min_le_right _ _

theorem bit_word (c : BitVec 1) : (c.setWidth 32 : BitVec 32) = BitVec.ofNat 32 (if c = 1#1 then 1 else 0) := by revert c; decide

theorem lane_eq (k : Fin 16) : (Shape.ofLane (d := ![16]) k : Sh16.Idx) = at1 k := ext1 rfl

/-- The lanes after the first and up to `n`. -/
abbrev upTo (n : ℕ) : List (Fin 16) := (List.finRange 16).filter fun k => decide (0 < k.val ∧ k.val ≤ n)

theorem upTo_succ : ∀ n : Fin 15, upTo (n.val + 1) = upTo n.val ++ [⟨n.val + 1, Nat.succ_lt_succ n.isLt⟩] := by decide

theorem scan_eq (v : IVec Sh16 32) (n : ℕ) (hn : n < 16) :
    scan .sum v (at1 ⟨n, hn⟩) = (upTo n).foldl (fun r (k : Fin 16) => r + v (at1 k)) (v (at1 0)) := by
  have step : (fun (r : BitVec 32) (k : Fin 16) => r + v (Shape.ofLane (d := ![16]) k)) = fun r k => r + v (at1 k) := by
    funext r k; exact congrArg (fun x => r + v x) (lane_eq k)
  have h0 : v (Shape.ofLane (d := ![16]) (0 : Fin 16)) = v (at1 0) := congrArg v (lane_eq 0)
  exact congrArg₂ (fun s z => List.foldl s z (upTo n)) step h0

theorem scan_succ (v : IVec Sh16 32) (n : ℕ) (hn : n + 1 < 16) :
    scan .sum v (at1 ⟨n + 1, hn⟩) = scan .sum v (at1 ⟨n, by omega⟩) + v (at1 ⟨n + 1, hn⟩) := by
  rw [scan_eq, scan_eq, show upTo (n + 1) = upTo n ++ [⟨n + 1, hn⟩] from upTo_succ ⟨n, by omega⟩, List.foldl_append, List.foldl_cons, List.foldl_nil]

/-- The prefix sum of a mask's bits, at a lane: the selected lanes up to and with it. -/
theorem scan_mask (m : IVec Sh16 1) (h : 1 < 32) (n : ℕ) (hn : n < 16) :
    scan .sum (extui 32 m h) (at1 ⟨n, hn⟩) = BitVec.ofNat 32 (cnt m (n + 1)) := by
  have hx : ∀ l, (extui 32 m h) (at1 l) = BitVec.ofNat 32 (if m (at1 l) = 1#1 then 1 else 0) := fun l => bit_word (m (at1 l))
  induction n with
  | zero =>
    rw [cnt_succ m 0 (by omega), show cnt m 0 = 0 from rfl, Nat.zero_add]
    rw [scan_eq, show upTo 0 = [] from by decide]
    exact hx 0
  | succ n ih =>
    rw [scan_succ _ n hn, ih (by omega), hx, cnt_succ m (n + 1) hn, BitVec.ofNat_add]

/-- The word number of a lane: the items before it, at most 383. -/
def place (base : BitVec 32) (m : IVec Sh16 1) (h : 1 < 32) : IVec Sh16 32 :=
  minsi (subi (addi (broadcast Sh16 base) (scan .sum (extui 32 m h))) (extui 32 m h)) (broadcast Sh16 383#32)

theorem minsi_ofNat (a : ℕ) (ha : a < 2 ^ 31) : (IntOp.minsi (BitVec.ofNat 32 a) 383#32).toNat = min a 383 := by
  unfold IntOp.minsi
  have e : (BitVec.ofNat 32 a).toNat = a := by rw [BitVec.toNat_ofNat]; exact Nat.mod_eq_of_lt (by omega)
  have e' : (BitVec.ofNat 32 a).toInt = a := by rw [BitVec.toInt_eq_toNat_of_lt (by rw [e]; omega), e]
  have e2 : (383#32 : BitVec 32).toInt = 383 := by decide
  split
  · rename_i h
    first
      | rw [BitVec.slt_iff_toInt_lt, e', e2] at h; rw [e]; omega
      | rw [BitVec.sle_iff_toInt_le, e', e2] at h; rw [e]; omega
  · rename_i h
    first
      | rw [BitVec.slt_iff_toInt_lt, e', e2] at h; show 383 = _; omega
      | rw [BitVec.sle_iff_toInt_le, e', e2] at h; show 383 = _; omega

theorem place_toNat (N : ℕ) (hN : N + 16 < 2 ^ 31) (m : IVec Sh16 1) (h : 1 < 32) (n : ℕ) (hn : n < 16) :
    (place (BitVec.ofNat 32 N) m h (at1 ⟨n, hn⟩)).toNat = min (N + cnt m n) 383 := by
  have hw : BitVec.ofNat 32 N + scan .sum (extui 32 m h) (at1 ⟨n, hn⟩) - (extui 32 m h) (at1 ⟨n, hn⟩) = BitVec.ofNat 32 (N + cnt m n) := by
    rw [scan_mask m h n hn, show (extui 32 m h) (at1 ⟨n, hn⟩) = _ from bit_word (m (at1 ⟨n, hn⟩)), cnt_succ m n hn, BitVec.ofNat_add N, BitVec.ofNat_add (cnt m n),
      ← BitVec.add_assoc, BitVec.add_sub_cancel]
  show (IntOp.minsi (BitVec.ofNat 32 N + scan .sum (extui 32 m h) (at1 ⟨n, hn⟩) - (extui 32 m h) (at1 ⟨n, hn⟩)) 383#32).toNat = _
  rw [hw]
  exact minsi_ofNat _ (by have := cnt_le m n; omega)

theorem place_lt (N : ℕ) (hN : N + 16 < 2 ^ 31) (m : IVec Sh16 1) (h : 1 < 32) :
    ∀ a x, ((![place (BitVec.ofNat 32 N) m h] : Fin 1 → IVec Sh16 32) a x).toNat < Sh384.size a := by
  intro a x
  match a with
  | 0 =>
    have e : x = at1 (x 0) := ext1 rfl
    show (place (BitVec.ofNat 32 N) m h x).toNat < 384
    refine Nat.lt_of_le_of_lt (Nat.le_of_eq ((congrArg (fun y => (place (BitVec.ofNat 32 N) m h y).toNat) e).trans (place_toNat N hN m h (x 0).val (x 0).isLt))) ?_
    omega

/-- The items that the sixteen lanes add. -/
def added (m : IVec Sh16 1) (g : Fin 16 → ℕ) : List ℕ := ((List.finRange 16).filter fun l => m (at1 l) = 1#1).map g

theorem added_length (m : IVec Sh16 1) (g : Fin 16 → ℕ) : (added m g).length = cnt m 16 := by
  unfold added cnt; rw [List.length_map, lanes_all]

/-- Lane `k`'s turn at a store of sixteen lanes into the buffer. -/
def put (ix : IVec Sh16 32) (v : Vec F Sh16 e) (m : IVec Sh16 1) (h : ∀ a x, ((![ix] : Fin 1 → IVec Sh16 32) a x).toNat < Sh384.size a)
    (b : Vec F Sh384 e) (k : Fin 16) : Vec F Sh384 e := turn (s := Sh384) (d := ![16]) ![ix] v m h b k

theorem put_all (ix : IVec Sh16 32) (v : Vec F Sh16 e) (m : IVec Sh16 1) (h : ∀ a x, ((![ix] : Fin 1 → IVec Sh16 32) a x).toNat < Sh384.size a)
    (b : Vec F Sh384 e) : storeIdx b ![ix] v m false h = (lanes 16).foldl (put ix v m h) b := by
  rw [lanes_all]
  exact storeIdx_eq (s := Sh384) (d := ![16]) b ![ix] v m h

theorem put_hit (ix : IVec Sh16 32) (v : Vec F Sh16 e) (m : IVec Sh16 1) (h : ∀ a x, ((![ix] : Fin 1 → IVec Sh16 32) a x).toNat < Sh384.size a)
    (b : Vec F Sh384 e) (k : Fin 16) (hm : m (at1 k) = 1#1) (p : Fin 384) (hp : p.val = (ix (at1 k)).toNat) : put ix v m h b k (at1 p) = v (at1 k) := by
  have ep : (at1 p : Sh384.Idx) = idxAt (s := Sh384) (t := Sh16) ![ix] h (Shape.ofLane (d := ![16]) k) :=
    ext1 (hp.trans (congrArg (fun x => (ix x).toNat) (lane_eq k).symm))
  have := turn_hit (s := Sh384) (d := ![16]) ![ix] v m h b k ((congrArg m (lane_eq k)).trans hm)
  exact (congrArg (put ix v m h b k) ep).trans (this.trans (congrArg v (lane_eq k)))

theorem put_off (ix : IVec Sh16 32) (v : Vec F Sh16 e) (m : IVec Sh16 1) (h : ∀ a x, ((![ix] : Fin 1 → IVec Sh16 32) a x).toNat < Sh384.size a)
    (b : Vec F Sh384 e) (k : Fin 16) (p : Fin 384) (hp : m (at1 k) = 1#1 → p.val ≠ (ix (at1 k)).toNat) : put ix v m h b k (at1 p) = b (at1 p) := by
  refine turn_miss (s := Sh384) (d := ![16]) ![ix] v m h b k (at1 p) fun hm e => ?_
  refine hp ((congrArg m (lane_eq k)).symm.trans hm) ?_
  exact (congrArg (fun i : Sh384.Idx => (i 0).val) e).symm.trans (congrArg (fun x => (ix x).toNat) (lane_eq k))

/-- One indexed store of sixteen lanes: the selected lanes' items appended. -/
theorem kept_store {H : List ℕ} {f : ℕ → Elt F e} {b : Vec F Sh384 e} (hN : H.length + 16 < 2 ^ 31) (m : IVec Sh16 1) (g : Fin 16 → ℕ)
    (v : Vec F Sh16 e) (h1 : 1 < 32) (hv : ∀ l, m (at1 l) = 1#1 → v (at1 l) = f (g l))
    (h : ∀ a x, ((![place (BitVec.ofNat 32 H.length) m h1] : Fin 1 → IVec Sh16 32) a x).toNat < Sh384.size a) (hK : Kept H f b) :
    Kept (H ++ added m g) f (storeIdx b ![place (BitVec.ofNat 32 H.length) m h1] v m false h) := by
  rw [put_all]
  have key : ∀ n, n ≤ 16 → Kept (H ++ ((lanes n).filter fun l => m (at1 l) = 1#1).map g) f
      ((lanes n).foldl (put (place (BitVec.ofNat 32 H.length) m h1) v m h) b) := by
    intro n
    induction n with
    | zero => intro _; rw [show lanes 0 = [] from rfl, List.filter_nil, List.map_nil, List.append_nil]; exact hK
    | succ n ih =>
      intro hn
      have ih := ih (by omega)
      rw [lanes_succ n (by omega), List.filter_append, List.map_append, List.foldl_append, List.foldl_cons, List.foldl_nil]
      by_cases hm : m (at1 ⟨n, by omega⟩) = 1#1
      · rw [show ([(⟨n, by omega⟩ : Fin 16)].filter fun l => m (at1 l) = 1#1) = [⟨n, by omega⟩] from by simp [hm], List.map_singleton, ← List.append_assoc]
        have hlen : (H ++ ((lanes n).filter fun l => m (at1 l) = 1#1).map g).length = H.length + cnt m n := by
          rw [List.length_append, List.length_map]
        have hidx := place_toNat H.length hN m h1 n (by omega)
        refine kept_put ih (fun p hp => ?_) (fun p hp => ?_)
        · rw [hlen] at hp
          rw [put_hit _ _ _ _ _ _ hm p (hp.trans hidx.symm)]
          exact hv _ hm
        · rw [hlen] at hp
          exact put_off _ _ _ _ _ _ _ fun _ e => hp (e.trans hidx)
      · rw [show ([(⟨n, by omega⟩ : Fin 16)].filter fun l => m (at1 l) = 1#1) = [] from by simp [hm], List.map_nil, List.append_nil]
        intro p hp
        rw [put_off _ _ _ _ _ _ _ (fun h' => absurd h' hm)]
        exact ih p hp
  have := key 16 (Nat.le_refl _)
  rw [lanes_all] at this ⊢
  exact this

/-- The number of items after a store, as the carried word. -/
theorem count_next (N : ℕ) (m : IVec Sh16 1) (h1 : 1 < 32) (g : Fin 16 → ℕ) :
    BitVec.ofNat 32 N + scan .sum (extui 32 m h1) (at1 ⟨15, by decide⟩) = BitVec.ofNat 32 (N + (added m g).length) := by
  rw [scan_mask m h1 15 (by decide), added_length, BitVec.ofNat_add]

/-- Sixteen items more of a filtered range. -/
theorem filter_range_next (N : ℕ) (p : ℕ → Bool) (m : IVec Sh16 1) (hm : ∀ l : Fin 16, m (at1 l) = 1#1 ↔ p (N + l.val) = true) :
    (List.range (N + 16)).filter p = (List.range N).filter p ++ added m (fun l => N + l.val) := by
  rw [List.range_add, List.filter_append]
  congr 1
  unfold added
  rw [show List.range 16 = (List.finRange 16).map Fin.val from by decide, List.map_map, List.filter_map]
  congr 1
  refine List.filter_congr fun l _ => ?_
  simp [hm l]

end Cert.Proof.Compact

end
-- ==== Proof.CompactRow.lean ====
/- One row of the compaction: the row's chunks with a count, the entries of those chunks above the row's threshold, what the row's two
   results are, and what the vector steps of its loops compute. -/
module

public import proofs.«01_k».proof.Proof.CompactVals
public import proofs.«01_k».proof.Proof.Gen.CompactIdeal
public import proofs.«01_k».proof.Proof.Gen.CompactIdeal.Skeleton

@[expose] public section

noncomputable section

namespace Cert.Proof.Compact

open Cert.CompactIdeal Cert.CompactIdeal.Gen Cert.Proof.Lanes Cert.Proof.Words
open Idealize.ShloMosaic

variable {F : FTy → Type} [FloatOps F]

/-! ## What a row's results are -/

/-- Chunk `c` has a count above zero. -/
def hit (cn : Vec F S784 .i32) (c : ℕ) : Bool := if h : c < 784 then IntOp.cmpi .sgt (cn (at1 ⟨c, h⟩)) 0#32 == 1#1 else false

/-- The chunks with a count, in order. -/
def hits (cn : Vec F S784 .i32) : List ℕ := (List.range 784).filter (hit cn)

/-- How many of them are looked at. -/
def nch (cn : Vec F S784 .i32) : ℕ := min (hits cn).length 384

/-- The chunk at place `p`. -/
def chunkAt (cn : Vec F S784 .i32) (p : ℕ) : ℕ := if p < nch cn then slot (hits cn) p else 0

/-- How many blocks of 64 chunks are looked at. -/
def nblk (cn : Vec F S784 .i32) : ℕ := (nch cn + 63) / 64

variable (X : Vec F S802816x128 .f32) (I : Vec F S784x128 .i32) (cn : Vec F S784 .i32) (th : F .f32) (q : ℕ)

/-- Entry `s` of the row's chunks laid end to end: its value, its column number. -/
def valAt (s : ℕ) : F .f32 := X (at2 (Fin.ofNat 802816 (784 * q + chunkAt cn (s / 128))) (Fin.ofNat 128 s))
def colAt (s : ℕ) : BitVec 32 := I (at2 (Fin.ofNat 784 (chunkAt cn (s / 128))) (Fin.ofNat 128 s))

/-- What it must be above. -/
def thrAt (s : ℕ) : F .f32 := if s / 128 < nch cn then th else Scalar.ofBits .f32 0x7149F2CA#32

/-- It is taken. -/
def accept (s : ℕ) : Bool := FloatOps.cmpf .ogt (valAt X cn q s) (thrAt cn th s) == 1#1

/-- The entries taken of the first `N`. -/
def taken (N : ℕ) : List ℕ := (List.range N).filter (accept X cn th q)

/-- All that are taken. -/
def kept : List ℕ := taken X cn th q (8192 * nblk cn)

/-- The row's values and column numbers. -/
def outVal (p : ℕ) : F .f32 := if p < (kept X cn th q).length then valAt X cn q (slot (kept X cn th q) p) else Scalar.ofBits .f32 0xF149F2CA#32
def outCol (p : ℕ) : BitVec 32 := if p < (kept X cn th q).length then colAt I cn (slot (kept X cn th q) p) else 0#32

/-! ## Bounds -/

omit [FloatOps F] in
theorem hits_le : (hits cn).length ≤ 784 := (List.length_filter_le _ _).trans (by rw [List.length_range])

omit [FloatOps F] in
theorem nch_le : nch cn ≤ 384 := Nat.min_le_right _ _

omit [FloatOps F] in
theorem nblk_le : nblk cn ≤ 6 := by have := nch_le cn; unfold nblk; omega

omit [FloatOps F] in
theorem chunkAt_lt (p : ℕ) : chunkAt cn p < 784 := by
  unfold chunkAt
  split
  · rename_i h
    have := slot_mem (H := hits cn) (p := p) (Nat.lt_of_lt_of_le h (Nat.min_le_left _ _))
    exact List.mem_range.mp (List.mem_filter.mp this).1
  · decide

theorem taken_le (N : ℕ) : (taken X cn th q N).length ≤ N := (List.length_filter_le _ _).trans (by rw [List.length_range])

/-! ## The loops' trip counts -/

theorem t1_trips : k0_t1_loop.trips = 32 := by decide +kernel
theorem t2_trips : k0_t2_loop.trips = 49 := by decide +kernel
theorem t3_trips : k0_t3_loop.trips = 24 := by decide +kernel
theorem t5_trips : k0_t5_loop.trips = 4 := by decide +kernel
theorem t6_trips : k0_t6_loop.trips = 4 := by decide +kernel
theorem t7_trips : k0_t7_loop.trips = 64 := by decide +kernel
theorem t8_trips : k0_t8_loop.trips = 8 := by decide +kernel
theorem t14_trips : k0_t14_loop.trips = 24 := by decide +kernel

theorem t4_trips_all : ∀ n : Fin 785, (k0_t4_loop (BitVec.ofNat 32 n.val)).trips = (min n.val 384 + 63) / 64 := by decide +kernel
theorem t9_trips_all : ∀ n : Fin 785, (k0_t9_loop (BitVec.ofNat 32 n.val)).trips = 0 := by decide +kernel
theorem t4_ok_all : ∀ n : Fin 785, (k0_t4_loop (BitVec.ofNat 32 n.val)).OK := by decide +kernel
theorem t9_ok_all : ∀ n : Fin 785, (k0_t9_loop (BitVec.ofNat 32 n.val)).OK := by decide +kernel

/-- The number of chunks with a count, as the loops' bounds are computed from it. -/
abbrev hw : BitVec 32 := BitVec.ofNat 32 (hits cn).length

omit [FloatOps F] in
theorem t4_trips : (k0_t4_loop (hw cn)).trips = nblk cn := t4_trips_all ⟨_, Nat.lt_succ_of_le (hits_le cn)⟩
omit [FloatOps F] in
theorem t9_trips : (k0_t9_loop (hw cn)).trips = 0 := t9_trips_all ⟨_, Nat.lt_succ_of_le (hits_le cn)⟩

omit [FloatOps F] in
theorem t4_lt (k : Fin (k0_t4_loop (hw cn)).trips) : k.val < 6 := Nat.lt_of_lt_of_le k.isLt ((t4_trips cn).trans_le (nblk_le cn))

theorem iv_toNat {n : ℕ} (k : Fin n) (hk : n < 2 ^ 31) : (Scf.iv (0#32 : BitVec 32) 1#32 k).toNat = k.val := by
  have := k.isLt
  show (0#32 + BitVec.ofNat 32 k.val * 1#32).toNat = k.val
  simp only [BitVec.toNat_add, BitVec.toNat_mul, BitVec.toNat_ofNat]
  omega

theorem off5_val (v : BitVec 32) (k : Fin (k0_t4_loop v).trips) (hk : k.val < 6) (l : Fin k0_t5_loop.trips) : k0_off5 v k l 0 = 64 * k.val + 16 * l.val := by
  have hl : l.val < 4 := Nat.lt_of_lt_of_eq l.isLt t5_trips
  show ((0#32 + BitVec.ofNat 32 k.val * 1#32) * 64#32 + (0#32 + BitVec.ofNat 32 l.val * 1#32) * 16#32).toNat = _
  simp only [BitVec.toNat_add, BitVec.toNat_mul, BitVec.toNat_ofNat]
  omega

omit [FloatOps F] in
theorem chk3 : k0_chk3 (hw cn) := by
  refine ⟨t4_ok_all ⟨_, Nat.lt_succ_of_le (hits_le cn)⟩, fun k l a => ?_, t9_ok_all ⟨_, Nat.lt_succ_of_le (hits_le cn)⟩, fun k => ?_⟩
  · have hl : l.val < 4 := Nat.lt_of_lt_of_eq l.isLt t5_trips
    match a with
    | 0 =>
      have := off5_val (hw cn) k (t4_lt cn k) l
      have := t4_lt cn k
      show k0_off5 (hw cn) k l 0 + 16 ≤ 384
      omega
  · exact absurd (Nat.lt_of_lt_of_eq k.isLt (t9_trips cn)) (Nat.not_lt_zero _)

/-! ## The row's number and threshold -/

/-- The row that trip `k` of the tile at `L` computes. -/
def rowNo (L : grid0.Coords) (k : ℕ) : ℕ := 64 * (L 1).val + 32 * (L 0).val + k

theorem rowNo_lt (L : grid0.Coords) (k : Fin k0_t1_loop.trips) : rowNo L k.val < 1024 := by
  have h0 : (L 0).val < 2 := (L 0).isLt
  have h1 : (L 1).val < 16 := (L 1).isLt
  have : k.val < 32 := Nat.lt_of_lt_of_eq k.isLt t1_trips
  unfold rowNo; omega

end Cert.Proof.Compact

end
-- ==== Proof.CompactSort.lean ====
/- Lists of numbers in increasing order: the kept places of a row after a sort of its keys, and the entries that a row's compaction takes
   against the row's own entries above the threshold. -/
module

public import proofs.«01_k».proof.Proof.CompactRow
public import Idealize.ShloMosaic.Lib.SortFacts

@[expose] public section

noncomputable section

namespace Cert.Proof.Compact

open Cert.CompactIdeal Cert.CompactIdeal.Gen Cert.Proof.Lanes Cert.Proof.Words
open Idealize.ShloMosaic

theorem range_increasing (n : ℕ) (keep : ℕ → Bool) : ((List.range n).filter keep).Pairwise (· < ·) :=
  List.Pairwise.filter _ List.pairwise_lt_range

/-- Two increasing lists with the same members are the same list. -/
theorem increasing_eq {A B : List ℕ} (ha : A.Pairwise (· < ·)) (hb : B.Pairwise (· < ·)) (h : ∀ x, x ∈ A ↔ x ∈ B) : A = B := by
  refine List.Perm.eq_of_pairwise (le := (· < ·)) (fun a b _ _ h1 h2 => absurd h1 (Nat.lt_asymm h2)) ha hb ?_
  exact (List.perm_ext_iff_of_nodup (ha.imp Nat.ne_of_lt) (hb.imp Nat.ne_of_lt)).2 h

theorem slt_ofNat (a b : ℕ) (ha : a < 2 ^ 31) (hb : b < 2 ^ 31) : (IntOp.cmpi .slt (BitVec.ofNat 32 a) (BitVec.ofNat 32 b) == 1#1) = decide (a < b) := by
  have e (c : ℕ) (hc : c < 2 ^ 31) : (BitVec.ofNat 32 c).toInt = c := by
    have : (BitVec.ofNat 32 c).toNat = c := by rw [BitVec.toNat_ofNat]; exact Nat.mod_eq_of_lt (by omega)
    rw [BitVec.toInt_eq_toNat_of_lt (by rw [this]; omega), this]
  unfold IntOp.cmpi
  simp only [BitVec.slt_eq_decide, e a ha, e b hb, Nat.cast_lt]
  cases decide (a < b) <;> decide

/-- The key of place `k` of a row of length `n`: the place where it is kept, the length elsewhere. -/
def keyAt (n : ℕ) (keep : ℕ → Bool) (k : ℕ) : ℕ := if keep k then k else n

/-- The keys in order: the kept places, then the length as often as a place is not kept. -/
def keysInOrder (n : ℕ) (keep : ℕ → Bool) : List ℕ :=
  (List.range n).filter keep ++ List.replicate ((List.range n).filter fun k => !keep k).length n

theorem keysInOrder_perm (n : ℕ) (keep : ℕ → Bool) : (keysInOrder n keep).Perm ((List.range n).map (keyAt n keep)) := by
  have h := (List.filter_append_perm keep (List.range n)).map (keyAt n keep)
  rw [List.map_append] at h
  refine (List.Perm.of_eq ?_).trans h
  unfold keysInOrder
  congr 1
  · refine ((List.map_congr_left fun k hk => ?_).trans (List.map_id _)).symm
    have := (List.mem_filter.mp hk).2
    unfold keyAt; rw [if_pos this]; rfl
  · refine (List.eq_replicate_of_mem fun b hb => ?_).trans (by rw [List.length_map]) |>.symm
    obtain ⟨k, hk, rfl⟩ := List.mem_map.mp hb
    have := (List.mem_filter.mp hk).2
    unfold keyAt; rw [if_neg (by simpa using this)]

theorem keysInOrder_sorted (n : ℕ) (keep : ℕ → Bool) : (keysInOrder n keep).Pairwise (· ≤ ·) := by
  unfold keysInOrder
  rw [List.pairwise_append]
  refine ⟨(range_increasing n keep).imp Nat.le_of_lt, List.pairwise_replicate.2 (Or.inr (Nat.le_refl n)), fun a ha b hb => ?_⟩
  rw [List.eq_of_mem_replicate hb]
  exact Nat.le_of_lt (List.mem_range.mp (List.mem_filter.mp ha).1)

theorem keysInOrder_length (n : ℕ) (keep : ℕ → Bool) : (keysInOrder n keep).length = n := by
  rw [(keysInOrder_perm n keep).length_eq, List.length_map, List.length_range]

theorem keysInOrder_getD (n : ℕ) (keep : ℕ → Bool) (p : ℕ) : (keysInOrder n keep).getD p n = ((List.range n).filter keep).getD p n := by
  unfold keysInOrder
  simp only [List.getD_eq_getElem?_getD, List.getElem?_append]
  split
  · rfl
  · rename_i h
    rw [List.getElem?_eq_none (Nat.le_of_not_lt h), List.getElem?_replicate]
    split <;> rfl

/-- A row of keys sorted: place `p` holds the `p`-th kept place, or the row's length past the last of them. -/
theorem sorted_row {n : ℕ} (hn : n < 2 ^ 31) (keep : ℕ → Bool) (f : Fin n → BitVec 32)
    (hf : ∀ k, f k = BitVec.ofNat 32 (keyAt n keep k.val)) (p : Fin n) :
    f (sortedFrom (fun a b => IntOp.cmpi .slt (f a) (f b) == 1#1) p) = BitVec.ofNat 32 (((List.range n).filter keep).getD p.val n) := by
  have hk (k : Fin n) : keyAt n keep k.val < 2 ^ 31 := by unfold keyAt; split <;> omega
  have hR : (fun a b => IntOp.cmpi .slt (f a) (f b) == 1#1) = fun a b : Fin n => decide (keyAt n keep a.val < keyAt n keep b.val) := by
    funext a b; rw [hf, hf]; exact slt_ofNat _ _ (hk a) (hk b)
  rw [hR, hf]
  set R := fun a b : Fin n => decide (keyAt n keep a.val < keyAt n keep b.val) with hRdef
  have hord : (List.ofFn fun i => keyAt n keep (sortedFrom R i).val).Pairwise (· ≤ ·) := by
    rw [List.pairwise_ofFn]
    intro i j hij
    have := sortedFrom_noInversion R R (fun a b h => by simp only [hRdef, decide_eq_true_eq, decide_eq_false_iff_not] at h ⊢; omega)
      (fun a b h => h) (fun a b c h1 h2 => by simp only [hRdef, decide_eq_false_iff_not] at h1 h2 ⊢; omega) i j hij
    simp only [hRdef, decide_eq_false_iff_not] at this
    exact Nat.le_of_not_lt this
  have hperm : (List.ofFn fun i => keyAt n keep (sortedFrom R i).val).Perm (keysInOrder n keep) := by
    refine List.Perm.trans ?_ (keysInOrder_perm n keep).symm
    have e1 : (List.ofFn fun i => keyAt n keep (sortedFrom R i).val) = ((List.finRange n).map (sortedFrom R)).map fun k => keyAt n keep k.val := by
      rw [List.map_map, List.ofFn_eq_map]; rfl
    have e2 : (List.range n).map (keyAt n keep) = (List.finRange n).map fun k => keyAt n keep k.val := by
      rw [← List.map_coe_finRange_eq_range, List.map_map]; rfl
    rw [e1, e2]
    refine List.Perm.map _ ?_
    refine (List.perm_ext_iff_of_nodup ((List.nodup_finRange n).map (sortedFrom_injective R)) (List.nodup_finRange n)).2 fun a => ?_
    refine ⟨fun _ => List.mem_finRange a, fun _ => ?_⟩
    obtain ⟨i, hi⟩ := sortedFrom_surjective R a
    exact List.mem_map.2 ⟨i, List.mem_finRange i, hi⟩
  have e := List.Perm.eq_of_pairwise (le := (· ≤ ·)) (fun a b _ _ h1 h2 => Nat.le_antisymm h1 h2) hord (keysInOrder_sorted n keep) hperm
  refine congrArg _ ?_
  rw [← keysInOrder_getD, ← e, List.getD_eq_getElem?_getD, List.getElem?_ofFn, dif_pos p.isLt]
  rfl

/-! ## The entries a row's compaction takes -/

variable {F : FTy → Type} [FloatOps F]
variable (X : Vec F S802816x128 .f32) (cn : Vec F S784 .i32) (th : F .f32) (q : ℕ)

/-- Entry `j` of row `q`. -/
def entry (j : ℕ) : F .f32 := X (at2 (Fin.ofNat 802816 (784 * q + j / 128)) (Fin.ofNat 128 j))

/-- It is above the row's threshold. -/
def above (j : ℕ) : Bool := FloatOps.cmpf .ogt (entry X q j) th == 1#1

/-- The places of the row's entries above the threshold, in order. -/
def places : List ℕ := (List.range 100352).filter (above X th q)

/-- The place in the row of entry `s` of the row's chunks laid end to end. -/
def placeOf (s : ℕ) : ℕ := chunkAt cn (s / 128) * 128 + s % 128

theorem entry_placeOf (s : ℕ) : entry X q (placeOf cn s) = valAt X cn q s := by
  unfold entry valAt
  refine congrArg X ?_
  have h1 : placeOf cn s / 128 = chunkAt cn (s / 128) := by unfold placeOf; omega
  have h2 : placeOf cn s % 128 = s % 128 := by unfold placeOf; omega
  rw [h1]
  refine ext2 rfl ?_
  show placeOf cn s % 128 = s % 128
  exact h2

/-- What a row must be for its compaction to miss nothing: at most 384 chunks have a count, at most 384 entries are above the threshold,
    each of them lies in a chunk with a count, and no entry is above the value that stands for an absent threshold. -/
structure Few : Prop where
  chunks : (hits cn).length ≤ 384
  entries : (places X th q).length ≤ 384
  counted : ∀ j < 100352, above X th q j = true → hit cn (j / 128) = true
  capped : ∀ j < 100352, (FloatOps.cmpf .ogt (entry X q j) (Scalar.ofBits .f32 0x7149F2CA#32) == 1#1) = false

section
variable {X cn th q}

theorem nch_eq (h : Few X cn th q) : nch cn = (hits cn).length := Nat.min_eq_left h.chunks

theorem chunkAt_eq (h : Few X cn th q) {p : ℕ} (hp : p < (hits cn).length) : chunkAt cn p = (hits cn)[p] := by
  unfold chunkAt
  rw [nch_eq h, if_pos hp, slot_lt hp h.chunks, List.getD_eq_getElem?_getD, List.getElem?_eq_getElem hp]
  rfl

theorem placeOf_lt (s : ℕ) : placeOf cn s < 100352 := by
  have := chunkAt_lt cn (s / 128)
  unfold placeOf; omega

/-- Only entries of chunks with a count are taken. -/
theorem lt_of_accept (h : Few X cn th q) {s : ℕ} (ha : accept X cn th q s = true) : s / 128 < (hits cn).length := by
  by_contra hn
  unfold accept thrAt at ha
  rw [if_neg (by rw [nch_eq h]; exact hn), ← entry_placeOf, h.capped _ (placeOf_lt s)] at ha
  exact Bool.noConfusion ha

theorem accept_eq (h : Few X cn th q) {s : ℕ} (hs : s / 128 < (hits cn).length) : accept X cn th q s = above X th q (placeOf cn s) := by
  unfold accept above thrAt
  rw [if_pos (by rw [nch_eq h]; exact hs), ← entry_placeOf]

theorem placeOf_lt_of_lt (h : Few X cn th q) {a b : ℕ} (hab : a < b) (hb : b / 128 < (hits cn).length) : placeOf cn a < placeOf cn b := by
  have ha : a / 128 < (hits cn).length := by omega
  unfold placeOf
  rw [chunkAt_eq h ha, chunkAt_eq h hb]
  rcases Nat.lt_or_ge (a / 128) (b / 128) with hd | hd
  · have := List.pairwise_iff_getElem.mp (range_increasing 784 (hit cn)) (a / 128) (b / 128) ha hb hd
    have h' : (hits cn)[a / 128] < (hits cn)[b / 128] := this
    omega
  · have e : a / 128 = b / 128 := by omega
    simp only [e]
    omega

/-- The entries taken, at their places in the row, are the row's entries above the threshold. -/
theorem kept_places (h : Few X cn th q) : (kept X cn th q).map (placeOf cn) = places X th q := by
  refine increasing_eq ?_ (range_increasing _ _) fun j => ?_
  · rw [List.pairwise_map]
    refine List.Pairwise.imp_of_mem (fun {a b} _ hb hab => ?_) (range_increasing _ _)
    exact placeOf_lt_of_lt h hab (lt_of_accept h (List.mem_filter.mp hb).2)
  · rw [List.mem_map]
    unfold places
    rw [List.mem_filter, List.mem_range]
    constructor
    · rintro ⟨s, hs, rfl⟩
      have ha := (List.mem_filter.mp hs).2
      exact ⟨placeOf_lt s, (accept_eq h (lt_of_accept h ha)).symm.trans ha⟩
    · rintro ⟨hj, ha⟩
      have hm : j / 128 ∈ hits cn := List.mem_filter.mpr ⟨List.mem_range.mpr (by omega), h.counted j hj ha⟩
      obtain ⟨p, hp, e⟩ := List.getElem_of_mem hm
      have hd : (p * 128 + j % 128) / 128 = p := by omega
      have hm' : (p * 128 + j % 128) % 128 = j % 128 := by omega
      have hpl : placeOf cn (p * 128 + j % 128) = j := by
        unfold placeOf
        rw [hd, hm', chunkAt_eq h hp, e]
        omega
      refine ⟨p * 128 + j % 128, List.mem_filter.mpr ⟨List.mem_range.mpr ?_, ?_⟩, hpl⟩
      · unfold nblk; rw [nch_eq h]; omega
      · rw [accept_eq h (by rw [hd]; exact hp), hpl]; exact ha

theorem kept_length (h : Few X cn th q) : (kept X cn th q).length = (places X th q).length := by
  rw [← kept_places h, List.length_map]

theorem placeOf_slot (h : Few X cn th q) {p : ℕ} (hp : p < (kept X cn th q).length) : placeOf cn (slot (kept X cn th q) p) = (places X th q).getD p 100352 := by
  rw [slot_lt hp (by rw [kept_length h]; exact h.entries), ← kept_places h, List.getD_eq_getElem?_getD, List.getD_eq_getElem?_getD,
    List.getElem?_map, List.getElem?_eq_getElem hp]
  rfl

/-- The row's values: those of the entries above the threshold, in order, then the value of an absent one. -/
theorem outVal_eq (h : Few X cn th q) (p : ℕ) : outVal X cn th q p
    = if p < (places X th q).length then entry X q ((places X th q).getD p 100352) else Scalar.ofBits .f32 0xF149F2CA#32 := by
  unfold outVal
  rw [kept_length h]
  split
  · rename_i hp
    rw [← placeOf_slot h (by rw [kept_length h]; exact hp), entry_placeOf]
  · rfl

/-- The row's column numbers: the places of those entries, then zero. -/
theorem outCol_eq (h : Few X cn th q) (I : Vec F S784x128 .i32) (hI : ∀ c l, I (at2 c l) = BitVec.ofNat 32 (128 * c.val + l.val)) (p : ℕ) :
    outCol X I cn th q p = if p < (places X th q).length then BitVec.ofNat 32 ((places X th q).getD p 100352) else 0#32 := by
  unfold outCol
  rw [kept_length h]
  split
  · rename_i hp
    rw [← placeOf_slot h (by rw [kept_length h]; exact hp)]
    unfold colAt
    refine (hI _ _).trans (congrArg _ ?_)
    have := chunkAt_lt cn (slot (kept X cn th q) p / 128)
    show 128 * (chunkAt cn _ % 784) + _ % 128 = placeOf cn _
    unfold placeOf; omega
  · rfl

end

end Cert.Proof.Compact

end
-- ==== Proof.CompactVec.lean ====
/- What the vector steps of the compaction's loops compute on the words they read. -/
module

public import proofs.«01_k».proof.Proof.CompactRow

@[expose] public section

noncomputable section

namespace Cert.Proof.Compact

open Cert.CompactIdeal Cert.CompactIdeal.Gen Cert.Proof.Lanes Cert.Proof.Words
open Idealize.ShloMosaic

variable {F : FTy → Type} [FloatOps F]

/-! ## Words of natural numbers -/

theorem slt_word {a b : ℕ} (ha : a < 2 ^ 31) (hb : b < 2 ^ 31) : IntOp.cmpi .slt (BitVec.ofNat 32 a) (BitVec.ofNat 32 b) = BitVec.ofBool (decide (a < b)) := by
  have e : (BitVec.ofNat 32 a).toNat = a := by rw [BitVec.toNat_ofNat]; exact Nat.mod_eq_of_lt (by omega)
  have e' : (BitVec.ofNat 32 b).toNat = b := by rw [BitVec.toNat_ofNat]; exact Nat.mod_eq_of_lt (by omega)
  have i1 : (BitVec.ofNat 32 a).toInt = a := by rw [BitVec.toInt_eq_toNat_of_lt (by rw [e]; omega), e]
  have i2 : (BitVec.ofNat 32 b).toInt = b := by rw [BitVec.toInt_eq_toNat_of_lt (by rw [e']; omega), e']
  show BitVec.ofBool ((BitVec.ofNat 32 a).slt (BitVec.ofNat 32 b)) = _
  rw [BitVec.slt_eq_decide, i1, i2]
  congr 1
  exact decide_eq_decide.mpr (by omega)

theorem ofBool_one (p : Prop) [Decidable p] : (BitVec.ofBool (decide p) = 1#1) ↔ p := by
  by_cases h : p <;> simp [h]

theorem select_word {α : Type} (p : Prop) [Decidable p] (a b : α) : Scalar.select (BitVec.ofBool (decide p)) a b = if p then a else b := by
  unfold Scalar.select
  by_cases h : p <;> simp [h]

theorem lane_word (k l : ℕ) : ((0#32 + BitVec.ofNat 32 k * 1#32) * 16#32) + BitVec.ofNat 32 (0 * 16 + l) = BitVec.ofNat 32 (16 * k + l) := by
  apply BitVec.eq_of_toNat_eq
  simp only [BitVec.toNat_add, BitVec.toNat_mul, BitVec.toNat_ofNat]
  omega

theorem least_word : ∀ n : Fin 785, Scalar.minsi (BitVec.ofNat 32 n.val) 384#32 = BitVec.ofNat 32 (min n.val 384) := by decide +kernel

omit [FloatOps F] in
theorem least_hw (cn : Vec F S784 .i32) : Scalar.minsi (hw cn) 384#32 = BitVec.ofNat 32 (nch cn) := least_word ⟨_, Nat.lt_succ_of_le (hits_le cn)⟩

/-- The row's word: tile and trip. -/
theorem row_word (L : grid0.Coords) (k : Fin k0_t1_loop.trips) :
    Scalar.addi (Scalar.muli (Scalar.addi (Scalar.muli (BitVec.ofNat 32 (L 1).val) 2#32) (BitVec.ofNat 32 (L 0).val)) 32#32) (Scf.iv 0#32 1#32 k)
      = BitVec.ofNat 32 (rowNo L k.val) := by
  apply BitVec.eq_of_toNat_eq
  show (((BitVec.ofNat 32 (L 1).val * 2#32 + BitVec.ofNat 32 (L 0).val) * 32#32) + (0#32 + BitVec.ofNat 32 k.val * 1#32)).toNat = _
  unfold rowNo
  simp only [BitVec.toNat_add, BitVec.toNat_mul, BitVec.toNat_ofNat]
  omega

/-- A row's number modulo sixteen, as the kernel computes it. -/
def rem16 (v : BitVec 32) : BitVec 32 :=
  let v18 : BitVec 32 := Scalar.select (Scalar.cmpi .eq 16#32 0#32) 1#32 16#32
  let v19 : BitVec 32 := Scalar.remsi v v18
  Scalar.select (Scalar.andi (Scalar.xori (Scalar.cmpi .slt v19 0#32) (Scalar.cmpi .slt v18 0#32)) (Scalar.cmpi .ne v19 0#32)) (Scalar.addi v19 v18) v19

theorem rem16_all : ∀ n : Fin 1024, (rem16 (BitVec.ofNat 32 n.val)).toNat = n.val % 16 := by decide +kernel
theorem floor16_all : ∀ n : Fin 1024, (Scalar.subi (BitVec.ofNat 32 n.val) (rem16 (BitVec.ofNat 32 n.val))).toNat = n.val / 16 * 16 := by decide +kernel

theorem off2_val (L : grid0.Coords) (k : Fin k0_t1_loop.trips) : k0_off2 L k 0 = rowNo L k.val / 16 * 16 := by
  refine Eq.trans ?_ (floor16_all ⟨rowNo L k.val, rowNo_lt L k⟩)
  exact congrArg (fun w => (Scalar.subi w (rem16 w)).toNat) (row_word L k)

/-! ## The payloads -/

omit [FloatOps F] in
theorem hit_iff (cn : Vec F S784 .i32) (k : Fin k0_t2_loop.trips) (v : Vec F S16 .i32)
    (hv : ∀ (l : Fin 16) (j : Fin 784), j.val = 16 * k.val + l.val → v (at1 l) = cn (at1 j)) (l : Fin 16) :
    k0_pay4 v (at1 l) = 1#1 ↔ hit cn (16 * k.val + l.val) = true := by
  have hk : k.val < 49 := Nat.lt_of_lt_of_eq k.isLt t2_trips
  have hl := l.isLt
  have h : 16 * k.val + l.val < 784 := by omega
  unfold hit
  rw [dif_pos h, beq_iff_eq, ← hv l ⟨_, h⟩ rfl]
  exact Iff.rfl

theorem pay5_at (k : Fin k0_t2_loop.trips) (l : Fin 16) : k0_pay5 k (at1 l) = BitVec.ofNat 32 (16 * k.val + l.val) := lane_word k.val l.val

omit [FloatOps F] in
theorem pay8_at (cn : Vec F S784 .i32) (k : Fin k0_t3_loop.trips) (v : Vec F S16 .i32) (l : Fin 16) :
    k0_pay8 (hw cn) k v (at1 l) = if 16 * k.val + l.val < nch cn then v (at1 l) else 0#32 := by
  have hk : k.val < 24 := Nat.lt_of_lt_of_eq k.isLt t3_trips
  have := nch_le cn
  show Scalar.select (IntOp.cmpi .slt (((0#32 + BitVec.ofNat 32 k.val * 1#32) * 16#32) + BitVec.ofNat 32 (0 * 16 + l.val)) (Scalar.minsi (hw cn) 384#32)) _ _ = _
  rw [lane_word, least_hw, slt_word (by omega) (by omega), select_word]
  rfl

omit [FloatOps F] in
theorem pay9_at (q : ℕ) (v : Vec F S16 .i32) (x : S16.Idx) : k0_pay9 (BitVec.ofNat 32 q) v x = v x + BitVec.ofNat 32 (q * 784) := by
  rw [BitVec.ofNat_mul]; rfl

omit [FloatOps F] in
theorem pay10_at (q : ℕ) (v : Vec F S16 .i32) (x : S16.Idx) : k0_pay10 (BitVec.ofNat 32 q) v x = v x - BitVec.ofNat 32 (q * 784) := by
  rw [BitVec.ofNat_mul]; rfl

theorem cast16 {e : EltTy} (v : Vec F S1x16 e) (l : Fin 16) : shapeCast S16 v shapeCasts_S1x16_S16 (at1 l) = v (at2 0 l) := by
  refine congrArg v ?_
  exact (Shape.reshapeEquiv_eq_of_rowMajor _ (by
    rw [Shape.rowMajor_val_two (d := ![1, 16]), Shape.rowMajor_val_one (d := ![16])]
    show 0 * 16 + l.val = l.val
    omega))

theorem pay13_at (cn : Vec F S784 .i32) (th : F .f32) (k : Fin (k0_t4_loop (hw cn)).trips) (r : Fin k0_t7_loop.trips) (v28 : Vec F S16 .f32)
    (h28 : ∀ x, v28 x = th) (v : Vec F S1x16 .f32) (l : Fin 16) :
    k0_pay13 v28 (hw cn) k r v (at1 l)
      = FloatOps.cmpf .ogt (v (at2 0 l)) (if 64 * k.val + r.val < nch cn then th else Scalar.ofBits .f32 0x7149F2CA#32) := by
  have hk := t4_lt cn k
  have hr : r.val < 64 := Nat.lt_of_lt_of_eq r.isLt t7_trips
  have hn := nch_le cn
  have e : ((0#32 + BitVec.ofNat 32 k.val * 1#32) * 64#32) + (0#32 + BitVec.ofNat 32 r.val * 1#32) = BitVec.ofNat 32 (64 * k.val + r.val) := by
    apply BitVec.eq_of_toNat_eq
    simp only [BitVec.toNat_add, BitVec.toNat_mul, BitVec.toNat_ofNat]
    omega
  show FloatOps.cmpf .ogt (k0_pay11 v (at1 l)) ((Scalar.select (IntOp.cmpi .slt (((0#32 + BitVec.ofNat 32 k.val * 1#32) * 64#32) + (0#32 + BitVec.ofNat 32 r.val * 1#32)) (Scalar.minsi (hw cn) 384#32))
    v28 (broadcast S16 (Scalar.ofBits .f32 0x7149F2CA#32)) : Vec F S16 .f32) (at1 l)) = _
  rw [e, least_hw, slt_word (by omega) (by omega), select_word, show k0_pay11 v (at1 l) = v (at2 0 l) from cast16 v l]
  split
  · rw [h28]
  · rfl

theorem pay2_at (n : ℕ) (hn : n < 2 ^ 31) (k : Fin k0_t14_loop.trips) (v : Vec F S16 .f32) (l : Fin 16) :
    k0_pay2 (BitVec.ofNat 32 n) 0#32 k v (at1 l) = if 16 * k.val + l.val < n then v (at1 l) else Scalar.ofBits .f32 0xF149F2CA#32 := by
  have hk : k.val < 24 := Nat.lt_of_lt_of_eq k.isLt t14_trips
  show Scalar.select (IntOp.cmpi .slt (((0#32 + BitVec.ofNat 32 k.val * 1#32) * 16#32) + BitVec.ofNat 32 (0 * 16 + l.val)) (BitVec.ofNat 32 n)) _ _ = _
  rw [lane_word, slt_word (by omega) hn, select_word]
  rfl

omit [FloatOps F] in
theorem pay3_at (n : ℕ) (hn : n < 2 ^ 31) (k : Fin k0_t14_loop.trips) (v : Vec F S16 .i32) (l : Fin 16) :
    k0_pay3 (BitVec.ofNat 32 n) 0#32 k v (at1 l) = if 16 * k.val + l.val < n then v (at1 l) else 0#32 := by
  have hk : k.val < 24 := Nat.lt_of_lt_of_eq k.isLt t14_trips
  show Scalar.select (IntOp.cmpi .slt (((0#32 + BitVec.ofNat 32 k.val * 1#32) * 16#32) + BitVec.ofNat 32 (0 * 16 + l.val)) (BitVec.ofNat 32 n)) _ _ = _
  rw [lane_word, slt_word (by omega) hn, select_word]
  rfl

/-! ## The blocks gathered -/

variable (X : Vec F S802816x128 .f32) (I : Vec F S784x128 .i32) (cn : Vec F S784 .i32) (th : F .f32) (q : ℕ)

/-- Block `b`'s chunks, their values and their column numbers. -/
def simBlk (b : ℕ) : Vec F S64x128 .f32 := fun j => X (at2 (Fin.ofNat 802816 (784 * q + chunkAt cn (64 * b + (j 0).val))) (j 1))
def colBlk (b : ℕ) : Vec F S64x128 .i32 := fun j => I (at2 (Fin.ofNat 784 (chunkAt cn (64 * b + (j 0).val))) (j 1))

omit [FloatOps F] in
theorem simBlk_at {b r v s : ℕ} {l : Fin 16} {i : Fin 64} {j : Fin 128} (hi : i.val = r) (hj : j.val = 16 * v + l.val)
    (hs : s = 8192 * b + 128 * r + 16 * v + l.val) : simBlk X cn q b (at2 i j) = valAt X cn q s := by
  have := j.isLt
  have h1 : s / 128 = 64 * b + i.val := by omega
  have h2 : s % 128 = j.val := by omega
  unfold simBlk valAt
  refine congrArg X (ext2 ?_ ?_)
  · rw [h1]; rfl
  · exact h2.symm

omit [FloatOps F] in
theorem colBlk_at {b r v s : ℕ} {l : Fin 16} {i : Fin 64} {j : Fin 128} (hi : i.val = r) (hj : j.val = 16 * v + l.val)
    (hs : s = 8192 * b + 128 * r + 16 * v + l.val) : colBlk I cn b (at2 i j) = colAt I cn s := by
  have := j.isLt
  have h1 : s / 128 = 64 * b + i.val := by omega
  have h2 : s % 128 = j.val := by omega
  unfold colBlk colAt
  refine congrArg I (ext2 ?_ ?_)
  · rw [h1]; rfl
  · exact h2.symm

theorem accept_iff (k : Fin (k0_t4_loop (hw cn)).trips) (r : Fin k0_t7_loop.trips) {c : ℕ} (v28 : Vec F S16 .f32) (h28 : ∀ x, v28 x = th) (v : Vec F S1x16 .f32) {N : ℕ}
    (hc : c < 8) (hN : N = 8192 * k.val + 128 * r.val + 16 * c) (hv : ∀ l : Fin 16, v (at2 0 l) = valAt X cn q (N + l.val)) (l : Fin 16) :
    k0_pay13 v28 (hw cn) k r v (at1 l) = 1#1 ↔ accept X cn th q (N + l.val) = true := by
  have hl := l.isLt
  unfold accept thrAt
  rw [pay13_at cn th k r v28 h28, hv, beq_iff_eq, show (N + l.val) / 128 = 64 * k.val + r.val by omega]

end Cert.Proof.Compact

end
-- ==== Proof.CompactSetup.lean ====
/- The compaction as the launch theorem sees it: the program's one SparseCore call over two cores of sixteen tiles, what the call hands
   each tile and what it gets back. Every tile reads shares of the four inputs and owns 32 rows of each of the two results; it gives
   them back compacted. -/
module

public import proofs.«01_k».proof.Proof.CompactVec
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic

@[expose] public section

noncomputable section

namespace Cert.Proof.Compact

open Cert.CompactIdeal Cert.CompactIdeal.Gen Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds library, the transfers' counters -/

abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## The buffers -/

abbrev xLoc (d : Dev nD) : Loc nD τ sig := (SparseCore.T d).loc main_arg0
abbrev tLoc (d : Dev nD) : Loc nD τ sig := (SparseCore.T d).loc main_v9
abbrev cLoc (d : Dev nD) : Loc nD τ sig := (SparseCore.T d).loc main_arg2
abbrev jLoc (d : Dev nD) : Loc nD τ sig := (SparseCore.T d).loc main_v8
abbrev vLoc (d : Dev nD) : Loc nD τ sig := (SparseCore.T d).loc main_v10_0
abbrev wLoc (d : Dev nD) : Loc nD τ sig := (SparseCore.T d).loc main_v10_1

variable (m : (ℓ : Loc nD τ sig) → Buf (Elt F) ℓ) (ρ : Dev nD → PrngReg)
-- The values, the thresholds, the chunk counts and the column numbers as the call finds them.
variable (vX : Dev nD → Vec F S802816x128 .f32) (vT : Dev nD → Vec F S1024 .f32) (vC : Dev nD → Vec F S1024x784 .i32) (vJ : Dev nD → Vec F S784x128 .i32)

/-- The rows of the results that tile `i` of core `c` fills. -/
def tileRows (c : Fin 2) (i : Fin 16) : Finset S1024x384.Idx := Finset.univ.filter fun x => (x 0).val / 32 = 2 * i.val + c.val
/-- The rows of the results that core `c` fills. -/
def coreRows (c : Fin 2) : Finset S1024x384.Idx := Finset.univ.filter fun x => (x 0).val / 32 % 2 = c.val

/-- Core `c`'s share of an array all tiles read, and tile `i`'s. -/
abbrev cq (c : Fin 2) : PosShare TreeShare := pieceOf fullShare 2 (by decide) c
abbrev tq (c : Fin 2) (i : Fin 16) : PosShare TreeShare := pieceOf (cq c) 16 (by decide) i

variable [FloatOps F]

/-- Row `q`'s chunk counts. -/
def cnRow (C : Vec F S1024x784 .i32) (q : Fin 1024) : Vec F S784 .i32 := fun x => C (at2 q (x 0))

/-- The two results. -/
def valsOf (X : Vec F S802816x128 .f32) (T : Vec F S1024 .f32) (C : Vec F S1024x784 .i32) : Vec F S1024x384 .f32 :=
  fun j => outVal X (cnRow C (j 0)) (T (at1 (j 0))) (j 0).val (j 1).val
def colsOf (X : Vec F S802816x128 .f32) (T : Vec F S1024 .f32) (C : Vec F S1024x784 .i32) (J : Vec F S784x128 .i32) : Vec F S1024x384 .i32 :=
  fun j => outCol X J (cnRow C (j 0)) (T (at1 (j 0))) (j 0).val (j 1).val

abbrev outV (d : Dev nD) : Vec F S1024x384 .f32 := valsOf (vX d) (vT d) (vC d)
abbrev outW (d : Dev nD) : Vec F S1024x384 .i32 := colsOf (vX d) (vT d) (vC d) (vJ d)

/-! ## What the handshakes carry -/

abbrev inPts (d : Dev nD) (q : PosShare TreeShare) : sProp 𝕄 :=
  iprop((xLoc d ↦{q} vX d) ∗ (tLoc d ↦{q} vT d) ∗ (cLoc d ↦{q} vC d) ∗ (jLoc d ↦{q} vJ d))
abbrev outPts (d : Dev nD) (I : Finset S1024x384.Idx) (f : Buf (Elt F) (vLoc d)) (g : Buf (Elt F) (wLoc d)) : sProp 𝕄 :=
  iprop((vLoc d ↦[I]{fullShare} f) ∗ (wLoc d ↦[I]{fullShare} g))

abbrev cN (c : Fin ((K (F := F)).nCore 0)) : Fin 2 := Fin.cast nCore_zero c
abbrev iN (i : Fin ((K (F := F)).nSub 0)) : Fin 16 := Fin.cast nSub_zero i

def P : (K (F := F)).Pay (nD := nD) (Val := Elt F) (Name := ℕ) (U := UU) where
  st := fun q d c => match q with
    | 0 => iprop(inPts vX vT vC vJ d (cq (cN c)) ∗ outPts d (coreRows (cN c)) (m (vLoc d)) (m (wLoc d)))
  dn := fun q d c => match q with
    | 0 => iprop(inPts vX vT vC vJ d (cq (cN c)) ∗ outPts d (coreRows (cN c)) (outV vX vT vC d) (outW vX vT vC vJ d))
  go := fun q d c i => match q with
    | 0 => iprop(inPts vX vT vC vJ d (tq (cN c) (iN i)) ∗ outPts d (tileRows (cN c) (iN i)) (m (vLoc d)) (m (wLoc d)))
  td := fun q d c i => match q with
    | 0 => iprop(inPts vX vT vC vJ d (tq (cN c) (iN i)) ∗ outPts d (tileRows (cN c) (iN i)) (outV vX vT vC d) (outW vX vT vC vJ d))
  x := fun _ _ => iprop(emp)

instance P_storable : (P (F := F) m vX vT vC vJ).IsStorable where
  st q d c := match q with
    | 0 => (inferInstance : BI.Storable (upEmb : UEmb _ 𝕄)
      iprop(inPts vX vT vC vJ d (cq (cN c)) ∗ outPts d (coreRows (cN c)) (m (vLoc d)) (m (wLoc d))))
  dn q d c := match q with
    | 0 => (inferInstance : BI.Storable (upEmb : UEmb _ 𝕄)
      iprop(inPts vX vT vC vJ d (cq (cN c)) ∗ outPts d (coreRows (cN c)) (outV vX vT vC d) (outW vX vT vC vJ d)))
  go q d c i := match q with
    | 0 => (inferInstance : BI.Storable (upEmb : UEmb _ 𝕄)
      iprop(inPts vX vT vC vJ d (tq (cN c) (iN i)) ∗ outPts d (tileRows (cN c) (iN i)) (m (vLoc d)) (m (wLoc d))))
  td q d c i := match q with
    | 0 => (inferInstance : BI.Storable (upEmb : UEmb _ 𝕄)
      iprop(inPts vX vT vC vJ d (tq (cN c) (iN i)) ∗ outPts d (tileRows (cN c) (iN i)) (outV vX vT vC d) (outW vX vT vC vJ d)))

/-! ## The rows and the shares split and join -/

omit [FloatOps F] in
theorem tileRows_disjoint (c : Fin 2) : ∀ i ∈ (Finset.univ : Finset (Fin 16)), ∀ j ∈ (Finset.univ : Finset (Fin 16)), i ≠ j →
    Disjoint (tileRows c i) (tileRows c j) := by
  intro i _ j _ h
  refine Finset.disjoint_left.mpr fun x hi hj => h (Fin.ext ?_)
  have a := (Finset.mem_filter.mp hi).2
  have b := (Finset.mem_filter.mp hj).2
  omega

omit [FloatOps F] in
theorem tileRows_cover (c : Fin 2) : (Finset.univ : Finset (Fin 16)).biUnion (tileRows c) = coreRows c := by
  ext x
  have hx : (x 0).val < 1024 := (x 0).isLt
  have hc := c.isLt
  simp only [Finset.mem_biUnion, Finset.mem_univ, true_and, tileRows, coreRows, Finset.mem_filter]
  constructor
  · rintro ⟨i, hi⟩; omega
  · intro h
    exact ⟨⟨(x 0).val / 32 / 2, by omega⟩, by simp only []; omega⟩

omit [FloatOps F] in
theorem coreRows_disjoint : ∀ i ∈ (Finset.univ : Finset (Fin 2)), ∀ j ∈ (Finset.univ : Finset (Fin 2)), i ≠ j →
    Disjoint (coreRows i) (coreRows j) := by
  intro i _ j _ h
  refine Finset.disjoint_left.mpr fun x hi hj => h (Fin.ext ?_)
  have a := (Finset.mem_filter.mp hi).2
  have b := (Finset.mem_filter.mp hj).2
  omega

omit [FloatOps F] in
theorem coreRows_cover : (Finset.univ : Finset (Fin 2)).biUnion coreRows = Finset.univ := by
  ext x
  simp only [Finset.mem_biUnion, Finset.mem_univ, true_and, coreRows, Finset.mem_filter, iff_true]
  exact ⟨⟨(x 0).val / 32 % 2, Nat.mod_lt _ (by decide)⟩, rfl⟩

omit [FloatOps F] in
theorem outPts_tiles (d : Dev nD) (c : Fin 2) (f : Buf (Elt F) (vLoc d)) (g : Buf (Elt F) (wLoc d)) :
    (outPts d (coreRows c) f g : sProp 𝕄) = bigSep Finset.univ fun i : Fin 16 => outPts d (tileRows c i) f g := by
  unfold outPts
  rw [bigSep_sep', ← pointsTo_biUnion Finset.univ (ℓ := vLoc d) (tileRows c) (tileRows_disjoint c),
    ← pointsTo_biUnion Finset.univ (ℓ := wLoc d) (tileRows c) (tileRows_disjoint c), tileRows_cover]

omit [FloatOps F] in
theorem outPts_cores (d : Dev nD) (f : Buf (Elt F) (vLoc d)) (g : Buf (Elt F) (wLoc d)) :
    (iprop((vLoc d ↦{fullShare} f) ∗ (wLoc d ↦{fullShare} g)) : sProp 𝕄) = bigSep Finset.univ fun c : Fin 2 => outPts d (coreRows c) f g := by
  unfold outPts
  rw [bigSep_sep', ← pointsTo_biUnion Finset.univ (ℓ := vLoc d) coreRows coreRows_disjoint,
    ← pointsTo_biUnion Finset.univ (ℓ := wLoc d) coreRows coreRows_disjoint, coreRows_cover]; try rfl

omit [FloatOps F] in
theorem inPts_pieces (d : Dev nD) (q : PosShare TreeShare) (o : ℕ) (ho : 0 < o) :
    (inPts vX vT vC vJ d q : sProp 𝕄) = bigSep Finset.univ fun i : Fin o => inPts vX vT vC vJ d (pieceOf q o ho i) := by
  unfold inPts
  rw [bigSep_sep', bigSep_sep', bigSep_sep', pointsTo_piecesOf (ℓ := xLoc d) Finset.univ (vX d) (o := o) ho q,
    pointsTo_piecesOf (ℓ := tLoc d) Finset.univ (vT d) (o := o) ho q, pointsTo_piecesOf (ℓ := cLoc d) Finset.univ (vC d) (o := o) ho q,
    pointsTo_piecesOf (ℓ := jLoc d) Finset.univ (vJ d) (o := o) ho q]

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
theorem bigSep_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

set_option maxRecDepth 4096 in
theorem vecSplit : (K (F := F)).VecSplit' (P m vX vT vC vJ) 0 := by
  intro d c
  show iprop(inPts vX vT vC vJ d (cq (cN c)) ∗ outPts d (coreRows (cN c)) (m (vLoc d)) (m (wLoc d))) ⊢ |={Set.univ}=> iprop(
      (bigSep Finset.univ fun i : Fin ((K (F := F)).nSub 0) =>
        iprop(inPts vX vT vC vJ d (tq (cN c) (Fin.cast nSub_zero i)) ∗ outPts d (tileRows (cN c) (Fin.cast nSub_zero i)) (m (vLoc d)) (m (wLoc d))))
      ∗ ((bigSep Finset.univ fun i : Fin ((K (F := F)).nSub 0) =>
          iprop(inPts vX vT vC vJ d (tq (cN c) (Fin.cast nSub_zero i)) ∗ outPts d (tileRows (cN c) (Fin.cast nSub_zero i)) (outV vX vT vC d) (outW vX vT vC vJ d)))
          -∗ iprop(inPts vX vT vC vJ d (cq (cN c)) ∗ outPts d (coreRows (cN c)) (outV vX vT vC d) (outW vX vT vC vJ d))))
  generalize cN c = c'
  rw [bigSep_tasks (F := F) (fun i => iprop(inPts vX vT vC vJ d (tq c' i) ∗ outPts d (tileRows c' i) (m (vLoc d)) (m (wLoc d)))),
    bigSep_tasks (F := F) (fun i => iprop(inPts vX vT vC vJ d (tq c' i) ∗ outPts d (tileRows c' i) (outV vX vT vC d) (outW vX vT vC vJ d)))]
  rw [bigSep_sep' (Φ := fun i => inPts vX vT vC vJ d (tq c' i)), bigSep_sep' (Φ := fun i => inPts vX vT vC vJ d (tq c' i)), ← outPts_tiles, ← outPts_tiles,
    ← inPts_pieces vX vT vC vJ d (cq c') 16 (by decide)]
  iintro H; imodintro
  isplitl [H]; · iexact H
  iintro H; iexact H

/-! ## The launch element of the ghost state -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m vX vT vC vJ).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m vX vT vC vJ).x q thr) = bigSep Finset.univ fun _ => iprop(emp) from
    bigSep_congr fun _ _ => bigSep_univ_of_subsingleton (0 : Fin 1), bigSep_emp']
  iempintro

end Cert.Proof.Compact

end
-- ==== Proof.CompactFew.lean ====
/- What the precondition says of a row: the compaction misses none of its entries above the threshold. -/
module

public import proofs.«01_k».proof.Proof.CompactPre
public import proofs.«01_k».proof.Proof.CompactSort
public import proofs.«01_k».proof.Proof.CompactSetup
public import Idealize.ShloMosaic.Lib.StableHlo.Predicate
public import Idealize.ShloMosaic.Lib.Pipeline.Value

@[expose] public section

noncomputable section

namespace Cert.Proof.Compact

open Cert.Proof.Lanes Cert.Proof.CompactPre
open Idealize.ShloMosaic

/-! ## Bits -/

theorem and_one {a b : BitVec 1} (e : IntOp.andi a b = 1#1) : a = 1#1 ∧ b = 1#1 := by revert a b; decide
theorem not_one {a : BitVec 1} (e : ~~~a = 1#1) : (a == 1#1) = false := by revert a; decide
theorem not_or_one {a b : BitVec 1} (e : IntOp.ori (~~~a) b = 1#1) (h : (a == 1#1) = true) : (b == 1#1) = true := by revert a b; decide

theorem sle_bit {w : BitVec 32} (hw : w.toNat < 2 ^ 31) (e : IntOp.cmpi .sle w 384#32 = 1#1) : w.toNat ≤ 384 := by
  have ofBool_eq_one (p : Bool) : (BitVec.ofBool p = 1#1) ↔ p = true := by cases p <;> decide
  simp only [IntOp.cmpi, ofBool_eq_one, BitVec.sle_eq_decide, decide_eq_true_eq, BitVec.toInt_eq_toNat_cond, BitVec.toNat_ofNat,
    Nat.reducePow, Nat.reduceMod] at e
  omega

/-- The sum along a mask's row counts the places it selects. -/
theorem count_row {n m : ℕ} (hm : m < 2 ^ 32) (mask : IVec ⟨2, ![n, m]⟩ 1) (hw : 1 < 32) (h : (⟨2, ![n, m]⟩ : Shape).ReducesTo [1] ⟨1, ![n]⟩)
    {u : Shape} (hu : 0 < u.numel) (i : Fin n) (p : ℕ → Bool) (hp : ∀ c : Fin m, (mask (at2 i c) == 1#1) = p c.val) :
    (Host.reduce IntOp.addi (extui 32 mask hw) (constantI u 32 0#32) h hu (at1 i)).toNat = ((List.range m).filter p).length := by
  rw [StableHlo.Predicate.toNat_reduce_count_cols hm mask hw h hu (at1 i)]
  rw [← List.map_coe_finRange_eq_range, List.filter_map, List.length_map]
  show ((List.finRange m).filter fun c => decide (mask (StableHlo.Predicate.ij i c) = 1#1)).length = _
  refine congrArg List.length (List.filter_congr fun c _ => ?_)
  have e : StableHlo.Predicate.ij i c = at2 i c := ext2 rfl rfl
  rw [e]
  refine Eq.trans ?_ (hp c)
  rw [Bool.eq_iff_iff, decide_eq_true_eq, beq_iff_eq]

theorem length_le_of_sum {n m : ℕ} (hm : m < 2 ^ 31) (mask : IVec ⟨2, ![n, m]⟩ 1) (hw : 1 < 32) (h : (⟨2, ![n, m]⟩ : Shape).ReducesTo [1] ⟨1, ![n]⟩)
    {u : Shape} (hu : 0 < u.numel) (i : Fin n) (p : ℕ → Bool) (hp : ∀ c : Fin m, (mask (at2 i c) == 1#1) = p c.val)
    (j : (⟨1, ![n]⟩ : Shape).Idx) (hj : j = at1 i)
    (k : BitVec 32) (hk : k = 384#32)
    (e : IntOp.cmpi .sle (Host.reduce IntOp.addi (extui 32 mask hw) (constantI u 32 0#32) h hu j) k = 1#1) :
    ((List.range m).filter p).length ≤ 384 := by
  subst hj hk
  have hc := count_row (by omega) mask hw h hu i p hp
  have hl : ((List.range m).filter p).length ≤ m := (List.length_filter_le _ _).trans (by rw [List.length_range])
  rw [← hc]
  exact sle_bit (by rw [hc]; omega) e

/-! ## The precondition, read -/

def at3 {a b c : ℕ} (i : Fin a) (j : Fin b) (k : Fin c) : (⟨3, ![a, b, c]⟩ : Shape).Idx
  | 0 => i
  | 1 => j
  | 2 => k
  | ⟨_ + 3, h⟩ => absurd h (Nat.not_lt.2 (Nat.le_add_left _ _))

variable {F : FTy → Type} [FloatOps F]
variable (x0 : Vec F Pre_few_candidates.S802816x128 .f32) (x1 : Vec F Pre_few_candidates.S1024x1 .f32) (x2 : Vec F Pre_few_candidates.S1024x784 .i32)

theorem block_entry (hs : Pre_few_candidates.S802816x128.ShapeCasts Pre_few_candidates.S1024x784x128) (q : Fin 1024) (c : Fin 784) (l : Fin 128) :
    shapeCast Pre_few_candidates.S1024x784x128 x0 hs (at3 q c l) = entry x0 q.val (c.val * 128 + l.val) := by
  have hq := q.isLt; have hc := c.isLt; have hl := l.isLt
  unfold entry
  refine shapeCast_apply x0 hs _ _ ?_
  rw [Shape.rowMajor_val_two, Shape.rowMajor_val_three]
  show (784 * q.val + (c.val * 128 + l.val) / 128) % 802816 * 128 + (c.val * 128 + l.val) % 128 = (q.val * 784 + c.val) * 128 + l.val
  omega

theorem row_entry (hs : Pre_few_candidates.S802816x128.ShapeCasts Pre_few_candidates.S1024x100352) (q : Fin 1024) (j : Fin 100352) :
    shapeCast Pre_few_candidates.S1024x100352 x0 hs (at2 q j) = entry x0 q.val j.val := by
  have hq := q.isLt; have hj := j.isLt
  unfold entry
  refine shapeCast_apply x0 hs _ _ ?_
  rw [Shape.rowMajor_val_two, Shape.rowMajor_val_two]
  show (784 * q.val + j.val / 128) % 802816 * 128 + j.val % 128 = q.val * 100352 + j.val
  omega

theorem few_of_pre (h : Cert.Pre_few_candidates.fn (F := F) x0 x1 x2 = fun _ => 1#1) (q : Fin 1024) :
    Few x0 (cnRow x2 q) (x1 (at2 q 0)) q.val := by
  have bits : ∀ (c : Fin 784) (l : Fin 128), Cert.Pre_few_candidates.fn (F := F) x0 x1 x2 (at3 q c l) = 1#1 := fun c l => congrFun h (at3 q c l)
  simp only [Pre_few_candidates.fn, Pre_few_candidates.fn_part1, andi, ori, noti, cmpf] at bits
  have hsum := (and_one (and_one (bits 0 0)).2)
  have hcount (c : Fin 784) (l : Fin 128) := (and_one (and_one (bits c l)).1).1
  have hcap (c : Fin 784) (l : Fin 128) := (and_one (and_one (bits c l)).1).2
  have hentry (j : ℕ) (hj : j < 100352) : shapeCast Pre_few_candidates.S1024x784x128 x0 CompactPre.facts.shapeCasts_S802816x128_S1024x784x128
      (at3 q ⟨j / 128, by omega⟩ ⟨j % 128, Nat.mod_lt _ (by decide)⟩) = entry x0 q.val j := by
    rw [block_entry]
    exact congrArg (entry x0 q.val) (by show j / 128 * 128 + j % 128 = j; omega)
  clear bits
  obtain ⟨hs1, hs2⟩ := hsum
  simp only [cmpi] at hs1 hs2
  refine ⟨length_le_of_sum (n := 1024) (m := 784) (by omega) _ _ _ _ q _ (fun c => ?_) _ (by exact ext1 rfl) _ (by rfl) hs2,
    length_le_of_sum (n := 1024) (m := 100352) (by omega) _ _ _ _ q _ (fun c => ?_) _ (by exact ext1 rfl) _ (by rfl) hs1, fun j hj ha => ?_, fun j hj => ?_⟩
  · clear hs1 hs2
    unfold hit
    rw [dif_pos c.isLt]
    rfl
  · clear hs1 hs2
    unfold above
    exact congrArg₂ (fun s t => FloatOps.cmpf .ogt s t == 1#1) (row_entry x0 CompactPre.facts.shapeCasts_S802816x128_S1024x100352 q c) (congrArg x1 (ext2 rfl rfl))
  · clear hs1 hs2
    refine Eq.trans ?_ (not_or_one (hcount ⟨j / 128, by omega⟩ ⟨j % 128, Nat.mod_lt _ (by decide)⟩) (Eq.trans ?_ ha))
    · unfold hit
      rw [dif_pos (show j / 128 < 784 by omega)]
      exact congrArg (fun t => IntOp.cmpi .sgt t 0#32 == 1#1) (congrArg x2 (ext2 rfl rfl))
    · unfold above
      exact congrArg₂ (fun s t => FloatOps.cmpf .ogt s t == 1#1) (hentry j hj) (congrArg x1 (ext2 rfl rfl))
  · clear hs1 hs2
    refine Eq.trans ?_ (not_one (hcap ⟨j / 128, by omega⟩ ⟨j % 128, Nat.mod_lt _ (by decide)⟩))
    exact (congrArg (fun s => FloatOps.cmpf .ogt s (Scalar.ofBits .f32 0x7149F2CA#32) == 1#1) (hentry j hj)).symm

end Cert.Proof.Compact

end
-- ==== Proof.CompactBufs.lean ====
/- The tile's scratch buffers, read and written sixteen lanes at a time, and the loops that touch only them. -/
module

public import proofs.«01_k».proof.Proof.CompactSetup
public import Idealize.ShloMosaic.Lib.Pipeline.ValueKit.Geometry

@[expose] public section

noncomputable section

namespace Cert.Proof.Compact

open Cert.CompactIdeal Cert.CompactIdeal.Gen Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

abbrev cV (L : grid0.Coords) : Fin τ.nSC := (L 0).castLE hcore0
abbrev jV (L : grid0.Coords) : Fin τ.nSub := (L 1).castLE hsub0

/-- The tile's thread. -/
abbrev TT (d : Dev nD) (L : grid0.Coords) : Thread nD τ := V d (cV L) (jV L)

abbrev aX : Memref sig .scVector .hbm S802816x128 .f32 := Memref.whole main_arg0_scv
abbrev aT : Memref sig .scVector .hbm S1024 .f32 := Memref.whole main_v9_scv
abbrev aC : Memref sig .scVector .hbm S1024x784 .i32 := Memref.whole main_arg2_scv
abbrev aJ : Memref sig .scVector .hbm S784x128 .i32 := Memref.whole main_v8_scv
abbrev aV : Memref sig .scVector .hbm S1024x384 .f32 := Memref.whole main_v10_0_scv
abbrev aW : Memref sig .scVector .hbm S1024x384 .i32 := Memref.whole main_v10_1_scv
abbrev b8 : Memref sig .scVector .vmem S784 .i32 := Memref.whole cc0_scratch0
abbrev b9 : Memref sig .scVector .vmem S16 .f32 := Memref.whole cc0_scratch1
abbrev b10 : Memref sig .scVector .vmem S384 .i32 := Memref.whole cc0_scratch2
abbrev b11 : Memref sig .scVector .vmem S64 .i32 := Memref.whole cc0_scratch3
abbrev b12 : Memref sig .scVector .vmem S64x128 .f32 := Memref.whole cc0_scratch4
abbrev b13 : Memref sig .scVector .vmem S64x128 .i32 := Memref.whole cc0_scratch5
abbrev b14 : Memref sig .scVector .vmem S384 .f32 := Memref.whole cc0_scratch6
abbrev b15 : Memref sig .scVector .vmem S384 .i32 := Memref.whole cc0_scratch7

abbrev p8 (f : Vec F S784 .i32) : sProp 𝕄 := (TT d L).loc cc0_scratch0 ↦{fullShare} f
abbrev p9 (f : Vec F S16 .f32) : sProp 𝕄 := (TT d L).loc cc0_scratch1 ↦{fullShare} f
abbrev p10 (f : Vec F S384 .i32) : sProp 𝕄 := (TT d L).loc cc0_scratch2 ↦{fullShare} f
abbrev p11 (f : Vec F S64 .i32) : sProp 𝕄 := (TT d L).loc cc0_scratch3 ↦{fullShare} f
abbrev p12 (f : Vec F S64x128 .f32) : sProp 𝕄 := (TT d L).loc cc0_scratch4 ↦{fullShare} f
abbrev p13 (f : Vec F S64x128 .i32) : sProp 𝕄 := (TT d L).loc cc0_scratch5 ↦{fullShare} f
abbrev p14 (f : Vec F S384 .f32) : sProp 𝕄 := (TT d L).loc cc0_scratch6 ↦{fullShare} f
abbrev p15 (f : Vec F S384 .i32) : sProp 𝕄 := (TT d L).loc cc0_scratch7 ↦{fullShare} f

/-- A check that holds, at the head of a program. -/
theorem checked {α : Type} {Q : α → sProp 𝕄} {A : Prop} {dA : Decidable A} (h : A)
    {k : PLift A → Prog (TpuEff nD τ sig (Elt F) Λ₀ (.scVector (cV L) (jV L))) α} :
    wp frame (wpE (defs₀ (F := F)) 𝒱₀ (TT d L) none) Set.univ (k ⟨h⟩) Q
      ⊢ wp frame (wpE (defs₀ (F := F)) 𝒱₀ (TT d L) none) Set.univ (Prog.lift (TpuEff.assume A dA) >>= k) Q :=
  wp_assume 𝒱₀ (TT d L) none Set.univ h

/-- A first program's specification, then the rest of the program. -/
theorem before {α β : Type} {Q : α → sProp 𝕄} {Q' : β → sProp 𝕄} {A : sProp 𝕄} {p : Prog (TpuEff nD τ sig (Elt F) Λ₀ (.scVector (cV L) (jV L))) β}
    (h : A ⊢ wp frame (wpE (defs₀ (F := F)) 𝒱₀ (TT d L) none) Set.univ p Q')
    {k : β → Prog (TpuEff nD τ sig (Elt F) Λ₀ (.scVector (cV L) (jV L))) α} :
    A ⊢ iprop((∀ b, Q' b -∗ wp frame (wpE (defs₀ (F := F)) 𝒱₀ (TT d L) none) Set.univ (k b) Q)
      -∗ wp frame (wpE (defs₀ (F := F)) 𝒱₀ (TT d L) none) Set.univ (p >>= k) Q) := by
  rw [wp_bind]
  exact h.trans (wp_wand frame _ _)

/-! ## Sixteen lanes read and written -/

theorem b8_read (off : Fin 1 → ℕ) (inb) (f : Vec F S784 .i32) (l : Fin 16) (j : Fin 784) (hj : j.val = off 0 + l.val) :
    (b8.access (Rect.unit (s := S784) off S16.size inb)).read (Elt F) f (at1 l) = f (at1 j) := by
  rw [View.read_apply]
  exact (cast_eq _ _).trans (congrArg f (ext1 ((ValueKit.view_emb_slice_whole_unit_val cc0_scratch0 off S16.size inb (at1 l) 0).trans hj.symm)))

theorem b10_read (off : Fin 1 → ℕ) (inb) (f : Vec F S384 .i32) (l : Fin 16) (j : Fin 384) (hj : j.val = off 0 + l.val) :
    (b10.access (Rect.unit (s := S384) off S16.size inb)).read (Elt F) f (at1 l) = f (at1 j) := by
  rw [View.read_apply]
  exact (cast_eq _ _).trans (congrArg f (ext1 ((ValueKit.view_emb_slice_whole_unit_val cc0_scratch2 off S16.size inb (at1 l) 0).trans hj.symm)))

theorem b11_read (off : Fin 1 → ℕ) (inb) (f : Vec F S64 .i32) (l : Fin 16) (j : Fin 64) (hj : j.val = off 0 + l.val) :
    (b11.access (Rect.unit (s := S64) off S16.size inb)).read (Elt F) f (at1 l) = f (at1 j) := by
  rw [View.read_apply]
  exact (cast_eq _ _).trans (congrArg f (ext1 ((ValueKit.view_emb_slice_whole_unit_val cc0_scratch3 off S16.size inb (at1 l) 0).trans hj.symm)))

theorem b14_read (off : Fin 1 → ℕ) (inb) (f : Vec F S384 .f32) (l : Fin 16) (j : Fin 384) (hj : j.val = off 0 + l.val) :
    (b14.access (Rect.unit (s := S384) off S16.size inb)).read (Elt F) f (at1 l) = f (at1 j) := by
  rw [View.read_apply]
  exact (cast_eq _ _).trans (congrArg f (ext1 ((ValueKit.view_emb_slice_whole_unit_val cc0_scratch6 off S16.size inb (at1 l) 0).trans hj.symm)))

theorem b15_read (off : Fin 1 → ℕ) (inb) (f : Vec F S384 .i32) (l : Fin 16) (j : Fin 384) (hj : j.val = off 0 + l.val) :
    (b15.access (Rect.unit (s := S384) off S16.size inb)).read (Elt F) f (at1 l) = f (at1 j) := by
  rw [View.read_apply]
  exact (cast_eq _ _).trans (congrArg f (ext1 ((ValueKit.view_emb_slice_whole_unit_val cc0_scratch7 off S16.size inb (at1 l) 0).trans hj.symm)))

theorem b12_read (off : Fin 2 → ℕ) (inb) (f : Vec F S64x128 .f32) (l : Fin 16) (i : Fin 64) (j : Fin 128) (hi : i.val = off 0) (hj : j.val = off 1 + l.val) :
    (b12.access (Rect.unit (s := S64x128) off S1x16.size inb)).read (Elt F) f (at2 0 l) = f (at2 i j) := by
  rw [View.read_apply]
  exact (cast_eq _ _).trans (congrArg f (ext2 ((ValueKit.view_emb_slice_whole_unit_val cc0_scratch4 off S1x16.size inb (at2 0 l) 0).trans hi.symm)
    ((ValueKit.view_emb_slice_whole_unit_val cc0_scratch4 off S1x16.size inb (at2 0 l) 1).trans hj.symm)))

theorem b13_read (off : Fin 2 → ℕ) (inb) (f : Vec F S64x128 .i32) (l : Fin 16) (i : Fin 64) (j : Fin 128) (hi : i.val = off 0) (hj : j.val = off 1 + l.val) :
    (b13.access (Rect.unit (s := S64x128) off S1x16.size inb)).read (Elt F) f (at2 0 l) = f (at2 i j) := by
  rw [View.read_apply]
  exact (cast_eq _ _).trans (congrArg f (ext2 ((ValueKit.view_emb_slice_whole_unit_val cc0_scratch5 off S1x16.size inb (at2 0 l) 0).trans hi.symm)
    ((ValueKit.view_emb_slice_whole_unit_val cc0_scratch5 off S1x16.size inb (at2 0 l) 1).trans hj.symm)))

/-- The sixteen elements from `o` on hold `w`, the others what they held. -/
def Wrote {n : ℕ} {e : EltTy} (o : ℕ) (f : Vec F ⟨1, ![n]⟩ e) (w : Vec F S16 e) (f' : Vec F ⟨1, ![n]⟩ e) : Prop :=
  (∀ (j : Fin n) (l : Fin 16), j.val = o + l.val → f' (at1 j) = w (at1 l)) ∧ ∀ j : Fin n, (j.val < o ∨ o + 16 ≤ j.val) → f' (at1 j) = f (at1 j)

/-- A store of sixteen lanes through a view whose elements lie from `o` on. -/
theorem wrote_of {n : ℕ} {e : EltTy} {o : ℕ} {f f' : Vec F ⟨1, ![n]⟩ e} {w : Vec F S16 e} {emb : S16.Idx → (⟨1, ![n]⟩ : Shape).Idx}
    (he : ∀ x, (emb x 0).val = o + (x 0).val) (hit : ∀ x, f' (emb x) = w x) (miss : ∀ j, (∀ x, emb x ≠ j) → f' j = f j) : Wrote o f w f' := by
  refine ⟨fun j l h => ?_, fun j h => miss _ fun x e => ?_⟩
  · rw [← hit (at1 l)]
    exact congrArg f' (ext1 (h.trans (he (at1 l)).symm))
  · have h1 : (emb x 0).val = j.val := congrArg (fun i : (⟨1, ![n]⟩ : Shape).Idx => (i 0).val) e
    have h2 := he x
    have h3 : (x 0).val < 16 := (x 0).isLt
    omega

theorem b10_write (off : Fin 1 → ℕ) (inb) (f : Vec F S384 .i32) (w : Vec F S16 .i32) {o : ℕ} (ho : off 0 = o) :
    Wrote o f w ((b10.access (Rect.unit (s := S384) off S16.size inb)).write (Elt F) f w Finset.univ) := by
  subst ho
  refine wrote_of (emb := fun x => (b10.access (Rect.unit (s := S384) off S16.size inb)).emb x)
    (fun x => ValueKit.view_emb_slice_whole_unit_val cc0_scratch2 off S16.size inb x 0) (fun x => ?_) fun j hj => ?_
  · exact (View.write_emb_of_mem _ _ (Finset.mem_univ _)).trans (cast_eq _ _)
  · exact View.write_of_not_mem _ _ _ fun h => let ⟨x, _, e⟩ := Finset.mem_map.mp h; hj x e

theorem b11_write (off : Fin 1 → ℕ) (inb) (f : Vec F S64 .i32) (w : Vec F S16 .i32) {o : ℕ} (ho : off 0 = o) :
    Wrote o f w ((b11.access (Rect.unit (s := S64) off S16.size inb)).write (Elt F) f w Finset.univ) := by
  subst ho
  refine wrote_of (emb := fun x => (b11.access (Rect.unit (s := S64) off S16.size inb)).emb x)
    (fun x => ValueKit.view_emb_slice_whole_unit_val cc0_scratch3 off S16.size inb x 0) (fun x => ?_) fun j hj => ?_
  · exact (View.write_emb_of_mem _ _ (Finset.mem_univ _)).trans (cast_eq _ _)
  · exact View.write_of_not_mem _ _ _ fun h => let ⟨x, _, e⟩ := Finset.mem_map.mp h; hj x e

theorem b14_write (off : Fin 1 → ℕ) (inb) (f : Vec F S384 .f32) (w : Vec F S16 .f32) {o : ℕ} (ho : off 0 = o) :
    Wrote o f w ((b14.access (Rect.unit (s := S384) off S16.size inb)).write (Elt F) f w Finset.univ) := by
  subst ho
  refine wrote_of (emb := fun x => (b14.access (Rect.unit (s := S384) off S16.size inb)).emb x)
    (fun x => ValueKit.view_emb_slice_whole_unit_val cc0_scratch6 off S16.size inb x 0) (fun x => ?_) fun j hj => ?_
  · exact (View.write_emb_of_mem _ _ (Finset.mem_univ _)).trans (cast_eq _ _)
  · exact View.write_of_not_mem _ _ _ fun h => let ⟨x, _, e⟩ := Finset.mem_map.mp h; hj x e

theorem b15_write (off : Fin 1 → ℕ) (inb) (f : Vec F S384 .i32) (w : Vec F S16 .i32) {o : ℕ} (ho : off 0 = o) :
    Wrote o f w ((b15.access (Rect.unit (s := S384) off S16.size inb)).write (Elt F) f w Finset.univ) := by
  subst ho
  refine wrote_of (emb := fun x => (b15.access (Rect.unit (s := S384) off S16.size inb)).emb x)
    (fun x => ValueKit.view_emb_slice_whole_unit_val cc0_scratch7 off S16.size inb x 0) (fun x => ?_) fun j hj => ?_
  · exact (View.write_emb_of_mem _ _ (Finset.mem_univ _)).trans (cast_eq _ _)
  · exact View.write_of_not_mem _ _ _ fun h => let ⟨x, _, e⟩ := Finset.mem_map.mp h; hj x e

omit [FloatOps F] in
theorem b10_set : (b10.access (Rect.whole S384)).set = Finset.univ := access_whole_set cc0_scratch2
omit [FloatOps F] in
theorem b14_set : (b14.access (Rect.whole S384)).set = Finset.univ := access_whole_set cc0_scratch6
omit [FloatOps F] in
theorem b15_set : (b15.access (Rect.whole S384)).set = Finset.univ := access_whole_set cc0_scratch7
theorem b9_all (f : Vec F S16 .f32) : (b9.access (Rect.whole S16)).read (Elt F) f = f := access_whole_read cc0_scratch1 f
theorem b10_all (f : Vec F S384 .i32) : (b10.access (Rect.whole S384)).read (Elt F) f = f := access_whole_read cc0_scratch2 f
theorem b14_all (f : Vec F S384 .f32) : (b14.access (Rect.whole S384)).read (Elt F) f = f := access_whole_read cc0_scratch6 f
theorem b15_all (f : Vec F S384 .i32) : (b15.access (Rect.whole S384)).read (Elt F) f = f := access_whole_read cc0_scratch7 f
theorem b10_put (f w : Vec F S384 .i32) : (b10.access (Rect.whole S384)).write (Elt F) f w Finset.univ = w := access_whole_write cc0_scratch2 f w
theorem b14_put (f w : Vec F S384 .f32) : (b14.access (Rect.whole S384)).write (Elt F) f w Finset.univ = w := access_whole_write cc0_scratch6 f w
theorem b15_put (f w : Vec F S384 .i32) : (b15.access (Rect.whole S384)).write (Elt F) f w Finset.univ = w := access_whole_write cc0_scratch7 f w

theorem carry_next (N : ℕ) (m : IVec S16 1) (g : Fin 16 → ℕ) :
    Scalar.addi (BitVec.ofNat 32 N) (extractAt ![15] (scan .sum (extui 32 m natLt_1_32)) inpos_S16_p15) = BitVec.ofNat 32 (N + (added m g).length) := by
  rw [← count_next N m natLt_1_32 g]
  refine congrArg (BitVec.ofNat 32 N + ·) ?_
  exact congrArg (scan .sum (extui 32 m natLt_1_32)) (ext1 rfl)

/-! ## The chunks with a count found -/

section Loops

variable (X : Vec F S802816x128 .f32) (I : Vec F S784x128 .i32) (cn : Vec F S784 .i32) (th : F .f32) (q : ℕ)

/-- The chunks found before chunk `n`. -/
abbrev found (n : ℕ) : List ℕ := (List.range n).filter (hit cn)

/-- Between trips: the counts, and the chunks found so far. -/
def Found (n : ℕ) (acc : BitVec 32) : sProp 𝕄 :=
  iprop(⌜acc = BitVec.ofNat 32 (found cn (16 * n)).length⌝ ∗ p8 d L cn ∗ ∃ b, ⌜Kept (found cn (16 * n)) (fun c => BitVec.ofNat 32 c) b⌝ ∗ p10 d L b)

theorem found_trip (v4 : BitVec 32) (v27 : IVec S16 32) (h1 : k0_chk1 v27) (k : Fin k0_t2_loop.trips) (acc : BitVec 32) :
    Found d L cn k.val acc ⊢ wp frame (wpE (defs₀ (F := F)) 𝒱₀ (TT d L) none) Set.univ
      (k0_t2_body L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 v4 v27 h1 k acc)
      fun acc' => Found d L cn (k.val + 1) acc' := by
  unfold k0_t2_body Found
  have hk : k.val < 49 := Nat.lt_of_lt_of_eq k.isLt t2_trips
  iintro ⟨%hacc, H8, %b, %hb, H10⟩
  subst hacc
  ihave H8 := (show p8 d L cn ⊢ ((b8.access (Rect.unit (s := S784) (k0_off3 k) S16.size (k0_off3_inb k))).loc (TT d L) ↦[Finset.univ]{fullShare} cn : sProp 𝕄) from .rfl) $$ H8
  iapply (wp_load_rect 𝒱₀ (TT d L) none Set.univ (m := b8) (r := Rect.unit (s := S784) (k0_off3 k) S16.size (k0_off3_inb k))
    (hl := View.loadsAt_vmem h_S16) (Finset.subset_univ _)) $$ H8
  iintro H8
  have hv : ∀ (l : Fin 16) (j : Fin 784), j.val = 16 * k.val + l.val →
      (b8.access (Rect.unit (s := S784) (k0_off3 k) S16.size (k0_off3_inb k))).read (Elt F) cn (at1 l) = cn (at1 j) := fun l j h =>
    b8_read _ _ _ _ _ (h.trans (by rw [k0_off3_eq]; rfl))
  generalize (b8.access (Rect.unit (s := S784) (k0_off3 k) S16.size (k0_off3_inb k))).read (Elt F) cn = v at hv ⊢
  have hlen : (found cn (16 * k.val)).length ≤ 784 := (List.length_filter_le _ _).trans (by rw [List.length_range]; omega)
  have hN : (found cn (16 * k.val)).length + 16 < 2 ^ 31 := by omega
  iapply (checked d L (A := k0_chk2 (k0_pay6 (BitVec.ofNat 32 (found cn (16 * k.val)).length) v)) (place_lt _ hN (k0_pay4 v) natLt_1_32))
  ihave H10 := (show p10 d L b ⊢ ((b10.access (.whole _)).loc (TT d L) ↦[(b10.access (.whole _)).set]{fullShare} b : sProp 𝕄) from by
    rw [b10_set]) $$ H10
  iapply (SparseCore.wp_vectorStoreIdx 𝒱₀ (TT d L) none Set.univ (base := b10)) $$ H10
  iintro H10
  rw [b10_all, b10_put, b10_set]
  have hnext : found cn (16 * (k.val + 1)) = found cn (16 * k.val) ++ added (k0_pay4 v) (fun l => 16 * k.val + l.val) :=
    (congrArg (fun n => found cn n) (by omega)).trans (filter_range_next (16 * k.val) (hit cn) (k0_pay4 v) (hit_iff cn k v hv))
  dsimp only
  sl_step
  isplitr
  · ipureintro
    rw [hnext, List.length_append]
    exact carry_next _ (k0_pay4 v) (fun l => 16 * k.val + l.val)
  isplitl [H8]; · iexact H8
  iexists _
  isplitr
  swap; · iexact H10
  ipureintro
  rw [hnext]
  exact kept_store hN (k0_pay4 v) (fun l => 16 * k.val + l.val) _ natLt_1_32 (fun l _ => pay5_at k l) _ hb

end Loops

end Cert.Proof.Compact

end
-- ==== Proof.CompactLoops.lean ====
/- The loops of a row that touch only the tile's scratch buffers: the chunk list padded, the gather's row numbers made and turned back
   into chunk numbers, the gathered blocks searched, and the results filled out. -/
module

public import proofs.«01_k».proof.Proof.CompactBufs

@[expose] public section

noncomputable section

namespace Cert.Proof.Compact

open Cert.CompactIdeal Cert.CompactIdeal.Gen Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

variable (X : Vec F S802816x128 .f32) (I : Vec F S784x128 .i32) (cn : Vec F S784 .i32) (th : F .f32) (q : ℕ)

/-! ## The chunk list padded -/

/-- Entries before `16 n` are the chunks looked at, the others as the search left them. -/
def Padded (n : ℕ) : sProp 𝕄 :=
  iprop(∃ b, ⌜∀ p : Fin 384, (p.val < 16 * n → b (at1 p) = BitVec.ofNat 32 (chunkAt cn p.val))
    ∧ (16 * n ≤ p.val → p.val < (hits cn).length → b (at1 p) = BitVec.ofNat 32 (slot (hits cn) p.val))⌝ ∗ p10 d L b)

theorem padded_trip (v4 : BitVec 32) (v27 : IVec S16 32) (h1 : k0_chk1 v27) (k : Fin k0_t3_loop.trips) :
    Padded d L cn k.val ⊢ wp frame (wpE (defs₀ (F := F)) 𝒱₀ (TT d L) none) Set.univ
      (k0_t3_body L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 v4 v27 h1 (hw cn) k ⟨⟩)
      fun _ => Padded d L cn (k.val + 1) := by
  unfold k0_t3_body Padded
  simp only [Prog.bind_lift, Prog.pure_eq_ret]
  have hk : k.val < 24 := Nat.lt_of_lt_of_eq k.isLt t3_trips
  have ho : k0_off4 k 0 = 16 * k.val := by rw [k0_off4_eq]; rfl
  iintro ⟨%b, %hb, H⟩
  ihave H := (show p10 d L b ⊢ ((b10.access (Rect.unit (s := S384) (k0_off4 k) S16.size (k0_off4_inb k))).loc (TT d L) ↦[Finset.univ]{fullShare} b : sProp 𝕄) from .rfl) $$ H
  iapply (wp_load_rect 𝒱₀ (TT d L) none Set.univ (m := b10) (r := (Rect.unit (s := S384) (k0_off4 k) S16.size (k0_off4_inb k)))
    (hl := View.loadsAt_vmem h_S16) (Finset.subset_univ _)) $$ H
  iintro H
  have hv : ∀ (l : Fin 16) (j : Fin 384), j.val = 16 * k.val + l.val →
      (b10.access (Rect.unit (s := S384) (k0_off4 k) S16.size (k0_off4_inb k))).read (Elt F) b (at1 l) = b (at1 j) := fun l j h =>
    b10_read _ _ _ _ _ (h.trans (by rw [ho]))
  ihave H := (show p10 d L b ⊢ ((b10.access (Rect.unit (s := S384) (k0_off4 k) S16.size (k0_off4_inb k))).loc (TT d L) ↦[Finset.univ]{fullShare} b : sProp 𝕄) from .rfl) $$ H
  iapply (wp_load_rect 𝒱₀ (TT d L) none Set.univ (m := b10) (r := (Rect.unit (s := S384) (k0_off4 k) S16.size (k0_off4_inb k)))
    (hl := View.loadsAt_vmem h_S16) (Finset.subset_univ _)) $$ H
  iintro H
  ihave H := (show p10 d L b ⊢ ((b10.access (Rect.unit (s := S384) (k0_off4 k) S16.size (k0_off4_inb k))).loc (TT d L) ↦[Finset.univ]{fullShare} b : sProp 𝕄) from .rfl) $$ H
  iapply (wp_store 𝒱₀ (TT d L) none Set.univ (m := b10) (r := (Rect.unit (s := S384) (k0_off4 k) S16.size (k0_off4_inb k)))
    (Mk := Finset.univ) (hx := View.stores_vmem_bits_univ h_S16 rfl) (hm := .inl rfl) (Finset.subset_univ _)) $$ H
  iintro H
  sl_step
  iexists _
  isplitr
  swap; · iexact H
  ipureintro
  have hw := b10_write (F := F) (k0_off4 k) (k0_off4_inb k) b
    (k0_pay8 (hw cn) k ((b10.access (Rect.unit (s := S384) (k0_off4 k) S16.size (k0_off4_inb k))).read (Elt F) b)) ho
  have hn : nch cn ≤ (hits cn).length := Nat.min_le_left _ _
  intro p
  refine ⟨fun hp => ?_, fun hp hp' => ?_⟩
  · by_cases h : p.val < 16 * k.val
    · exact (hw.2 p (.inl h)).trans ((hb p).1 h)
    · have hl : p.val = 16 * k.val + (⟨p.val - 16 * k.val, by omega⟩ : Fin 16).val := by simp only []; omega
      refine (hw.1 p _ hl).trans ((pay8_at cn k _ _).trans ?_)
      rw [← hl]
      unfold chunkAt
      split
      · rename_i h'
        exact (hv _ p hl).trans ((hb p).2 (by omega) (by omega))
      · rfl
  · exact (hw.2 p (.inr (by omega))).trans ((hb p).2 (by omega) hp')

/-! ## The gather's row numbers -/

/-- The chunk list. -/
def Chunks (b : Vec F S384 .i32) : Prop := ∀ p : Fin 384, b (at1 p) = BitVec.ofNat 32 (chunkAt cn p.val)

/-- Block `B`'s first `16 n` row numbers made. -/
def Rows (B n : ℕ) : sProp 𝕄 :=
  iprop((∃ b, ⌜Chunks cn b⌝ ∗ p10 d L b) ∗ ∃ g, ⌜∀ p : Fin 64, p.val < 16 * n → g (at1 p) = BitVec.ofNat 32 (784 * q + chunkAt cn (64 * B + p.val))⌝ ∗ p11 d L g)

theorem rows_trip (v27 : IVec S16 32) (h1 : k0_chk1 v27) (h3 : k0_chk3 (hw cn)) (B : Fin (k0_t4_loop (hw cn)).trips) (k : Fin k0_t5_loop.trips) :
    Rows d L cn q B.val k.val ⊢ wp frame (wpE (defs₀ (F := F)) 𝒱₀ (TT d L) none) Set.univ
      (k0_t5_body L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 (BitVec.ofNat 32 q) v27 h1 (hw cn) h3 B k ⟨⟩)
      fun _ => Rows d L cn q B.val (k.val + 1) := by
  unfold k0_t5_body Rows
  simp only [Prog.bind_lift, Prog.pure_eq_ret]
  have hk : k.val < 4 := Nat.lt_of_lt_of_eq k.isLt t5_trips
  have hB := t4_lt cn B
  have ho : k0_off5 (hw cn) B k 0 = 64 * B.val + 16 * k.val := off5_val (hw cn) B hB k
  have ho' : k0_off6 k 0 = 16 * k.val := by rw [k0_off6_eq]; rfl
  iintro ⟨⟨%b, %hb, H⟩, %g, %hg, H'⟩
  ihave H := (show p10 d L b ⊢ ((b10.access (Rect.unit (s := S384) (k0_off5 (hw cn) B k) S16.size (k0_off5_inb (hw cn) h3 B k))).loc (TT d L) ↦[Finset.univ]{fullShare} b : sProp 𝕄) from .rfl) $$ H
  iapply (wp_load_rect 𝒱₀ (TT d L) none Set.univ (m := b10) (r := (Rect.unit (s := S384) (k0_off5 (hw cn) B k) S16.size (k0_off5_inb (hw cn) h3 B k)))
    (hl := View.loadsAt_vmem h_S16) (Finset.subset_univ _)) $$ H
  iintro H
  have hv : ∀ (l : Fin 16) (j : Fin 384), j.val = 64 * B.val + 16 * k.val + l.val →
      (b10.access (Rect.unit (s := S384) (k0_off5 (hw cn) B k) S16.size (k0_off5_inb (hw cn) h3 B k))).read (Elt F) b (at1 l) = b (at1 j) := fun l j h =>
    b10_read _ _ _ _ _ (h.trans (by rw [ho]))
  generalize (b10.access (Rect.unit (s := S384) (k0_off5 (hw cn) B k) S16.size (k0_off5_inb (hw cn) h3 B k))).read (Elt F) b = v at hv ⊢
  ihave H' := (show p11 d L g ⊢ ((b11.access (Rect.unit (s := S64) (k0_off6 k) S16.size (k0_off6_inb k))).loc (TT d L) ↦[Finset.univ]{fullShare} g : sProp 𝕄) from .rfl) $$ H'
  iapply (wp_load_rect 𝒱₀ (TT d L) none Set.univ (m := b11) (r := (Rect.unit (s := S64) (k0_off6 k) S16.size (k0_off6_inb k)))
    (hl := View.loadsAt_vmem h_S16) (Finset.subset_univ _)) $$ H'
  iintro H'
  ihave H' := (show p11 d L g ⊢ ((b11.access (Rect.unit (s := S64) (k0_off6 k) S16.size (k0_off6_inb k))).loc (TT d L) ↦[Finset.univ]{fullShare} g : sProp 𝕄) from .rfl) $$ H'
  iapply (wp_store 𝒱₀ (TT d L) none Set.univ (m := b11) (r := (Rect.unit (s := S64) (k0_off6 k) S16.size (k0_off6_inb k)))
    (Mk := Finset.univ) (hx := View.stores_vmem_bits_univ h_S16 rfl) (hm := .inl rfl) (Finset.subset_univ _)) $$ H'
  iintro H'
  sl_step
  isplitl [H]
  · iexists b; isplitr; · ipureintro; exact hb
    iexact H
  iexists _
  isplitr
  swap; · iexact H'
  ipureintro
  have hw := b11_write (F := F) (k0_off6 k) (k0_off6_inb k) g (k0_pay9 (BitVec.ofNat 32 q) v) ho'
  intro p hp
  by_cases h : p.val < 16 * k.val
  · exact (hw.2 p (.inl h)).trans (hg p h)
  · have hl : p.val = 16 * k.val + (⟨p.val - 16 * k.val, by omega⟩ : Fin 16).val := by simp only []; omega
    refine (hw.1 p _ hl).trans ((pay9_at q v _).trans ?_)
    rw [hv _ ⟨64 * B.val + p.val, by have := p.isLt; omega⟩ (by simp only []; omega), hb, Nat.mul_comm q 784, Nat.add_comm (784 * q), BitVec.ofNat_add]

/-- Block `B`'s first `16 n` row numbers turned back into chunk numbers. -/
def Chunked (B n : ℕ) : sProp 𝕄 :=
  iprop(∃ g, ⌜∀ p : Fin 64, g (at1 p) = if p.val < 16 * n then BitVec.ofNat 32 (chunkAt cn (64 * B + p.val)) else BitVec.ofNat 32 (784 * q + chunkAt cn (64 * B + p.val))⌝ ∗ p11 d L g)

theorem chunked_trip (v27 : IVec S16 32) (h1 : k0_chk1 v27) (B : ℕ) (k : Fin k0_t6_loop.trips) :
    Chunked d L cn q B k.val ⊢ wp frame (wpE (defs₀ (F := F)) 𝒱₀ (TT d L) none) Set.univ
      (k0_t6_body L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 (BitVec.ofNat 32 q) v27 h1 k ⟨⟩)
      fun _ => Chunked d L cn q B (k.val + 1) := by
  unfold k0_t6_body Chunked
  simp only [Prog.bind_lift, Prog.pure_eq_ret]
  have hk : k.val < 4 := Nat.lt_of_lt_of_eq k.isLt t6_trips
  have ho' : k0_off7 k 0 = 16 * k.val := by rw [k0_off7_eq]; rfl
  iintro ⟨%g, %hg, H'⟩
  ihave H' := (show p11 d L g ⊢ ((b11.access (Rect.unit (s := S64) (k0_off7 k) S16.size (k0_off7_inb k))).loc (TT d L) ↦[Finset.univ]{fullShare} g : sProp 𝕄) from .rfl) $$ H'
  iapply (wp_load_rect 𝒱₀ (TT d L) none Set.univ (m := b11) (r := (Rect.unit (s := S64) (k0_off7 k) S16.size (k0_off7_inb k)))
    (hl := View.loadsAt_vmem h_S16) (Finset.subset_univ _)) $$ H'
  iintro H'
  have hv : ∀ (l : Fin 16) (j : Fin 64), j.val = 16 * k.val + l.val →
      (b11.access (Rect.unit (s := S64) (k0_off7 k) S16.size (k0_off7_inb k))).read (Elt F) g (at1 l) = g (at1 j) := fun l j h =>
    b11_read _ _ _ _ _ (h.trans (by rw [ho']))
  ihave H' := (show p11 d L g ⊢ ((b11.access (Rect.unit (s := S64) (k0_off7 k) S16.size (k0_off7_inb k))).loc (TT d L) ↦[Finset.univ]{fullShare} g : sProp 𝕄) from .rfl) $$ H'
  iapply (wp_load_rect 𝒱₀ (TT d L) none Set.univ (m := b11) (r := (Rect.unit (s := S64) (k0_off7 k) S16.size (k0_off7_inb k)))
    (hl := View.loadsAt_vmem h_S16) (Finset.subset_univ _)) $$ H'
  iintro H'
  ihave H' := (show p11 d L g ⊢ ((b11.access (Rect.unit (s := S64) (k0_off7 k) S16.size (k0_off7_inb k))).loc (TT d L) ↦[Finset.univ]{fullShare} g : sProp 𝕄) from .rfl) $$ H'
  iapply (wp_store 𝒱₀ (TT d L) none Set.univ (m := b11) (r := (Rect.unit (s := S64) (k0_off7 k) S16.size (k0_off7_inb k)))
    (Mk := Finset.univ) (hx := View.stores_vmem_bits_univ h_S16 rfl) (hm := .inl rfl) (Finset.subset_univ _)) $$ H'
  iintro H'
  sl_step
  iexists _
  isplitr
  swap; · iexact H'
  ipureintro
  have hw := b11_write (F := F) (k0_off7 k) (k0_off7_inb k) g
    (k0_pay10 (BitVec.ofNat 32 q) ((b11.access (Rect.unit (s := S64) (k0_off7 k) S16.size (k0_off7_inb k))).read (Elt F) g)) ho'
  intro p
  by_cases h : p.val < 16 * k.val
  · refine (hw.2 p (.inl h)).trans ((hg p).trans ?_)
    rw [if_pos h, if_pos (by omega)]
  · by_cases h' : p.val < 16 * (k.val + 1)
    · have hl : p.val = 16 * k.val + (⟨p.val - 16 * k.val, by omega⟩ : Fin 16).val := by simp only []; omega
      refine (hw.1 p _ hl).trans ((pay10_at q _ _).trans ?_)
      rw [hv _ p hl, hg, if_neg h, if_pos h', Nat.mul_comm q 784, BitVec.ofNat_add, BitVec.add_comm, BitVec.add_sub_cancel]
    · refine (hw.2 p (.inr (by omega))).trans ((hg p).trans ?_)
      rw [if_neg h, if_neg h']

/-! ## The gathered blocks searched -/

/-- The entries taken of the first `N`, stored. -/
def Taken (N : ℕ) (acc : BitVec 32) : sProp 𝕄 :=
  iprop(⌜acc = BitVec.ofNat 32 (taken X cn th q N).length⌝ ∗ (∃ b, ⌜Kept (taken X cn th q N) (valAt X cn q) b⌝ ∗ p14 d L b)
    ∗ ∃ b, ⌜Kept (taken X cn th q N) (colAt I cn) b⌝ ∗ p15 d L b)

/-- Block `B` gathered. -/
abbrev Blocks (B : ℕ) : sProp 𝕄 := iprop(p12 d L (simBlk X cn q B) ∗ p13 d L (colBlk I cn B))

theorem lanes_trip (v27 : IVec S16 32) (h1 : k0_chk1 v27) (v28 : Vec F S16 .f32) (h28 : ∀ x, v28 x = th) (B : Fin (k0_t4_loop (hw cn)).trips)
    (r : Fin k0_t7_loop.trips) (k : Fin k0_t8_loop.trips) (acc : BitVec 32) :
    iprop(Blocks d L X I cn q B.val ∗ Taken d L X I cn th q (8192 * B.val + 128 * r.val + 16 * k.val) acc) ⊢ wp frame (wpE (defs₀ (F := F)) 𝒱₀ (TT d L) none) Set.univ
      (k0_t8_body L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 (BitVec.ofNat 32 q) v27 h1 v28 (hw cn) B r k acc)
      fun acc' => iprop(Blocks d L X I cn q B.val ∗ Taken d L X I cn th q (8192 * B.val + 128 * r.val + 16 * (k.val + 1)) acc') := by
  unfold k0_t8_body Blocks Taken
  have hB := t4_lt cn B
  have hr : r.val < 64 := Nat.lt_of_lt_of_eq r.isLt t7_trips
  have hk : k.val < 8 := Nat.lt_of_lt_of_eq k.isLt t8_trips
  have o0 : k0_off8 r k 0 = r.val := by rw [k0_off8_eq]; rfl
  have o1 : k0_off8 r k 1 = 16 * k.val := by rw [k0_off8_eq]; rfl
  iintro ⟨⟨H12, H13⟩, %hacc, ⟨%b, %hb, H14⟩, %b', %hb', H15⟩
  subst hacc
  ihave H12 := (show p12 d L (simBlk X cn q B.val) ⊢ ((b12.access (Rect.unit (s := S64x128) (k0_off8 r k) S1x16.size (k0_off8_inb r k))).loc (TT d L) ↦[Finset.univ]{fullShare} (simBlk X cn q B.val) : sProp 𝕄) from .rfl) $$ H12
  iapply (wp_load_rect 𝒱₀ (TT d L) none Set.univ (m := b12) (r := (Rect.unit (s := S64x128) (k0_off8 r k) S1x16.size (k0_off8_inb r k)))
    (hl := View.loadsAt_vmem h_S1x16) (Finset.subset_univ _)) $$ H12
  iintro H12
  have hv : ∀ l : Fin 16, (b12.access (Rect.unit (s := S64x128) (k0_off8 r k) S1x16.size (k0_off8_inb r k))).read (Elt F) (simBlk X cn q B.val) (at2 0 l)
      = valAt X cn q (8192 * B.val + 128 * r.val + 16 * k.val + l.val) := fun l =>
    (b12_read _ _ _ l ⟨r.val, hr⟩ ⟨16 * k.val + l.val, by have := l.isLt; omega⟩ o0.symm (by rw [o1])).trans (simBlk_at X cn q rfl rfl rfl)
  generalize (b12.access (Rect.unit (s := S64x128) (k0_off8 r k) S1x16.size (k0_off8_inb r k))).read (Elt F) (simBlk X cn q B.val) = v at hv ⊢
  ihave H13 := (show p13 d L (colBlk I cn B.val) ⊢ ((b13.access (Rect.unit (s := S64x128) (k0_off8 r k) S1x16.size (k0_off8_inb r k))).loc (TT d L) ↦[Finset.univ]{fullShare} (colBlk I cn B.val) : sProp 𝕄) from .rfl) $$ H13
  iapply (wp_load_rect 𝒱₀ (TT d L) none Set.univ (m := b13) (r := (Rect.unit (s := S64x128) (k0_off8 r k) S1x16.size (k0_off8_inb r k)))
    (hl := View.loadsAt_vmem h_S1x16) (Finset.subset_univ _)) $$ H13
  iintro H13
  have hv' : ∀ l : Fin 16, (b13.access (Rect.unit (s := S64x128) (k0_off8 r k) S1x16.size (k0_off8_inb r k))).read (Elt F) (colBlk I cn B.val) (at2 0 l)
      = colAt I cn (8192 * B.val + 128 * r.val + 16 * k.val + l.val) := fun l =>
    (b13_read _ _ _ l ⟨r.val, hr⟩ ⟨16 * k.val + l.val, by have := l.isLt; omega⟩ o0.symm (by rw [o1])).trans (colBlk_at I cn rfl rfl rfl)
  generalize (b13.access (Rect.unit (s := S64x128) (k0_off8 r k) S1x16.size (k0_off8_inb r k))).read (Elt F) (colBlk I cn B.val) = v' at hv' ⊢
  have hacc := accept_iff X cn th q B r v28 h28 v hk (N := 8192 * B.val + 128 * r.val + 16 * k.val) rfl hv
  have hnext : taken X cn th q (8192 * B.val + 128 * r.val + 16 * (k.val + 1)) = taken X cn th q (8192 * B.val + 128 * r.val + 16 * k.val)
      ++ added (k0_pay13 v28 (hw cn) B r v) (fun l => 8192 * B.val + 128 * r.val + 16 * k.val + l.val) :=
    (congrArg (fun n => taken X cn th q n) (by omega)).trans (filter_range_next _ (accept X cn th q) (k0_pay13 v28 (hw cn) B r v) hacc)
  rw [hnext]
  have hlen := taken_le X cn th q (8192 * B.val + 128 * r.val + 16 * k.val)
  have hbd : 8192 * B.val + 128 * r.val + 16 * k.val < 2 ^ 20 := by omega
  generalize 8192 * B.val + 128 * r.val + 16 * k.val = N at hv hv' hb hb' hlen hbd hacc ⊢
  have hN : (taken X cn th q N).length + 16 < 2 ^ 31 := by omega
  generalize taken X cn th q N = H at hb hb' hN ⊢
  have hp := place_lt H.length hN (k0_pay13 v28 (hw cn) B r v) natLt_1_32
  iapply (checked d L (A := k0_chk4 (k0_pay14 v28 (hw cn) B r (BitVec.ofNat 32 H.length) v)) ⟨hp, hp⟩)
  ihave H14 := (show p14 d L b ⊢ ((b14.access (.whole _)).loc (TT d L) ↦[(b14.access (.whole _)).set]{fullShare} b : sProp 𝕄) from by
    rw [b14_set]) $$ H14
  iapply (SparseCore.wp_vectorStoreIdx 𝒱₀ (TT d L) none Set.univ (base := b14)) $$ H14
  iintro H14
  ihave H15 := (show p15 d L b' ⊢ ((b15.access (.whole _)).loc (TT d L) ↦[(b15.access (.whole _)).set]{fullShare} b' : sProp 𝕄) from by
    rw [b15_set]) $$ H15
  iapply (SparseCore.wp_vectorStoreIdx 𝒱₀ (TT d L) none Set.univ (base := b15)) $$ H15
  iintro H15
  rw [b14_all, b14_put, b14_set, b15_all, b15_put, b15_set]
  dsimp only
  sl_step
  isplitl [H12 H13]; · isplitl [H12] <;> iassumption
  isplitr
  · ipureintro
    rw [List.length_append]
    exact carry_next _ (k0_pay13 v28 (hw cn) B r v) (fun l => N + l.val)
  isplitl [H14]
  · iexists _
    isplitr
    swap; · iexact H14
    ipureintro
    exact kept_store hN (k0_pay13 v28 (hw cn) B r v) (fun l => N + l.val) _ natLt_1_32 (fun l _ => (cast16 v l).trans (hv l)) _ hb
  · iexists _
    isplitr
    swap; · iexact H15
    ipureintro
    exact kept_store hN (k0_pay13 v28 (hw cn) B r v) (fun l => N + l.val) _ natLt_1_32 (fun l _ => (cast16 v' l).trans (hv' l)) _ hb'

theorem row_trip (v27 : IVec S16 32) (h1 : k0_chk1 v27) (v28 : Vec F S16 .f32) (h28 : ∀ x, v28 x = th) (B : Fin (k0_t4_loop (hw cn)).trips)
    (r : Fin k0_t7_loop.trips) (acc : BitVec 32) :
    iprop(Blocks d L X I cn q B.val ∗ Taken d L X I cn th q (8192 * B.val + 128 * r.val) acc) ⊢ wp frame (wpE (defs₀ (F := F)) 𝒱₀ (TT d L) none) Set.univ
      (k0_t7_body L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 (BitVec.ofNat 32 q) v27 h1 v28 (hw cn) B r acc)
      fun acc' => iprop(Blocks d L X I cn q B.val ∗ Taken d L X I cn th q (8192 * B.val + 128 * (r.val + 1)) acc') := by
  unfold k0_t7_body
  simp only [Prog.bind_lift, Prog.pure_eq_ret]
  iintro H
  sl_for (fun n (acc : BitVec 32) => iprop(Blocks d L X I cn q B.val ∗ Taken d L X I cn th q (8192 * B.val + 128 * r.val + 16 * n) acc)) $$ [H]
  case region => intro k acc; exact lanes_trip d L X I cn th q v27 h1 v28 h28 B r k acc
  · iexact H
  iintro %acc' H
  rw [show Scf.trips k0_t8_loop.lb k0_t8_loop.ub k0_t8_loop.st = 8 from t8_trips, show 8192 * B.val + 128 * r.val + 16 * 8 = 8192 * B.val + 128 * (r.val + 1) by omega]
  sl_exec
  sl_step
  iexact H

/-! ## The results filled out -/

/-- Entries before `16 n` of the row's results final, the others as the search left them. -/
def Filled (n : ℕ) : sProp 𝕄 :=
  iprop((∃ b, ⌜∀ p : Fin 384, (p.val < 16 * n → b (at1 p) = outVal X cn th q p.val)
      ∧ (16 * n ≤ p.val → p.val < (kept X cn th q).length → b (at1 p) = valAt X cn q (slot (kept X cn th q) p.val))⌝ ∗ p14 d L b)
    ∗ ∃ b, ⌜∀ p : Fin 384, (p.val < 16 * n → b (at1 p) = outCol X I cn th q p.val)
      ∧ (16 * n ≤ p.val → p.val < (kept X cn th q).length → b (at1 p) = colAt I cn (slot (kept X cn th q) p.val))⌝ ∗ p15 d L b)

theorem kept_lt : (kept X cn th q).length < 2 ^ 31 := by
  have := taken_le X cn th q (8192 * nblk cn)
  have := nblk_le cn
  unfold kept; omega

theorem filled_trip (k : Fin k0_t14_loop.trips) :
    Filled d L X I cn th q k.val ⊢ wp frame (wpE (defs₀ (F := F)) 𝒱₀ (TT d L) none) Set.univ
      (k0_t14_body L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 (BitVec.ofNat 32 (kept X cn th q).length) 0#32 k ⟨⟩)
      fun _ => Filled d L X I cn th q (k.val + 1) := by
  unfold k0_t14_body Filled
  simp only [Prog.bind_lift, Prog.pure_eq_ret]
  have hk : k.val < 24 := Nat.lt_of_lt_of_eq k.isLt t14_trips
  have ho : k0_off13 k 0 = 16 * k.val := by rw [k0_off13_eq]; rfl
  have hlen := kept_lt X cn th q
  iintro ⟨⟨%b, %hb, H14⟩, %b', %hb', H15⟩
  ihave H14 := (show p14 d L b ⊢ ((b14.access (Rect.unit (s := S384) (k0_off13 k) S16.size (k0_off13_inb k))).loc (TT d L) ↦[Finset.univ]{fullShare} b : sProp 𝕄) from .rfl) $$ H14
  iapply (wp_load_rect 𝒱₀ (TT d L) none Set.univ (m := b14) (r := (Rect.unit (s := S384) (k0_off13 k) S16.size (k0_off13_inb k)))
    (hl := View.loadsAt_vmem h_S16) (Finset.subset_univ _)) $$ H14
  iintro H14
  ihave H14 := (show p14 d L b ⊢ ((b14.access (Rect.unit (s := S384) (k0_off13 k) S16.size (k0_off13_inb k))).loc (TT d L) ↦[Finset.univ]{fullShare} b : sProp 𝕄) from .rfl) $$ H14
  iapply (wp_load_rect 𝒱₀ (TT d L) none Set.univ (m := b14) (r := (Rect.unit (s := S384) (k0_off13 k) S16.size (k0_off13_inb k)))
    (hl := View.loadsAt_vmem h_S16) (Finset.subset_univ _)) $$ H14
  iintro H14
  ihave H14 := (show p14 d L b ⊢ ((b14.access (Rect.unit (s := S384) (k0_off13 k) S16.size (k0_off13_inb k))).loc (TT d L) ↦[Finset.univ]{fullShare} b : sProp 𝕄) from .rfl) $$ H14
  iapply (wp_store 𝒱₀ (TT d L) none Set.univ (m := b14) (r := (Rect.unit (s := S384) (k0_off13 k) S16.size (k0_off13_inb k)))
    (Mk := Finset.univ) (hx := View.stores_vmem_bits_univ h_S16 rfl) (hm := .inl rfl) (Finset.subset_univ _)) $$ H14
  iintro H14
  ihave H15 := (show p15 d L b' ⊢ ((b15.access (Rect.unit (s := S384) (k0_off13 k) S16.size (k0_off13_inb k))).loc (TT d L) ↦[Finset.univ]{fullShare} b' : sProp 𝕄) from .rfl) $$ H15
  iapply (wp_load_rect 𝒱₀ (TT d L) none Set.univ (m := b15) (r := (Rect.unit (s := S384) (k0_off13 k) S16.size (k0_off13_inb k)))
    (hl := View.loadsAt_vmem h_S16) (Finset.subset_univ _)) $$ H15
  iintro H15
  ihave H15 := (show p15 d L b' ⊢ ((b15.access (Rect.unit (s := S384) (k0_off13 k) S16.size (k0_off13_inb k))).loc (TT d L) ↦[Finset.univ]{fullShare} b' : sProp 𝕄) from .rfl) $$ H15
  iapply (wp_load_rect 𝒱₀ (TT d L) none Set.univ (m := b15) (r := (Rect.unit (s := S384) (k0_off13 k) S16.size (k0_off13_inb k)))
    (hl := View.loadsAt_vmem h_S16) (Finset.subset_univ _)) $$ H15
  iintro H15
  ihave H15 := (show p15 d L b' ⊢ ((b15.access (Rect.unit (s := S384) (k0_off13 k) S16.size (k0_off13_inb k))).loc (TT d L) ↦[Finset.univ]{fullShare} b' : sProp 𝕄) from .rfl) $$ H15
  iapply (wp_store 𝒱₀ (TT d L) none Set.univ (m := b15) (r := (Rect.unit (s := S384) (k0_off13 k) S16.size (k0_off13_inb k)))
    (Mk := Finset.univ) (hx := View.stores_vmem_bits_univ h_S16 rfl) (hm := .inl rfl) (Finset.subset_univ _)) $$ H15
  iintro H15
  have hv : ∀ (l : Fin 16) (j : Fin 384), j.val = 16 * k.val + l.val →
      (b14.access (Rect.unit (s := S384) (k0_off13 k) S16.size (k0_off13_inb k))).read (Elt F) b (at1 l) = b (at1 j) := fun l j h =>
    b14_read _ _ _ _ _ (h.trans (by rw [ho]))
  have hv' : ∀ (l : Fin 16) (j : Fin 384), j.val = 16 * k.val + l.val →
      (b15.access (Rect.unit (s := S384) (k0_off13 k) S16.size (k0_off13_inb k))).read (Elt F) b' (at1 l) = b' (at1 j) := fun l j h =>
    b15_read _ _ _ _ _ (h.trans (by rw [ho]))
  have hw := b14_write (F := F) (k0_off13 k) (k0_off13_inb k) b (k0_pay2 (BitVec.ofNat 32 (kept X cn th q).length) 0#32 k
    ((b14.access (Rect.unit (s := S384) (k0_off13 k) S16.size (k0_off13_inb k))).read (Elt F) b)) ho
  have hw' := b15_write (F := F) (k0_off13 k) (k0_off13_inb k) b' (k0_pay3 (BitVec.ofNat 32 (kept X cn th q).length) 0#32 k
    ((b15.access (Rect.unit (s := S384) (k0_off13 k) S16.size (k0_off13_inb k))).read (Elt F) b')) ho
  sl_step
  isplitl [H14]
  · iexists _
    isplitr
    swap; · iexact H14
    ipureintro
    intro p
    refine ⟨fun hp => ?_, fun hp hp' => (hw.2 p (.inr (by omega))).trans ((hb p).2 (by omega) hp')⟩
    by_cases h : p.val < 16 * k.val
    · exact (hw.2 p (.inl h)).trans ((hb p).1 h)
    · have hl : p.val = 16 * k.val + (⟨p.val - 16 * k.val, by omega⟩ : Fin 16).val := by simp only []; omega
      refine (hw.1 p _ hl).trans ((pay2_at _ hlen k _ _).trans ?_)
      rw [← hl]
      unfold outVal
      split
      · rename_i h'
        exact (hv _ p hl).trans ((hb p).2 (by omega) h')
      · rfl
  · iexists _
    isplitr
    swap; · iexact H15
    ipureintro
    intro p
    refine ⟨fun hp => ?_, fun hp hp' => (hw'.2 p (.inr (by omega))).trans ((hb' p).2 (by omega) hp')⟩
    by_cases h : p.val < 16 * k.val
    · exact (hw'.2 p (.inl h)).trans ((hb' p).1 h)
    · have hl : p.val = 16 * k.val + (⟨p.val - 16 * k.val, by omega⟩ : Fin 16).val := by simp only []; omega
      refine (hw'.1 p _ hl).trans ((pay3_at _ hlen k _ _).trans ?_)
      rw [← hl]
      unfold outCol
      split
      · rename_i h'
        exact (hv' _ p hl).trans ((hb' p).2 (by omega) h')
      · rfl

end Cert.Proof.Compact

end
-- ==== Proof.CompactTile.lean ====
/- One row's work: its counts and threshold fetched, its chunks found, gathered and searched block by block, and its results written
   out. -/
module

public import proofs.«01_k».proof.Proof.CompactLoops

@[expose] public section

noncomputable section

namespace Cert.Proof.Compact

open Cert.CompactIdeal Cert.CompactIdeal.Gen Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

variable (vX : Dev nD → Vec F S802816x128 .f32) (vT : Dev nD → Vec F S1024 .f32) (vC : Dev nD → Vec F S1024x784 .i32) (vJ : Dev nD → Vec F S784x128 .i32)

omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

abbrev xPts : sProp 𝕄 := xLoc d ↦{tq (cL L) (jL L)} vX d
abbrev tPts : sProp 𝕄 := tLoc d ↦{tq (cL L) (jL L)} vT d
abbrev cPts : sProp 𝕄 := cLoc d ↦{tq (cL L) (jL L)} vC d
abbrev jPts : sProp 𝕄 := jLoc d ↦{tq (cL L) (jL L)} vJ d

/-- What the tile owes, and the waits it has made. -/
def Owes (O : CellTallies nD τ sig (HIx 1)) (W : Waits sig (HIx 1)) : sProp 𝕄 := iprop(∃ W', ⌜∀ p ∈ W', p ∈ W ∨ p.2 = none⌝ ∗ owes (TT d L) O W')

/-! ## The row's counts and threshold fetched -/

/-- Trip `k`'s row. -/
abbrev rowF (k : Fin k0_t1_loop.trips) : Fin 1024 := ⟨rowNo L k.val, rowNo_lt L k⟩

abbrev cRow (k : Fin k0_t1_loop.trips) : Memref sig .scVector .hbm S784 .i32 :=
  (aC.slice (Rect.unit (s := S1024x784) (k0_off1 L k) S1x784.size (k0_off1_inb L k)) (fun _ => rfl)).squeeze S784 squeezes_S1x784_S784

abbrev tRow (k : Fin k0_t1_loop.trips) : Memref sig .scVector .hbm S16 .f32 :=
  aT.slice (Rect.unit (s := S1024) (k0_off2 L k) S16.size (k0_off2_inb L k)) (fun _ => rfl)

/-- The sixteen thresholds among which the row's is. -/
def thrs (k : Fin k0_t1_loop.trips) : Vec F S16 .f32 := fun x => vT d (at1 (Fin.ofNat 1024 (rowNo L k.val / 16 * 16 + (x 0).val)))

omit [FloatOps F] in
/-- A one-row array's elements in line. -/
theorem as_row {n : ℕ} (h : (⟨1, ![n]⟩ : Shape).numel = (⟨2, ![1, n]⟩ : Shape).numel) (y : Fin n) :
    Shape.reshapeEquiv (s := ⟨2, ![1, n]⟩) (s' := ⟨1, ![n]⟩) h (at1 y) = at2 0 y := Shape.reshapeEquiv_eq_of_rowMajor _ (by
  rw [Shape.rowMajor_val_two (d := ![1, n]), Shape.rowMajor_val_one (d := ![n])]
  show 0 * n + y.val = y.val
  omega)

omit [FloatOps F] in
theorem cRow_emb (k : Fin k0_t1_loop.trips) (x : S784.Idx) : (cRow L k).view.emb x = at2 (rowF L k) (x 0) := by
  have e : (Shape.reshapeEquiv (s := S1x784) (s' := S784) squeezes_S1x784_S784.numel_eq) x = at2 0 (x 0) :=
    (congrArg _ (show x = at1 (x 0) from ext1 rfl)).trans (as_row squeezes_S1x784_S784.numel_eq (x 0))
  refine Eq.trans (congrArg (aC.slice (Rect.unit (s := S1024x784) (k0_off1 L k) S1x784.size (k0_off1_inb L k)) (fun _ => rfl)).view.emb e) (ext2 ?_ ?_)
  · refine (ValueKit.view_emb_slice_whole_unit_val main_arg2_scv (k0_off1 L k) S1x784.size (k0_off1_inb L k) (at2 0 (x 0)) 0).trans ?_
    exact congrArg (· + 0) (congrFun (k0_off1_eq L k) 0)
  · refine (ValueKit.view_emb_slice_whole_unit_val main_arg2_scv (k0_off1 L k) S1x784.size (k0_off1_inb L k) (at2 0 (x 0)) 1).trans ?_
    exact (congrArg (· + (x 0).val) (congrFun (k0_off1_eq L k) 1)).trans (Nat.zero_add _)

theorem cRow_eq (k : Fin k0_t1_loop.trips) : (cRow L k).view.read (Elt F) (vC d) = cnRow (vC d) (rowF L k) := by
  funext x
  rw [View.read_apply]
  exact (cast_eq _ _).trans (congrArg (vC d) (cRow_emb L k x))

theorem tRow_eq (k : Fin k0_t1_loop.trips) : (tRow L k).view.read (Elt F) (vT d) = thrs d L vT k := by
  funext x
  have hr := rowNo_lt L k
  have hx : (x 0).val < 16 := (x 0).isLt
  rw [View.read_apply]
  refine (cast_eq _ _).trans (congrArg (vT d) (ext1 ?_))
  refine (ValueKit.view_emb_slice_whole_unit_val main_v9_scv (k0_off2 L k) S16.size (k0_off2_inb L k) x 0).trans ?_
  rw [off2_val]
  exact (Nat.mod_eq_of_lt (by omega)).symm

/-- The row's word and its place among sixteen. -/
def IsRow (k : Fin k0_t1_loop.trips) (v4 : BitVec 32) (v27 : IVec S16 32) : Prop :=
  v4 = BitVec.ofNat 32 (rowNo L k.val) ∧ ∀ x, (v27 x).toNat = rowNo L k.val % 16

/-- The row's word, as the tile computes it. -/
abbrev rowWord (k : Fin k0_t1_loop.trips) : BitVec 32 :=
  Scalar.addi (Scalar.muli (Scalar.addi (Scalar.muli (BitVec.ofNat 32 (L 1).val) 2#32) (BitVec.ofNat 32 (L 0).val)) 32#32) (Scf.iv 0#32 1#32 k)

theorem place_row (k : Fin k0_t1_loop.trips) (x : S16.Idx) : ((broadcast S16 (rem16 (rowWord L k)) : IVec S16 32) x).toNat = rowNo L k.val % 16 :=
  (congrArg (fun w => (rem16 w).toNat) (row_word L k)).trans (rem16_all (rowF L k))

theorem chk1_row (k : Fin k0_t1_loop.trips) : k0_chk1 (broadcast S16 (rem16 (rowWord L k))) := by
  intro a x
  match a with
  | 0 => exact Nat.lt_of_le_of_lt (Nat.le_of_eq (place_row L k x)) (Nat.mod_lt _ (by decide))

set_option maxHeartbeats 1000000 in
theorem fetch_spec (O : CellTallies nD τ sig (HIx 1)) (W : Waits sig (HIx 1)) (k : Fin k0_t1_loop.trips) :
    iprop(Transfers.MayWaits (TT d L) (default : HIx 1) O ∗ cPts d L vC ∗ tPts d L vT ∗ (∃ f, p8 (F := F) d L f) ∗ (∃ f, p9 (F := F) d L f)
        ∗ semVal (TT d L, .dma cc0_scoped0.sem) 0 ∗ semVal (TT d L, .dma cc0_scoped1.sem) 0 ∗ Owes d L O W) ⊢ wp frame (wpE (defs₀ (F := F)) 𝒱₀ (TT d L) none) Set.univ
      (k0_part1 L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 (Scalar.addi (Scalar.muli (BitVec.ofNat 32 (L 1).val) 2#32) (BitVec.ofNat 32 (L 0).val)) 0#32 1#32 k)
      fun r => iprop(⌜IsRow L k r.1 r.2.1⌝ ∗ cPts d L vC ∗ tPts d L vT ∗ p8 d L (cnRow (vC d) (rowF L k)) ∗ p9 d L (thrs d L vT k)
        ∗ semVal (TT d L, .dma cc0_scoped0.sem) 0 ∗ semVal (TT d L, .dma cc0_scoped1.sem) 0 ∗ Owes d L O W) := by
  rw [k0_part1_eq_skeleton]; unfold k0_part1_skel Owes
  iintro ⟨#Hmw, Hc, Ht, ⟨%f8, H8⟩, ⟨%f9, H9⟩, HsA, HsB, %W', %hW', HO⟩
  ihave Hc := (show cPts d L vC ⊢ (aC.view.loc (TT d L) ↦{tq (cL L) (jL L)} vC d : sProp 𝕄) from .rfl) $$ Hc
  ihave Ht := (show tPts d L vT ⊢ (aT.view.loc (TT d L) ↦{tq (cL L) (jL L)} vT d : sProp 𝕄) from .rfl) $$ Ht
  ihave H8 := (show p8 d L f8 ⊢ (b8.view.loc (TT d L) ↦{fullShare} f8 : sProp 𝕄) from .rfl) $$ H8
  ihave H9 := (show p9 d L f9 ⊢ (b9.view.loc (TT d L) ↦{fullShare} f9 : sProp 𝕄) from .rfl) $$ H9
  sl_exec (disch := first | exact View.amount_pos _ _ (show 0 < S784.numel by decide) | exact View.amount_pos _ _ (show 0 < S16.numel by decide) | exact chk1_row L k)
  ihave H8 := (Entails.of_eq (show (b8.view.loc (TT d L) ↦{fullShare} View.write (Elt F) b8.view f8 (fetch_spec.sl.dma0 d L vC k) Finset.univ : sProp 𝕄)
      = p8 d L (cnRow (vC d) (rowF L k)) from by rw [View.write_whole_univ]; exact congrArg (p8 d L) (cRow_eq d L vC k))) $$ H8
  ihave H9 := (Entails.of_eq (show (b9.view.loc (TT d L) ↦{fullShare} View.write (Elt F) b9.view f9 (fetch_spec.sl.dma0_1 d L vT k) Finset.univ : sProp 𝕄)
      = p9 d L (thrs d L vT k) from by rw [View.write_whole_univ]; exact congrArg (p9 d L) (tRow_eq d L vT k))) $$ H9
  sl_step
  isplitr; · ipureintro; exact ⟨row_word L k, place_row L k⟩
  isplitl [Hc]; · iexact Hc
  isplitl [Ht]; · iexact Ht
  isplitl [H8]; · iexact H8
  isplitl [H9]; · iexact H9
  isplitl [HsA]; · iexact HsA
  isplitl [HsB]; · iexact HsB
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

/-! ## A block gathered and searched -/

variable (cn : Vec F S784 .i32) (th : F .f32) (q : ℕ)

abbrev xAll : Memref sig .scVector .hbm S802816x128 .f32 :=
  aX.slice (Rect.unit (s := S802816x128) ![0, 0] S802816x128.size inb_S802816x128_S802816x128_0_0) (fun _ => rfl)
abbrev jAll : Memref sig .scVector .hbm S784x128 .i32 :=
  aJ.slice (Rect.unit (s := S784x128) ![0, 0] S784x128.size inb_S784x128_S784x128_0_0) (fun _ => rfl)

/-- Block `B`'s row numbers, all made. -/
def RowNos (B : ℕ) (g : Vec F S64 .i32) : Prop := ∀ p : Fin 64, g (at1 p) = BitVec.ofNat 32 (784 * q + chunkAt cn (64 * B + p.val))
/-- Block `B`'s chunk numbers, all made. -/
def ChunkNos (B : ℕ) (g : Vec F S64 .i32) : Prop := ∀ p : Fin 64, g (at1 p) = BitVec.ofNat 32 (chunkAt cn (64 * B + p.val))

variable {cn q}

omit [FloatOps F] in
theorem rowNos_at (hq : q < 1024) {B : ℕ} {g : Vec F S64 .i32} (hg : RowNos cn q B g) (x : S64.Idx) :
    (g x).toNat = 784 * q + chunkAt cn (64 * B + (x 0).val) := by
  refine (congrArg BitVec.toNat ((congrArg g (show x = at1 (x 0) from ext1 rfl)).trans (hg (x 0)))).trans ?_
  have := chunkAt_lt cn (64 * B + (x 0).val)
  rw [BitVec.toNat_ofNat]; exact Nat.mod_eq_of_lt (by omega)

omit [FloatOps F] in
theorem chunkNos_at {B : ℕ} {g : Vec F S64 .i32} (hg : ChunkNos cn B g) (x : S64.Idx) :
    (g x).toNat = chunkAt cn (64 * B + (x 0).val) := by
  refine (congrArg BitVec.toNat ((congrArg g (show x = at1 (x 0) from ext1 rfl)).trans (hg (x 0)))).trans ?_
  have := chunkAt_lt cn (64 * B + (x 0).val)
  rw [BitVec.toNat_ofNat]; exact Nat.mod_eq_of_lt (by omega)

theorem rows_inb (hq : q < 1024) {B : ℕ} {g : Vec F S64 .i32} (hg : RowNos cn q B g) (x : S64.Idx) :
    (b11.view.read (Elt F) g x).toNat < S802816x128.size gathers_S802816x128_S64x128.axis := by
  have h := chunkAt_lt cn (64 * B + (x 0).val)
  exact Nat.lt_of_le_of_lt (Nat.le_of_eq (rowNos_at hq hg x)) (show 784 * q + _ < 802816 by omega)

theorem chunks_inb {B : ℕ} {g : Vec F S64 .i32} (hg : ChunkNos cn B g) (x : S64.Idx) :
    (b11.view.read (Elt F) g x).toNat < S784x128.size gathers_S784x128_S64x128.axis :=
  Nat.lt_of_le_of_lt (Nat.le_of_eq (chunkNos_at hg x)) (chunkAt_lt cn (64 * B + (x 0).val))

theorem simBlk_eq (hq : q < 1024) {B : ℕ} {g : Vec F S64 .i32} (hg : RowNos cn q B g) (X : Vec F S802816x128 .f32)
    (hn : S64.numel = S64x128.size gathers_S802816x128_S64x128.axis') :
    SparseCore.gatherPayload gathers_S802816x128_S64x128 (xAll.view.read (Elt F) X) (SparseCore.rows (b11.view.read (Elt F) g) hn (rows_inb hq hg)) = simBlk X cn q B := by
  funext x
  unfold SparseCore.gatherPayload simBlk
  rw [View.read_apply]
  refine (cast_eq _ _).trans (congrArg X (ext2 ?_ ?_))
  · refine (ValueKit.view_emb_slice_whole_unit_val main_arg0_scv ![0, 0] S802816x128.size inb_S802816x128_S802816x128_0_0 _ 0).trans ?_
    refine (Nat.zero_add _).trans ?_
    refine (congrArg Fin.val (Shape.Gathers.idx_axis gathers_S802816x128_S64x128 _ x)).trans ?_
    have e : (S64.rowMajor.symm ((x gathers_S802816x128_S64x128.axis').cast hn.symm)) = at1 (x 0) := by
      refine (Equiv.symm_apply_eq _).mpr (Fin.ext ?_)
      exact (Shape.rowMajor_val_one (d := ![64]) (at1 (x 0))).symm
    show (g (S64.rowMajor.symm ((x gathers_S802816x128_S64x128.axis').cast hn.symm))).toNat = (784 * q + chunkAt cn (64 * B + (x 0).val)) % 802816
    refine (congrArg (fun i => (g i).toNat) e).trans ((rowNos_at hq hg (at1 (x 0))).trans ?_)
    have := chunkAt_lt cn (64 * B + ((at1 (x 0) : S64.Idx) 0).val)
    exact (Nat.mod_eq_of_lt (by omega)).symm
  · refine (ValueKit.view_emb_slice_whole_unit_val main_arg0_scv ![0, 0] S802816x128.size inb_S802816x128_S802816x128_0_0 _ 1).trans ?_
    refine (Nat.zero_add _).trans ?_
    exact Shape.Gathers.idx_of_ne gathers_S802816x128_S64x128 _ x 1 (by decide)

theorem colBlk_eq {B : ℕ} {g : Vec F S64 .i32} (hg : ChunkNos cn B g) (J : Vec F S784x128 .i32)
    (hn : S64.numel = S64x128.size gathers_S784x128_S64x128.axis') :
    SparseCore.gatherPayload gathers_S784x128_S64x128 (jAll.view.read (Elt F) J) (SparseCore.rows (b11.view.read (Elt F) g) hn (chunks_inb hg)) = colBlk J cn B := by
  funext x
  unfold SparseCore.gatherPayload colBlk
  rw [View.read_apply]
  refine (cast_eq _ _).trans (congrArg J (ext2 ?_ ?_))
  · refine (ValueKit.view_emb_slice_whole_unit_val main_v8_scv ![0, 0] S784x128.size inb_S784x128_S784x128_0_0 _ 0).trans ?_
    refine (Nat.zero_add _).trans ?_
    refine (congrArg Fin.val (Shape.Gathers.idx_axis gathers_S784x128_S64x128 _ x)).trans ?_
    have e : (S64.rowMajor.symm ((x gathers_S784x128_S64x128.axis').cast hn.symm)) = at1 (x 0) := by
      refine (Equiv.symm_apply_eq _).mpr (Fin.ext ?_)
      exact (Shape.rowMajor_val_one (d := ![64]) (at1 (x 0))).symm
    show (g (S64.rowMajor.symm ((x gathers_S784x128_S64x128.axis').cast hn.symm))).toNat = chunkAt cn (64 * B + (x 0).val) % 784
    refine (congrArg (fun i => (g i).toNat) e).trans ((chunkNos_at hg (at1 (x 0))).trans ?_)
    exact (Nat.mod_eq_of_lt (chunkAt_lt cn _)).symm
  · refine (ValueKit.view_emb_slice_whole_unit_val main_v8_scv ![0, 0] S784x128.size inb_S784x128_S784x128_0_0 _ 1).trans ?_
    refine (Nat.zero_add _).trans ?_
    exact Shape.Gathers.idx_of_ne gathers_S784x128_S64x128 _ x 1 (by decide)

variable (cn q)

/-- What the tile holds between blocks. -/
def blockInv (O : CellTallies nD τ sig (HIx 1)) (W : Waits sig (HIx 1)) (B : ℕ) (acc : BitVec 32) : sProp 𝕄 :=
  iprop(Transfers.MayWaits (TT d L) (default : HIx 1) O ∗ xPts d L vX ∗ jPts d L vJ ∗ (∃ b, ⌜Chunks cn b⌝ ∗ p10 d L b)
    ∗ (∃ f, p11 (F := F) d L f) ∗ (∃ f, p12 (F := F) d L f) ∗ (∃ f, p13 (F := F) d L f) ∗ Taken d L (vX d) (vJ d) cn th q (8192 * B) acc
    ∗ semVal (TT d L, .dma cc0_scratch8.sem) 0 ∗ semVal (TT d L, .dma cc0_scratch9.sem) 0 ∗ Owes d L O W)

set_option maxHeartbeats 1000000 in
theorem block_trip (hq : q < 1024) (v27 : IVec S16 32) (h1 : k0_chk1 v27) (v28 : Vec F S16 .f32) (h28 : ∀ x, v28 x = th) (h3 : k0_chk3 (hw cn))
    (O : CellTallies nD τ sig (HIx 1)) (W : Waits sig (HIx 1)) (B : Fin (k0_t4_loop (hw cn)).trips) (acc : BitVec 32) :
    blockInv d L vX vJ cn th q O W B.val acc ⊢ wp frame (wpE (defs₀ (F := F)) 𝒱₀ (TT d L) none) Set.univ
      (k0_t4_body L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 (BitVec.ofNat 32 q) v27 h1 v28 (hw cn) h3 B acc)
      fun acc' => blockInv d L vX vJ cn th q O W (B.val + 1) acc' := by
  unfold k0_t4_body blockInv Owes
  iintro ⟨#Hmw, Hx, Hj, ⟨%b, %hb, H10⟩, ⟨%f11, H11⟩, ⟨%f12, H12⟩, ⟨%f13, H13⟩, HT, HsG, HsH, %W', %hW', HO⟩
  -- the row numbers
  sl_for (fun n (_ : Unit) => Rows d L cn q B.val n) $$ [H10 H11]
  case region => intro n _; exact rows_trip d L cn q v27 h1 h3 B n
  · unfold Rows
    isplitl [H10]; · iexists b; isplitr; · ipureintro; exact hb
                     iexact H10
    iexists f11; isplitr; · ipureintro; intro p hp; omega
    iexact H11
  iintro %_ HR
  rw [show Scf.trips k0_t5_loop.lb k0_t5_loop.ub k0_t5_loop.st = 4 from t5_trips]
  unfold Rows
  icases HR with ⟨H10, %g, %hg', H11⟩
  have hg : RowNos cn q B.val g := fun p => hg' p (by have := p.isLt; omega)
  sl_exec
  -- the rows gathered
  have hs11 : b11.view.set = Finset.univ := View.set_whole _
  have hs12 : b12.view.set = Finset.univ := View.set_whole _
  have hs13 : b13.view.set = Finset.univ := View.set_whole _
  ihave Hxs := (pointsTo_split_subset (ℓ := xLoc d) (q := tq (cL L) (jL L)) (f := vX d) (S := Finset.univ) (Finset.subset_univ xAll.view.set)).1 $$ Hx
  icases Hxs with ⟨Hxs, Hxr⟩
  ihave H12 := (Entails.of_eq (show (p12 d L f12 : sProp 𝕄) = (b12.view.loc (TT d L) ↦[b12.view.set]{fullShare} f12) from by rw [hs12])) $$ H12
  ihave H11 := (Entails.of_eq (show (p11 d L g : sProp 𝕄) = (b11.view.loc (TT d L) ↦[b11.view.set]{fullShare} g) from by rw [hs11])) $$ H11
  have hN : ∀ h : S802816x128.Gathers 0 S64x128, ∑ j, (b12.slice (S64x128.rowRect h.axis' j) (S64x128.stride_rowRect h.axis' j)).view.dmaCredit
      = b12.view.dmaCredit := by decide
  iapply (SparseCore.wp_indirectGatherLocal countersEmb 𝒱₀ (TT d L) none (hg := gathers_S802816x128_S64x128) (default : HIx 1)
      b12.view.dmaCredit (hN _) (by decide) (rows_inb hq hg)) $$ [Hxs H12 H11 HsG]
  · isplitl [Hxs]; · iexact Hxs
    isplitl [H12]; · iexact H12
    isplitl [H11]; · iexact H11
    iexact HsG
  iintro Hfl
  sl_exec
  iapply (Transfers.wp_waitLocalO countersEmb 𝒱₀ (TT d L) none (default : HIx 1) (rfl : b12.view.dmaCredit = _)) $$ [Hfl HO]
  · isplitl [Hfl]; · iexact Hfl
    isplitl [HO]; · iexact HO
    iapply (Transfers.MayWaits.elim (SemLoc.dma cc0_scratch8.sem)) $$ Hmw
  iintro ⟨⟨H12, Hxs, H11⟩, HsG, HO⟩
  ihave Hx := (pointsTo_split_subset (ℓ := xLoc d) (q := tq (cL L) (jL L)) (f := vX d) (S := Finset.univ) (Finset.subset_univ xAll.view.set)).2 $$ [Hxs Hxr]
  · isplitl [Hxs] <;> iassumption
  ihave H12 := (Entails.of_eq (show (b12.view.loc (TT d L) ↦[b12.view.set]{fullShare} View.write (Elt F) b12.view f12 _ Finset.univ : sProp 𝕄)
      = p12 d L (simBlk (vX d) cn q B.val) from by
        rw [hs12, View.write_whole_univ]; exact congrArg (p12 d L) (simBlk_eq hq hg (vX d) _))) $$ H12
  ihave H11 := (Entails.of_eq (show (b11.view.loc (TT d L) ↦[b11.view.set]{fullShare} g : sProp 𝕄) = p11 d L g from by rw [hs11])) $$ H11
  -- the chunk numbers
  sl_exec
  sl_for (fun n (_ : Unit) => Chunked d L cn q B.val n) $$ [H11]
  case region => intro n _; exact chunked_trip d L cn q v27 h1 B.val n
  · unfold Chunked
    iexists g; isplitr
    swap; · iexact H11
    ipureintro; intro p; rw [if_neg (by omega)]; exact hg p
  iintro %_ HR
  rw [show Scf.trips k0_t6_loop.lb k0_t6_loop.ub k0_t6_loop.st = 4 from t6_trips]
  unfold Chunked
  icases HR with ⟨%g', %hg'', H11⟩
  have hc : ChunkNos cn B.val g' := fun p => (hg'' p).trans (if_pos (by have := p.isLt; omega))
  sl_exec
  -- the column numbers gathered
  ihave Hjs := (pointsTo_split_subset (ℓ := jLoc d) (q := tq (cL L) (jL L)) (f := vJ d) (S := Finset.univ) (Finset.subset_univ jAll.view.set)).1 $$ Hj
  icases Hjs with ⟨Hjs, Hjr⟩
  ihave H13 := (Entails.of_eq (show (p13 d L f13 : sProp 𝕄) = (b13.view.loc (TT d L) ↦[b13.view.set]{fullShare} f13) from by rw [hs13])) $$ H13
  ihave H11 := (Entails.of_eq (show (p11 d L g' : sProp 𝕄) = (b11.view.loc (TT d L) ↦[b11.view.set]{fullShare} g') from by rw [hs11])) $$ H11
  have hN' : ∀ h : S784x128.Gathers 0 S64x128, ∑ j, (b13.slice (S64x128.rowRect h.axis' j) (S64x128.stride_rowRect h.axis' j)).view.dmaCredit
      = b13.view.dmaCredit := by decide
  iapply (SparseCore.wp_indirectGatherLocal countersEmb 𝒱₀ (TT d L) none (hg := gathers_S784x128_S64x128) (default : HIx 1)
      b13.view.dmaCredit (hN' _) (by decide) (chunks_inb hc)) $$ [Hjs H13 H11 HsH]
  · isplitl [Hjs]; · iexact Hjs
    isplitl [H13]; · iexact H13
    isplitl [H11]; · iexact H11
    iexact HsH
  iintro Hfl
  sl_exec
  iapply (Transfers.wp_waitLocalO countersEmb 𝒱₀ (TT d L) none (default : HIx 1) (rfl : b13.view.dmaCredit = _)) $$ [Hfl HO]
  · isplitl [Hfl]; · iexact Hfl
    isplitl [HO]; · iexact HO
    iapply (Transfers.MayWaits.elim (SemLoc.dma cc0_scratch9.sem)) $$ Hmw
  iintro ⟨⟨H13, Hjs, H11⟩, HsH, HO⟩
  ihave Hj := (pointsTo_split_subset (ℓ := jLoc d) (q := tq (cL L) (jL L)) (f := vJ d) (S := Finset.univ) (Finset.subset_univ jAll.view.set)).2 $$ [Hjs Hjr]
  · isplitl [Hjs] <;> iassumption
  ihave H13 := (Entails.of_eq (show (b13.view.loc (TT d L) ↦[b13.view.set]{fullShare} View.write (Elt F) b13.view f13 _ Finset.univ : sProp 𝕄)
      = p13 d L (colBlk (vJ d) cn B.val) from by
        rw [hs13, View.write_whole_univ]; exact congrArg (p13 d L) (colBlk_eq hc (vJ d) _))) $$ H13
  ihave H11 := (Entails.of_eq (show (b11.view.loc (TT d L) ↦[b11.view.set]{fullShare} g' : sProp 𝕄) = p11 d L g' from by rw [hs11])) $$ H11
  -- the block searched
  sl_exec
  sl_for (fun n (acc : BitVec 32) => iprop(Blocks d L (vX d) (vJ d) cn q B.val ∗ Taken d L (vX d) (vJ d) cn th q (8192 * B.val + 128 * n) acc)) $$ [H12 H13 HT]
  case region => intro r acc; exact row_trip d L (vX d) (vJ d) cn th q v27 h1 v28 h28 B r acc
  · isplitl [H12 H13]
    · isplitl [H12] <;> iassumption
    iexact HT
  iintro %acc' ⟨⟨H12, H13⟩, HT⟩
  rw [show Scf.trips k0_t7_loop.lb k0_t7_loop.ub k0_t7_loop.st = 64 from t7_trips, show 8192 * B.val + 128 * 64 = 8192 * (B.val + 1) by omega]
  sl_exec
  sl_step
  isplitr; · iexact Hmw
  isplitl [Hx]; · iexact Hx
  isplitl [Hj]; · iexact Hj
  isplitl [H10]; · iexact H10
  isplitl [H11]; · iexists _; iexact H11
  isplitl [H12]; · iexists _; iexact H12
  isplitl [H13]; · iexists _; iexact H13
  isplitl [HT]; · iexact HT
  isplitl [HsG]; · iexact HsG
  isplitl [HsH]; · iexact HsH
  iexists _; isplitr
  swap; · iexact HO
  ipureintro; intro p hp
  rcases Finset.mem_insert.mp hp with hp | hp; · exact .inr (hp ▸ rfl)
  rcases Finset.mem_insert.mp hp with hp | hp; · exact .inr (hp ▸ rfl)
  exact hW' p hp

end Cert.Proof.Compact

end
-- ==== Proof.CompactSearch.lean ====
/- One row's work: its chunks found, gathered and searched block by block, and its results written out; and the tile's 32 rows. -/
module

public import proofs.«01_k».proof.Proof.CompactTile

@[expose] public section

noncomputable section

namespace Cert.Proof.Compact

open Cert.CompactIdeal Cert.CompactIdeal.Gen Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

variable (vX : Dev nD → Vec F S802816x128 .f32) (vT : Dev nD → Vec F S1024 .f32) (vC : Dev nD → Vec F S1024x784 .i32) (vJ : Dev nD → Vec F S784x128 .i32)
variable (cn : Vec F S784 .i32) (th : F .f32) (q : ℕ)

/-! ## The row's chunks found and searched -/

/-- What the search needs besides the row's counts and threshold. -/
def searchInv (O : CellTallies nD τ sig (HIx 1)) (W : Waits sig (HIx 1)) : sProp 𝕄 :=
  iprop(Transfers.MayWaits (TT d L) (default : HIx 1) O ∗ xPts d L vX ∗ jPts d L vJ ∗ (∃ f, p10 (F := F) d L f)
    ∗ (∃ f, p11 (F := F) d L f) ∗ (∃ f, p12 (F := F) d L f) ∗ (∃ f, p13 (F := F) d L f)
    ∗ semVal (TT d L, .dma cc0_scratch8.sem) 0 ∗ semVal (TT d L, .dma cc0_scratch9.sem) 0 ∗ Owes d L O W)

/-- The values and columns taken, in the result buffers. -/
abbrev Results (X : Vec F S802816x128 .f32) (I : Vec F S784x128 .i32) : sProp 𝕄 :=
  iprop((∃ b, ⌜Kept (kept X cn th q) (valAt X cn q) b⌝ ∗ p14 d L b) ∗ ∃ b, ⌜Kept (kept X cn th q) (colAt I cn) b⌝ ∗ p15 d L b)

theorem lane_all (t : Vec F S16 .f32) (v27 : IVec S16 32) (hi) (y : Fin 16) (h27 : ∀ x, (v27 x).toNat = y.val) (x : S16.Idx) :
    loadIdx (F := F) t (![v27] : Fin 1 → IVec S16 32) hi x = t (at1 y) := congrArg t (ext1 (h27 x))

set_option maxHeartbeats 1000000 in
theorem search_spec (hq : q < 1024) (t : Vec F S16 .f32) (v27 : IVec S16 32) (h1 : k0_chk1 v27) (y : Fin 16) (h27 : ∀ x, (v27 x).toNat = y.val) (ht : t (at1 y) = th)
    (O : CellTallies nD τ sig (HIx 1)) (W : Waits sig (HIx 1)) :
    iprop(searchInv d L vX vJ O W ∗ p8 d L cn ∗ p9 d L t ∗ (∃ f, p14 (F := F) d L f) ∗ (∃ f, p15 (F := F) d L f)) ⊢ wp frame (wpE (defs₀ (F := F)) 𝒱₀ (TT d L) none) Set.univ
      (k0_part2 L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 (BitVec.ofNat 32 q) v27 h1)
      fun r => iprop(⌜r = ⟨BitVec.ofNat 32 (kept (vX d) cn th q).length, 0#32⟩⌝ ∗ searchInv d L vX vJ O W ∗ p8 d L cn ∗ p9 d L t
        ∗ Results d L cn th q (vX d) (vJ d)) := by
  rw [k0_part2_eq_skeleton]; unfold k0_part2_skel searchInv
  iintro ⟨⟨#Hmw, Hx, Hj, ⟨%f10, H10⟩, H11, H12, H13, HsG, HsH, HO⟩, H8, H9, ⟨%f14, H14⟩, ⟨%f15, H15⟩⟩
  -- the threshold in every lane
  ihave H9 := (show p9 d L t ⊢ ((b9.access (.whole _)).loc (TT d L) ↦[Finset.univ]{fullShare} t : sProp 𝕄) from .rfl) $$ H9
  iapply (SparseCore.wp_vectorLoadIdx 𝒱₀ (TT d L) none Set.univ (base := b9) (hl := View.loads_vmem h_S16) (Finset.subset_univ _)) $$ H9
  iintro H9
  rw [b9_all]
  have h28 : ∀ x, loadIdx (F := F) t (![v27] : Fin 1 → IVec S16 32) (k0_idx1_inb v27 h1) x = th := fun x => (lane_all t v27 _ y h27 x).trans ht
  -- the chunks found
  sl_for (fun n (acc : BitVec 32) => Found d L cn n acc) $$ [H8 H10]
  case region => intro n acc; exact found_trip d L cn (BitVec.ofNat 32 q) v27 h1 n acc
  · unfold Found
    isplitr; · ipureintro; rfl
    isplitl [H8]; · iexact H8
    iexists f10; isplitr; · ipureintro; exact kept_nil _ _
    iexact H10
  iintro %acc HR
  rw [show Scf.trips k0_t2_loop.lb k0_t2_loop.ub k0_t2_loop.st = 49 from t2_trips]
  unfold Found
  icases HR with ⟨%hacc, H8, %b, %hb, H10⟩
  have hb : Kept (hits cn) (fun c => BitVec.ofNat 32 c) b := hb
  obtain rfl : acc = hw cn := hacc
  iapply (checked d L (A := k0_chk3 (hw cn)) (chk3 cn))
  dsimp only
  -- the list padded
  sl_for (fun n (_ : Unit) => Padded d L cn n) $$ [H10]
  case region => intro n _; exact padded_trip d L cn (BitVec.ofNat 32 q) v27 h1 n
  · unfold Padded
    iexists b; isplitr
    swap; · iexact H10
    ipureintro; exact fun p => ⟨fun h => absurd h (by omega), fun _ h => hb p h⟩
  iintro %_ HR
  rw [show Scf.trips k0_t3_loop.lb k0_t3_loop.ub k0_t3_loop.st = 24 from t3_trips]
  unfold Padded
  icases HR with ⟨%b', %hb', H10⟩
  have hch : Chunks cn b' := fun p => (hb' p).1 (by have := p.isLt; omega)
  -- the blocks
  sl_for (fun n (acc : BitVec 32) => blockInv d L vX vJ cn th q O W n acc) $$ [Hmw Hx Hj H10 H11 H12 H13 H14 H15 HsG HsH HO]
  case region => intro B acc; exact block_trip d L vX vJ cn th q hq v27 h1 _ h28 (chk3 cn) O W B acc
  · unfold blockInv
    isplitl [Hmw]; · iexact Hmw
    isplitl [Hx]; · iexact Hx
    isplitl [Hj]; · iexact Hj
    isplitl [H10]; · iexists b'; isplitr; · ipureintro; exact hch
                     iexact H10
    isplitl [H11]; · iexact H11
    isplitl [H12]; · iexact H12
    isplitl [H13]; · iexact H13
    isplitl [H14 H15]
    · unfold Taken
      isplitr; · ipureintro; rfl
      isplitl [H14]; · iexists f14; isplitr; · ipureintro; exact kept_nil _ _
                       iexact H14
      iexists f15; isplitr; · ipureintro; exact kept_nil _ _
      iexact H15
    isplitl [HsG]; · iexact HsG
    isplitl [HsH]; · iexact HsH
    iexact HO
  iintro %acc' HB
  rw [show Scf.trips (k0_t4_loop (hw cn)).lb (k0_t4_loop (hw cn)).ub (k0_t4_loop (hw cn)).st = nblk cn from t4_trips cn]
  unfold blockInv Taken
  icases HB with ⟨-, Hx, Hj, ⟨%b2, -, H10⟩, H11, H12, H13, ⟨%hacc', H14, H15⟩, HsG, HsH, HO⟩
  have hacc' : acc' = BitVec.ofNat 32 (kept (vX d) cn th q).length := hacc'
  -- no block is left over
  sl_for (fun _ (acc : BitVec 32) => iprop(⌜acc = BitVec.ofNat 32 (kept (vX d) cn th q).length⌝)) $$ []
  case region => intro k _; exact absurd (Nat.lt_of_lt_of_eq k.isLt (t9_trips cn)) (Nat.not_lt_zero _)
  · ipureintro; exact hacc'
  iintro %acc'' %hacc''
  subst hacc''
  sl_step
  isplitr; · ipureintro; rfl
  isplitl [Hx Hj H10 H11 H12 H13 HsG HsH HO]
  · isplitr; · iexact Hmw
    isplitl [Hx]; · iexact Hx
    isplitl [Hj]; · iexact Hj
    isplitl [H10]; · iexists b2; iexact H10
    isplitl [H11]; · iexact H11
    isplitl [H12]; · iexact H12
    isplitl [H13]; · iexact H13
    isplitl [HsG]; · iexact HsG
    isplitl [HsH]; · iexact HsH
    iexact HO
  isplitl [H8]; · iexact H8
  isplitl [H9]; · iexact H9
  isplitl [H14]; · iexact H14
  iexact H15

end Cert.Proof.Compact

end
-- ==== Proof.CompactOut.lean ====
/- One row's work put together: the row's results filled out and written, and the tile's 32 rows one after another. -/
module

public import proofs.«01_k».proof.Proof.CompactSearch

@[expose] public section

noncomputable section

namespace Cert.Proof.Compact

open Cert.CompactIdeal Cert.CompactIdeal.Gen Cert.Proof.Lanes

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (d : Dev nD) (L : grid0.Coords)

variable (vX : Dev nD → Vec F S802816x128 .f32) (vT : Dev nD → Vec F S1024 .f32) (vC : Dev nD → Vec F S1024x784 .i32) (vJ : Dev nD → Vec F S784x128 .i32)

/-! ## A row written out -/

/-- The tile's first `k` rows are the results'. -/
def Done {e : EltTy} (w : Vec F S1024x384 e) (k : ℕ) (f : Vec F S1024x384 e) : Prop :=
  ∀ j ∈ tileRows (cL L) (jL L), (j 0).val < rowNo L k → f j = w j

omit [FloatOps F] in
theorem row_mem (k : Fin k0_t1_loop.trips) (y : Fin 384) : (at2 (rowF L k) y : S1024x384.Idx) ∈ tileRows (cL L) (jL L) := by
  refine Finset.mem_filter.mpr ⟨Finset.mem_univ _, ?_⟩
  have hk : k.val < 32 := Nat.lt_of_lt_of_eq k.isLt t1_trips
  have h0 : (L 0).val < 2 := (L 0).isLt
  show rowNo L k.val / 32 = 2 * (L 1).val + (L 0).val
  unfold rowNo
  omega

omit [FloatOps F] in
theorem tileRows_lt {j : S1024x384.Idx} (hj : j ∈ tileRows (cL L) (jL L)) : rowNo L 0 ≤ (j 0).val ∧ (j 0).val < rowNo L 32 := by
  have h : (j 0).val / 32 = 2 * (L 1).val + (L 0).val := (Finset.mem_filter.mp hj).2
  unfold rowNo
  omega

omit [FloatOps F] in
/-- One write through the whole of a view is a write through the view. -/
theorem write_all {κ : Kind} {sp : Space} {s : Shape} {e : EltTy} (v : View sig κ sp s e) (f : v.ty.Contents (Elt F)) (w : s.Idx → Elt F e) :
    v.writes (Elt F) f [⟨Rect.whole s, w⟩] = v.write (Elt F) f w Finset.univ := by
  have he : ∀ x : s.Idx, (v.slice (Rect.whole s)).emb x = v.emb x := fun x =>
    congrArg v.emb (funext fun a => Fin.ext ((Rect.emb_apply (Rect.whole s) x a).trans (show 0 + 1 * (x a).val = (x a).val by omega)))
  funext i
  by_cases h : i ∈ v.set
  · obtain ⟨x, -, rfl⟩ := Finset.mem_map.mp h
    refine Eq.trans ?_ (View.write_emb_of_mem _ _ (Finset.mem_univ x)).symm
    refine (congrArg _ (he x).symm).trans ?_
    exact View.write_emb_of_mem (v := v.slice (Rect.whole s)) f w (Finset.mem_univ x)
  · refine (View.write_of_not_mem _ _ _ fun hm => h ?_).trans (View.write_of_not_mem _ _ _ h).symm
    obtain ⟨x, -, rfl⟩ := Finset.mem_map.mp hm
    rw [he]; exact Finset.mem_map_of_mem _ (Finset.mem_univ x)

abbrev rowV (k : Fin k0_t1_loop.trips) : Memref sig .scVector .hbm S384 .f32 :=
  (aV.slice (Rect.unit (s := S1024x384) (k0_off14 L k) S1x384.size (k0_off14_inb L k)) (fun _ => rfl)).squeeze S384 squeezes_S1x384_S384

omit [FloatOps F] in
theorem rowV_emb (k : Fin k0_t1_loop.trips) (x : S384.Idx) : (rowV L k).view.emb x = at2 (rowF L k) (x 0) := by
  have e : (Shape.reshapeEquiv (s := S1x384) (s' := S384) squeezes_S1x384_S384.numel_eq) x = at2 0 (x 0) :=
    (congrArg _ (show x = at1 (x 0) from ext1 rfl)).trans (as_row squeezes_S1x384_S384.numel_eq (x 0))
  refine Eq.trans (congrArg (aV.slice (Rect.unit (s := S1024x384) (k0_off14 L k) S1x384.size (k0_off14_inb L k)) (fun _ => rfl)).view.emb e) (ext2 ?_ ?_)
  · refine (ValueKit.view_emb_slice_whole_unit_val main_v10_0_scv (k0_off14 L k) S1x384.size (k0_off14_inb L k) (at2 0 (x 0)) 0).trans ?_
    exact congrArg (· + 0) (congrFun (k0_off14_eq L k) 0)
  · refine (ValueKit.view_emb_slice_whole_unit_val main_v10_0_scv (k0_off14 L k) S1x384.size (k0_off14_inb L k) (at2 0 (x 0)) 1).trans ?_
    exact (congrArg (· + (x 0).val) (congrFun (k0_off14_eq L k) 1)).trans (Nat.zero_add _)

omit [FloatOps F] in
theorem rowV_sub (k : Fin k0_t1_loop.trips) : (rowV L k).view.set ⊆ tileRows (cL L) (jL L) := by
  intro j hj
  obtain ⟨x, -, rfl⟩ := Finset.mem_map.mp hj
  rw [rowV_emb]; exact row_mem L k (x 0)

/-- One more row written. -/
theorem doneV_next (k : Fin k0_t1_loop.trips) {f : Vec F S1024x384 .f32} (hf : Done L (outV vX vT vC d) k.val f) {w : Vec F S384 .f32}
    (hw : ∀ p : Fin 384, w (at1 p) = outV vX vT vC d (at2 (rowF L k) p)) : Done L (outV vX vT vC d) (k.val + 1) ((rowV L k).view.write (Elt F) f w Finset.univ) := by
  intro j hj hlt
  by_cases h : j ∈ (rowV L k).view.set
  · obtain ⟨x, -, rfl⟩ := Finset.mem_map.mp h
    refine (View.write_emb_of_mem _ _ (Finset.mem_univ _)).trans ((cast_eq _ _).trans ?_)
    refine ((congrArg w (show x = at1 (x 0) from ext1 rfl)).trans (hw (x 0))).trans ?_
    exact congrArg (outV vX vT vC d) (rowV_emb L k x).symm
  · refine (View.write_of_not_mem _ _ _ h).trans (hf j hj ?_)
    by_contra hge
    refine h (Finset.mem_map.mpr ⟨at1 (j 1), Finset.mem_univ _, ?_⟩)
    refine (rowV_emb L k _).trans (ext2 ?_ rfl)
    show rowNo L k.val = (j 0).val
    unfold rowNo at hge hlt ⊢
    omega

omit [FloatOps F] in
theorem rowV_join (k : Fin k0_t1_loop.trips) (f : Vec F S1024x384 .f32) (w : Vec F S384 .f32) :
    iprop(((rowV L k).view.loc (TT d L) ↦[(rowV L k).view.set]{fullShare} (rowV L k).view.write (Elt F) f w Finset.univ)
      ∗ (vLoc d ↦[tileRows (cL L) (jL L) \ (rowV L k).view.set]{fullShare} f))
      ⊢ (vLoc d ↦[tileRows (cL L) (jL L)]{fullShare} ((rowV L k).view.write (Elt F) f w Finset.univ) : sProp 𝕄) := by
  rw [show (vLoc d ↦[tileRows (cL L) (jL L) \ (rowV L k).view.set]{fullShare} f : sProp 𝕄)
      = (vLoc d ↦[tileRows (cL L) (jL L) \ (rowV L k).view.set]{fullShare} (rowV L k).view.write (Elt F) f w Finset.univ) from
    pointsTo_congr fun i hi => (View.write_of_not_mem _ _ _ (Finset.mem_sdiff.mp hi).2).symm]
  exact (pointsTo_split_subset (ℓ := vLoc d) (rowV_sub L k)).2

abbrev rowW (k : Fin k0_t1_loop.trips) : Memref sig .scVector .hbm S384 .i32 :=
  (aW.slice (Rect.unit (s := S1024x384) (k0_off14 L k) S1x384.size (k0_off14_inb L k)) (fun _ => rfl)).squeeze S384 squeezes_S1x384_S384

omit [FloatOps F] in
theorem rowW_emb (k : Fin k0_t1_loop.trips) (x : S384.Idx) : (rowW L k).view.emb x = at2 (rowF L k) (x 0) := by
  have e : (Shape.reshapeEquiv (s := S1x384) (s' := S384) squeezes_S1x384_S384.numel_eq) x = at2 0 (x 0) :=
    (congrArg _ (show x = at1 (x 0) from ext1 rfl)).trans (as_row squeezes_S1x384_S384.numel_eq (x 0))
  refine Eq.trans (congrArg (aW.slice (Rect.unit (s := S1024x384) (k0_off14 L k) S1x384.size (k0_off14_inb L k)) (fun _ => rfl)).view.emb e) (ext2 ?_ ?_)
  · refine (ValueKit.view_emb_slice_whole_unit_val main_v10_1_scv (k0_off14 L k) S1x384.size (k0_off14_inb L k) (at2 0 (x 0)) 0).trans ?_
    exact congrArg (· + 0) (congrFun (k0_off14_eq L k) 0)
  · refine (ValueKit.view_emb_slice_whole_unit_val main_v10_1_scv (k0_off14 L k) S1x384.size (k0_off14_inb L k) (at2 0 (x 0)) 1).trans ?_
    exact (congrArg (· + (x 0).val) (congrFun (k0_off14_eq L k) 1)).trans (Nat.zero_add _)

omit [FloatOps F] in
theorem rowW_sub (k : Fin k0_t1_loop.trips) : (rowW L k).view.set ⊆ tileRows (cL L) (jL L) := by
  intro j hj
  obtain ⟨x, -, rfl⟩ := Finset.mem_map.mp hj
  rw [rowW_emb]; exact row_mem L k (x 0)

/-- One more row written. -/
theorem doneW_next (k : Fin k0_t1_loop.trips) {f : Vec F S1024x384 .i32} (hf : Done L (outW vX vT vC vJ d) k.val f) {w : Vec F S384 .i32}
    (hw : ∀ p : Fin 384, w (at1 p) = outW vX vT vC vJ d (at2 (rowF L k) p)) : Done L (outW vX vT vC vJ d) (k.val + 1) ((rowW L k).view.write (Elt F) f w Finset.univ) := by
  intro j hj hlt
  by_cases h : j ∈ (rowW L k).view.set
  · obtain ⟨x, -, rfl⟩ := Finset.mem_map.mp h
    refine (View.write_emb_of_mem _ _ (Finset.mem_univ _)).trans ((cast_eq _ _).trans ?_)
    refine ((congrArg w (show x = at1 (x 0) from ext1 rfl)).trans (hw (x 0))).trans ?_
    exact congrArg (outW vX vT vC vJ d) (rowW_emb L k x).symm
  · refine (View.write_of_not_mem _ _ _ h).trans (hf j hj ?_)
    by_contra hge
    refine h (Finset.mem_map.mpr ⟨at1 (j 1), Finset.mem_univ _, ?_⟩)
    refine (rowW_emb L k _).trans (ext2 ?_ rfl)
    show rowNo L k.val = (j 0).val
    unfold rowNo at hge hlt ⊢
    omega

omit [FloatOps F] in
theorem rowW_join (k : Fin k0_t1_loop.trips) (f : Vec F S1024x384 .i32) (w : Vec F S384 .i32) :
    iprop(((rowW L k).view.loc (TT d L) ↦[(rowW L k).view.set]{fullShare} (rowW L k).view.write (Elt F) f w Finset.univ)
      ∗ (wLoc d ↦[tileRows (cL L) (jL L) \ (rowW L k).view.set]{fullShare} f))
      ⊢ (wLoc d ↦[tileRows (cL L) (jL L)]{fullShare} ((rowW L k).view.write (Elt F) f w Finset.univ) : sProp 𝕄) := by
  rw [show (wLoc d ↦[tileRows (cL L) (jL L) \ (rowW L k).view.set]{fullShare} f : sProp 𝕄)
      = (wLoc d ↦[tileRows (cL L) (jL L) \ (rowW L k).view.set]{fullShare} (rowW L k).view.write (Elt F) f w Finset.univ) from
    pointsTo_congr fun i hi => (View.write_of_not_mem _ _ _ (Finset.mem_sdiff.mp hi).2).symm]
  exact (pointsTo_split_subset (ℓ := wLoc d) (rowW_sub L k)).2

/-! ## A row -/

/-- What the tile holds between rows. -/
def rowInv (O : CellTallies nD τ sig (HIx 1)) (W : Waits sig (HIx 1)) (k : ℕ) (_ : Unit) : sProp 𝕄 :=
  iprop(searchInv d L vX vJ O W ∗ tPts d L vT ∗ cPts d L vC
    ∗ (∃ f, ⌜Done L (outV vX vT vC d) k f⌝ ∗ (vLoc d ↦[tileRows (cL L) (jL L)]{fullShare} f))
    ∗ (∃ f, ⌜Done L (outW vX vT vC vJ d) k f⌝ ∗ (wLoc d ↦[tileRows (cL L) (jL L)]{fullShare} f))
    ∗ (∃ f, p8 (F := F) d L f) ∗ (∃ f, p9 (F := F) d L f) ∗ (∃ f, p14 (F := F) d L f) ∗ (∃ f, p15 (F := F) d L f)
    ∗ semVal (TT d L, .dma cc0_scoped0.sem) 0 ∗ semVal (TT d L, .dma cc0_scoped1.sem) 0
    ∗ semVal (TT d L, .dma cc0_scoped2.sem) 0 ∗ semVal (TT d L, .dma cc0_scoped3.sem) 0)

theorem thrs_at (k : Fin k0_t1_loop.trips) : thrs d L vT k (at1 ⟨rowNo L k.val % 16, Nat.mod_lt _ (by decide)⟩) = vT d (at1 (rowF L k)) := by
  refine congrArg (vT d) (ext1 ?_)
  have := rowNo_lt L k
  show (rowNo L k.val / 16 * 16 + rowNo L k.val % 16) % 1024 = rowNo L k.val
  omega

set_option maxHeartbeats 2000000 in
theorem tile_row (O : CellTallies nD τ sig (HIx 1)) (W : Waits sig (HIx 1)) (k : Fin k0_t1_loop.trips) :
    rowInv d L vX vT vC vJ O W k.val ⟨⟩ ⊢ wp frame (wpE (defs₀ (F := F)) 𝒱₀ (TT d L) none) Set.univ
      (k0_t1_body L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3 (Scalar.addi (Scalar.muli (BitVec.ofNat 32 (L 1).val) 2#32) (BitVec.ofNat 32 (L 0).val)) k ⟨⟩)
      fun _ => rowInv d L vX vT vC vJ O W (k.val + 1) ⟨⟩ := by
  unfold k0_t1_body rowInv searchInv
  iintro ⟨⟨#Hmw, Hx, Hj, H10, H11, H12, H13, HsG, HsH, HO⟩, Ht, Hc, ⟨%fv, %hfv, Hv⟩, ⟨%fw, %hfw, Hw⟩, H8, H9, H14, H15, HsA, HsB, HsC, HsD⟩
  -- the counts and the threshold
  iapply (before d L (fetch_spec d L vT vC O W k)) $$ [Hc Ht H8 H9 HsA HsB HO]
  · isplitr; · iexact Hmw
    isplitl [Hc]; · iexact Hc
    isplitl [Ht]; · iexact Ht
    isplitl [H8]; · iexact H8
    isplitl [H9]; · iexact H9
    isplitl [HsA]; · iexact HsA
    isplitl [HsB]; · iexact HsB
    iexact HO
  iintro %r ⟨%hr, Hc, Ht, H8, H9, HsA, HsB, HO⟩
  obtain ⟨v4, v27, h1⟩ := r
  obtain ⟨hv4, h27⟩ := hr
  obtain rfl : v4 = BitVec.ofNat 32 (rowNo L k.val) := hv4
  dsimp only
  -- the search
  iapply (before d L (search_spec d L vX vJ (cnRow (vC d) (rowF L k)) (vT d (at1 (rowF L k))) (rowNo L k.val) (rowNo_lt L k) (thrs d L vT k) v27 h1
      ⟨rowNo L k.val % 16, Nat.mod_lt _ (by decide)⟩ h27 (thrs_at d L vT k) O W)) $$ [Hx Hj H8 H9 H10 H11 H12 H13 H14 H15 HsG HsH HO]
  · unfold searchInv
    isplitl [Hx Hj H10 H11 H12 H13 HsG HsH HO]
    · isplitr; · iexact Hmw
      isplitl [Hx]; · iexact Hx
      isplitl [Hj]; · iexact Hj
      isplitl [H10]; · iexact H10
      isplitl [H11]; · iexact H11
      isplitl [H12]; · iexact H12
      isplitl [H13]; · iexact H13
      isplitl [HsG]; · iexact HsG
      isplitl [HsH]; · iexact HsH
      iexact HO
    isplitl [H8]; · iexact H8
    isplitl [H9]; · iexact H9
    isplitl [H14]; · iexact H14
    iexact H15
  unfold searchInv
  iintro %r' ⟨%hr', ⟨-, Hx, Hj, H10, H11, H12, H13, HsG, HsH, HO⟩, H8, H9, ⟨%e14, %hb14, H14⟩, ⟨%e15, %hb15, H15⟩⟩
  subst hr'
  dsimp only
  -- the results filled out
  sl_for (fun n (_ : Unit) => Filled d L (vX d) (vJ d) (cnRow (vC d) (rowF L k)) (vT d (at1 (rowF L k))) (rowNo L k.val) n) $$ [H14 H15]
  case region => intro n _; exact filled_trip d L (vX d) (vJ d) _ _ _ n
  · unfold Filled
    isplitl [H14]
    · iexists e14; isplitr
      swap; · iexact H14
      ipureintro; exact fun p => ⟨fun h => absurd h (by omega), fun _ h => hb14 p h⟩
    iexists e15; isplitr
    swap; · iexact H15
    ipureintro; exact fun p => ⟨fun h => absurd h (by omega), fun _ h => hb15 p h⟩
  iintro %_ HF
  rw [show Scf.trips k0_t14_loop.lb k0_t14_loop.ub k0_t14_loop.st = 24 from t14_trips]
  unfold Filled
  icases HF with ⟨⟨%g14, %hg14, H14⟩, ⟨%g15, %hg15, H15⟩⟩
  have hwV : ∀ p : Fin 384, g14 (at1 p) = outV vX vT vC d (at2 (rowF L k) p) := fun p => (hg14 p).1 (by have := p.isLt; omega)
  have hwW : ∀ p : Fin 384, g15 (at1 p) = outW vX vT vC vJ d (at2 (rowF L k) p) := fun p => (hg15 p).1 (by have := p.isLt; omega)
  -- the rows written out
  ihave Hvs := (pointsTo_split_subset (ℓ := vLoc d) (q := fullShare) (f := fv) (rowV_sub L k)).1 $$ Hv
  icases Hvs with ⟨Hvs, Hvr⟩
  ihave Hws := (pointsTo_split_subset (ℓ := wLoc d) (q := fullShare) (f := fw) (rowW_sub L k)).1 $$ Hw
  icases Hws with ⟨Hws, Hwr⟩
  ihave Hvs := (show (vLoc d ↦[(rowV L k).view.set]{fullShare} fv : sProp 𝕄) ⊢ ((rowV L k).view.loc (TT d L) ↦[(rowV L k).view.set]{fullShare} fv : sProp 𝕄) from .rfl) $$ Hvs
  ihave Hws := (show (wLoc d ↦[(rowW L k).view.set]{fullShare} fw : sProp 𝕄) ⊢ ((rowW L k).view.loc (TT d L) ↦[(rowW L k).view.set]{fullShare} fw : sProp 𝕄) from .rfl) $$ Hws
  ihave H14 := (show p14 d L g14 ⊢ (b14.view.loc (TT d L) ↦{fullShare} g14 : sProp 𝕄) from .rfl) $$ H14
  ihave H15 := (show p15 d L g15 ⊢ (b15.view.loc (TT d L) ↦{fullShare} g15 : sProp 𝕄) from .rfl) $$ H15
  unfold Owes
  icases HO with ⟨%W', %hW', HO⟩
  sl_exec (disch := exact View.amount_pos _ _ (show 0 < S384.numel by decide))
  ihave Hv := (rowV_join d L k fv g14) $$ [Hvs Hvr]
  · isplitl [Hvs]
    · iapply (Entails.of_eq (show ((rowV L k).view.loc (TT d L) ↦[(rowV L k).view.set]{fullShare}
          (rowV L k).view.writes (Elt F) fv [⟨Rect.whole S384, tile_row.sl.dma0 g14⟩] : sProp 𝕄) = _ from
        congrArg (fun f => ((rowV L k).view.loc (TT d L) ↦[(rowV L k).view.set]{fullShare} f : sProp 𝕄))
        (write_all (rowV L k).view fv g14))) $$ Hvs
    · iexact Hvr
  ihave Hw := (rowW_join d L k fw g15) $$ [Hws Hwr]
  · isplitl [Hws]
    · iapply (Entails.of_eq (show ((rowW L k).view.loc (TT d L) ↦[(rowW L k).view.set]{fullShare}
          (rowW L k).view.writes (Elt F) fw [⟨Rect.whole S384, tile_row.sl.dma0_1 g15⟩] : sProp 𝕄) = _ from
        congrArg (fun f => ((rowW L k).view.loc (TT d L) ↦[(rowW L k).view.set]{fullShare} f : sProp 𝕄))
        (write_all (rowW L k).view fw g15))) $$ Hws
    · iexact Hwr
  sl_step
  isplitl [Hx Hj H10 H11 H12 H13 HsG HsH HO]
  · isplitr; · iexact Hmw
    isplitl [Hx]; · iexact Hx
    isplitl [Hj]; · iexact Hj
    isplitl [H10]; · iexact H10
    isplitl [H11]; · iexact H11
    isplitl [H12]; · iexact H12
    isplitl [H13]; · iexact H13
    isplitl [HsG]; · iexact HsG
    isplitl [HsH]; · iexact HsH
    iexists _; isplitr
    swap; · iexact HO
    ipureintro; intro p hp
    rcases Finset.mem_insert.mp hp with hp | hp; · exact .inr (hp ▸ rfl)
    rcases Finset.mem_insert.mp hp with hp | hp; · exact .inr (hp ▸ rfl)
    exact hW' p hp
  isplitl [Ht]; · iexact Ht
  isplitl [Hc]; · iexact Hc
  isplitl [Hv]
  · iexists _; isplitr
    swap; · iexact Hv
    ipureintro; exact doneV_next d L vX vT vC k hfv hwV
  isplitl [Hw]
  · iexists _; isplitr
    swap; · iexact Hw
    ipureintro; exact doneW_next d L vX vT vC vJ k hfw hwW
  isplitl [H8]; · iexists _; iexact H8
  isplitl [H9]; · iexists _; iexact H9
  isplitl [H14]; · iexists _; iexact H14
  isplitl [H15]; · iexists _; iexact H15
  isplitl [HsA]; · iexact HsA
  isplitl [HsB]; · iexact HsB
  isplitl [HsC]; · iexact HsC
  iexact HsD

/-! ## The tile's own buffers and cells -/

abbrev cell (g : DmaSems sig S_) : GSem nD τ sig := (TT d L, .dma g.sem)

omit [FloatOps F] in
theorem cell_ne (g g' : DmaSems sig S_) (h : (SemLoc.dma g.sem : SemLoc sig) ≠ .dma g'.sem) : cell d L g ≠ cell d L g' := fun e => h (congrArg Prod.snd e)

abbrev restSems : sProp 𝕄 :=
  bigSep (((((((ownCells (TT d L)).erase (cell d L cc0_scratch8)).erase (cell d L cc0_scratch9)).erase (cell d L cc0_scoped0)).erase (cell d L cc0_scoped1)).erase (cell d L cc0_scoped2)).erase (cell d L cc0_scoped3)) fun g => semVal g 0

omit [FloatOps F] in
theorem ownSems0_TT :
    (ownSems0 (TT d L) : sProp 𝕄) = iprop(semVal (cell d L cc0_scratch8) 0 ∗ semVal (cell d L cc0_scratch9) 0 ∗ semVal (cell d L cc0_scoped0) 0 ∗ semVal (cell d L cc0_scoped1) 0 ∗ semVal (cell d L cc0_scoped2) 0 ∗ semVal (cell d L cc0_scoped3) 0 ∗ restSems d L) := by
  unfold SparseCore.Cfg.ownSems0
  rw [SparseCore.bigSep_erase' ((mem_ownCells (g := cell d L cc0_scratch8)).mpr ⟨rfl, by show (SemLoc.dma cc0_scratch8.sem : SemLoc sig).isScoped .scVector = true; decide⟩),
    SparseCore.bigSep_erase' (Finset.mem_erase.mpr ⟨cell_ne d L _ _ (by decide), (mem_ownCells (g := cell d L cc0_scratch9)).mpr ⟨rfl, by show (SemLoc.dma cc0_scratch9.sem : SemLoc sig).isScoped .scVector = true; decide⟩⟩),
    SparseCore.bigSep_erase' (Finset.mem_erase.mpr ⟨cell_ne d L _ _ (by decide), Finset.mem_erase.mpr ⟨cell_ne d L _ _ (by decide), (mem_ownCells (g := cell d L cc0_scoped0)).mpr ⟨rfl, by show (SemLoc.dma cc0_scoped0.sem : SemLoc sig).isScoped .scVector = true; decide⟩⟩⟩),
    SparseCore.bigSep_erase' (Finset.mem_erase.mpr ⟨cell_ne d L _ _ (by decide), Finset.mem_erase.mpr ⟨cell_ne d L _ _ (by decide), Finset.mem_erase.mpr ⟨cell_ne d L _ _ (by decide), (mem_ownCells (g := cell d L cc0_scoped1)).mpr ⟨rfl, by show (SemLoc.dma cc0_scoped1.sem : SemLoc sig).isScoped .scVector = true; decide⟩⟩⟩⟩),
    SparseCore.bigSep_erase' (Finset.mem_erase.mpr ⟨cell_ne d L _ _ (by decide), Finset.mem_erase.mpr ⟨cell_ne d L _ _ (by decide), Finset.mem_erase.mpr ⟨cell_ne d L _ _ (by decide), Finset.mem_erase.mpr ⟨cell_ne d L _ _ (by decide), (mem_ownCells (g := cell d L cc0_scoped2)).mpr ⟨rfl, by show (SemLoc.dma cc0_scoped2.sem : SemLoc sig).isScoped .scVector = true; decide⟩⟩⟩⟩⟩),
    SparseCore.bigSep_erase' (Finset.mem_erase.mpr ⟨cell_ne d L _ _ (by decide), Finset.mem_erase.mpr ⟨cell_ne d L _ _ (by decide), Finset.mem_erase.mpr ⟨cell_ne d L _ _ (by decide), Finset.mem_erase.mpr ⟨cell_ne d L _ _ (by decide), Finset.mem_erase.mpr ⟨cell_ne d L _ _ (by decide), (mem_ownCells (g := cell d L cc0_scoped3)).mpr ⟨rfl, by show (SemLoc.dma cc0_scoped3.sem : SemLoc sig).isScoped .scVector = true; decide⟩⟩⟩⟩⟩⟩)]

abbrev refOf (L : grid0.Coords) (b : Ref sig .scVector) : DevRef τ sig := (Proc.scVector (cV L) (jV L)).devRef b

abbrev restBufs : sProp 𝕄 :=
  bigSep (((((((((ownRefs (τ := τ) (.scVector (cV L) (jV L))).erase (refOf L cc0_scratch0)).erase (refOf L cc0_scratch1)).erase (refOf L cc0_scratch2)).erase (refOf L cc0_scratch3)).erase (refOf L cc0_scratch4)).erase (refOf L cc0_scratch5)).erase (refOf L cc0_scratch6)).erase (refOf L cc0_scratch7)) fun b => iprop(∃ f, ((d, b) : Loc nD τ sig) ↦{fullShare} f)

omit [FloatOps F] in
theorem refOf_ne (b b' : Ref sig .scVector) (h : b ≠ b') : refOf L b ≠ refOf L b' := fun e => h (Proc.devRef_injective _ e)

omit [FloatOps F] in
theorem ownBufs_TT :
    (ownBufs (TT d L) : sProp 𝕄) = iprop((∃ f, p8 (F := F) d L f) ∗ (∃ f, p9 (F := F) d L f) ∗ (∃ f, p10 (F := F) d L f) ∗ (∃ f, p11 (F := F) d L f) ∗ (∃ f, p12 (F := F) d L f) ∗ (∃ f, p13 (F := F) d L f) ∗ (∃ f, p14 (F := F) d L f) ∗ (∃ f, p15 (F := F) d L f) ∗ restBufs d L) := by
  have own : ∀ b ∈ [cc0_scratch0, cc0_scratch1, cc0_scratch2, cc0_scratch3, cc0_scratch4, cc0_scratch5, cc0_scratch6, cc0_scratch7],
      refOf L b ∈ ownRefs (τ := τ) (.scVector (cV L) (jV L)) := by
    intro b hb
    simp only [List.mem_cons, List.not_mem_nil, or_false] at hb
    rcases hb with rfl | rfl | rfl | rfl | rfl | rfl | rfl | rfl <;> exact SparseCore.Cfg.mem_ownRefs_of_owner rfl
  unfold SparseCore.Cfg.ownBufs
  refine (SparseCore.bigSep_erase' (own cc0_scratch0 (by decide))).trans ?_
  rw [SparseCore.bigSep_erase' (Finset.mem_erase.mpr ⟨refOf_ne L _ _ (by decide), own cc0_scratch1 (by decide)⟩),
    SparseCore.bigSep_erase' (Finset.mem_erase.mpr ⟨refOf_ne L _ _ (by decide), Finset.mem_erase.mpr ⟨refOf_ne L _ _ (by decide), own cc0_scratch2 (by decide)⟩⟩),
    SparseCore.bigSep_erase' (Finset.mem_erase.mpr ⟨refOf_ne L _ _ (by decide), Finset.mem_erase.mpr ⟨refOf_ne L _ _ (by decide), Finset.mem_erase.mpr ⟨refOf_ne L _ _ (by decide), own cc0_scratch3 (by decide)⟩⟩⟩),
    SparseCore.bigSep_erase' (Finset.mem_erase.mpr ⟨refOf_ne L _ _ (by decide), Finset.mem_erase.mpr ⟨refOf_ne L _ _ (by decide), Finset.mem_erase.mpr ⟨refOf_ne L _ _ (by decide), Finset.mem_erase.mpr ⟨refOf_ne L _ _ (by decide), own cc0_scratch4 (by decide)⟩⟩⟩⟩),
    SparseCore.bigSep_erase' (Finset.mem_erase.mpr ⟨refOf_ne L _ _ (by decide), Finset.mem_erase.mpr ⟨refOf_ne L _ _ (by decide), Finset.mem_erase.mpr ⟨refOf_ne L _ _ (by decide), Finset.mem_erase.mpr ⟨refOf_ne L _ _ (by decide), Finset.mem_erase.mpr ⟨refOf_ne L _ _ (by decide), own cc0_scratch5 (by decide)⟩⟩⟩⟩⟩),
    SparseCore.bigSep_erase' (Finset.mem_erase.mpr ⟨refOf_ne L _ _ (by decide), Finset.mem_erase.mpr ⟨refOf_ne L _ _ (by decide), Finset.mem_erase.mpr ⟨refOf_ne L _ _ (by decide), Finset.mem_erase.mpr ⟨refOf_ne L _ _ (by decide), Finset.mem_erase.mpr ⟨refOf_ne L _ _ (by decide), Finset.mem_erase.mpr ⟨refOf_ne L _ _ (by decide), own cc0_scratch6 (by decide)⟩⟩⟩⟩⟩⟩),
    SparseCore.bigSep_erase' (Finset.mem_erase.mpr ⟨refOf_ne L _ _ (by decide), Finset.mem_erase.mpr ⟨refOf_ne L _ _ (by decide), Finset.mem_erase.mpr ⟨refOf_ne L _ _ (by decide), Finset.mem_erase.mpr ⟨refOf_ne L _ _ (by decide), Finset.mem_erase.mpr ⟨refOf_ne L _ _ (by decide), Finset.mem_erase.mpr ⟨refOf_ne L _ _ (by decide), Finset.mem_erase.mpr ⟨refOf_ne L _ _ (by decide), own cc0_scratch7 (by decide)⟩⟩⟩⟩⟩⟩⟩)]
  rfl

/-! ## The task -/

abbrev goPts (f : Buf (Elt F) (vLoc d)) (g : Buf (Elt F) (wLoc d)) : sProp 𝕄 :=
  iprop(inPts vX vT vC vJ d (tq (cL L) (jL L)) ∗ outPts d (tileRows (cL L) (jL L)) f g)

theorem tile_body (hF : (K (F := F)).Facts) (f₀ : Buf (Elt F) (vLoc d)) (g₀ : Buf (Elt F) (wLoc d))
    (O : CellTallies nD τ sig (HIx 1)) (W : Waits sig (HIx 1)) (hO : ∀ g, O g none = 0) :
    iprop(levAts (K (F := F)).L (K (F := F)).lev ∗ emp ∗ goPts d L vX vT vC vJ f₀ g₀ ∗ scopedBufs (TT d L) ∗ scopedSems0 (TT d L) ∗ owes (TT d L) O W)
      ⊢ wp frame (wpE (defs₀ (F := F)) 𝒱₀ (TT d L) none) Set.univ
          (cc0_sc2 L aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3)
          fun _ => iprop(goPts d L vX vT vC vJ (outV vX vT vC d) (outW vX vT vC vJ d) ∗ scopedBufs (TT d L) ∗ scopedSems0 (TT d L)
            ∗ ∃ W', ⌜∀ p ∈ W', p ∈ W ∨ p.2 = none⌝ ∗ owes (TT d L) O W') := by
  simp only [cc0_sc2_eq_skeleton]; unfold cc0_sc2_skel
  rw [(K (F := F)).scopedBufs_V hF d (cV L) (jV L), SparseCore.Cfg.scopedSems0_V (Val := Elt F) d (cV L) (jV L), ownSems0_TT, ownBufs_TT]
  iintro ⟨#Hlv, -, ⟨⟨Hx, Ht, Hc, Hj⟩, Hv, Hw⟩, ⟨H8, H9, H10, H11, H12, H13, H14, H15, Hbufs⟩, ⟨HsG, HsH, HsA, HsB, HsC, HsD, Hsems⟩, HO⟩
  ihave Hmw := (show levAts (K (F := F)).L (K (F := F)).lev ⊢ Transfers.MayWaits (TT d L) (default : HIx 1) O from
    (K (F := F)).mayWaits_none (thr := TT d L) hO) $$ Hlv
  dsimp only
  sl_for (rowInv d L vX vT vC vJ O W) $$ [Hmw Hx Ht Hc Hj Hv Hw H8 H9 H10 H11 H12 H13 H14 H15 HsG HsH HsA HsB HsC HsD HO]
  case region => intro k _; exact tile_row d L vX vT vC vJ O W k
  · unfold rowInv searchInv
    isplitl [Hmw Hx Hj H10 H11 H12 H13 HsG HsH HO]
    · isplitl [Hmw]; · iexact Hmw
      isplitl [Hx]; · iexact Hx
      isplitl [Hj]; · iexact Hj
      isplitl [H10]; · iexact H10
      isplitl [H11]; · iexact H11
      isplitl [H12]; · iexact H12
      isplitl [H13]; · iexact H13
      isplitl [HsG]; · iexact HsG
      isplitl [HsH]; · iexact HsH
      unfold Owes; iexists W; isplitr
      swap; · iexact HO
      ipureintro; exact fun p hp => .inl hp
    isplitl [Ht]; · iexact Ht
    isplitl [Hc]; · iexact Hc
    isplitl [Hv]
    · iexists f₀; isplitr
      swap; · iexact Hv
      ipureintro; intro j hj h; exact absurd (tileRows_lt L hj).1 (Nat.not_le.mpr h)
    isplitl [Hw]
    · iexists g₀; isplitr
      swap; · iexact Hw
      ipureintro; intro j hj h; exact absurd (tileRows_lt L hj).1 (Nat.not_le.mpr h)
    isplitl [H8]; · iexact H8
    isplitl [H9]; · iexact H9
    isplitl [H14]; · iexact H14
    isplitl [H15]; · iexact H15
    isplitl [HsA]; · iexact HsA
    isplitl [HsB]; · iexact HsB
    isplitl [HsC]; · iexact HsC
    iexact HsD
  iintro %_ HI
  rw [show Scf.trips k0_t1_loop.lb k0_t1_loop.ub k0_t1_loop.st = 32 from t1_trips]
  unfold rowInv searchInv Owes
  icases HI with ⟨⟨-, Hx, Hj, H10, H11, H12, H13, HsG, HsH, HO⟩, Ht, Hc, ⟨%f, %hf, Hv⟩, ⟨%g, %hg, Hw⟩, H8, H9, H14, H15, HsA, HsB, HsC, HsD⟩
  ihave Hv := (Entails.of_eq (show (vLoc d ↦[tileRows (cL L) (jL L)]{fullShare} f : sProp 𝕄) = (vLoc d ↦[tileRows (cL L) (jL L)]{fullShare} outV vX vT vC d) from
    pointsTo_congr fun j hj => hf j hj (tileRows_lt L hj).2)) $$ Hv
  ihave Hw := (Entails.of_eq (show (wLoc d ↦[tileRows (cL L) (jL L)]{fullShare} g : sProp 𝕄) = (wLoc d ↦[tileRows (cL L) (jL L)]{fullShare} outW vX vT vC vJ d) from
    pointsTo_congr fun j hj => hg j hj (tileRows_lt L hj).2)) $$ Hw
  sl_exec
  sl_step
  isplitl [Hx Ht Hc Hj Hv Hw]
  · isplitl [Hx Ht Hc Hj]
    · isplitl [Hx]; · iexact Hx
      isplitl [Ht]; · iexact Ht
      isplitl [Hc]; · iexact Hc
      iexact Hj
    isplitl [Hv]; · iexact Hv
    iexact Hw
  isplitl [H8 H9 H10 H11 H12 H13 H14 H15 Hbufs]
  · isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    iexact Hbufs
  isplitl [HsG HsH HsA HsB HsC HsD Hsems]
  · isplitl [HsG]; · iexact HsG
    isplitl [HsH]; · iexact HsH
    isplitl [HsA]; · iexact HsA
    isplitl [HsB]; · iexact HsB
    isplitl [HsC]; · iexact HsC
    isplitl [HsD]; · iexact HsD
    iexact Hsems
  iexact HO

/-! ## The obligation -/

variable (m : (ℓ : Loc nD τ sig) → Buf (Elt F) ℓ)

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_sc2 (coordsV c s) aX (Memref.isWhole_whole _) aT (Memref.isWhole_whole _) aC (Memref.isWhole_whole _) aJ (Memref.isWhole_whole _) aV (Memref.isWhole_whole _) aW (Memref.isWhole_whole _)
        b8 (Memref.isWhole_whole _) b9 (Memref.isWhole_whole _) b10 (Memref.isWhole_whole _) b11 (Memref.isWhole_whole _) b12 (Memref.isWhole_whole _) b13 (Memref.isWhole_whole _)
        b14 (Memref.isWhole_whole _) b15 (Memref.isWhole_whole _) cc0_scratch8 cc0_scratch9 cc0_scoped0 cc0_scoped1 cc0_scoped2 cc0_scoped3) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl (hF : (K (F := F)).Facts) : (K (F := F)).TileObl (D (F := F)) 𝒱 (P m vX vT vC vJ) v₀ 0 := by
  intro d c i O W hO _ _
  simp only [show (P m vX vT vC vJ).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body d (coordsV ⟨_, hci.1⟩ ⟨_, hci.2⟩) vX vT vC vJ hF (m (vLoc d)) (m (wLoc d)) O W hO).trans (wp_mono frame _ _ fun _ => obl_post)

end Cert.Proof.Compact

end
-- ==== Proof.CompactRun.lean ====
/- The compaction program's run: the column numbers laid out, the thresholds flattened, and the call. -/
module

public import proofs.«01_k».proof.Proof.CompactOut

@[expose] public section

noncomputable section

namespace Cert.Proof.Compact

open Cert.CompactIdeal Cert.CompactIdeal.Gen Cert.Proof.Lanes

open Idealize.ShloMosaic Idealize.ShloMosaic.StableHlo
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

variable (m : (ℓ : Loc nD τ sig) → Buf (Elt F) ℓ) (ρ : Dev nD → PrngReg)

/-! ## The host's arrays -/

abbrev d_arg0 : DevRef τ sig := Proc.devRef .tc (main_arg0 : Ref sig .tc)
abbrev d_arg1 : DevRef τ sig := Proc.devRef .tc (main_arg1 : Ref sig .tc)
abbrev d_arg2 : DevRef τ sig := Proc.devRef .tc (main_arg2 : Ref sig .tc)
abbrev d_v0 : DevRef τ sig := Proc.devRef .tc (main_v0 : Ref sig .tc)
abbrev d_v1 : DevRef τ sig := Proc.devRef .tc (main_v1 : Ref sig .tc)
abbrev d_c : DevRef τ sig := Proc.devRef .tc (main_c : Ref sig .tc)
abbrev d_v2 : DevRef τ sig := Proc.devRef .tc (main_v2 : Ref sig .tc)
abbrev d_v3 : DevRef τ sig := Proc.devRef .tc (main_v3 : Ref sig .tc)
abbrev d_v4 : DevRef τ sig := Proc.devRef .tc (main_v4 : Ref sig .tc)
abbrev d_v5 : DevRef τ sig := Proc.devRef .tc (main_v5 : Ref sig .tc)
abbrev d_v6 : DevRef τ sig := Proc.devRef .tc (main_v6 : Ref sig .tc)
abbrev d_v7 : DevRef τ sig := Proc.devRef .tc (main_v7 : Ref sig .tc)
abbrev d_v8 : DevRef τ sig := Proc.devRef .tc (main_v8 : Ref sig .tc)
abbrev d_v9 : DevRef τ sig := Proc.devRef .tc (main_v9 : Ref sig .tc)
abbrev d_v10_0 : DevRef τ sig := Proc.devRef .tc (main_v10_0 : Ref sig .tc)
abbrev d_v10_1 : DevRef τ sig := Proc.devRef .tc (main_v10_1 : Ref sig .tc)

abbrev hLoc (d : Dev nD) : Loc nD τ sig := (SparseCore.T d).loc main_arg1

abbrev op0 : HloOp τ sig (Elt F) := StableHlo.nullary main_v0 (iotaInDim S784 32 0)
abbrev op1 : HloOp τ sig (Elt F) := StableHlo.unary main_v0 main_v1 (broadcastInDim S784x1 ![0] bcast_S784_S784x1_0 : (⟨S784, .i32⟩ : BufTy).Contents (Elt F) → (⟨S784x1, .i32⟩ : BufTy).Contents (Elt F))
abbrev opC : HloOp τ sig (Elt F) := StableHlo.nullary main_c (constantI S_ 32 128#32)
abbrev op2 : HloOp τ sig (Elt F) := StableHlo.unary main_c main_v2 (broadcastInDim S784x1 ![] bcast_S_S784x1 : (⟨S_, .i32⟩ : BufTy).Contents (Elt F) → (⟨S784x1, .i32⟩ : BufTy).Contents (Elt F))
abbrev op3 : HloOp τ sig (Elt F) := StableHlo.binary main_v1 main_v2 main_v3 (muli : (⟨S784x1, .i32⟩ : BufTy).Contents (Elt F) → (⟨S784x1, .i32⟩ : BufTy).Contents (Elt F) → (⟨S784x1, .i32⟩ : BufTy).Contents (Elt F))
abbrev op4 : HloOp τ sig (Elt F) := StableHlo.nullary main_v4 (iotaInDim S128 32 0)
abbrev op5 : HloOp τ sig (Elt F) := StableHlo.unary main_v4 main_v5 (broadcastInDim S1x128 ![1] bcast_S128_S1x128_1 : (⟨S128, .i32⟩ : BufTy).Contents (Elt F) → (⟨S1x128, .i32⟩ : BufTy).Contents (Elt F))
abbrev op6 : HloOp τ sig (Elt F) := StableHlo.unary main_v3 main_v6 (broadcastInDim S784x128 ![0, 1] bcast_S784x1_S784x128_0_1 : (⟨S784x1, .i32⟩ : BufTy).Contents (Elt F) → (⟨S784x128, .i32⟩ : BufTy).Contents (Elt F))
abbrev op7 : HloOp τ sig (Elt F) := StableHlo.unary main_v5 main_v7 (broadcastInDim S784x128 ![0, 1] bcast_S1x128_S784x128_0_1 : (⟨S1x128, .i32⟩ : BufTy).Contents (Elt F) → (⟨S784x128, .i32⟩ : BufTy).Contents (Elt F))
abbrev op8 : HloOp τ sig (Elt F) := StableHlo.binary main_v6 main_v7 main_v8 (addi : (⟨S784x128, .i32⟩ : BufTy).Contents (Elt F) → (⟨S784x128, .i32⟩ : BufTy).Contents (Elt F) → (⟨S784x128, .i32⟩ : BufTy).Contents (Elt F))
abbrev op9 : HloOp τ sig (Elt F) := StableHlo.reshape main_arg1 main_v9 (rfl : (.f32 : EltTy) = .f32) shapeCasts_S1024x1_S1024

/-- The TensorCore's arrays. -/
abbrev SA : Finset (DevRef τ sig) := {d_arg0, d_arg1, d_arg2, d_v0, d_v1, d_c, d_v2, d_v3, d_v4, d_v5, d_v6, d_v7, d_v8, d_v9, d_v10_0, d_v10_1}
/-- Those the call takes. -/
abbrev SC : Finset (DevRef τ sig) := {d_arg0, d_v9, d_arg2, d_v8, d_v10_0, d_v10_1}
/-- Those the claim reads. -/
abbrev SF : Finset (DevRef τ sig) := {d_arg0, d_arg1, d_arg2, d_v10_0, d_v10_1}

/-- The launch contents; after the operations before the call; after the call. -/
def V0 (d : Dev nD) : Valuation τ sig (Elt F) := fun b => m (d, b)
def V1 (d : Dev nD) : Valuation τ sig (Elt F) :=
  op9.result (op8.result (op7.result (op6.result (op5.result (op4.result (op3.result (op2.result (opC.result (op1.result (op0.result (V0 m d)))))))))))

/-- The values, the thresholds in line, the counts, the column numbers. -/
def vX (d : Dev nD) : Vec F S802816x128 .f32 := m (xLoc d)
def vT (d : Dev nD) : Vec F S1024 .f32 := shapeCast S1024 (m (hLoc d)) shapeCasts_S1024x1_S1024
def vC (d : Dev nD) : Vec F S1024x784 .i32 := m (cLoc d)
/-- The column numbers' formula. -/
def cols : Vec F S784x128 .i32 :=
  addi (broadcastInDim S784x128 ![0, 1] bcast_S784x1_S784x128_0_1 (muli (broadcastInDim S784x1 ![0] bcast_S784_S784x1_0 (iotaInDim S784 32 0)) (broadcastInDim S784x1 ![] bcast_S_S784x1 (constantI S_ 32 128#32))))
    (broadcastInDim S784x128 ![0, 1] bcast_S1x128_S784x128_0_1 (broadcastInDim S1x128 ![1] bcast_S128_S1x128_1 (iotaInDim S128 32 0)))
def vJ (_ : Dev nD) : Vec F S784x128 .i32 := cols

def V2 (d : Dev nD) : Valuation τ sig (Elt F) := Function.update (Function.update (V1 m d) d_v10_0 (outV (vX m) (vT m) (vC m) d)) d_v10_1 (outW (vX m) (vT m) (vC m) (vJ) d)

theorem V1_arg0 (d : Dev nD) : V1 m d d_arg0 = vX m d := by unfold V1; after_results_simp; rfl
theorem V1_arg1 (d : Dev nD) : V1 m d d_arg1 = m (hLoc d) := by unfold V1; after_results_simp; rfl
theorem V1_v9 (d : Dev nD) : V1 m d d_v9 = vT m d := by unfold V1; after_results_simp; rfl
theorem V1_arg2 (d : Dev nD) : V1 m d d_arg2 = vC m d := by unfold V1; after_results_simp; rfl
theorem V1_v8 (d : Dev nD) : V1 m d d_v8 = vJ d := by unfold V1; after_results_simp; rfl
theorem V1_v10_0 (d : Dev nD) : V1 m d d_v10_0 = m (vLoc d) := by unfold V1; after_results_simp; rfl
theorem V1_v10_1 (d : Dev nD) : V1 m d d_v10_1 = m (wLoc d) := by unfold V1; after_results_simp; rfl

theorem V2_of (d : Dev nD) (b : DevRef τ sig) (h : b ≠ d_v10_0) (h' : b ≠ d_v10_1) : V2 m d b = V1 m d b :=
  (Function.update_of_ne h' _ _).trans (Function.update_of_ne h _ _)
theorem V2_v (d : Dev nD) : V2 m d d_v10_0 = (outV (vX m) (vT m) (vC m) d) := (Function.update_of_ne (show d_v10_0 ≠ d_v10_1 by decide) _ _).trans (Function.update_self _ _ _)
theorem V2_w (d : Dev nD) : V2 m d d_v10_1 = (outW (vX m) (vT m) (vC m) vJ d) := Function.update_self _ _ _

omit [FloatOps F] in
theorem unscopedBufs_eq (d : Dev nD) (W : Valuation τ sig (Elt F)) :
    (unscopedBufs d (fun b => W (Proc.devRef .tc b)) : sProp 𝕄) = held (T d) SA W := by
  unfold unscopedBufs held SA
  rw [show (Finset.univ.filter fun b : Ref sig .tc => ¬ b.isScoped)
      = {main_arg0, main_arg1, main_arg2, main_v0, main_v1, main_c, main_v2, main_v3, main_v4, main_v5, main_v6, main_v7, main_v8, main_v9, main_v10_0, main_v10_1} by decide]
  repeat rw [SparseCore.bigSep_insert' (by decide)]
  repeat rw [SparseCore.bigSep_insert' (by decide)]
  rw [bigSep_singleton, bigSep_singleton]

omit [FloatOps F] in
theorem held_SC (d : Dev nD) (W : Valuation τ sig (Elt F)) :
    (held (T d) SC W : sProp 𝕄) = iprop((xLoc d ↦{fullShare} W d_arg0) ∗ (tLoc d ↦{fullShare} W d_v9) ∗ (cLoc d ↦{fullShare} W d_arg2) ∗ (jLoc d ↦{fullShare} W d_v8) ∗ (vLoc d ↦{fullShare} W d_v10_0) ∗ (wLoc d ↦{fullShare} W d_v10_1)) := by
  unfold held SC
  rw [SparseCore.bigSep_insert' (by decide), SparseCore.bigSep_insert' (by decide), SparseCore.bigSep_insert' (by decide), SparseCore.bigSep_insert' (by decide), SparseCore.bigSep_insert' (by decide), bigSep_singleton]

omit [FloatOps F] in
theorem held_SF (d : Dev nD) (W : Valuation τ sig (Elt F)) :
    (held (T d) SF W : sProp 𝕄) = iprop((xLoc d ↦{fullShare} W d_arg0) ∗ (hLoc d ↦{fullShare} W d_arg1) ∗ (cLoc d ↦{fullShare} W d_arg2) ∗ (vLoc d ↦{fullShare} W d_v10_0) ∗ (wLoc d ↦{fullShare} W d_v10_1)) := by
  unfold held SF
  rw [SparseCore.bigSep_insert' (by decide), SparseCore.bigSep_insert' (by decide), SparseCore.bigSep_insert' (by decide), SparseCore.bigSep_insert' (by decide), bigSep_singleton]

theorem held_rest (d : Dev nD) : (held (T d) (SA \ SC) (V2 m d) : sProp 𝕄) = held (T d) (SA \ SC) (V1 m d) :=
  held_congr _ fun b hb => V2_of m d b (fun e => (Finset.mem_sdiff.mp hb).2 (by rw [e]; decide)) (fun e => (Finset.mem_sdiff.mp hb).2 (by rw [e]; decide))

/-! ## The call's arrays -/

/-- The call's arrays with results `f` and `g`. -/
abbrev callPts (d : Dev nD) (f : Buf (Elt F) (vLoc d)) (g : Buf (Elt F) (wLoc d)) : sProp 𝕄 :=
  iprop(inPts (vX m) (vT m) (vC m) vJ d fullShare ∗ ((vLoc d ↦{fullShare} f) ∗ (wLoc d ↦{fullShare} g)))

theorem call_cores (d : Dev nD) (f : Buf (Elt F) (vLoc d)) (g : Buf (Elt F) (wLoc d)) :
    (bigSep Finset.univ fun c : Fin ((K (F := F)).nCore 0) => iprop(inPts (vX m) (vT m) (vC m) vJ d (cq (cN c)) ∗ outPts d (coreRows (cN c)) f g)) = callPts m d f g := by
  refine (bigSep_cores (F := F) (fun c => iprop(inPts (vX m) (vT m) (vC m) vJ d (cq c) ∗ outPts d (coreRows c) f g))).trans ?_
  rw [bigSep_sep', ← outPts_cores]
  unfold callPts
  rw [inPts_pieces (vX m) (vT m) (vC m) vJ d fullShare 2 (by decide)]

omit [FloatOps F] in
theorem sep_assoc_eq (A B C : sProp 𝕄) : iprop((A ∗ B) ∗ C) = iprop(A ∗ B ∗ C) := equiv_iff.mp ⟨BI.sep_assoc, BI.sep_assoc'⟩

theorem st0_eq (d : Dev nD) : (bigSep Finset.univ fun c : Fin ((K (F := F)).nCore 0) => (P m (vX m) (vT m) (vC m) vJ).st 0 d c) = callPts m d (m (vLoc d)) (m (wLoc d)) :=
  call_cores m d _ _
theorem dn0_eq (d : Dev nD) : (bigSep Finset.univ fun c : Fin ((K (F := F)).nCore 0) => (P m (vX m) (vT m) (vC m) vJ).dn 0 d c) = callPts m d (outV (vX m) (vT m) (vC m) d) (outW (vX m) (vT m) (vC m) vJ d) :=
  call_cores m d _ _

theorem held_call (d : Dev nD) (W : Valuation τ sig (Elt F)) (hx : W d_arg0 = vX m d) (ht : W d_v9 = vT m d) (hc : W d_arg2 = vC m d) (hj : W d_v8 = vJ d) :
    (held (T d) SC W : sProp 𝕄) = callPts m d (W d_v10_0) (W d_v10_1) := by
  rw [held_SC, hx, ht, hc, hj]
  unfold callPts inPts
  simp only [sep_assoc_eq]

/-- What the program leaves the claim: its arguments as they were, and its results. -/
abbrev FIN (d : Dev nD) : sProp 𝕄 := iprop((xLoc d ↦{fullShare} m (xLoc d)) ∗ (hLoc d ↦{fullShare} m (hLoc d)) ∗ (cLoc d ↦{fullShare} m (cLoc d))
  ∗ (vLoc d ↦{fullShare} (outV (vX m) (vT m) (vC m) d)) ∗ (wLoc d ↦{fullShare} (outW (vX m) (vT m) (vC m) vJ d)))

theorem held_V2 (d : Dev nD) : (held (T d) SA (V2 m d) : sProp 𝕄) = iprop(FIN m d ∗ held (T d) (SA \ SF) (V2 m d)) := by
  rw [held_sub_split (T d) (show SF ⊆ SA by decide), held_SF, V2_v, V2_w, V2_of m d d_arg0 (by decide) (by decide), V2_of m d d_arg1 (by decide) (by decide),
    V2_of m d d_arg2 (by decide) (by decide), V1_arg0, V1_arg1, V1_arg2]
  rfl

theorem hmain (κ : GSem nD τ sig → ℕ) (d : Dev nD) :
    iprop((K (F := F)).ctx EH (P m (vX m) (vT m) (vC m) vJ) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) SA (V0 m d) from unscopedBufs_eq d (V0 m d)]
  simp only [main, wp_bind, wp_pure]
  iintro ⟨#Hctx, Hst, ⟨Hb, Hheld, Hts, -⟩, -⟩
  iapply (wp_hlo_within 𝒱 (SparseCore.T d) none Set.univ (op := op0) (S := SA) (show ({d_v0} : Finset (DevRef τ sig)) ⊆ SA by decide) (V := V0 m d)) $$ [Hb Hheld]
  · isplitl [Hb] <;> iassumption
  iintro ⟨Hb, Hheld⟩
  rw [wp_ret]; imodintro
  iapply (wp_hlo_within 𝒱 (SparseCore.T d) none Set.univ (op := op1) (S := SA) (show ({d_v0, d_v1} : Finset (DevRef τ sig)) ⊆ SA by decide) (V := _)) $$ [Hb Hheld]
  · isplitl [Hb] <;> iassumption
  iintro ⟨Hb, Hheld⟩
  rw [wp_ret]; imodintro
  iapply (wp_hlo_within 𝒱 (SparseCore.T d) none Set.univ (op := opC) (S := SA) (show ({d_c} : Finset (DevRef τ sig)) ⊆ SA by decide) (V := _)) $$ [Hb Hheld]
  · isplitl [Hb] <;> iassumption
  iintro ⟨Hb, Hheld⟩
  rw [wp_ret]; imodintro
  iapply (wp_hlo_within 𝒱 (SparseCore.T d) none Set.univ (op := op2) (S := SA) (show ({d_c, d_v2} : Finset (DevRef τ sig)) ⊆ SA by decide) (V := _)) $$ [Hb Hheld]
  · isplitl [Hb] <;> iassumption
  iintro ⟨Hb, Hheld⟩
  rw [wp_ret]; imodintro
  iapply (wp_hlo_within 𝒱 (SparseCore.T d) none Set.univ (op := op3) (S := SA) (show ({d_v1, d_v2, d_v3} : Finset (DevRef τ sig)) ⊆ SA by decide) (V := _)) $$ [Hb Hheld]
  · isplitl [Hb] <;> iassumption
  iintro ⟨Hb, Hheld⟩
  rw [wp_ret]; imodintro
  iapply (wp_hlo_within 𝒱 (SparseCore.T d) none Set.univ (op := op4) (S := SA) (show ({d_v4} : Finset (DevRef τ sig)) ⊆ SA by decide) (V := _)) $$ [Hb Hheld]
  · isplitl [Hb] <;> iassumption
  iintro ⟨Hb, Hheld⟩
  rw [wp_ret]; imodintro
  iapply (wp_hlo_within 𝒱 (SparseCore.T d) none Set.univ (op := op5) (S := SA) (show ({d_v4, d_v5} : Finset (DevRef τ sig)) ⊆ SA by decide) (V := _)) $$ [Hb Hheld]
  · isplitl [Hb] <;> iassumption
  iintro ⟨Hb, Hheld⟩
  rw [wp_ret]; imodintro
  iapply (wp_hlo_within 𝒱 (SparseCore.T d) none Set.univ (op := op6) (S := SA) (show ({d_v3, d_v6} : Finset (DevRef τ sig)) ⊆ SA by decide) (V := _)) $$ [Hb Hheld]
  · isplitl [Hb] <;> iassumption
  iintro ⟨Hb, Hheld⟩
  rw [wp_ret]; imodintro
  iapply (wp_hlo_within 𝒱 (SparseCore.T d) none Set.univ (op := op7) (S := SA) (show ({d_v5, d_v7} : Finset (DevRef τ sig)) ⊆ SA by decide) (V := _)) $$ [Hb Hheld]
  · isplitl [Hb] <;> iassumption
  iintro ⟨Hb, Hheld⟩
  rw [wp_ret]; imodintro
  iapply (wp_hlo_within 𝒱 (SparseCore.T d) none Set.univ (op := op8) (S := SA) (show ({d_v6, d_v7, d_v8} : Finset (DevRef τ sig)) ⊆ SA by decide) (V := _)) $$ [Hb Hheld]
  · isplitl [Hb] <;> iassumption
  iintro ⟨Hb, Hheld⟩
  rw [wp_ret]; imodintro
  iapply (wp_hlo_within 𝒱 (SparseCore.T d) none Set.univ (op := op9) (S := SA) (show ({d_arg1, d_v9} : Finset (DevRef τ sig)) ⊆ SA by decide) (V := _)) $$ [Hb Hheld]
  · isplitl [Hb] <;> iassumption
  iintro ⟨Hb, Hheld⟩
  rw [wp_ret]; imodintro
  ihave Hheld := (Entails.of_eq (show (held (T d) SA (op9.result (op8.result (op7.result (op6.result (op5.result (op4.result (op3.result (op2.result (opC.result (op1.result (op0.result (V0 m d)))))))))))) : sProp 𝕄)
      = held (T d) SA (V1 m d) from rfl)) $$ Hheld
  ihave Hh := (Entails.of_eq (show (held (T d) SA (V1 m d) : sProp 𝕄)
      = iprop(callPts m d (m (vLoc d)) (m (wLoc d)) ∗ held (T d) (SA \ SC) (V1 m d)) from by
        rw [held_sub_split (T d) (show SC ⊆ SA by decide), held_call m d _ (V1_arg0 m d) (V1_v9 m d) (V1_arg2 m d) (V1_v8 m d), V1_v10_0, V1_v10_1])) $$ Hheld
  icases Hh with ⟨Hcall, Hrest⟩
  iapply ((K (F := F)).wp_run (D (F := F)) 𝒱 (EH := EH) (P := P m (vX m) (vT m) (vC m) vJ) κ d 0) $$ [Hst Hcall Hrest Hb Hts]
  isplitr; · iexact Hctx
  isplitl [Hst]; · iexact Hst
  isplitl [Hcall]
  · iapply (Entails.of_eq (st0_eq m d).symm) $$ Hcall
  iintro ⟨Hst, Hdn⟩
  ihave Hdn := (Entails.of_eq (dn0_eq m d)) $$ Hdn
  ihave Hheld := (Entails.of_eq (show iprop(callPts m d (outV (vX m) (vT m) (vC m) d) (outW (vX m) (vT m) (vC m) vJ d) ∗ held (T d) (SA \ SC) (V1 m d)) = (held (T d) SA (V2 m d) : sProp 𝕄) from by
      rw [held_sub_split (T d) (show SC ⊆ SA by decide) (V2 m d), held_call m d _ ((V2_of m d _ (by decide) (by decide)).trans (V1_arg0 m d))
        ((V2_of m d _ (by decide) (by decide)).trans (V1_v9 m d)) ((V2_of m d _ (by decide) (by decide)).trans (V1_arg2 m d))
        ((V2_of m d _ (by decide) (by decide)).trans (V1_v8 m d)), held_rest, V2_v, V2_w])) $$ [Hdn Hrest]
  · isplitl [Hdn] <;> iassumption
  ihave Hh := (Entails.of_eq (held_V2 m d)) $$ Hheld
  icases Hh with ⟨HF, -⟩
  imodintro
  isplitl [Hst]; · iexact Hst
  isplitl [HF]; · iexact HF
  isplitl [Hb] <;> iassumption

/-! ## The run -/

def fq (d : Dev nD) (s' : Phys nD τ sig (Elt F)) : Prop :=
  s'.mem.mem (xLoc d) = m (xLoc d) ∧ s'.mem.mem (hLoc d) = m (hLoc d) ∧ s'.mem.mem (cLoc d) = m (cLoc d)
    ∧ s'.mem.mem (vLoc d) = (outV (vX m) (vT m) (vC m) d) ∧ s'.mem.mem (wLoc d) = (outW (vX m) (vT m) (vC m) vJ d)

omit [FloatOps F] in
/-- An array held whole is the memory's. -/
theorem mem_eq (s' : Phys nD τ sig (Elt F)) (ℓ : Loc nD τ sig) (f : Buf (Elt F) ℓ) :
    iprop(SI s' ∗ (ℓ ↦{fullShare} f)) ⊢ (iprop((SI s' ∗ (ℓ ↦{fullShare} f)) ∗ ⌜s'.mem.mem ℓ = f⌝) : sProp 𝕄) := by
  iintro H
  ihave H := (persistent_entails_left (SI_pointsTo_agree (st := s') (ℓ := ℓ) (I := Finset.univ) (q := fullShare) (f := f))) $$ H
  icases H with ⟨H, %h⟩
  isplitl [H]; · iexact H
  ipureintro; exact funext fun i => h i (Finset.mem_univ i)

set_option maxRecDepth 16384 in
theorem hfin (d : Dev nD) (s' : Phys nD τ sig (Elt F)) : iprop(FIN m d ∗ SI s') ⊢ (⌜fq m d s'⌝ : sProp 𝕄) := by
  iintro ⟨⟨Hx, Hh, Hc, Hv, Hw⟩, HSI⟩
  ihave H := (mem_eq s' (xLoc d) _) $$ [HSI Hx]
  · isplitl [HSI] <;> iassumption
  icases H with ⟨⟨HSI, -⟩, %h0⟩
  ihave H := (mem_eq s' (hLoc d) _) $$ [HSI Hh]
  · isplitl [HSI] <;> iassumption
  icases H with ⟨⟨HSI, -⟩, %h1⟩
  ihave H := (mem_eq s' (cLoc d) _) $$ [HSI Hc]
  · isplitl [HSI] <;> iassumption
  icases H with ⟨⟨HSI, -⟩, %h2⟩
  ihave H := (mem_eq s' (vLoc d) _) $$ [HSI Hv]
  · isplitl [HSI] <;> iassumption
  icases H with ⟨⟨HSI, -⟩, %h3⟩
  ihave H := (mem_eq s' (wLoc d) _) $$ [HSI Hw]
  · isplitl [HSI] <;> iassumption
  icases H with ⟨⟨HSI, -⟩, %h4⟩
  ipureintro
  exact ⟨h0, h1, h2, h3, h4⟩

def QC : PUnit × MemSt nD τ sig (Elt F) → Prop := fun r =>
  (∀ d : Dev nD, r.2.mem (xLoc d) = m (xLoc d) ∧ r.2.mem (hLoc d) = m (hLoc d) ∧ r.2.mem (cLoc d) = m (cLoc d)
    ∧ r.2.mem (vLoc d) = (outV (vX m) (vT m) (vC m) d) ∧ r.2.mem (wLoc d) = (outW (vX m) (vT m) (vC m) vJ d)) ∧ r.2.sem = fun _ => 0

theorem run_main [∀ e, Nonempty (Elt F e)] :
    θ_run (Cert.CompactIdeal.defs (F := F)) (Cert.CompactIdeal.threads (F := F)) ⟨m, fun _ => 0, ρ⟩ (QC m) :=
  SparseCore.Cfg.θ_run_sc_quiescent (K := K (F := F)) (D := D (F := F)) (𝒱 := 𝒱) (EH := EH) (P := P m (vX m) (vT m) (vC m) vJ) (A := ∅) facts v₀
    (fun q hq => match q with | 0 => nomatch hq)
    (fun q _ => match q with | 0 => tileObl (vX m) (vT m) (vC m) vJ m facts)
    (fun q _ => match q with | 0 => SparseCore.Cfg.VecSplit.of_plain (vecSplit m (vX m) (vT m) (vC m) vJ))
    m ρ main (fun _ => iprop(emp)) (FIN m) (u₀ (F := F)) (sep_elim_left.trans (hu₀ m (vX m) (vT m) (vC m) vJ)) (hmain m ρ) (fq m) (hfin m) (QC m)
    (fun _ h hz => ⟨h, hz⟩)

end Cert.Proof.Compact

end
-- ==== Proof.CompactRef.lean ====
/- The compaction against its reference: in a row that satisfies the precondition both give the entries above the row's threshold, in order,
   with their places in the row. -/
module

public import proofs.«01_k».proof.Defs
public import proofs.«01_k».proof.Proof.CompactFew
public import proofs.«01_k».proof.Proof.CompactRun
public import proofs.«01_k».proof.Proof.Gen.Compact
public import proofs.«01_k».proof.Proof.Gen.CandidatesIdeal
public import proofs.«01_k».proof.Proof.Gen.CandidatesIdeal.Run
public import proofs.«01_k».proof.Proof.Gen.CandidatesIdeal.Read
public import Idealize.ShloMosaic.Lib.ReduceAll

@[expose] public section

noncomputable section

namespace Cert.Proof.Compact

open Cert.CompactIdeal Cert.CompactIdeal.Gen Cert.Proof.Lanes
open Idealize.ShloMosaic Idealize.SL.Sem

variable {F : FTy → Type} [FloatOps F]

/-! ## The kernel's operands -/

/-- The number of column `l` of chunk `c`. -/
theorem cols_at (c : Fin 784) (l : Fin 128) : cols (F := F) (at2 c l) = BitVec.ofNat 32 (128 * c.val + l.val) := by
  have hc := c.isLt; have hl := l.isLt
  show BitVec.ofNat 32 c.val * 128#32 + BitVec.ofNat 32 l.val = _
  apply BitVec.eq_of_toNat_eq
  simp only [BitVec.toNat_add, BitVec.toNat_mul, BitVec.toNat_ofNat]
  omega

theorem thr_cast (t : Vec F S1024x1 .f32) (q : Fin 1024) : shapeCast S1024 t shapeCasts_S1024x1_S1024 (at1 q) = t (at2 q 0) := by
  refine shapeCast_apply t shapeCasts_S1024x1_S1024 (at1 q) (at2 q 0) ?_
  rw [Shape.rowMajor_val_two, Shape.rowMajor_val_one]
  show q.val * 1 + 0 = q.val
  omega

theorem thr_at (m : (ℓ : Loc nD τ sig) → Buf (Elt F) ℓ) (d : Dev nD) (q : Fin 1024) : vT m d (at1 q) = m (hLoc d) (at2 q 0) :=
  thr_cast (m (hLoc d)) q

/-! ## The reference, read -/

section Reference

open Cert.CandidatesIdeal.Read

abbrev Sq : Shape := Cert.CandidatesIdeal.S1024x100352
abbrev So : Shape := Cert.CandidatesIdeal.S1024x384

/-- A row of the array, sorted. -/
theorem sort_at (v : IVec Sq 32) (q : Fin 1024) (p : Fin 100352) : Host.sort Sq 1 Cert.CandidatesIdeal.comparator_i32_d1 v (at2 q p)
    = v (at2 q (sortedFrom (fun a b => IntOp.cmpi .slt (v (at2 q a)) (v (at2 q b)) == 1#1) p)) := by
  have hd : 1 < Sq.rank := by decide
  have hal (k : Fin 100352) : Shape.Idx.along (at2 q p : Sq.Idx) ⟨1, hd⟩ k = at2 q k := by
    unfold Shape.Idx.along
    funext a
    match a with
    | ⟨0, h⟩ => exact Function.update_of_ne (Fin.ne_of_val_ne (show (0 : ℕ) ≠ 1 by decide)) _ _
    | ⟨1, h⟩ => exact Function.update_self _ _ _
  unfold Host.sort
  rw [dif_pos hd]
  refine (congrArg v (hal _)).trans ?_
  refine congrArg (fun R => v (at2 q (sortedFrom (n := 100352) R p))) ?_
  funext a b
  exact congrArg₂ (fun s t => IntOp.cmpi .slt (v s) (v t) == 1#1) (hal a) (hal b)

variable (x0 : (⟨Cert.CandidatesIdeal.S802816x128, .f32⟩ : BufTy).Contents (Elt F)) (x1 : (⟨Cert.CandidatesIdeal.S1024x1, .f32⟩ : BufTy).Contents (Elt F))

theorem ref_entry (q : Fin 1024) (j : Fin 100352) : val_main_v0 (F := F) x0 (at2 q j) = entry x0 q.val j.val :=
  row_entry x0 _ q j

theorem select_bit {α : Type} (c : BitVec 1) (a b : α) : Scalar.select c a b = if (c == 1#1) = true then a else b := by
  revert c
  intro c
  by_cases h : c = 1#1
  · subst h; rfl
  · rw [if_neg (by simpa using h)]
    unfold Scalar.select
    simp [h]

theorem key_at (q : Fin 1024) (k : Fin 100352) :
    val_main_v5 (F := F) x0 x1 (at2 q k) = BitVec.ofNat 32 (keyAt 100352 (above x0 (x1 (at2 q 0)) q.val) k.val) := by
  have e3 : val_main_v3 (F := F) x0 x1 (at2 q k) = FloatOps.cmpf .ogt (entry x0 q.val k.val) (x1 (at2 q 0)) := by
    rw [val_main_v3_apply, ref_entry, val_main_v2_apply]
    exact congrArg (fun t => FloatOps.cmpf .ogt _ (x1 t)) (ext2 rfl rfl)
  rw [val_main_v5_apply, e3, val_main_call0_v1_apply, val_main_v4_apply, val_main_v1_apply, val_main_call0_v2_apply,
    val_main_call0_v0_apply, val_main_c_apply, select_bit]
  unfold keyAt
  show (if above x0 (x1 (at2 q 0)) q.val k.val = true then _ else _) = _
  split <;> rfl

abbrev listOf (q : Fin 1024) : List ℕ := places x0 (x1 (at2 q 0)) q.val

/-- Place `p` of a row's sorted keys. -/
theorem first_at (q : Fin 1024) (p : Fin 384) : val_main_v7 (F := F) x0 x1 (at2 q p) = BitVec.ofNat 32 ((listOf x0 x1 q).getD p.val 100352) := by
  have hp := p.isLt
  rw [val_main_v7_apply]
  have e : idx_main_v7 (at2 q p) = at2 q (⟨p.val, by omega⟩ : Fin 100352) := ext2 rfl rfl
  rw [e]
  unfold val_main_v6
  rw [sort_at]
  exact sorted_row (by omega) _ (fun k => val_main_v5 (F := F) x0 x1 (at2 q k)) (key_at x0 x1 q) ⟨p.val, by omega⟩

theorem listOf_lt (q : Fin 1024) {p : ℕ} (hp : p < (listOf x0 x1 q).length) : (listOf x0 x1 q).getD p 100352 < 100352 := by
  rw [List.getD_eq_getElem?_getD, List.getElem?_eq_getElem hp]
  exact List.mem_range.mp (List.mem_filter.mp (List.getElem_mem hp)).1

theorem listOf_end (q : Fin 1024) {p : ℕ} (hp : ¬p < (listOf x0 x1 q).length) : (listOf x0 x1 q).getD p 100352 = 100352 := by
  rw [List.getD_eq_getElem?_getD, List.getElem?_eq_none (Nat.le_of_not_lt hp)]
  rfl

theorem live_at (q : Fin 1024) (p : Fin 384) : (val_main_v9 (F := F) x0 x1 (at2 q p) == 1#1) = decide (p.val < (listOf x0 x1 q).length) := by
  rw [val_main_v9_apply, first_at, val_main_v8_apply, val_main_c_0_apply]
  by_cases hp : p.val < (listOf x0 x1 q).length
  · have := listOf_lt x0 x1 q hp
    refine (slt_ofNat _ 100352 (by omega) (by omega)).trans ?_
    rw [decide_eq_true this, decide_eq_true hp]
  · rw [listOf_end x0 x1 q hp]
    refine (slt_ofNat 100352 100352 (by omega) (by omega)).trans ?_
    rw [decide_eq_false hp]; rfl

/-- The reference's column numbers. -/
theorem refCol_at (q : Fin 1024) (p : Fin 384) : val_main_v10 (F := F) x0 x1 (at2 q p)
    = if p.val < (listOf x0 x1 q).length then BitVec.ofNat 32 ((listOf x0 x1 q).getD p.val 100352) else 0#32 := by
  rw [val_main_v10_apply, select_bit, live_at, first_at, val_main_call2_v1_apply, val_main_call2_v0_apply, val_main_c_1_apply]
  simp only [decide_eq_true_eq]

/-- The place that the reference reads. -/
def readAt (q : Fin 1024) (p : ℕ) : ℕ := if p < (listOf x0 x1 q).length then (listOf x0 x1 q).getD p 100352 else 0

theorem readAt_lt (q : Fin 1024) (p : ℕ) : readAt x0 x1 q p < 100352 := by
  unfold readAt
  split
  · exact listOf_lt x0 x1 q ‹_›
  · decide

theorem refCol_word (q : Fin 1024) (p : Fin 384) : val_main_v10 (F := F) x0 x1 (at2 q p) = BitVec.ofNat 32 (readAt x0 x1 q p.val) := by
  rw [refCol_at]; unfold readAt; split <;> rfl

theorem word_toInt (n : ℕ) (h : n < 100352) : (BitVec.ofNat 32 n).toInt = n := by
  have : (BitVec.ofNat 32 n).toNat = n := by rw [BitVec.toNat_ofNat]; exact Nat.mod_eq_of_lt (by omega)
  rw [BitVec.toInt_eq_toNat_of_lt (by rw [this]; omega), this]

theorem word_nonneg (n : ℕ) (h : n < 100352) : (IntOp.cmpi .slt (BitVec.ofNat 32 n) 0#32 == 1#1) = false := by
  refine (slt_ofNat n 0 (by omega) (by omega)).trans ?_
  rw [decide_eq_false (Nat.not_lt_zero n)]

theorem word_inside (n : ℕ) (h : n < 100352) :
    IntOp.andi (IntOp.cmpi .sge (BitVec.ofNat 32 n) 0#32) (IntOp.cmpi .sle (BitVec.ofNat 32 n) 100351#32) = 1#1 := by
  have h0 : IntOp.cmpi .sge (BitVec.ofNat 32 n) 0#32 = 1#1 := by
    unfold IntOp.cmpi
    simp only [BitVec.sle_eq_decide, word_toInt n h]
    rw [decide_eq_true (by show (0 : ℤ) ≤ n; omega)]; rfl
  have h1 : IntOp.cmpi .sle (BitVec.ofNat 32 n) 100351#32 = 1#1 := by
    unfold IntOp.cmpi
    simp only [BitVec.sle_eq_decide, word_toInt n h]
    rw [decide_eq_true (by show (n : ℤ) ≤ 100351; omega)]; rfl
  rw [h0, h1]; rfl

/-- The reference's start index at `k`. -/
theorem start_at (q : Fin 1024) (p : Fin 384) (k : Cert.CandidatesIdeal.S1024x384x1.Idx) (hk0 : (k 0).val = q.val) (hk1 : (k 1).val = p.val) :
    val_main_call3_v5 (F := F) x0 x1 k = BitVec.ofNat 32 (readAt x0 x1 q p.val) := by
  have hq := q.isLt; have hp := p.isLt
  have hk2 : (k 2).val < 1 := (k 2).isLt
  have e : idx_main_call3_v5 k = at2 q p := by
    refine ext2 ?_ ?_
    · show (((k 0).val * 384 + (k 1).val) * 1 + (k 2).val) / 384 = q.val
      omega
    · show (((k 0).val * 384 + (k 1).val) * 1 + (k 2).val) % 384 = p.val
      omega
  rw [val_main_call3_v5_apply, e, val_main_call3_v4_apply, val_main_call3_v1_apply, val_main_call3_v0_apply, val_main_call3_c_apply,
    refCol_word, select_bit, word_nonneg _ (readAt_lt x0 x1 q p.val)]
  rfl

theorem fin_of_lt {N n : ℕ} (h : n < N) : ∃ b : Fin N, n = b.val := ⟨⟨n, h⟩, rfl⟩

abbrev rowDims := Cert.CandidatesIdeal.gather_S1024x100352_S1024x384x1_S1024x384_n_1_0_0_1_2_11

/-- Entries of a row taken at that row's start indices: the start index read signed and clamped to the row. -/
theorem take_entry (x : Sq.Idx → Elt F .f32) (idx : IVec Cert.CandidatesIdeal.S1024x384x1 32) (q : Fin 1024) (p : Fin 384) (b : Fin 100352)
    (hb : ∀ k : Cert.CandidatesIdeal.S1024x384x1.Idx, (k 0).val = q.val → (k 1).val = p.val → (idx k).toInt = (b.val : Int)) :
    Host.gather rowDims x idx (at2 q p) = x (at2 q b) := by
  unfold Host.gather
  refine congrArg x (ext2 ?_ ?_)
  · show rowDims.start (at2 q p) idx 0 + rowDims.batchCoord (at2 q p) 0 + rowDims.offCoord (at2 q p) 0 = q.val
    have hm : (0 : Fin 2) ∈ rowDims.operandBatchingDims := List.mem_singleton.mpr rfl
    rw [GatherDims.offCoord_eq_zero _ _ _ (fun h => ((GatherDims.mem_sKept _ _).mp h).2 hm), GatherDims.start_batching _ _ _ _ hm,
      Nat.add_zero, Nat.zero_add]
    unfold GatherDims.batchCoord
    rw [dif_pos hm]
    rfl
  · show rowDims.start (at2 q p) idx 1 + rowDims.batchCoord (at2 q p) 1 + rowDims.offCoord (at2 q p) 1 = b.val
    have hm : (1 : Fin 2) ∈ rowDims.startIndexMap := List.mem_singleton.mpr rfl
    rw [GatherDims.offCoord_eq_zero _ _ _ (fun h => ((GatherDims.mem_sKept _ _).mp h).1 (List.mem_singleton.mpr rfl)),
      GatherDims.batchCoord_eq_zero _ _ _ (show (1 : Fin 2) ∉ rowDims.operandBatchingDims by decide), Nat.add_zero]
    unfold GatherDims.start
    rw [dif_pos hm, hb _ rfl rfl]
    have := b.isLt
    show min ((b.val : Int)).toNat (100352 - 1) = b.val
    omega

/-- The reference's values. -/
theorem refVal_at (q : Fin 1024) (p : Fin 384) : val_main_v12 (F := F) x0 x1 (at2 q p)
    = if p.val < (listOf x0 x1 q).length then entry x0 q.val ((listOf x0 x1 q).getD p.val 100352) else Scalar.ofBits .f32 0xF149F2CA#32 := by
  have hall : ∀ k, val_main_call3_v11 (F := F) x0 x1 k = 1#1 := fun k => by
    have hs := start_at x0 x1 ⟨(k 0).val, (k 0).isLt⟩ ⟨(k 1).val, (k 1).isLt⟩ k rfl rfl
    rw [val_main_call3_v11_apply, val_main_call3_v7_apply, val_main_call3_v10_apply, hs, val_main_call3_v6_apply,
      val_main_call3_c_2_apply, val_main_call3_v9_apply, val_main_call3_v8_apply, val_main_call3_c_1_apply]
    exact word_inside _ (readAt_lt x0 x1 _ _)
  rw [val_main_v12_apply, select_bit, live_at]
  simp only [decide_eq_true_eq]
  split
  · rename_i hp
    rw [val_main_v11_apply]
    unfold val_main_call3_v12
    rw [Host.reduce_andi_one _ _ _ _ _ rfl hall]
    show val_main_call3_v13 (F := F) x0 x1 (at2 q p) = _
    unfold val_main_call3_v13
    obtain ⟨b, hb⟩ : ∃ b : Fin 100352, readAt x0 x1 q p.val = b.val := fin_of_lt (readAt_lt x0 x1 q p.val)
    have hs := start_at x0 x1 q p
    rw [hb] at hs
    refine (take_entry _ _ q p b fun k h0 h1 => ?_).trans ?_
    · rw [hs k h0 h1]
      exact word_toInt _ b.isLt
    · rw [ref_entry, ← hb]
      unfold readAt
      rw [if_pos hp]
  · rfl

end Reference

/-! ## The kernel's results -/

variable (m : (ℓ : Loc nD τ sig) → Buf (Elt F) ℓ)

theorem kernelVal_at (d : Dev nD) (h : Cert.Pre_few_candidates.fn (F := F) (m (xLoc d)) (m (hLoc d)) (m (cLoc d)) = fun _ => 1#1) (q : Fin 1024) (p : Fin 384) :
    outV (vX m) (vT m) (vC m) d (at2 q p) = Cert.CandidatesIdeal.Read.val_main_v12 (F := F) (m (xLoc d)) (m (hLoc d)) (at2 q p) := by
  refine Eq.trans ?_ (refVal_at _ _ q p).symm
  show outVal (m (xLoc d)) (cnRow (m (cLoc d)) q) (vT m d (at1 q)) q.val p.val = _
  rw [thr_at]
  exact outVal_eq (few_of_pre _ _ _ h q) p.val

theorem kernelCol_at (d : Dev nD) (h : Cert.Pre_few_candidates.fn (F := F) (m (xLoc d)) (m (hLoc d)) (m (cLoc d)) = fun _ => 1#1) (q : Fin 1024) (p : Fin 384) :
    outW (vX m) (vT m) (vC m) vJ d (at2 q p) = Cert.CandidatesIdeal.Read.val_main_v10 (F := F) (m (xLoc d)) (m (hLoc d)) (at2 q p) := by
  refine Eq.trans ?_ (refCol_at _ _ q p).symm
  show outCol (m (xLoc d)) cols (cnRow (m (cLoc d)) q) (vT m d (at1 q)) q.val p.val = _
  rw [thr_at]
  exact outCol_eq (few_of_pre _ _ _ h q) _ cols_at p.val

/-! ## The claims -/

/-- `Cert.quiescent_CompactIdeal` (Defs.lean). -/
theorem frame_ideal : Cert.quiescent_CompactIdeal := fun m ρ _ =>
  (θ_run Cert.CompactIdeal.defs _ _).mono (fun _ h => ⟨fun c => ⟨(h.1 c).1, (h.1 c).2.1, (h.1 c).2.2.1⟩, h.2⟩) (run_main (F := Ideal) m ρ)

/-- `Cert.quiescent_CompactIdeal_pre_few_candidates` (Defs.lean). -/
theorem frame_ideal_few : Cert.quiescent_CompactIdeal_pre_few_candidates := fun m ρ _ =>
  (θ_run Cert.CompactIdeal.defs _ _).mono (fun _ h => ⟨fun c => ⟨(h.1 c).1, (h.1 c).2.1, (h.1 c).2.2.1⟩, h.2⟩) (run_main (F := Ideal) m ρ)

/-- `Cert.quiescent_Compact` (Defs.lean). -/
theorem frame_kernel : Cert.quiescent_Compact := fun m ρ _ =>
  (θ_run Cert.CompactIdeal.defs _ _).mono (fun _ h => ⟨fun c => ⟨(h.1 c).1, (h.1 c).2.1, (h.1 c).2.2.1⟩, h.2⟩) (run_main (F := Bits) m ρ)

/-- `Cert.quiescent_CandidatesIdeal` (Defs.lean): the reference declares no semaphore. -/
theorem frame_reference : Cert.quiescent_CandidatesIdeal := fun m ρ _ =>
  (θ_run Cert.CandidatesIdeal.defs _ _).mono (fun r h => ⟨fun c => (h c).2.2, sem_eq_zero_of_no_sems (by decide) r.2⟩)
    (Cert.CandidatesIdeal.Value.run (F := Ideal) m ρ)

/-- `Cert.quiescent_CandidatesIdeal_pre_few_candidates` (Defs.lean). -/
theorem frame_reference_few : Cert.quiescent_CandidatesIdeal_pre_few_candidates := fun m ρ _ =>
  (θ_run Cert.CandidatesIdeal.defs _ _).mono (fun r h => ⟨fun c => (h c).2.2, sem_eq_zero_of_no_sems (by decide) r.2⟩)
    (Cert.CandidatesIdeal.Value.run (F := Ideal) m ρ)

/-- `Cert.algebraic_CompactIdeal_CandidatesIdeal_pre_few_candidates` (Defs.lean): both give the entries above the threshold and their places. -/
theorem algebraic : Cert.algebraic_CompactIdeal_CandidatesIdeal_pre_few_candidates := by
  intro m ρ m' ρ' hpre hagree
  refine ⟨fun c => outV (vX m) (vT m) (vC m) c, fun c => outW (vX m) (vT m) (vC m) vJ c, (θ_run Cert.CompactIdeal.defs _ _).mono
    (fun _ h c => ⟨(h.1 c).2.2.2.1, (h.1 c).2.2.2.2, (h.1 c).1, (h.1 c).2.1, (h.1 c).2.2.1⟩) (run_main (F := Ideal) m ρ), ?_⟩
  refine (θ_run Cert.CandidatesIdeal.defs _ _).mono (fun _ h c => ⟨(h c).1.trans ?_, (h c).2.1.trans ?_, (h c).2.2⟩)
    (Cert.CandidatesIdeal.Value.run (F := Ideal) m' ρ')
  · refine (Cert.CandidatesIdeal.Read.val_main_v12_eq (F := Ideal) _ _).trans ?_
    rw [(hagree c).1, (hagree c).2.1]
    funext i
    have e : i = at2 ⟨(i 0).val, (i 0).isLt⟩ ⟨(i 1).val, (i 1).isLt⟩ := ext2 rfl rfl
    rw [e]
    exact (kernelVal_at m c (hpre c) _ _).symm
  · refine (Cert.CandidatesIdeal.Read.val_main_v10_eq (F := Ideal) _ _).trans ?_
    rw [(hagree c).1, (hagree c).2.1]
    funext i
    have e : i = at2 ⟨(i 0).val, (i 0).isLt⟩ ⟨(i 1).val, (i 1).isLt⟩ := ext2 rfl rfl
    rw [e]
    exact (kernelCol_at m c (hpre c) _ _).symm

end Cert.Proof.Compact

end
-- ==== Proof.RankOrder.lean ====
/- The order of a row by value, the greater first and equal values in the order of their places: a stable sort puts at place `p` the entry
   that exactly `p` entries come before. -/
module

public import Idealize.ShloMosaic.Lib.SortFacts
public import Idealize.ShloMosaic.PureOps.Ideal.Laws

@[expose] public section

noncomputable section

namespace Cert.Proof.Rank

open Idealize.ShloMosaic

variable {n : ℕ} (x : Fin n → EReal)

/-- Entry `j` comes before entry `i`: it is greater, or equal and at an earlier place. -/
def Ahead (j i : Fin n) : Prop := x i < x j ∨ (x j = x i ∧ j < i)

instance (j i : Fin n) : Decidable (Ahead x j i) := Classical.propDecidable _

/-- Entry `a` is greater than entry `b`. -/
def greater (a b : Fin n) : Bool := decide (x b < x a)

section
variable {x}

theorem ahead_trans {i j k : Fin n} (h : Ahead x i j) (h' : Ahead x j k) : Ahead x i k := by
  rcases h with h | ⟨e, h⟩ <;> rcases h' with h' | ⟨e', h'⟩
  · exact Or.inl (h'.trans h)
  · exact Or.inl (e' ▸ h)
  · exact Or.inl (e ▸ h')
  · exact Or.inr ⟨e.trans e', h.trans h'⟩

theorem ahead_irrefl {i : Fin n} (h : Ahead x i i) : False := by
  rcases h with h | ⟨_, h⟩ <;> exact lt_irrefl _ h

theorem insert_ahead (a : Fin n) (l : List (Fin n)) (hl : l.Pairwise (Ahead x)) (ha : ∀ b ∈ l, a < b) :
    (insertBefore (greater x) a l).Pairwise (Ahead x) := by
  induction l with
  | nil => exact List.pairwise_singleton _ _
  | cons b l ih =>
    rw [List.pairwise_cons] at hl
    unfold insertBefore
    split
    · rename_i h
      refine List.pairwise_cons.2 ⟨fun c hc => ?_, ih hl.2 fun c hc => ha c (List.mem_cons_of_mem _ hc)⟩
      rcases List.mem_cons.mp ((perm_insertBefore _ a l).mem_iff.mp hc) with rfl | hc'
      · exact Or.inl (of_decide_eq_true h)
      · exact hl.1 c hc'
    · rename_i h
      have hab : Ahead x a b := by
        have h0 : ¬ x a < x b := fun e => h (decide_eq_true e)
        rcases lt_or_eq_of_le (not_lt.mp h0) with e | e
        · exact Or.inl e
        · exact Or.inr ⟨e.symm, ha b List.mem_cons_self⟩
      refine List.pairwise_cons.2 ⟨fun c hc => ?_, List.pairwise_cons.2 hl⟩
      rcases List.mem_cons.mp hc with rfl | hc'
      · exact hab
      · exact ahead_trans hab (hl.1 c hc')

theorem sort_ahead (l : List (Fin n)) (hl : l.Pairwise (· < ·)) : (stableSort (greater x) l).Pairwise (Ahead x) := by
  induction l with
  | nil => exact List.Pairwise.nil
  | cons a l ih =>
    rw [List.pairwise_cons] at hl
    unfold stableSort
    exact insert_ahead a _ (ih hl.2) fun b hb => hl.1 b ((perm_stableSort _ l).mem_iff.mp hb)

end

/-- The entry that the sort puts at place `p`. -/
abbrev placed (p : Fin n) : Fin n := sortedFrom (greater x) p

theorem placed_ahead {p q : Fin n} (h : p < q) : Ahead x (placed x p) (placed x q) := by
  have hp : ∀ a b : Fin (sortPositions n (greater x)).length, a < b →
      Ahead x ((sortPositions n (greater x)).get a) ((sortPositions n (greater x)).get b) :=
    List.pairwise_iff_get.mp (sort_ahead (x := x) (List.finRange n) (List.pairwise_lt_finRange n))
  exact hp _ _ h

theorem placed_ahead_iff (p q : Fin n) : Ahead x (placed x p) (placed x q) ↔ p < q := by
  refine ⟨fun h => ?_, placed_ahead x⟩
  rcases lt_trichotomy p q with h' | h' | h'
  · exact h'
  · subst h'; exact (ahead_irrefl h).elim
  · exact (ahead_irrefl (ahead_trans h (placed_ahead x h'))).elim

/-- How many entries come before entry `i`. -/
def rankOf (i : Fin n) : ℕ := (Finset.univ.filter fun j => Ahead x j i).card

theorem rankOf_placed (p : Fin n) : rankOf x (placed x p) = p.val := by
  have e : (Finset.univ.filter fun j => Ahead x j (placed x p)) = (Finset.Iio p).image (placed x) := by
    ext j
    obtain ⟨q, rfl⟩ := sortedFrom_surjective (greater x) j
    simp only [Finset.mem_filter, Finset.mem_univ, true_and, Finset.mem_image, Finset.mem_Iio]
    refine (placed_ahead_iff x q p).trans ⟨fun h => ⟨q, h, rfl⟩, fun ⟨q', h, e⟩ => ?_⟩
    rw [← sortedFrom_injective (greater x) e]; exact h
  unfold rankOf
  rw [e, Finset.card_image_of_injective _ (sortedFrom_injective (greater x)), Fin.card_Iio]

theorem rankOf_lt (i : Fin n) : rankOf x i < n := by
  obtain ⟨p, rfl⟩ := sortedFrom_surjective (greater x) i
  rw [rankOf_placed]; exact p.isLt

theorem rankOf_eq_iff (i p : Fin n) : rankOf x i = p.val ↔ i = placed x p := by
  obtain ⟨q, rfl⟩ := sortedFrom_surjective (greater x) i
  rw [rankOf_placed]
  exact ⟨fun h => congrArg (placed x) (Fin.ext h), fun h => congrArg Fin.val (sortedFrom_injective (greater x) h)⟩

/-! ## The words and numbers that count it -/

/-- A truth value as a number. -/
def one (p : Prop) [Decidable p] : ℕ := if p then 1 else 0

/-- What entry `j` adds to the rank of entry `i`: one for a greater one, one for an equal one before it. -/
theorem rankOf_eq_sum (i : Fin n) : rankOf x i = ∑ j, (one (x i < x j) + one (x j = x i ∧ j < i)) := by
  unfold rankOf
  rw [Finset.card_filter]
  refine Finset.sum_congr rfl fun j _ => ?_
  unfold one
  by_cases h1 : x i < x j
  · rw [if_pos (c := Ahead x j i) (Or.inl h1), if_pos h1, if_neg fun h => (ne_of_lt h1) h.1.symm]
  · by_cases h2 : x j = x i ∧ j < i
    · rw [if_pos (c := Ahead x j i) (Or.inr h2), if_neg h1, if_pos h2]
    · rw [if_neg (c := Ahead x j i) (fun h => h.elim h1 h2), if_neg h1, if_neg h2]

/-- A natural number below 2³¹ converted from a float to a word. -/
theorem fptosi_nat (k : ℕ) (hk : k < 2 ^ 31) : Ideal.fptosi 32 ((k : ℝ) : EReal) = BitVec.ofNat 32 k := by
  unfold Ideal.fptosi
  rw [Ideal.toIntClamped_coe, if_pos (Nat.cast_nonneg k), Int.floor_natCast]
  have : max (-((2 ^ (32 - 1) : ℕ) : ℤ)) (min (((2 ^ (32 - 1) : ℕ) : ℤ) - 1) (k : ℤ)) = (k : ℤ) := by omega
  rw [this]
  exact BitVec.ofInt_natCast ..

/-- A truth value, as a bit widened to a word and read as a number. -/
theorem bit_number (p : Prop) [Decidable p] : (((BitVec.ofBool (decide p)).zeroExtend 32).toInt : ℝ) = ((one p : ℕ) : ℝ) := by
  unfold one
  by_cases h : p
  · rw [decide_eq_true h, if_pos h]
    have : ((BitVec.ofBool true).zeroExtend 32).toInt = 1 := by decide
    rw [this]; simp
  · rw [decide_eq_false h, if_neg h]
    have : ((BitVec.ofBool false).zeroExtend 32).toInt = 0 := by decide
    rw [this]; simp

theorem sum_number {m : ℕ} (f : Fin m → ℕ) : (∑ k, (((f k : ℕ) : ℝ) : EReal)) = (((∑ k, f k : ℕ) : ℝ) : EReal) := by
  simp only [EReal.coe_natCast]
  exact (Nat.cast_sum _ _).symm

end Cert.Proof.Rank

end
-- ==== Proof.RankBlock.lean ====
/- One block of the rank sort: the rank it counts for each entry of a row is the number of entries that come before it, and each place of
   the result is the column number of the one entry of that rank. -/
module

public import proofs.«01_k».proof.Proof.RankOrder
public import proofs.«01_k».proof.Proof.Lanes
public import proofs.«01_k».proof.Proof.Gen.RankIdeal.Value
public import Idealize.ShloMosaic.Lib.WordSum

@[expose] public section

noncomputable section

namespace Cert.Proof.Rank

open Cert.RankIdeal Cert.RankIdeal.Gen Cert.Proof.Lanes
open Idealize.ShloMosaic Idealize.SL.Sem

/-- The index `(i, j, k)`. -/
def at3 {a b c : ℕ} (i : Fin a) (j : Fin b) (k : Fin c) : (⟨3, ![a, b, c]⟩ : Shape).Idx
  | 0 => i
  | 1 => j
  | 2 => k
  | ⟨_ + 3, h⟩ => absurd h (Nat.not_lt.2 (Nat.le_add_left _ _))

theorem ext3 {a b c : ℕ} {i j : (⟨3, ![a, b, c]⟩ : Shape).Idx} (h0 : (i 0).val = (j 0).val) (h1 : (i 1).val = (j 1).val)
    (h2 : (i 2).val = (j 2).val) : i = j := by
  funext x
  match x with
  | 0 => exact Fin.ext h0
  | 1 => exact Fin.ext h1
  | 2 => exact Fin.ext h2

/-! ## Arrays of two axes spread over three -/

section Spread
variable {α : Type}

theorem spread_last (v : S32x384.Idx → α) (b : Fin 32) (i : Fin 384) (k : Fin 128) :
    broadcastTo S32x384x128 (shapeCast S32x384x1 v shapeCasts_S32x384_S32x384x1) broadcasts_S32x384x1_S32x384x128 (at3 b i k) = v (at2 b i) := by
  refine (broadcastTo_apply _ _ _ (at3 b i (0 : Fin 1)) fun a => ?_).trans ?_
  · match a with
    | 0 => rfl
    | 1 => rfl
    | 2 => rfl
  · refine shapeCast_apply _ _ _ _ ?_
    rw [Shape.rowMajor_val_two, Shape.rowMajor_val_three]
    show b.val * 384 + i.val = (b.val * 384 + i.val) * 1 + 0
    omega

theorem spread_middle (v : S32x128.Idx → α) (b : Fin 32) (i : Fin 384) (k : Fin 128) :
    broadcastTo S32x384x128 (shapeCast S32x1x128 v shapeCasts_S32x128_S32x1x128) broadcasts_S32x1x128_S32x384x128 (at3 b i k) = v (at2 b k) := by
  refine (broadcastTo_apply _ _ _ (at3 b (0 : Fin 1) k) fun a => ?_).trans ?_
  · match a with
    | 0 => rfl
    | 1 => rfl
    | 2 => rfl
  · refine shapeCast_apply _ _ _ _ ?_
    rw [Shape.rowMajor_val_two, Shape.rowMajor_val_three]
    show b.val * 128 + k.val = (b.val * 1 + 0) * 128 + k.val
    omega

theorem spread_row (v : S1x1x128.Idx → α) (b : Fin 32) (i : Fin 384) (k : Fin 128) :
    broadcastTo S32x384x128 v broadcasts_S1x1x128_S32x384x128 (at3 b i k) = v (at3 0 0 k) :=
  broadcastTo_apply _ _ _ _ fun a => by
    match a with
    | 0 => rfl
    | 1 => rfl
    | 2 => rfl

theorem spread_column (v : S32x384x1.Idx → α) (b : Fin 32) (i : Fin 384) (k : Fin 128) :
    broadcastTo S32x384x128 v broadcasts_S32x384x1_S32x384x128 (at3 b i k) = v (at3 b i 0) :=
  broadcastTo_apply _ _ _ _ fun a => by
    match a with
    | 0 => rfl
    | 1 => rfl
    | 2 => rfl

end Spread

/-- The places of a stretch of 128 columns, from the column `base` on. -/
def places (base : BitVec 32) : IVec S1x1x128 32 := addi (broadcast S1x1x128 base) (iota .tc S1x1x128 32 [2] iota_S1x1x128_d2_w32)

theorem places_at (o : ℕ) (k : Fin 128) : places (BitVec.ofNat 32 o) (at3 0 0 k) = BitVec.ofNat 32 (o + k.val) := by
  show BitVec.ofNat 32 o + iota .tc S1x1x128 32 [2] iota_S1x1x128_d2_w32 (at3 0 0 k) = _
  rw [iota_single_apply]
  exact (BitVec.ofNat_add ..).symm

/-! ## What one stretch of 128 columns adds to the ranks -/

def partRank (o : ℕ) (h : S32x384.Slices ![0, o] S32x128) (base : BitVec 32) (v : FVec Ideal S32x384 .f32) : FVec Ideal S32x384 .f32 :=
  multiReduction .add [2] S32x384
    (addf
      (sitofp .f32 (extui 32 (cmpf .ogt
        (broadcastTo S32x384x128 (shapeCast S32x1x128 (extractStridedSlice S32x128 ![0, o] v h) shapeCasts_S32x128_S32x1x128) broadcasts_S32x1x128_S32x384x128)
        (broadcastTo S32x384x128 (shapeCast S32x384x1 v shapeCasts_S32x384_S32x384x1) broadcasts_S32x384x1_S32x384x128)) natLt_1_32))
      (sitofp .f32 (extui 32 (andi (cmpf .oeq
        (broadcastTo S32x384x128 (shapeCast S32x1x128 (extractStridedSlice S32x128 ![0, o] v h) shapeCasts_S32x128_S32x1x128) broadcasts_S32x1x128_S32x384x128)
        (broadcastTo S32x384x128 (shapeCast S32x384x1 v shapeCasts_S32x384_S32x384x1) broadcasts_S32x384x1_S32x384x128))
        (cmpi .slt (broadcastTo S32x384x128 (places base) broadcasts_S1x1x128_S32x384x128)
          (broadcastTo S32x384x128 (iota .tc S32x384x1 32 [1] iota_S32x384x1_d1_w32) broadcasts_S32x384x1_S32x384x128))) natLt_1_32)))
    0x00000000#32 reduces_S32x384x128_S32x384 (.inl rfl) rfl

theorem pay2_eq (v : Vec Ideal S32x384 .f32) : k0_pay2 v = addf (addf (broadcast S32x384 (Scalar.ofBits .f32 0x00000000#32))
    (partRank 0 slices_S32x384_o0_0_S32x128 0#32 v)) (partRank 128 slices_S32x384_o0_128_S32x128 128#32 v) := rfl

theorem pay3_eq (v : Vec Ideal S32x384 .f32) (w : FVec Ideal S32x384 .f32) :
    k0_pay3 v (iota .tc S32x384x1 32 [1] iota_S32x384x1_d1_w32) w
      = fptosi 32 (addf w (partRank 256 slices_S32x384_o0_256_S32x128 256#32 v)) := rfl

/-- A row of a block. -/
def row (v : Vec Ideal S32x384 .f32) (b : Fin 32) (i : Fin 384) : EReal := v (at2 b i)

theorem slt_small (a b : ℕ) (ha : a < 2 ^ 31) (hb : b < 2 ^ 31) :
    IntOp.cmpi .slt (BitVec.ofNat 32 a) (BitVec.ofNat 32 b) = BitVec.ofBool (decide (a < b)) := by
  show BitVec.ofBool (BitVec.slt (BitVec.ofNat 32 a) (BitVec.ofNat 32 b)) = _
  congr 1
  unfold BitVec.slt
  rw [BitVec.toInt_eq_toNat_of_lt (by rw [BitVec.toNat_ofNat]; omega), BitVec.toInt_eq_toNat_of_lt (by rw [BitVec.toNat_ofNat]; omega),
    BitVec.toNat_ofNat, BitVec.toNat_ofNat, Nat.mod_eq_of_lt (by omega), Nat.mod_eq_of_lt (by omega)]
  exact decide_eq_decide.mpr Int.ofNat_lt

/-- What entry `j` adds to the rank of entry `i`. -/
def adds (x : Fin 384 → EReal) (i j : Fin 384) : ℕ := one (x i < x j) + one (x j = x i ∧ j < i)

theorem partRank_at (o : ℕ) (h : S32x384.Slices ![0, o] S32x128) (ho : o + 128 ≤ 384) (v : FVec Ideal S32x384 .f32) (b : Fin 32) (i : Fin 384) :
    partRank o h (BitVec.ofNat 32 o) v (at2 b i)
      = (((∑ k : Fin 128, adds (row v b) i ⟨o + k.val, by omega⟩ : ℕ) : ℝ) : EReal) := by
  unfold partRank
  refine (Ideal.multiReduction_add_single _ _ _ _ _ _).trans ?_
  rw [← sum_number]
  show (∑ k : Fin 128, _) = _
  refine Finset.sum_congr rfl fun k _ => ?_
  have hl : (reduces_S32x384x128_S32x384.lift (at2 b i) k : S32x384x128.Idx) = at3 b i k := ext3 rfl rfl rfl
  rw [hl]
  have hj : extractStridedSlice S32x128 ![0, o] v h (at2 b k) = v (at2 b (⟨o + k.val, by omega⟩ : Fin 384)) :=
    extractStridedSlice_apply _ _ _ _ _ fun a => by
      match a with
      | 0 => exact (Nat.zero_add _).symm
      | 1 => rfl
  have hi := i.isLt
  have e1 : sitofp (F := Ideal) .f32 (extui 32 (cmpf .ogt
        (broadcastTo S32x384x128 (shapeCast S32x1x128 (extractStridedSlice S32x128 ![0, o] v h) shapeCasts_S32x128_S32x1x128) broadcasts_S32x1x128_S32x384x128)
        (broadcastTo S32x384x128 (shapeCast S32x384x1 v shapeCasts_S32x384_S32x384x1) broadcasts_S32x384x1_S32x384x128)) natLt_1_32) (at3 b i k)
      = (((one (row v b i < row v b ⟨o + k.val, by omega⟩) : ℕ) : ℝ) : EReal) := by
    show ((((Ideal.cmp .ogt (broadcastTo S32x384x128 _ _ (at3 b i k)) (broadcastTo S32x384x128 _ _ (at3 b i k))).setWidth 32).toInt : ℝ) : EReal) = _
    rw [spread_middle, spread_last, hj]
    exact congrArg (fun r : ℝ => (r : EReal)) (bit_number (row v b i < row v b ⟨o + k.val, by omega⟩))
  have e2 : sitofp (F := Ideal) .f32 (extui 32 (andi (cmpf .oeq
        (broadcastTo S32x384x128 (shapeCast S32x1x128 (extractStridedSlice S32x128 ![0, o] v h) shapeCasts_S32x128_S32x1x128) broadcasts_S32x1x128_S32x384x128)
        (broadcastTo S32x384x128 (shapeCast S32x384x1 v shapeCasts_S32x384_S32x384x1) broadcasts_S32x384x1_S32x384x128))
        (cmpi .slt (broadcastTo S32x384x128 (places (BitVec.ofNat 32 o)) broadcasts_S1x1x128_S32x384x128)
          (broadcastTo S32x384x128 (iota .tc S32x384x1 32 [1] iota_S32x384x1_d1_w32) broadcasts_S32x384x1_S32x384x128))) natLt_1_32) (at3 b i k)
      = (((one (row v b ⟨o + k.val, by omega⟩ = row v b i ∧ (⟨o + k.val, by omega⟩ : Fin 384) < i) : ℕ) : ℝ) : EReal) := by
    show (((((Ideal.cmp .oeq (broadcastTo S32x384x128 _ _ (at3 b i k)) (broadcastTo S32x384x128 _ _ (at3 b i k)))
      &&& IntOp.cmpi .slt (broadcastTo S32x384x128 _ _ (at3 b i k)) (broadcastTo S32x384x128 _ _ (at3 b i k))).setWidth 32).toInt : ℝ) : EReal) = _
    rw [spread_middle, spread_last, spread_row, spread_column, hj, places_at, iota_single_apply]
    refine congrArg (fun r : ℝ => (r : EReal)) (Eq.trans ?_ (bit_number _))
    refine congrArg (fun w : BitVec 1 => (((w.setWidth 32).toInt : ℤ) : ℝ)) ?_
    show BitVec.ofBool (decide (row v b ⟨o + k.val, by omega⟩ = row v b i)) &&& IntOp.cmpi .slt (BitVec.ofNat 32 (o + k.val)) (BitVec.ofNat 32 i.val) = _
    rw [slt_small _ _ (by omega) (by omega), Bool.decide_and]
    generalize decide (row v b ⟨o + k.val, by omega⟩ = row v b i) = p
    have : decide ((⟨o + k.val, by omega⟩ : Fin 384) < i) = decide (o + k.val < i.val) := rfl
    rw [this]
    generalize decide (o + k.val < i.val) = q
    revert p q; decide
  refine (congrArg₂ (fun s t : EReal => s + t) e1 e2).trans ?_
  unfold adds
  rw [Nat.cast_add, EReal.coe_add]

/-- The rank of an entry, as the block counts it. -/
theorem rank_at (v : Vec Ideal S32x384 .f32) (b : Fin 32) (i : Fin 384) :
    k0_pay3 v (iota .tc S32x384x1 32 [1] iota_S32x384x1_d1_w32) (k0_pay2 v) (at2 b i) = BitVec.ofNat 32 (rankOf (row v b) i) := by
  rw [pay3_eq, pay2_eq]
  show Ideal.fptosi 32 (((Ideal.ofBits .f32 0x00000000#32 + partRank 0 slices_S32x384_o0_0_S32x128 (BitVec.ofNat 32 0) v (at2 b i))
    + partRank 128 slices_S32x384_o0_128_S32x128 (BitVec.ofNat 32 128) v (at2 b i))
    + partRank 256 slices_S32x384_o0_256_S32x128 (BitVec.ofNat 32 256) v (at2 b i)) = _
  rw [partRank_at _ _ (by omega), partRank_at _ _ (by omega), partRank_at _ _ (by omega), Ideal.ofBits_zero_f32, zero_add, ← EReal.coe_add, ← EReal.coe_add,
    ← Nat.cast_add, ← Nat.cast_add]
  have hs : (∑ k : Fin 128, adds (row v b) i ⟨0 + k.val, by omega⟩) + (∑ k : Fin 128, adds (row v b) i ⟨128 + k.val, by omega⟩)
      + (∑ k : Fin 128, adds (row v b) i ⟨256 + k.val, by omega⟩) = rankOf (row v b) i := by
    rw [rankOf_eq_sum]
    show _ = ∑ j : Fin (128 + 128 + 128), adds (row v b) i j
    rw [Fin.sum_univ_add, Fin.sum_univ_add]
    refine congrArg₂ _ (congrArg₂ _ ?_ ?_) ?_
    · exact Finset.sum_congr rfl fun k _ => congrArg _ (Fin.ext (Nat.zero_add _))
    · exact Finset.sum_congr rfl fun k _ => rfl
    · exact Finset.sum_congr rfl fun k _ => rfl
  rw [hs]
  exact fptosi_nat _ (lt_trans (rankOf_lt (row v b) i) (by decide))

/-! ## The entries of given ranks -/

def pick (base : BitVec 32) (ranks : IVec S32x384 32) (c : IVec S32x384 32) : IVec S32x384x128 32 :=
  select (cmpi .eq (broadcastTo S32x384x128 (shapeCast S32x384x1 ranks shapeCasts_S32x384_S32x384x1) broadcasts_S32x384x1_S32x384x128)
      (broadcastTo S32x384x128 (places base) broadcasts_S1x1x128_S32x384x128))
    (broadcastTo S32x384x128 (shapeCast S32x384x1 (shapeCast S32x384x1 c shapeCasts_S32x384_S32x384x1) shapeCasts_S32x384x1_S32x384x1) broadcasts_S32x384x1_S32x384x128)
    (broadcast S32x384x128 0#32)

theorem pay4_eq (v0 : Vec Ideal S32x384 .f32) (v1 : Vec Ideal S32x384 .i32) (v2 : IVec S32x384x1 32) (v49 : FVec Ideal S32x384 .f32) :
    k0_pay4 v0 v1 v2 v49 = multiReductionI .add [1] S32x128 (pick 0#32 (k0_pay3 v0 v2 v49) v1) 0#32 reduces_S32x384x128_S32x128 rfl := rfl

theorem pay5_eq (v0 : Vec Ideal S32x384 .f32) (v1 : Vec Ideal S32x384 .i32) (v2 : IVec S32x384x1 32) (v49 : FVec Ideal S32x384 .f32) :
    k0_pay1 (k0_pay5 v0 v1 v2 v49) = multiReductionI .add [1] S32x128 (pick 128#32 (k0_pay3 v0 v2 v49) v1) 0#32 reduces_S32x384x128_S32x128 rfl := rfl

theorem pick_at (o : ℕ) (ranks c : IVec S32x384 32) (b : Fin 32) (i : Fin 384) (k : Fin 128) :
    pick (BitVec.ofNat 32 o) ranks c (at3 b i k) = if ranks (at2 b i) = BitVec.ofNat 32 (o + k.val) then c (at2 b i) else 0#32 := by
  show Scalar.select (IntOp.cmpi .eq (broadcastTo S32x384x128 _ _ (at3 b i k)) (broadcastTo S32x384x128 _ _ (at3 b i k)))
    (broadcastTo S32x384x128 _ _ (at3 b i k)) 0#32 = _
  rw [spread_last, spread_row, places_at, spread_column]
  have e : shapeCast S32x384x1 (shapeCast S32x384x1 c shapeCasts_S32x384_S32x384x1) shapeCasts_S32x384x1_S32x384x1 (at3 b i 0) = c (at2 b i) := by
    refine (shapeCast_apply _ _ _ (at3 b i 0) rfl).trans (shapeCast_apply _ _ _ _ ?_)
    rw [Shape.rowMajor_val_two, Shape.rowMajor_val_three]
    show b.val * 384 + i.val = (b.val * 384 + i.val) * 1 + 0
    omega
  rw [e]
  generalize ranks (at2 b i) = s
  generalize BitVec.ofNat 32 (o + k.val) = t
  show (if BitVec.ofBool (s == t) = 1 then c (at2 b i) else 0#32) = _
  by_cases hst : s = t
  · rw [if_pos hst, beq_iff_eq.mpr hst]; rfl
  · rw [if_neg hst, beq_eq_false_iff_ne.mpr hst]; rfl

/-- A sum of the entries of one rank is that entry. -/
theorem picked_at (o : ℕ) (ho : o + 128 ≤ 256) (x : Fin 384 → EReal) (ranks c : IVec S32x384 32) (b : Fin 32)
    (hr : ∀ i, ranks (at2 b i) = BitVec.ofNat 32 (rankOf x i)) (k : Fin 128) :
    multiReductionI .add [1] S32x128 (pick (BitVec.ofNat 32 o) ranks c) 0#32 reduces_S32x384x128_S32x128 rfl (at2 b k)
      = c (at2 b (placed x ⟨o + k.val, by omega⟩)) := by
  refine (congrFun (multiReductionI_eq_reduceFold .add (pick (BitVec.ofNat 32 o) ranks c) 0#32 reduces_S32x384x128_S32x128 rfl) (at2 b k)).trans ?_
  show reduceFold reduces_S32x384x128_S32x128 (· + ·) (0#32 : BitVec 32) (pick (BitVec.ofNat 32 o) ranks c) (at2 b k) = _
  rw [reduceFold_add_eq_sum, Shape.Reduces.sum_filter_drop_single, show (0#32 : BitVec 32) = 0 from rfl, zero_add]
  show (∑ i : Fin 384, pick (BitVec.ofNat 32 o) ranks c (reduces_S32x384x128_S32x128.lift (at2 b k) i)) = _
  have hl (i : Fin 384) : (reduces_S32x384x128_S32x128.lift (at2 b k) i : S32x384x128.Idx) = at3 b i k := ext3 rfl rfl rfl
  have hiff (i : Fin 384) : ranks (at2 b i) = BitVec.ofNat 32 (o + k.val) ↔ i = placed x ⟨o + k.val, by omega⟩ := by
    rw [hr, ← rankOf_eq_iff]
    have := rankOf_lt x i
    constructor
    · intro h
      have := congrArg BitVec.toNat h
      rw [BitVec.toNat_ofNat, BitVec.toNat_ofNat, Nat.mod_eq_of_lt (by omega), Nat.mod_eq_of_lt (by omega)] at this
      exact this
    · intro h; rw [h]
  rw [Finset.sum_eq_single (placed x ⟨o + k.val, by omega⟩)]
  · rw [hl, pick_at, if_pos ((hiff _).mpr rfl)]
  · intro i _ hne
    rw [hl, pick_at, if_neg fun h => hne ((hiff i).mp h)]; rfl
  · intro h; exact absurd (Finset.mem_univ _) h

/-! ## The block's result -/

theorem not_right (b : Fin 32) (p : Fin 256) (hp : p.val < 128) : (at2 b p : S32x256.Idx) ∉ r0_2.set := fun h => by
  have h0 := Rect.mem_set_unit.mp h
  have h1 : 128 ≤ p.val := (h0 (1 : Fin 2)).1
  omega

theorem canon_left (w2 : r0_2.shape.Idx → Elt Ideal .i32) (w1 : r0_1.shape.Idx → Elt Ideal .i32) (b : Fin 32) (p : Fin 256) (hp : p.val < 128) :
    View.canon (Val := Elt Ideal) (e := .i32) [⟨r0_2, w2⟩, ⟨r0_1, w1⟩] (at2 b p) = w1 (at2 b (⟨p.val, hp⟩ : Fin 128) : S32x128.Idx) := by
  refine (View.canon_cons_of_not_mem ⟨r0_2, w2⟩ [⟨r0_1, w1⟩] (not_right b p hp)).trans ?_
  have he : (at2 b p : S32x256.Idx) = r0_1.emb (at2 b (⟨p.val, hp⟩ : Fin 128)) := ext2
    (show b.val = 0 + 1 * b.val by omega) (show p.val = 0 + 1 * p.val by omega)
  exact (congrArg _ he).trans (View.canon_cons_emb r0_1 w1 [] _)

theorem canon_right (w2 : r0_2.shape.Idx → Elt Ideal .i32) (w1 : r0_1.shape.Idx → Elt Ideal .i32) (b : Fin 32) (p : Fin 256) (hp : ¬ p.val < 128) :
    View.canon (Val := Elt Ideal) (e := .i32) [⟨r0_2, w2⟩, ⟨r0_1, w1⟩] (at2 b p) = w2 (at2 b (⟨p.val - 128, by omega⟩ : Fin 128) : S32x128.Idx) := by
  have he : (at2 b p : S32x256.Idx) = r0_2.emb (at2 b (⟨p.val - 128, by omega⟩ : Fin 128)) := ext2
    (show b.val = 0 + 1 * b.val by omega) (show p.val = 128 + 1 * (p.val - 128) by omega)
  exact (congrArg _ he).trans (View.canon_cons_emb r0_2 w2 [⟨r0_1, w1⟩] _)

theorem out_at (x : Vec Ideal S32x384 .f32) (c : Vec Ideal S32x384 .i32) (b : Fin 32) (p : Fin 256) :
    out0_2 (F := Ideal) x c (at2 b p) = c (at2 b (placed (row x b) ⟨p.val, by omega⟩)) := by
  have hx : View.ld x r0_0 = x := View.ld_unit_zero (funext fun a => by fin_cases a <;> rfl) _ x
  have hc : View.ld c r0_0 = c := View.ld_unit_zero (funext fun a => by fin_cases a <;> rfl) _ c
  unfold out0_2
  rw [hx, hc, pay4_eq, pay5_eq]
  have h7 : k0_pay7 x c = k0_pay2 x := congrArg k0_pay2 hx
  rw [h7]
  have hr (i : Fin 384) : k0_pay3 x (k0_pay6 x c) (k0_pay2 x) (at2 b i) = BitVec.ofNat 32 (rankOf (row x b) i) := rank_at x b i
  by_cases hp : p.val < 128
  · refine (canon_left _ _ b p hp).trans ((picked_at 0 (by omega) (row x b) _ c b hr ⟨p.val, hp⟩).trans ?_)
    exact congrArg (fun q => c (at2 b (placed (row x b) q))) (Fin.ext (Nat.zero_add _))
  · refine (canon_right _ _ b p hp).trans ((picked_at 128 (by omega) (row x b) _ c b hr ⟨p.val - 128, by omega⟩).trans ?_)
    exact congrArg (fun q => c (at2 b (placed (row x b) q))) (Fin.ext (show 128 + (p.val - 128) = p.val by omega))

end Cert.Proof.Rank

end
-- ==== Proof.RankRef.lean ====
/- The rank sort against its reference: place `p` of a row of the result is the column number of the entry that exactly `p` entries of the
   row come before, the greater first and equal ones in the order of their places. -/
module

public import proofs.«01_k».proof.Defs
public import proofs.«01_k».proof.Proof.RankBlock
public import proofs.«01_k».proof.Proof.CompactRef
public import proofs.«01_k».proof.Proof.Gen.Rank.Frame
public import proofs.«01_k».proof.Proof.Gen.RankedIdeal
public import proofs.«01_k».proof.Proof.Gen.RankedIdeal.Run
public import proofs.«01_k».proof.Proof.Gen.RankedIdeal.Read
public import Idealize.ShloMosaic.Lib.Pipeline.ValueKit
public import Idealize.ShloMosaic.Lib.ReduceAll

@[expose] public section

noncomputable section

namespace Cert.Proof.Rank

open Cert.RankIdeal Cert.RankIdeal.Gen Cert.Proof.Lanes
open Idealize.ShloMosaic Idealize.ShloMosaic.TcCoe Idealize.SL.Sem

/-- Row `q` of the values. -/
def valRow (x : (⟨2, ![1024, 384]⟩ : Shape).Idx → EReal) (q : Fin 1024) (i : Fin 384) : EReal := x (at2 q i)

/-- The result: the column numbers in the order of their values. -/
def ordered (x : (⟨2, ![1024, 384]⟩ : Shape).Idx → EReal) (c : (⟨2, ![1024, 384]⟩ : Shape).Idx → BitVec 32) (q : Fin 1024) (p : Fin 256) : BitVec 32 :=
  c (at2 q (placed (valRow x q) ⟨p.val, by omega⟩))

/-! ## The kernel's result -/

variable (m : (ℓ : Loc nD τ sig) → Buf (Elt Ideal) ℓ)

theorem index_0 : ∀ t : Fin cfg0.N, win0_0.index t = ![t.val, 0] := (by decide +kernel : ∀ t : Fin grid0.N, win0_0.index t = ![t.val, 0])
theorem index_1 : ∀ t : Fin cfg0.N, win0_1.index t = ![t.val, 0] := (by decide +kernel : ∀ t : Fin grid0.N, win0_1.index t = ![t.val, 0])
theorem index_2 : ∀ t : Fin cfg0.N, win0_2.index t = ![t.val, 0] := (by decide +kernel : ∀ t : Fin grid0.N, win0_2.index t = ![t.val, 0])

theorem rowOf_lt (t : Fin cfg0.N) (b : Fin 32) : 32 * t.val + b.val < 1024 := by
  have h : t.val < grid0.N := t.isLt
  have h' : grid0.N = 32 := N_0
  omega

/-- Row `b` of point `t`'s block. -/
def rowOf (t : Fin cfg0.N) (b : Fin 32) : Fin 1024 := ⟨32 * t.val + b.val, rowOf_lt t b⟩

theorem block_0 (c : Dev nD) (t : Fin cfg0.N) (b : Fin 32) (i : Fin 384) :
    iblk m c 0 t (at2 b i) = m ((c : Thread nD τ).loc main_arg0) (at2 (rowOf t b) i) := by
  show m ((c : Thread nD τ).loc main_arg0) ((win0_0.rect t).emb (at2 b i)) = _
  refine congrArg _ (ext2 ?_ ?_)
  · rw [Pipeline.Window.rect_emb_val (w := win0_0), index_0]
    show t.val * 32 + b.val = 32 * t.val + b.val
    omega
  · rw [Pipeline.Window.rect_emb_val (w := win0_0), index_0]
    show 0 * 384 + i.val = i.val
    omega

theorem block_1 (c : Dev nD) (t : Fin cfg0.N) (b : Fin 32) (i : Fin 384) :
    iblk m c 1 t (at2 b i) = m ((c : Thread nD τ).loc main_arg1) (at2 (rowOf t b) i) := by
  show m ((c : Thread nD τ).loc main_arg1) ((win0_1.rect t).emb (at2 b i)) = _
  refine congrArg _ (ext2 ?_ ?_)
  · rw [Pipeline.Window.rect_emb_val (w := win0_1), index_1]
    show t.val * 32 + b.val = 32 * t.val + b.val
    omega
  · rw [Pipeline.Window.rect_emb_val (w := win0_1), index_1]
    show 0 * 384 + i.val = i.val
    omega

theorem place_2 (t : Fin cfg0.N) (b : Fin 32) (p : Fin 256) : (win0_2.rect t).emb (at2 b p) = (at2 (rowOf t b) p : S1024x256.Idx) := by
  refine ext2 ?_ ?_
  · rw [Pipeline.Window.rect_emb_val (w := win0_2), index_2]
    show t.val * 32 + b.val = 32 * t.val + b.val
    omega
  · rw [Pipeline.Window.rect_emb_val (w := win0_2), index_2]
    show 0 * 256 + p.val = p.val
    omega

/-- The result array. -/
def result (c : Dev nD) : S1024x256.Idx → BitVec 32 := fun i =>
  ordered (m ((c : Thread nD τ).loc main_arg0)) (m ((c : Thread nD τ).loc main_arg1)) ⟨(i 0).val, (i 0).isLt⟩ ⟨(i 1).val, (i 1).isLt⟩

theorem block_2 (c : Dev nD) (t : Fin cfg0.N) (b : Fin 32) (p : Fin 256) :
    out0_2 (F := Ideal) (iblk m c 0 t) (iblk m c 1 t) (at2 b p) = result m c (at2 (rowOf t b) p) := by
  refine (out_at (iblk m c 0 t) (iblk m c 1 t) b p).trans ?_
  have hrow : row (iblk m c 0 t) b = valRow (m ((c : Thread nD τ).loc main_arg0)) (rowOf t b) := funext fun i => block_0 m c t b i
  rw [hrow]
  exact block_1 m c t b _

theorem final (c : Dev nD) : (dats m 0 c).arrAt 2 cfg0.N = result m c := by
  refine (dats m 0 c).arrAt_eq_of_covers 2 (result m c) (by decide +kernel) fun t _ y => ?_
  rw [after0_2]
  have e : y = at2 (⟨(y 0).val, (y 0).isLt⟩ : Fin 32) (⟨(y 1).val, (y 1).isLt⟩ : Fin 256) := ext2 rfl rfl
  rw [e]
  show out0_2 (F := Ideal) (iblk m c 0 t) (iblk m c 1 t) (at2 _ _) = result m c ((win0_2.rect t).emb (at2 _ _))
  rw [place_2]
  exact block_2 m c t _ _

/-! ## The reference's result -/

section Reference
open Cert.RankedIdeal.Read Cert.Proof.Compact

variable (x0 : (⟨Cert.RankedIdeal.S1024x384, .f32⟩ : BufTy).Contents (Elt Ideal)) (x1 : (⟨Cert.RankedIdeal.S1024x384, .i32⟩ : BufTy).Contents (Elt Ideal))

theorem along_at (q : Fin 1024) (p k : Fin 384) (hd : 1 < Cert.RankedIdeal.S1024x384.rank) :
    Shape.Idx.along (at2 q p : Cert.RankedIdeal.S1024x384.Idx) ⟨1, hd⟩ k = at2 q k := by
  unfold Shape.Idx.along
  funext a
  match a with
  | ⟨0, h⟩ => exact Function.update_of_ne (Fin.ne_of_val_ne (show (0 : ℕ) ≠ 1 by decide)) _ _
  | ⟨1, h⟩ => exact Function.update_self _ _ _

/-- The places of the greatest entries. -/
theorem indices_at (q : Fin 1024) (p : Fin 256) :
    val_main_indices (F := Ideal) x0 (at2 q p) = BitVec.ofNat 32 (placed (valRow x0 q) ⟨p.val, by omega⟩).val := by
  have hd : 1 < Cert.RankedIdeal.S1024x384.rank := by decide
  show extractStridedSlice Cert.RankedIdeal.S1024x256 (fun _ => 0)
    (Host.sort2 Cert.RankedIdeal.S1024x384 1 (fun l r : EReal × BitVec 32 => Ideal.cmp .ogt l.1 r.1) x0
      (iotaInDim Cert.RankedIdeal.S1024x384 32 ⟨1, hd⟩)).2 Cert.RankedIdeal.Gen.sliceFits_S1024x384_S1024x256 (at2 q p) = _
  refine (extractStridedSlice_apply _ _ _ _ (at2 q (⟨p.val, by omega⟩ : Fin 384)) fun a => ?_).trans ?_
  · match a with
    | 0 => exact (Nat.zero_add _).symm
    | 1 => exact (Nat.zero_add _).symm
  unfold Host.sort2
  rw [dif_pos hd]
  refine (congrArg (fun j : Cert.RankedIdeal.S1024x384.Idx => BitVec.ofNat 32 (j 1).val) (along_at q _ _ hd)).trans ?_
  refine congrArg (fun R => BitVec.ofNat 32 (sortedFrom (n := 384) R ⟨p.val, by omega⟩).val) ?_
  funext a b
  refine (congrArg₂ (fun s t => Ideal.cmp .ogt (x0 s) (x0 t) == 1#1) (along_at q _ a hd) (along_at q _ b hd)).trans ?_
  show (BitVec.ofBool (decide (valRow x0 q b < valRow x0 q a)) == 1#1) = decide (valRow x0 q b < valRow x0 q a)
  generalize decide (valRow x0 q b < valRow x0 q a) = v
  revert v; decide

theorem inside (n : ℕ) (h : n < 384) :
    IntOp.andi (IntOp.cmpi .sge (BitVec.ofNat 32 n) 0#32) (IntOp.cmpi .sle (BitVec.ofNat 32 n) 383#32) = 1#1 := by
  have h0 : IntOp.cmpi .sge (BitVec.ofNat 32 n) 0#32 = 1#1 := by
    unfold IntOp.cmpi
    simp only [BitVec.sle_eq_decide, word_toInt n (by omega)]
    rw [decide_eq_true (by show (0 : ℤ) ≤ n; omega)]; rfl
  have h1 : IntOp.cmpi .sle (BitVec.ofNat 32 n) 383#32 = 1#1 := by
    unfold IntOp.cmpi
    simp only [BitVec.sle_eq_decide, word_toInt n (by omega)]
    rw [decide_eq_true (by show (n : ℤ) ≤ 383; omega)]; rfl
  rw [h0, h1]; rfl

/-- The reference's start index at `k`. -/
theorem rank_start_at (q : Fin 1024) (p : Fin 256) (k : Cert.RankedIdeal.S1024x256x1.Idx) (hk0 : (k 0).val = q.val) (hk1 : (k 1).val = p.val) :
    val_main_call0_v5 (F := Ideal) x0 k = BitVec.ofNat 32 (placed (valRow x0 q) ⟨p.val, by omega⟩).val := by
  have hq := q.isLt; have hp := p.isLt
  have hk2 : (k 2).val < 1 := (k 2).isLt
  have e : idx_main_call0_v5 k = at2 q p := by
    refine ext2 ?_ ?_
    · show (((k 0).val * 256 + (k 1).val) * 1 + (k 2).val) / 256 = q.val
      omega
    · show (((k 0).val * 256 + (k 1).val) * 1 + (k 2).val) % 256 = p.val
      omega
  have hb := (placed (valRow x0 q) ⟨p.val, by omega⟩).isLt
  rw [val_main_call0_v5_apply, e, val_main_call0_v4_apply, val_main_call0_v1_apply, val_main_call0_v0_apply, val_main_call0_c_apply,
    indices_at, select_bit, word_nonneg _ (by omega)]
  rfl

abbrev takeDims := Cert.RankedIdeal.gather_S1024x384_S1024x256x1_S1024x256_n_1_0_0_1_2_11

theorem rank_take (x : Cert.RankedIdeal.S1024x384.Idx → BitVec 32) (idx : IVec Cert.RankedIdeal.S1024x256x1 32) (q : Fin 1024) (p : Fin 256) (b : Fin 384)
    (hb : ∀ k : Cert.RankedIdeal.S1024x256x1.Idx, (k 0).val = q.val → (k 1).val = p.val → (idx k).toInt = (b.val : Int)) :
    Host.gather takeDims x idx (at2 q p) = x (at2 q b) := by
  unfold Host.gather
  refine congrArg x (ext2 ?_ ?_)
  · show takeDims.start (at2 q p) idx 0 + takeDims.batchCoord (at2 q p) 0 + takeDims.offCoord (at2 q p) 0 = q.val
    have hm : (0 : Fin 2) ∈ takeDims.operandBatchingDims := List.mem_singleton.mpr rfl
    rw [GatherDims.offCoord_eq_zero _ _ _ (fun h => ((GatherDims.mem_sKept _ _).mp h).2 hm), GatherDims.start_batching _ _ _ _ hm,
      Nat.add_zero, Nat.zero_add]
    unfold GatherDims.batchCoord
    rw [dif_pos hm]
    rfl
  · show takeDims.start (at2 q p) idx 1 + takeDims.batchCoord (at2 q p) 1 + takeDims.offCoord (at2 q p) 1 = b.val
    have hm : (1 : Fin 2) ∈ takeDims.startIndexMap := List.mem_singleton.mpr rfl
    rw [GatherDims.offCoord_eq_zero _ _ _ (fun h => ((GatherDims.mem_sKept _ _).mp h).1 (List.mem_singleton.mpr rfl)),
      GatherDims.batchCoord_eq_zero _ _ _ (show (1 : Fin 2) ∉ takeDims.operandBatchingDims by decide), Nat.add_zero]
    unfold GatherDims.start
    rw [dif_pos hm, hb _ rfl rfl]
    have := b.isLt
    show min ((b.val : Int)).toNat (384 - 1) = b.val
    omega

theorem ref_at (q : Fin 1024) (p : Fin 256) : val_main_v0 (F := Ideal) x0 x1 (at2 q p) = ordered x0 x1 q p := by
  have hall : ∀ k, val_main_call0_v11 (F := Ideal) x0 k = 1#1 := fun k => by
    have hs := rank_start_at x0 ⟨(k 0).val, (k 0).isLt⟩ ⟨(k 1).val, (k 1).isLt⟩ k rfl rfl
    rw [val_main_call0_v11_apply, val_main_call0_v7_apply, val_main_call0_v10_apply, hs, val_main_call0_v6_apply,
      val_main_call0_c_2_apply, val_main_call0_v9_apply, val_main_call0_v8_apply, val_main_call0_c_1_apply]
    exact inside _ (Fin.isLt _)
  rw [val_main_v0_apply]
  unfold val_main_call0_v12
  rw [Host.reduce_andi_one _ _ _ _ _ rfl hall]
  show val_main_call0_v13 (F := Ideal) x0 x1 (at2 q p) = _
  unfold val_main_call0_v13
  refine rank_take _ _ q p (placed (valRow x0 q) ⟨p.val, by omega⟩) fun k h0 h1 => ?_
  rw [rank_start_at x0 q p k h0 h1]
  exact word_toInt _ (lt_trans (Fin.isLt _) (by decide))

end Reference

/-! ## The claims -/

/-- `Cert.quiescent_Rank` (Defs.lean). -/
theorem frame_kernel : Cert.quiescent_Rank := fun m ρ _ => Cert.Rank.Gen.frame m ρ

/-- `Cert.quiescent_RankIdeal` (Defs.lean). -/
theorem frame_ideal : Cert.quiescent_RankIdeal := fun m ρ _ => Cert.RankIdeal.Gen.frame m ρ

/-- `Cert.quiescent_RankedIdeal` (Defs.lean): the reference declares no semaphore. -/
theorem frame_reference : Cert.quiescent_RankedIdeal := fun m ρ _ =>
  (θ_run Cert.RankedIdeal.defs _ _).mono (fun r h => ⟨fun c => (h c).2, sem_eq_zero_of_no_sems (by decide) r.2⟩)
    (Cert.RankedIdeal.Value.run (F := Ideal) m ρ)

/-- `Cert.algebraic_RankIdeal_RankedIdeal` (Defs.lean): both give the column numbers in the order of their values. -/
theorem algebraic : Cert.algebraic_RankIdeal_RankedIdeal := by
  intro m ρ m' ρ' _ hagree
  refine ⟨fun c => result m c, (θ_run Cert.RankIdeal.defs _ _).mono
    (fun _ h c => ⟨(h c).1.trans (final m c), (h c).2⟩) (Cert.RankIdeal.Value.run_blocks (F := Ideal) m ρ), ?_⟩
  refine (θ_run Cert.RankedIdeal.defs _ _).mono (fun _ h c => ⟨(h c).1.trans ?_, (h c).2⟩) (Cert.RankedIdeal.Value.run (F := Ideal) m' ρ')
  refine (Cert.RankedIdeal.Read.val_main_v0_eq (F := Ideal) _ _).trans ?_
  rw [(hagree c).1, (hagree c).2]
  funext i
  have e : i = at2 (⟨(i 0).val, (i 0).isLt⟩ : Fin 1024) (⟨(i 1).val, (i 1).isLt⟩ : Fin 256) := ext2 rfl rfl
  rw [e]
  exact ref_at _ _ _ _

end Cert.Proof.Rank

end
-- ==== Proof.FirstBody.lean ====
/- The first call's body, run once: with one block of 16 query rows and the transposed, padded queue in the carried scratch it leaves the block of
   similarities, the block of thresholds and the block of chunk counts. At the first grid point the body copies the queue into the scratch itself. The
   refining search is a loop under a condition; it ends because its counter stays below 16, whatever the numbers are, so what it returns is given by
   recursion on the trips still allowed. -/
module

public import proofs.«01_k».proof.Proof.Gen.FirstIdeal.Launch
public import proofs.«01_k».proof.Proof.Gen.FirstIdeal.Skeleton
public import proofs.«01_k».proof.Proof.Gen.FirstIdeal.Points
public import Idealize.ShloMosaic.Lib.Pipeline.FrameBody
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.Proof.First

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The refining search -/

/-- What the search carries: the counter, the lower and the upper end, the count at the lower end. -/
abbrev State (F : FTy → Type) := BitVec 32 × FVec F S16x1 .f32 × FVec F S16x1 .f32 × FVec F S16x1 .f32

/-- The search goes on from counter `j` with these counts. -/
abbrev goesOn (j : BitVec 32) (count : FVec F S16x1 .f32) : Prop :=
  Scalar.andi (Scalar.cmpi .slt j 16#32) (Scalar.cmpf .ogt (k0_pay2 count) (Scalar.ofBits .f32 0x43C00000#32)) = 1#1

/-- What the search returns when at most `k` trips are left after `j` of them. -/
def refine (v : FVec F S16x784x128 .f32) : ℕ → ℕ → FVec F S16x1 .f32 → FVec F S16x1 .f32 → FVec F S16x1 .f32 → State F
  | 0, j, lo, hi, count => (BitVec.ofNat 32 j, lo, hi, count)
  | k + 1, j, lo, hi, count =>
    if goesOn (BitVec.ofNat 32 j) count then refine v k (j + 1) (k0_pay6 v lo hi) (k0_pay7 v lo hi) (k0_pay8 v lo hi count)
    else (BitVec.ofNat 32 j, lo, hi, count)

/-- At the sixteenth trip the counter stops the search. -/
theorem stops (count : FVec F S16x1 .f32) : ¬goesOn (BitVec.ofNat 32 16) count := by
  unfold goesOn Scalar.andi IntOp.andi
  have h : Scalar.cmpi .slt (BitVec.ofNat 32 16) 16#32 = 0#1 := by decide
  rw [h]
  generalize Scalar.cmpf .ogt (k0_pay2 count) (Scalar.ofBits .f32 0x43C00000#32) = b
  revert b; decide

/-- The counter's step. -/
theorem next (j : ℕ) : Scalar.addi (BitVec.ofNat 32 j) 1#32 = BitVec.ofNat 32 (j + 1) := by
  unfold Scalar.addi IntOp.addi
  rw [show (1#32 : BitVec 32) = BitVec.ofNat 32 1 from rfl, ← BitVec.ofNat_add]

/-- The search as a specification: it returns what `refine` says. -/
def searched (v : FVec F S16x784x128 .f32) (k j : ℕ) (lo hi count : FVec F S16x1 .f32) : sWPT 𝕄 (State F) :=
  pure (refine v k j lo hi count)

theorem searched_apply (v : FVec F S16x784x128 .f32) (k j : ℕ) (lo hi count : FVec F S16x1 .f32) (K : State F → sProp 𝕄) :
    searched v k j lo hi count K = K (refine v k j lo hi count) := rfl

/-- The search meets its specification. -/
theorem search_le (c : Dev nD) (i : grid0.Coords) (v : FVec F S16x784x128 .f32) (E : Set ℕ) :
    ∀ k j, j + k = 16 → ∀ (lo hi count : FVec F S16x1 .f32) (K : State F → sProp 𝕄), searched v k j lo hi count K
      ⊢ wp frame (wpE (defs₀ (F := F)) Variants.nat (c : Thread nD τ) (some k)) E
          (defs₀ (F := F) .tc 1 ⟨i, v, BitVec.ofNat 32 j, lo, hi, count⟩) K := by
  intro k
  induction k with
  | zero =>
    intro j hj lo hi count K
    obtain rfl : j = 16 := by omega
    rw [searched_apply]
    show _ ⊢ wp frame (wpE (defs₀ (F := F)) Variants.nat (c : Thread nD τ) (some 0)) E (cc0_while1 i v (BitVec.ofNat 32 16) lo hi count) K
    simp only [cc0_while1_eq_skeleton]; unfold cc0_while1_skel
    have h : ¬Scalar.andi (Scalar.cmpi .slt (BitVec.ofNat 32 16) 16#32) (Scalar.cmpf .ogt (k0_pay2 count) (Scalar.ofBits .f32 0x43C00000#32)) = 1#1 := stops count
    simp only [h, ↓reduceIte, Prog.pure_eq_ret]
    unfold refine
    iintro H
    rw [wp_ret]; imodintro
    iexact H
  | succ k ih =>
    intro j hj lo hi count K
    rw [searched_apply]
    show _ ⊢ wp frame (wpE (defs₀ (F := F)) Variants.nat (c : Thread nD τ) (some (k + 1))) E (cc0_while1 i v (BitVec.ofNat 32 j) lo hi count) K
    simp only [cc0_while1_eq_skeleton]; unfold cc0_while1_skel
    unfold refine
    by_cases h : goesOn (BitVec.ofNat 32 j) count
    · rw [if_pos h]
      unfold goesOn at h
      simp only [h, ↓reduceIte, Prog.lift]
      iintro H
      rw [next]
      iapply (wp_call_spec Variants.nat (c : Thread nD τ) (some (k + 1)) E (searched v k (j + 1) (k0_pay6 v lo hi) (k0_pay7 v lo hi) (k0_pay8 v lo hi count)) k
        (fun u hu => by cases hu; exact Nat.lt_succ_self k)
        (ih (j + 1) (by omega) _ _ _))
      rw [searched_apply, wp_ret]; imodintro
      iexact H
    · rw [if_neg h]
      unfold goesOn at h
      simp only [h, ↓reduceIte, Prog.pure_eq_ret]
      iintro H
      rw [wp_ret]; imodintro
      iexact H

/-! ## The body -/

abbrev hbM : Memref sig .tc .hbm S32x100352 .f32 := Memref.whole main_v1

/-- The queue's buffer on core `c`, held whole at `f`. -/
abbrev hbPt (c : Dev nD) (f : Buf (Elt F) (hbM.view.loc (c : Thread nD τ))) : sProp 𝕄 := hbM.view.loc (c : Thread nD τ) ↦{fullShare} f

abbrev isFirst (i : grid0.Coords) : Prop := (Scalar.cmpi .ne (Scalar.extui (Scalar.cmpi .eq (BitVec.ofNat 32 (i 0).val) 0#32)) 0#32) = 1#1

/-- The ends of the coarse search by the chunks' maxima, after its twenty trips. -/
def coarse (x : Vec F S16x32 .f32) (kt : Vec F S32x100352 .f32) : FVec F S16x1 .f32 × FVec F S16x1 .f32 :=
  Scf.fold (fun (_ : Fin k0_t1_loop.trips) a => (k0_pay16 x kt a.1 a.2, k0_pay17 x kt a.1 a.2)) (k0_pay13 x kt, k0_pay11 x kt)

/-- A block's thresholds: the lower ends that the refining search returns. -/
def threshold (x : Vec F S16x32 .f32) (kt : Vec F S32x100352 .f32) : FVec F S16x1 .f32 :=
  (refine (k0_pay9 x kt) 16 0 (coarse x kt).1 (k0_pay11 x kt) (k0_pay18 x kt (coarse x kt).1)).2.1

/-- A block's chunk counts: how many similarities of each chunk exceed the threshold. -/
def counts (x : Vec F S16x32 .f32) (kt : Vec F S32x100352 .f32) : IVec S16x784 32 := k0_pay1 (k0_pay9 x kt) (threshold x kt)

set_option maxHeartbeats 1000000 in
/-- The body at a point after the first, the queue in the scratch. -/
theorem body_later (c : Dev nD) (i : grid0.Coords) (arg1 : Memref sig .tc .vmem S16x32 .f32) (harg1 : arg1.IsWhole) (arg3 : Memref sig .tc .vmem S12544x128 .f32) (harg3 : arg3.IsWhole) (arg4 : Memref sig .tc .vmem S16x1 .f32) (harg4 : arg4.IsWhole) (arg5 : Memref sig .tc .vmem S16x784 .i32) (harg5 : arg5.IsWhole) (arg6 : Memref sig .tc .vmem S32x100352 .f32) (harg6 : arg6.IsWhole) (hi : ¬isFirst i)
    (x : Vec F S16x32 .f32) (kt : Vec F S32x100352 .f32) (K : PUnit → sProp 𝕄) :
    iprop(owns (c : Thread nD τ) arg1 fullShare x ∗ (∃ d, owns (c : Thread nD τ) arg3 fullShare d) ∗ (∃ d, owns (c : Thread nD τ) arg4 fullShare d) ∗ (∃ d, owns (c : Thread nD τ) arg5 fullShare d) ∗ owns (c : Thread nD τ) arg6 fullShare kt
      ∗ (iprop(owns (c : Thread nD τ) arg1 fullShare x ∗ owns (c : Thread nD τ) arg3 fullShare (k0_pay10 x kt) ∗ owns (c : Thread nD τ) arg4 fullShare (threshold x kt) ∗ owns (c : Thread nD τ) arg5 fullShare (counts x kt) ∗ owns (c : Thread nD τ) arg6 fullShare kt) -∗ K ⟨⟩))
    ⊢ wp frame (wpE (defs₀ (F := F)) Variants.nat c none) Set.univ (cc0__tc1_body i arg1 harg1 (Memref.whole main_v1) (Memref.isWhole_whole _) arg3 harg3 arg4 harg4 arg5 harg5 arg6 harg6 cc0_scratch1) K := by
  simp only [cc0__tc1_body_eq_skeleton]; unfold cc0__tc1_body_skel
  simp only [k0_part1_eq_skeleton]
  unfold owns
  iintro ⟨⟨%f0, %hf0, H0⟩, ⟨%d1, %f1, -, H1⟩, ⟨%d2, %f2, -, H2⟩, ⟨%d3, %f3, -, H3⟩, ⟨%fs0, %hfs0, HS0⟩, Hk⟩
  obtain rfl := harg1.eq_unread hf0; obtain rfl := harg6.eq_unread hfs0
  have hx : View.readAt (Elt F) arg1.view (Rect.unit ![0, 0] S16x32.size inb_S16x32_S16x32_0_0).toLoadRect (harg1.unread x) = x :=
    (View.readAt_full _ _ _).trans hf0
  have hk : View.readAt (Elt F) arg6.view (Rect.unit ![0, 0] S32x100352.size inb_S32x100352_S32x100352_0_0).toLoadRect (harg6.unread kt) = kt :=
    (View.readAt_full _ _ _).trans hfs0
  sl_exec (disch := first | sl_exact hi)
  iapply (wp_call_spec Variants.nat (c : Thread nD τ) none Set.univ (searched (k0_pay9 x kt) 16 0 (coarse x kt).1 (k0_pay11 x kt) (k0_pay18 x kt (coarse x kt).1)) (16 : ℕ)
    (fun u hu => nomatch hu) (search_le c i (k0_pay9 x kt) Set.univ 16 0 rfl _ _ _))
  rw [searched_apply]
  have et : (refine (k0_pay9 x kt) 16 0 (coarse x kt).1 (k0_pay11 x kt) (k0_pay18 x kt (coarse x kt).1)).2.1 = threshold x kt := rfl
  rw [et]
  sl_exec
  sl_step
  iapply Hk
  isplitl [H0]
  · iexists _; isplitr
    swap; · iexact H0
    ipureintro; exact hf0
  isplitl [H1]
  · iexists _; isplitr
    swap; · iexact H1
    ipureintro; exact View.read_writes_full _ _ _ _ _
  isplitl [H2]
  · iexists _; isplitr
    swap; · iexact H2
    ipureintro; exact View.read_writes_full _ _ _ _ _
  isplitl [H3]
  · iexists _; isplitr
    swap; · iexact H3
    ipureintro; exact View.read_writes_full _ _ _ _ _
  iexists _; isplitr
  swap; · iexact HS0
  ipureintro; exact hfs0

set_option maxHeartbeats 1000000 in
/-- The body at the first point: it copies the queue into the scratch and goes on as at the others. -/
theorem body_first (c : Dev nD) (i : grid0.Coords) (arg1 : Memref sig .tc .vmem S16x32 .f32) (harg1 : arg1.IsWhole) (arg3 : Memref sig .tc .vmem S12544x128 .f32) (harg3 : arg3.IsWhole) (arg4 : Memref sig .tc .vmem S16x1 .f32) (harg4 : arg4.IsWhole) (arg5 : Memref sig .tc .vmem S16x784 .i32) (harg5 : arg5.IsWhole) (arg6 : Memref sig .tc .vmem S32x100352 .f32) (harg6 : arg6.IsWhole) (hi : isFirst i)
    (x : Vec F S16x32 .f32) (kt : Buf (Elt F) (hbM.view.loc (c : Thread nD τ))) (W : Waits sig Unit) (K : PUnit → sProp 𝕄) :
    iprop(owns (c : Thread nD τ) arg1 fullShare x ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d)
      ∗ semVal ((c : Thread nD τ), SemLoc.dma 8) 0 ∗ hbPt c kt ∗ owes (c : Thread nD τ) 0 W
      ∗ (iprop(owns (c : Thread nD τ) arg1 fullShare x ∗ owns (c : Thread nD τ) arg3 fullShare (k0_pay10 x kt) ∗ owns (c : Thread nD τ) arg4 fullShare (threshold x kt) ∗ owns (c : Thread nD τ) arg5 fullShare (counts x kt) ∗ owns (c : Thread nD τ) arg6 fullShare kt
          ∗ semVal ((c : Thread nD τ), SemLoc.dma 8) 0 ∗ hbPt c kt ∗ (∃ W', owes (c : Thread nD τ) 0 W')) -∗ K ⟨⟩))
    ⊢ wp frame (wpE (defs₀ (F := F)) Variants.nat c none) Set.univ (cc0__tc1_body i arg1 harg1 (Memref.whole main_v1) (Memref.isWhole_whole _) arg3 harg3 arg4 harg4 arg5 harg5 arg6 harg6 cc0_scratch1) K := by
  simp only [cc0__tc1_body_eq_skeleton]; unfold cc0__tc1_body_skel
  simp only [k0_part1_eq_skeleton]
  unfold owns
  iintro ⟨⟨%f0, %hf0, H0⟩, ⟨%d1, %f1, -, H1⟩, ⟨%d2, %f2, -, H2⟩, ⟨%d3, %f3, -, H3⟩, ⟨%ds0, %fs0, -, HS0⟩, Hq, Hh, HW, Hk⟩
  obtain rfl := harg1.eq_unread hf0
  have hx : View.readAt (Elt F) arg1.view (Rect.unit ![0, 0] S16x32.size inb_S16x32_S16x32_0_0).toLoadRect (harg1.unread x) = x :=
    (View.readAt_full _ _ _).trans hf0
  sl_exec (disch := first | sl_exact hi)
  have hv : body_first.sl.v4 c arg6 kt = kt := by
    unfold body_first.sl.v4
    exact (View.readCov_full arg6.view (fun a => by fin_cases a <;> decide) (off' := fun _ => 0) (fun a => by fin_cases a <;> decide) _ [])
  have er : body_first.sl.r c arg6 x kt = coarse x kt := by unfold body_first.sl.r; rw [hv]; rfl
  have e1 : body_first.sl.r_1 c arg6 x kt = k0_pay9 x kt := by unfold body_first.sl.r_1; rw [hv]
  have e2 : body_first.sl.r_2 c arg6 x kt = k0_pay11 x kt := by unfold body_first.sl.r_2; rw [hv]
  have e3 : body_first.sl.r_3 c arg6 x kt = (coarse x kt).1 := by unfold body_first.sl.r_3; rw [er]
  have e4 : body_first.sl.r_4 c arg6 x kt = k0_pay18 x kt (coarse x kt).1 := by unfold body_first.sl.r_4; rw [hv, er]
  rw [e1, e2, e3, e4, hv]
  iapply (wp_call_spec Variants.nat (c : Thread nD τ) none Set.univ (searched (k0_pay9 x kt) 16 0 (coarse x kt).1 (k0_pay11 x kt) (k0_pay18 x kt (coarse x kt).1)) (16 : ℕ)
    (fun u hu => nomatch hu) (search_le c i (k0_pay9 x kt) Set.univ 16 0 rfl _ _ _))
  rw [searched_apply]
  have et : (refine (k0_pay9 x kt) 16 0 (coarse x kt).1 (k0_pay11 x kt) (k0_pay18 x kt (coarse x kt).1)).2.1 = threshold x kt := rfl
  rw [et]
  sl_exec
  sl_step
  iapply Hk
  isplitl [H0]
  · iexists _; isplitr
    swap; · iexact H0
    ipureintro; exact hf0
  isplitl [H1]
  · iexists _; isplitr
    swap; · iexact H1
    ipureintro; exact View.read_writes_full _ _ _ _ _
  isplitl [H2]
  · iexists _; isplitr
    swap; · iexact H2
    ipureintro; exact View.read_writes_full _ _ _ _ _
  isplitl [H3]
  · iexists _; isplitr
    swap; · iexact H3
    ipureintro; exact View.read_writes_full _ _ _ _ _
  isplitl [HS0]
  · iexists _; isplitr
    swap; · iexact HS0
    ipureintro
    exact View.read_writes_full arg6.view fs0 (off := fun _ => 0) (fun a => by fin_cases a <;> decide) _ []
  isplitl [Hq]; · iexact Hq
  isplitl [Hh]; · iexact Hh
  iexists _; iexact HW

end Cert.Proof.First

end
-- ==== Proof.FirstRun.lean ====
/- The first call's run: after every grid point the scratch holds the transposed, padded queue, the point's blocks are at what the body computes of its
   16 query rows and of the queue, the arguments are unchanged and every semaphore counter is zero. -/
module

public import proofs.«01_k».proof.Proof.FirstBody
public import Idealize.ShloMosaic.Lib.Claim

@[expose] public section

set_option maxRecDepth 16384

noncomputable section

namespace Cert.Proof.First

open Cert.FirstIdeal Cert.FirstIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The host's part before the region -/

/-- Core `c`'s buffers when the region is entered. -/
abbrev V (c : Dev nD) (b : Ref sig .tc) : Buf (Elt F) ((c : Thread nD τ).loc b) :=
  StableHlo.after (List.flatten [hostOps0, hostOps0_1, hostOps0_2]) (fun b => m (c, b)) b

theorem fresh_0 : (hostOps0 : List (HloOp τ sig (Elt F))).Forall fun op => op.fresh = ∅ := by
  simp only [List.Forall]; repeat' constructor
theorem fresh_1 : (hostOps0_1 : List (HloOp τ sig (Elt F))).Forall fun op => op.fresh = ∅ := by
  simp only [List.Forall]; repeat' constructor
theorem fresh_2 : (hostOps0_2 : List (HloOp τ sig (Elt F))).Forall fun op => op.fresh = ∅ := by
  simp only [List.Forall]; repeat' constructor

set_option maxHeartbeats 800000 in
/-- The program up to the region. -/
theorem host : Pipeline.HMain (Ix := Unit) (Name := ℕ) (U := Pipeline.UD sig nD τ) (Lvl := ℕ) cfgs 0 defs₀ Variants.nat m (main (F := F)) (V m) :=
  Pipeline.hmain_prefixes cfgs 0 defs₀ Variants.nat m main [hostOps0, hostOps0_1, hostOps0_2] (by simp only [List.Forall]; exact ⟨hostOps0_sub, hostOps0_1_sub, hostOps0_2_sub⟩)
    (by simp only [List.Forall]; exact ⟨fresh_0, fresh_1, fresh_2⟩) main_chain

/-- The host writes to neither argument. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, List.flatten_cons, List.flatten_nil, List.append_nil, List.cons_append,
      List.nil_append, List.Forall, StableHlo.nullary_writes, StableHlo.unary_writes, StableHlo.binary_writes, Finset.mem_singleton]
    repeat' apply And.intro
    all_goals exact StableHlo.devRef_ne_of_ne (by decide)))

/-! ## The proof data -/

/-- Point `t`'s 16 query rows. -/
def rows (c : Dev nD) (t : Fin (cfg0 (F := F)).N) : Vec F S16x32 .f32 :=
  (((cfg0 (F := F)).win 0).blk t).view.read (Elt F) (V m c (Pipeline.arrRef spec0 0))

/-- The transposed, padded queue. -/
abbrev queue (c : Dev nD) : Vec F S32x100352 .f32 := V m c main_v1

/-- The body copies the queue at the first point only. -/
theorem isFirst_iff : ∀ t : Fin (cfg0 (F := F)).N, isFirst (grid0.coords t) ↔ t.val = 0 :=
  (fun t => by
    have ht : t.val < 64 := Nat.lt_of_lt_of_eq t.isLt N_0
    have e0 : (grid0.coords t 0).val = t.val / 1 % 64 := Pipeline.Grid.coords_val t 0 (by decide) rfl
    have e1 : t.val / 1 % 64 = t.val := by omega
    simp only [isFirst, e0, e1]
    word_cmp
   : ∀ t : Fin grid0.N, isFirst (grid0.coords t) ↔ t.val = 0)

abbrev scM : Memref sig .tc .vmem S32x100352 .f32 := Memref.whole cc0_scratch0

/-- The body's own semaphore. -/
abbrev osem : Fin 1 → SemLoc sig := fun j => (![SemLoc.dma 8] : Fin 1 → SemLoc sig) j
theorem ownSemFacts : Pipeline.OwnSemFacts spec0 osem := by decide
theorem ownSems_eq (c : Dev nD) :
    (Pipeline.ownSems0 (Ix := Unit) (Name := ℕ) (U := Pipeline.UD sig nD τ) (Lvl := ℕ) (Val := Elt F) (τ := τ) osem c : sProp 𝕄)
      = iprop(semVal ((c : Thread nD τ), SemLoc.dma 8) 0) := by
  rw [Pipeline.ownSems0_eq_of_list c osem [0] (by decide) (by decide)]; rfl
/-- The array that the body copies from. -/
def H : Finset (Ref sig .tc) := {main_v1}
theorem H_sub : H ⊆ Pipeline.restRefs sig spec0 := by decide
theorem hbmPts_eq (c : Dev nD) :
    (bigSep H (fun b => ((c : Thread nD τ).loc b) ↦{fullShare} V m c b) : sProp 𝕄) = hbPt c (V m c main_v1) := by
  rw [BI.bigSep_eq_bigSepL_of_eq [main_v1] (by decide) (by decide)]; rfl

/-- What the launch hands the region, part by part. -/
theorem entry_eq (c : Dev nD) :
    (Pipeline.ΦD osem spec0 H (V m) c : sProp 𝕄)
      = iprop((∃ d, owns (c : Thread nD τ) scM fullShare d) ∗ (∃ r, prngReg c r) ∗ semVal ((c : Thread nD τ), SemLoc.dma 8) 0 ∗ hbPt c (V m c main_v1)) := by
  rw [Pipeline.ΦD_eq, scopedRest0_eq, ownSems_eq, hbmPts_eq]; simp only [scM, owns_whole]; try rfl

/-- What holds between the points: before the first what the launch hands over, then the same with the queue in the scratch. -/
def between (c : Dev nD) (n : ℕ) : sProp 𝕄 :=
  if n = 0 then Pipeline.ΦD osem spec0 H (V m) c
  else iprop(owns (c : Thread nD τ) scM fullShare (queue m c) ∗ (∃ r, prngReg c r) ∗ semVal ((c : Thread nD τ), SemLoc.dma 8) 0 ∗ hbPt c (V m c main_v1))

theorem between_zero (c : Dev nD) : between m c 0 = Pipeline.ΦD osem spec0 H (V m) c := if_pos rfl
theorem between_pos (c : Dev nD) (n : ℕ) (h : n ≠ 0) :
    between m c n = iprop(owns (c : Thread nD τ) scM fullShare (queue m c) ∗ (∃ r, prngReg c r) ∗ semVal ((c : Thread nD τ), SemLoc.dma 8) 0 ∗ hbPt c (V m c main_v1)) := if_neg h

/-- The arrays as the region finds them, the blocks after each point, what holds between the points. -/
def dats (_ : Fin 1) (c : Dev nD) : Dat τ (Elt F) Unit ℕ (Pipeline.UD sig nD τ) ℕ (cfg0 (F := F)) c where
  A w := V m c (Pipeline.arrRef spec0 w)
  after w t := match w with
    | ⟨0, _⟩ => rows m c t
    | ⟨1, _⟩ => k0_pay10 (rows m c t) (queue m c)
    | ⟨2, _⟩ => threshold (rows m c t) (queue m c)
    | ⟨3, _⟩ => counts (rows m c t) (queue m c)
  Φ t := between m c t.val
  q _ := fullShare
  owed _ := 0

theorem A_eq (c : Dev nD) (w : Fin (cfg0 (F := F)).W) : (dats m 0 c).A w = V m c (Pipeline.arrRef spec0 w) := by
  dsimp only [dats]

theorem after_0 (c : Dev nD) (t : Fin (cfg0 (F := F)).N) : (dats m 0 c).after 0 t = rows m c t := by dsimp only [dats]; generalize k0_pay10 (rows m c t) (queue m c) = v1; generalize threshold (rows m c t) (queue m c) = v2; generalize counts (rows m c t) (queue m c) = v3; rfl
theorem after_1 (c : Dev nD) (t : Fin (cfg0 (F := F)).N) : (dats m 0 c).after 1 t = k0_pay10 (rows m c t) (queue m c) := by dsimp only [dats]; generalize k0_pay10 (rows m c t) (queue m c) = v1; generalize threshold (rows m c t) (queue m c) = v2; generalize counts (rows m c t) (queue m c) = v3; rfl
theorem after_2 (c : Dev nD) (t : Fin (cfg0 (F := F)).N) : (dats m 0 c).after 2 t = threshold (rows m c t) (queue m c) := by dsimp only [dats]; generalize k0_pay10 (rows m c t) (queue m c) = v1; generalize threshold (rows m c t) (queue m c) = v2; generalize counts (rows m c t) (queue m c) = v3; rfl
theorem after_3 (c : Dev nD) (t : Fin (cfg0 (F := F)).N) : (dats m 0 c).after 3 t = counts (rows m c t) (queue m c) := by dsimp only [dats]; generalize k0_pay10 (rows m c t) (queue m c) = v1; generalize threshold (rows m c t) (queue m c) = v2; generalize counts (rows m c t) (queue m c) = v3; rfl

/-- The query rows' buffer holds the point's rows at every point. -/
theorem before_0 (c : Dev nD) (t : Fin (cfg0 (F := F)).N) (d) : (dats m 0 c).before 0 t d = rows m c t :=
  ((dats m 0 c).before_in_eq_fetched 0 rfl (fun _ => rfl) (fun _ _ _ => rfl) (fun t => by rw [after_0]; unfold Dat.blockOf rows; rw [A_eq]; try rfl) t d).trans
    (by unfold Dat.fetched Dat.blockOf rows; rw [A_eq]; try rfl)

/-! ## The body at every point -/

/-- The current staging buffers at point `t`. -/
abbrev ms_0 (t : Fin (cfg0 (F := F)).N) : Memref sig .tc .vmem S16x32 .f32 := win0_0.stage ((cfg0 (F := F)).slots t 0)
abbrev ms_1 (t : Fin (cfg0 (F := F)).N) : Memref sig .tc .vmem S12544x128 .f32 := win0_1.stage ((cfg0 (F := F)).slots t 1)
abbrev ms_2 (t : Fin (cfg0 (F := F)).N) : Memref sig .tc .vmem S16x1 .f32 := win0_2.stage ((cfg0 (F := F)).slots t 2)
abbrev ms_3 (t : Fin (cfg0 (F := F)).N) : Memref sig .tc .vmem S16x784 .i32 := win0_3.stage ((cfg0 (F := F)).slots t 3)

/-- What the body is called with at point `t`, -/
def bodyPre (c : Dev nD) (t : Fin (cfg0 (F := F)).N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (ms_0 t) fullShare ((dats m 0 c).after 0 t)
    ∗ owns (c : Thread nD τ) (ms_1 t) fullShare ((dats m 0 c).after 1 t)
    ∗ owns (c : Thread nD τ) (ms_2 t) fullShare ((dats m 0 c).after 2 t)
    ∗ owns (c : Thread nD τ) (ms_3 t) fullShare ((dats m 0 c).after 3 t))

set_option maxHeartbeats 3200000 in
theorem sound_body (c : Dev nD) (t : Fin (cfg0 (F := F)).N) :
    bodyPre m c t ⊢ wp frame (wpE (defs₀ (F := F)) Variants.nat c none) Set.univ (bodyAt0 t) (fun _ => bodyPost m c t) := by
  unfold bodyPre bodyPost bodyAt0
  simp only [before_0]
  rw [show (dats m 0 c).Φ t.succ = between m c (t.val + 1) from rfl, between_pos m c _ (Nat.succ_ne_zero _),
    show (dats m 0 c).Φ t.castSucc = between m c t.val from rfl,
    after_0, after_1, after_2, after_3]
  unfold Dat.owesAt Pipeline.owesWithin
  rw [show (dats m 0 c).owed t.castSucc = 0 from rfl, show (dats m 0 c).owed t.succ = 0 from rfl]
  by_cases hz : t.val = 0
  · rw [hz, between_zero, entry_eq]
    iintro ⟨⟨HS, Hg, Hq, Hh⟩, ⟨%W, -, HW⟩, ⟨%d0, H0⟩, ⟨%d1, H1⟩, ⟨%d2, H2⟩, ⟨%d3, H3⟩⟩
    iapply (body_first c (grid0.coords t) _ _ _ _ _ _ _ _ _ _ ((isFirst_iff t).mpr hz) (rows m c t) (V m c main_v1) W _)
    isplitl [H0]; · iexact H0
    isplitl [H1]; · iexists _; iexact H1
    isplitl [H2]; · iexists _; iexact H2
    isplitl [H3]; · iexists _; iexact H3
    isplitl [HS]; · iexact HS
    isplitl [Hq]; · iexact Hq
    isplitl [Hh]; · iexact Hh
    isplitl [HW]; · iexact HW
    iintro ⟨H0, H1, H2, H3, HS, Hq, Hh, ⟨%W', HW⟩⟩
    isplitl [HS Hg Hq Hh]
    · isplitl [HS]; · iexact HS
      isplitl [Hg]; · iexact Hg
      isplitl [Hq]; · iexact Hq
      iexact Hh
    isplitl [HW]
    · iexists W'; isplitr; · ipureintro; exact fun _ _ => Or.inl trivial
      iexact HW
    isplitl [H0]; · iexact H0
    isplitl [H1]; · iexact H1
    isplitl [H2]; · iexact H2
    iexact H3
  · rw [between_pos m c _ hz]
    iintro ⟨⟨HS, Hg, Hq, Hh⟩, ⟨%W, -, HW⟩, ⟨%d0, H0⟩, ⟨%d1, H1⟩, ⟨%d2, H2⟩, ⟨%d3, H3⟩⟩
    iapply (body_later c (grid0.coords t) _ _ _ _ _ _ _ _ _ _ (fun h => hz ((isFirst_iff t).mp h)) (rows m c t) (queue m c) _)
    isplitl [H0]; · iexact H0
    isplitl [H1]; · iexists _; iexact H1
    isplitl [H2]; · iexists _; iexact H2
    isplitl [H3]; · iexists _; iexact H3
    isplitl [HS]; · iexact HS
    iintro ⟨H0, H1, H2, H3, HS⟩
    isplitl [HS Hg Hq Hh]
    · isplitl [HS]; · iexact HS
      isplitl [Hg]; · iexact Hg
      isplitl [Hq]; · iexact Hq
      iexact Hh
    isplitl [HW]
    · iexists W; isplitr; · ipureintro; exact fun _ _ => Or.inl trivial
      iexact HW
    isplitl [H0]; · iexact H0
    isplitl [H1]; · iexact H1
    isplitl [H2]; · iexact H2
    iexact H3

theorem defs_row (t : Fin (cfg0 (F := F)).N) :
    defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) Variants.nat () Set.univ := fun t => by
  rw [bigSep_W0, bigSep_W0, defs_row]
  exact triple_restated (sound_body m c t) rfl .rfl fun _ => .rfl

theorem enter (c : Dev nD) : Pipeline.ΦD osem spec0 H (V m) c ⊢ (dats m 0 c).Φ 0 := by
  rw [show (dats m 0 c).Φ 0 = between m c 0 from rfl, between_zero]

theorem leave (c : Dev nD) : (dats m 0 c).Φ (Fin.last (cfg0 (F := F)).N) ⊢ Pipeline.ΦD osem spec0 H (V m) c := by
  rw [show (dats m 0 c).Φ (Fin.last (cfg0 (F := F)).N) = between m c (Fin.last (cfg0 (F := F)).N).val from rfl,
    between_pos m c _ (by rw [Fin.val_last]; have : (cfg0 (F := F)).N = 64 := N_0; omega), entry_eq]
  iintro ⟨HS, Hg, Hq, Hh⟩
  isplitl [HS]
  · iexists _; iexact HS
  isplitl [Hg]; · iexact Hg
  isplitl [Hq]; · iexact Hq
  iexact Hh

/-! ## The run -/

set_option backward.isDefEq.respectTransparency.types false in
/-- The whole run, with every counter of the machine at zero at its end. -/
theorem run : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem defs₀ Variants.nat ownSemFacts H H_sub m ρ main
    (hbody := fun c => (body_obligation m c).loose) (hshare := fun c => (dats m 0 c).share_full fun _ => rfl)
    (howed := fun _ _ => rfl) (V := V m) (hmain := host m) (hA := A_eq m)
    (hin := enter m) (hout := leave m)

theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (show main_arg1 ∈ Pipeline.restRefs sig spec0 by decide)).trans (V_main_arg1 m c)

/-- The run ends, with the arguments as they were and every counter at zero. -/
theorem frame_any : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun r h => ⟨fun c => ⟨kept_main_arg0 m r h.1 c, kept_main_arg1 m r h.1 c⟩, h.2⟩) (run m ρ)

end Cert.Proof.First

end
-- ==== Proof.FirstRef.lean ====
/- The first call's similarities against their reference: row `784·q + k` of the result holds, on its 128 lanes, the dot products of query `q` with
   the queue's rows `128·k` and on, and the padding's value past the queue's last row. -/
module

public import proofs.«01_k».proof.Defs
public import proofs.«01_k».proof.Proof.FirstRun
public import proofs.«01_k».proof.Proof.FirstBitsRun
public import proofs.«01_k».proof.Proof.RankBlock
public import proofs.«01_k».proof.Proof.CompactRef
public import proofs.«01_k».proof.Proof.Gen.SimilaritiesIdeal
public import proofs.«01_k».proof.Proof.Gen.SimilaritiesIdeal.Run
public import proofs.«01_k».proof.Proof.Gen.SimilaritiesIdeal.Read
public import Idealize.ShloMosaic.Lib.KernelVsHost
public import Idealize.ShloMosaic.Lib.Pipeline.ValueKit

@[expose] public section

noncomputable section

namespace Cert.Proof.First

open Cert.FirstIdeal Cert.FirstIdeal.Gen Cert.Proof.Lanes
open Cert.Proof.Rank (at3 ext3)
open Cert.Proof.Compact (word_toInt)
open Idealize.ShloMosaic Idealize.ShloMosaic.TcCoe Idealize.SL.Sem

/-- The dot product of query `q` with row `n` of the queue, and the padding's value past the last row. -/
def similarity (x : (⟨2, ![1024, 32]⟩ : Shape).Idx → EReal) (z : (⟨2, ![100000, 32]⟩ : Shape).Idx → EReal) (q : Fin 1024) (n : ℕ) : EReal :=
  if h : n < 100000 then ∑ k : Fin 32, x (at2 q k) * z (at2 ⟨n, h⟩ k) else Ideal.ofBits .f32 0xF149F2CA#32

/-! ## The block that a point computes -/

theorem inside_iff (n : ℕ) (h : n < 100352) : IntOp.cmpi .slt (BitVec.ofNat 32 n) 100000#32 = BitVec.ofBool (decide (n < 100000)) := by
  unfold IntOp.cmpi
  simp only [BitVec.slt_eq_decide, word_toInt n (by omega)]
  have : ((100000#32 : BitVec 32).toInt) = (100000 : ℤ) := by decide
  rw [this]
  refine congrArg _ (decide_eq_decide.mpr ?_)
  omega

abbrev dims := dot_S16x32_S32x100352_S16x100352_1_0_0_1_n_n

/-- The products at `(b, n)`. -/
theorem product_at (x : FVec Ideal S16x32 .f32) (z : FVec Ideal S32x100352 .f32) (b : Fin 16) (n : Fin 100352) :
    FloatOps.matmul dims none x z (constant S16x100352 .f32 0x00000000#32) (at2 b n) = ∑ k : Fin 32, x (at2 b k) * z (at2 k n) := by
  rw [Ideal.matmul_constant_zero_apply, ← Equiv.sum_comp (ValueIdx.contrEquiv1 dims 32 rfl rfl).symm]
  refine Finset.sum_congr rfl fun k _ => ?_
  have hk := ValueIdx.contrEquiv1_symm_val dims 32 rfl rfl k
  refine congrArg₂ (fun a e : EReal => a * e) (congrArg x (ext2 ?_ ?_)) (congrArg z (ext2 ?_ ?_))
  · unfold DotDims.lhsIdx
    rw [dif_neg (show ¬(0 : Fin S16x32.rank) ∈ dims.lhsBatch by decide), dif_pos (show (0 : Fin S16x32.rank) ∈ dims.lhsNonContracting by decide)]
    rfl
  · exact (dims.lhsIdx_val_of_single rfl _ _).trans hk
  · exact (dims.rhsIdx_val_of_single rfl _ _).trans hk
  · unfold DotDims.rhsIdx
    rw [dif_neg (show ¬(1 : Fin S32x100352.rank) ∈ dims.rhsBatch by decide), dif_pos (show (1 : Fin S32x100352.rank) ∈ dims.rhsNonContracting by decide)]
    rfl

theorem query_lt (r : Fin 12544) : r.val / 784 < 16 := by omega
theorem column_lt (r : Fin 12544) (l : Fin 128) : r.val % 784 * 128 + l.val < 100352 := by omega

/-- Row `r` of a point's block at lane `l`. -/
theorem pay_at (x : FVec Ideal S16x32 .f32) (z : FVec Ideal S32x100352 .f32) (r : Fin 12544) (l : Fin 128) :
    k0_pay10 (F := Ideal) x z (at2 r l)
      = if r.val % 784 * 128 + l.val < 100000 then ∑ k : Fin 32, x (at2 ⟨r.val / 784, query_lt r⟩ k) * z (at2 k ⟨r.val % 784 * 128 + l.val, column_lt r l⟩)
        else Ideal.ofBits .f32 0xF149F2CA#32 := by
  have hr := r.isLt; have hl := l.isLt
  unfold k0_pay10 k0_pay9
  refine (shapeCast_apply _ _ _ (at3 (⟨r.val / 784, query_lt r⟩ : Fin 16) (⟨r.val % 784, by omega⟩ : Fin 784) l : S16x784x128.Idx) ?_).trans ?_
  · rw [Shape.rowMajor_val_two, Shape.rowMajor_val_three]
    show (r.val / 784 * 784 + r.val % 784) * 128 + l.val = r.val * 128 + l.val
    omega
  refine (shapeCast_apply _ _ _ (at2 (⟨r.val / 784, query_lt r⟩ : Fin 16) (⟨r.val % 784 * 128 + l.val, column_lt r l⟩ : Fin 100352) : S16x100352.Idx) ?_).trans ?_
  · rw [Shape.rowMajor_val_two, Shape.rowMajor_val_three]
    show r.val / 784 * 100352 + (r.val % 784 * 128 + l.val) = (r.val / 784 * 784 + r.val % 784) * 128 + l.val
    omega
  show Scalar.select (IntOp.cmpi .slt (iota .tc S16x100352 32 [1] _ _) 100000#32)
    (FloatOps.matmul dims none x z (constant S16x100352 .f32 0x00000000#32) _) (Ideal.ofBits .f32 0xF149F2CA#32) = _
  rw [product_at, iota_single_apply]
  show Scalar.select (IntOp.cmpi .slt (BitVec.ofNat 32 (r.val % 784 * 128 + l.val)) 100000#32) _ _ = _
  rw [inside_iff _ (column_lt r l)]
  by_cases h : r.val % 784 * 128 + l.val < 100000
  · rw [if_pos h, decide_eq_true h]; rfl
  · rw [if_neg h, decide_eq_false h]; rfl

/-! ## The kernel's result -/

variable (m : (ℓ : Loc nD τ sig) → Buf (Elt Ideal) ℓ) (ρ : Dev nD → PrngReg)

theorem index_0 : ∀ t : Fin (cfg0 (F := Ideal)).N, win0_0.index t = ![t.val, 0] := (by decide +kernel : ∀ t : Fin grid0.N, win0_0.index t = ![t.val, 0])
theorem index_1 : ∀ t : Fin (cfg0 (F := Ideal)).N, win0_1.index t = ![t.val, 0] := (by decide +kernel : ∀ t : Fin grid0.N, win0_1.index t = ![t.val, 0])

theorem point_lt (t : Fin (cfg0 (F := Ideal)).N) : t.val < 64 := by
  have h : t.val < grid0.N := t.isLt
  have h' : grid0.N = 64 := N_0
  omega

theorem rowOf_lt (t : Fin (cfg0 (F := Ideal)).N) (b : Fin 16) : 16 * t.val + b.val < 1024 := by
  have := point_lt t; omega
theorem blockRow_lt (t : Fin (cfg0 (F := Ideal)).N) (r : Fin 12544) : 12544 * t.val + r.val < 802816 := by
  have := point_lt t; omega

theorem rows_at (c : Dev nD) (t : Fin (cfg0 (F := Ideal)).N) (b : Fin 16) (k : Fin 32) :
    rows m c t (at2 b k) = m ((c : Thread nD τ).loc main_arg0) (at2 ⟨16 * t.val + b.val, rowOf_lt t b⟩ k) := by
  unfold rows
  rw [show V m c (Pipeline.arrRef spec0 0) = m ((c : Thread nD τ).loc main_arg0) from V_main_arg0 m c]
  show m ((c : Thread nD τ).loc main_arg0) ((win0_0.rect t).emb (at2 b k)) = _
  refine congrArg _ (ext2 ?_ ?_)
  · rw [Pipeline.Window.rect_emb_val (w := win0_0), index_0]
    show t.val * 16 + b.val = 16 * t.val + b.val
    omega
  · rw [Pipeline.Window.rect_emb_val (w := win0_0), index_0]
    show 0 * 32 + k.val = k.val
    omega

theorem queue_eq (c : Dev nD) : queue m c = transpose S32x100352 [1, 0]
    (pad S100352x32 ![0, 0] ![352, 0] ![0, 0] (m ((c : Thread nD τ).loc main_arg1)) (sitofp (F := Ideal) .f32 (constantI S_ 32 0#32)) pads_S100000x32_S100352x32_03520_000 h_S_)
    transposes_S100352x32_S32x100352_1_0 := by
  unfold queue V
  simp only [hostOps0, hostOps0_1, hostOps0_2, List.flatten_cons, List.flatten_nil, List.append_nil, List.cons_append, List.nil_append]
  after_results <;> rfl

/-- Row `n` of the queue, as the body reads it. -/
theorem queue_at (c : Dev nD) (k : Fin 32) (n : Fin 100352) (h : n.val < 100000) :
    queue m c (at2 k n) = m ((c : Thread nD τ).loc main_arg1) (at2 ⟨n.val, h⟩ k) := by
  rw [queue_eq]
  refine (transpose_apply _ _ _ _ (at2 n k : S100352x32.Idx) fun b => ?_).trans ?_
  · match b with
    | 0 => rfl
    | 1 => rfl
  refine pad_apply_of_inside _ _ _ _ _ _ _ _ (at2 ⟨n.val, h⟩ k : S100000x32.Idx) fun a => ?_
  match a with
  | 0 => show n.val = 0 + n.val * (0 + 1); omega
  | 1 => show k.val = 0 + k.val * (0 + 1); omega

/-- The result array. -/
def result (c : Dev nD) : S802816x128.Idx → EReal := fun i =>
  similarity (m ((c : Thread nD τ).loc main_arg0)) (m ((c : Thread nD τ).loc main_arg1))
    ⟨(i 0).val / 784, by have h : (i 0).val < 802816 := (i 0).isLt; omega⟩ ((i 0).val % 784 * 128 + (i 1).val)

theorem place_1 (t : Fin (cfg0 (F := Ideal)).N) (r : Fin 12544) (l : Fin 128) :
    (win0_1.rect t).emb (at2 r l) = (at2 ⟨12544 * t.val + r.val, blockRow_lt t r⟩ l : S802816x128.Idx) := by
  refine ext2 ?_ ?_
  · rw [Pipeline.Window.rect_emb_val (w := win0_1), index_1]
    show t.val * 12544 + r.val = 12544 * t.val + r.val
    omega
  · rw [Pipeline.Window.rect_emb_val (w := win0_1), index_1]
    show 0 * 128 + l.val = l.val
    omega

theorem block_1 (c : Dev nD) (t : Fin (cfg0 (F := Ideal)).N) (r : Fin 12544) (l : Fin 128) :
    k0_pay10 (F := Ideal) (rows m c t) (queue m c) (at2 r l) = result m c (at2 ⟨12544 * t.val + r.val, blockRow_lt t r⟩ l) := by
  have hr := r.isLt
  have hp := point_lt t
  have e0 : (12544 * t.val + r.val) / 784 = 16 * t.val + r.val / 784 := by omega
  have e1 : (12544 * t.val + r.val) % 784 = r.val % 784 := by omega
  have e : result m c (at2 ⟨12544 * t.val + r.val, blockRow_lt t r⟩ l)
      = similarity (m ((c : Thread nD τ).loc main_arg0)) (m ((c : Thread nD τ).loc main_arg1)) ⟨16 * t.val + r.val / 784, rowOf_lt t ⟨r.val / 784, query_lt r⟩⟩
          (r.val % 784 * 128 + l.val) :=
    congrArg₂ (similarity (m ((c : Thread nD τ).loc main_arg0)) (m ((c : Thread nD τ).loc main_arg1))) (Fin.ext e0)
      (congrArg (fun n => n * 128 + l.val) e1)
  rw [pay_at, e]
  unfold similarity
  by_cases h : r.val % 784 * 128 + l.val < 100000
  · rw [if_pos h, dif_pos h]
    refine Finset.sum_congr rfl fun k _ => ?_
    exact congrArg₂ (fun a e : EReal => a * e) (rows_at m c t ⟨r.val / 784, query_lt r⟩ k) (queue_at m c k ⟨_, column_lt r l⟩ h)
  · rw [if_neg h, dif_neg h]

theorem final (c : Dev nD) : (dats m 0 c).arrAt 1 (cfg0 (F := Ideal)).N = result m c := by
  refine (dats m 0 c).arrAt_eq_of_covers 1 (result m c) (by decide +kernel) fun t _ y => ?_
  rw [after_1]
  have e : y = at2 (⟨(y 0).val, (y 0).isLt⟩ : Fin 12544) (⟨(y 1).val, (y 1).isLt⟩ : Fin 128) := ext2 rfl rfl
  rw [e]
  show k0_pay10 (F := Ideal) (rows m c t) (queue m c) (at2 _ _) = result m c ((win0_1.rect t).emb (at2 _ _))
  rw [place_1]
  exact block_1 m c t _ _

/-! ## The reference's result -/

section Reference
open Cert.SimilaritiesIdeal.Read

variable (x0 : (⟨Cert.SimilaritiesIdeal.S1024x32, .f32⟩ : BufTy).Contents (Elt Ideal)) (x1 : (⟨Cert.SimilaritiesIdeal.S100000x32, .f32⟩ : BufTy).Contents (Elt Ideal))

theorem joined_at (q : Fin 1024) (n : Fin 100352) : val_main_v3 (F := Ideal) x0 x1 (at2 q n) = similarity x0 x1 q n.val := by
  have hn := n.isLt
  unfold val_main_v3 similarity
  by_cases h : n.val < 100000
  · rw [dif_pos h]
    refine (concatenate_pair_apply_left (s₁ := Cert.SimilaritiesIdeal.S1024x100000) (s₂ := Cert.SimilaritiesIdeal.S1024x352) (1 : Fin 2) (val_main_v1 (F := Ideal) x0 x1)
      (val_main_v2 (F := Ideal)) Cert.SimilaritiesIdeal.Gen.concatenates_S1024x100000_S1024x352_S1024x100352_d1 (at2 q n) rfl (at2 q ⟨n.val, h⟩ : Cert.SimilaritiesIdeal.S1024x100000.Idx) fun b => ?_).trans ?_
    · match b with
      | 0 => rfl
      | 1 => rfl
    rw [val_main_v1_apply]
    refine Finset.sum_congr rfl fun k _ => ?_
    rw [val_main_v0_apply]
    exact congrArg₂ (fun a e : EReal => a * e) (congrArg x0 (ext2 rfl rfl)) (congrArg x1 (ext2 rfl rfl))
  · rw [dif_neg h]
    refine (concatenate_pair_apply_right (s₁ := Cert.SimilaritiesIdeal.S1024x100000) (s₂ := Cert.SimilaritiesIdeal.S1024x352) (1 : Fin 2) (val_main_v1 (F := Ideal) x0 x1)
      (val_main_v2 (F := Ideal)) Cert.SimilaritiesIdeal.Gen.concatenates_S1024x100000_S1024x352_S1024x100352_d1 (at2 q n) rfl rfl (at2 q ⟨n.val - 100000, by omega⟩ : Cert.SimilaritiesIdeal.S1024x352.Idx) (fun b hb => ?_) ?_).trans ?_
    · match b with
      | 0 => rfl
      | 1 => exact absurd rfl hb
    · show n.val - 100000 + 100000 = n.val
      omega
    rw [val_main_v2_apply, val_main_cst_apply]
    rfl

theorem ref_at (i : Cert.SimilaritiesIdeal.S802816x128.Idx) : val_main_v4 (F := Ideal) x0 x1 i
    = similarity x0 x1 ⟨(i 0).val / 784, by have h : (i 0).val < 802816 := (i 0).isLt; omega⟩ ((i 0).val % 784 * 128 + (i 1).val) := by
  have h0 : (i 0).val < 802816 := (i 0).isLt
  have h1 : (i 1).val < 128 := (i 1).isLt
  rw [val_main_v4_apply]
  have e : idx_main_v4 i = at2 (⟨(i 0).val / 784, by omega⟩ : Fin 1024) (⟨(i 0).val % 784 * 128 + (i 1).val, by omega⟩ : Fin 100352) := by
    refine ext2 ?_ ?_
    · show ((i 0).val * 128 + (i 1).val) / 100352 = (i 0).val / 784
      omega
    · show ((i 0).val * 128 + (i 1).val) % 100352 = (i 0).val % 784 * 128 + (i 1).val
      omega
  rw [e]
  exact joined_at x0 x1 _ _

end Reference

/-! ## The claims -/

/-- `Cert.quiescent_First` (Defs.lean). -/
theorem frame_kernel : Cert.quiescent_First := fun m ρ _ => Cert.Proof.FirstBits.frame_any m ρ

/-- `Cert.quiescent_FirstIdeal` (Defs.lean). -/
theorem frame_ideal : Cert.quiescent_FirstIdeal := fun m ρ _ => frame_any m ρ

/-- `Cert.quiescent_SimilaritiesIdeal` (Defs.lean): the reference declares no semaphore. -/
theorem frame_reference : Cert.quiescent_SimilaritiesIdeal := fun m ρ _ =>
  (θ_run Cert.SimilaritiesIdeal.defs _ _).mono (fun r h => ⟨fun c => (h c).2, sem_eq_zero_of_no_sems (by decide) r.2⟩)
    (Cert.SimilaritiesIdeal.Value.run (F := Ideal) m ρ)

/-- `Cert.algebraic_FirstIdeal_SimilaritiesIdeal` (Defs.lean): both give the similarities. -/
theorem algebraic : Cert.algebraic_FirstIdeal_SimilaritiesIdeal := by
  intro m ρ m' ρ' _ hagree
  refine ⟨fun c => result m c, (θ_run Cert.FirstIdeal.defs _ _).mono
    (fun r h c => ⟨((h.1 c).1 1).trans (final m c), kept_main_arg0 m r h.1 c, kept_main_arg1 m r h.1 c⟩) (run (F := Ideal) m ρ), ?_⟩
  refine (θ_run Cert.SimilaritiesIdeal.defs _ _).mono (fun _ h c => ⟨(h c).1.trans ?_, (h c).2⟩) (Cert.SimilaritiesIdeal.Value.run (F := Ideal) m' ρ')
  refine (Cert.SimilaritiesIdeal.Read.val_main_v4_eq (F := Ideal) _ _).trans ?_
  rw [(hagree c).1, (hagree c).2]
  funext i
  exact ref_at _ _ i

end Cert.Proof.First

end
-- ==== Proof.lean ====
module

public import proofs.«01_k».proof.Defs
public import proofs.«01_k».proof.Proof.GatherRef
public import proofs.«01_k».proof.Proof.CompactRef
public import proofs.«01_k».proof.Proof.RankRef
public import proofs.«01_k».proof.Proof.Gen.Rank
public import proofs.«01_k».proof.Proof.Gen.RankIdeal
public import proofs.«01_k».proof.Proof.Gen.RankedIdeal
public import proofs.«01_k».proof.Proof.Gen.RankIdeal.Value
public import proofs.«01_k».proof.Proof.Gen.Rank.Frame
public import proofs.«01_k».proof.Proof.FirstRef
public import proofs.«01_k».proof.Proof.Gen.First
public import proofs.«01_k».proof.Proof.Gen.First.Launch
public import proofs.«01_k».proof.Proof.Gen.First.Points
public import proofs.«01_k».proof.Proof.Gen.First.Skeleton
public import proofs.«01_k».proof.Proof.Gen.SimilaritiesIdeal
public import proofs.«01_k».proof.Proof.Gen.FirstIdeal
public import proofs.«01_k».proof.Proof.Gen.FirstIdeal.Launch
public import proofs.«01_k».proof.Proof.Gen.FirstIdeal.Points
public import proofs.«01_k».proof.Proof.Gen.FirstIdeal.Skeleton
public import proofs.«01_k».proof.Proof.Gen.SimilaritiesIdeal.Run
public import proofs.«01_k».proof.Proof.Gen.SimilaritiesIdeal.Read
public import proofs.«01_k».proof.Proof.Gen.RankedIdeal.Run
public import proofs.«01_k».proof.Proof.Gen.RankedIdeal.Read
public import proofs.«01_k».proof.Proof.Gen.Kernel
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_queue
public import proofs.«01_k».proof.Proof.Gen.Compact
public import proofs.«01_k».proof.Proof.Gen.CompactIdeal
public import proofs.«01_k».proof.Proof.Gen.CompactIdeal.Skeleton
public import proofs.«01_k».proof.Proof.Gen.CandidatesIdeal
public import proofs.«01_k».proof.Proof.Gen.CandidatesIdeal.Run
public import proofs.«01_k».proof.Proof.Gen.CandidatesIdeal.Read

@[expose] public section

noncomputable section

namespace Cert.Proof

theorem claim : Cert.Claim := ⟨Cert.Kernel.Gen.facts, Cert.KernelIdeal.Gen.facts, Cert.ReferenceIdeal.Gen.facts, Cert.Compact.Gen.facts,
  Cert.CompactIdeal.Gen.facts, Cert.CandidatesIdeal.Gen.facts,
  Cert.Rank.Gen.facts, Cert.RankIdeal.Gen.facts, Cert.RankedIdeal.Gen.facts, Cert.First.Gen.facts, Cert.FirstIdeal.Gen.facts, Cert.SimilaritiesIdeal.Gen.facts, Cert.Pre_in_queue.Gen.facts, CompactPre.facts,
  Gather.frame_kernel, Gather.frame_ideal, Gather.frame_reference,
  Compact.frame_kernel, Compact.frame_ideal, Compact.frame_ideal_few, Compact.frame_reference, Compact.frame_reference_few,
  Rank.frame_kernel, Rank.frame_ideal, Rank.frame_reference, First.frame_kernel, First.frame_ideal, First.frame_reference,
  trivial, Gather.algebraic, trivial, Compact.algebraic, trivial, Rank.algebraic, trivial, First.algebraic⟩

end Cert.Proof

end
